-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Experts [hPre_tables : Cert.Pre_tables.Facts] (m : (ℓ : Loc Cert.Experts.nD Cert.Experts.τ Cert.Experts.sig) → Buf (Elt Bits) ℓ) : Prop :=
  ∀ c : Dev Cert.Experts.nD,
    (Cert.Pre_tables.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_tables : Cert.Pre_tables.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tables.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_tables [hPre_tables : Cert.Pre_tables.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_tables.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))) = (fun _ => 1#1)

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseReferenceIdeal (m : (ℓ : Loc Cert.DenseReferenceIdeal.nD Cert.DenseReferenceIdeal.τ Cert.DenseReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_real [hPre_real : Cert.Pre_real.Facts] (m : (ℓ : Loc Cert.RouterIdeal.nD Cert.RouterIdeal.τ Cert.RouterIdeal.sig) → Buf (Elt Ideal) ℓ) : Prop :=
  ∀ c : Dev Cert.RouterIdeal.nD,
    (Cert.Pre_real.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4)) (m ((c.tc : Thread Cert.RouterIdeal.nD Cert.RouterIdeal.τ).loc Cert.RouterIdeal.main_arg5)) (m ((c.tc : Thread Cert.RouterIdeal.nD Cert.RouterIdeal.τ).loc Cert.RouterIdeal.main_arg6)) (m ((c.tc : Thread Cert.RouterIdeal.nD Cert.RouterIdeal.τ).loc Cert.RouterIdeal.main_arg7))) = (fun _ => 1#1)

def Pre_RouterReferenceIdeal (m : (ℓ : Loc Cert.RouterReferenceIdeal.nD Cert.RouterReferenceIdeal.τ Cert.RouterReferenceIdeal.sig) → Buf (Elt Ideal) ℓ) : Prop :=
  True

def Pre_RouterReferenceIdeal_real [hPre_real : Cert.Pre_real.Facts] (m : (ℓ : Loc Cert.RouterReferenceIdeal.nD Cert.RouterReferenceIdeal.τ Cert.RouterReferenceIdeal.sig) → Buf (Elt Ideal) ℓ) : Prop :=
  ∀ c : Dev Cert.RouterReferenceIdeal.nD,
    (Cert.Pre_real.fn (F := Ideal) (m ((c.tc : Thread Cert.RouterReferenceIdeal.nD Cert.RouterReferenceIdeal.τ).loc Cert.RouterReferenceIdeal.main_arg0)) (m ((c.tc : Thread Cert.RouterReferenceIdeal.nD Cert.RouterReferenceIdeal.τ).loc Cert.RouterReferenceIdeal.main_arg1)) (m ((c.tc : Thread Cert.RouterReferenceIdeal.nD Cert.RouterReferenceIdeal.τ).loc Cert.RouterReferenceIdeal.main_arg2)) (m ((c.tc : Thread Cert.RouterReferenceIdeal.nD Cert.RouterReferenceIdeal.τ).loc Cert.RouterReferenceIdeal.main_arg3)) (m ((c.tc : Thread Cert.RouterReferenceIdeal.nD Cert.RouterReferenceIdeal.τ).loc Cert.RouterReferenceIdeal.main_arg4)) (m ((c.tc : Thread Cert.RouterReferenceIdeal.nD Cert.RouterReferenceIdeal.τ).loc Cert.RouterReferenceIdeal.main_arg5)) (m ((c.tc : Thread Cert.RouterReferenceIdeal.nD Cert.RouterReferenceIdeal.τ).loc Cert.RouterReferenceIdeal.main_arg6)) (m ((c.tc : Thread Cert.RouterReferenceIdeal.nD Cert.RouterReferenceIdeal.τ).loc Cert.RouterReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Experts [hExperts : Cert.Experts.Facts] [hPre_tables : Cert.Pre_tables.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_tables : Cert.Pre_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_ExpertsReferenceIdeal_pre_tables [hExpertsReferenceIdeal : Cert.ExpertsReferenceIdeal.Facts] [hPre_tables : Cert.Pre_tables.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_tables m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4)
      ∧ r.2.mem ((c.tc : Thread Cert.Dense.nD Cert.Dense.τ).loc Cert.Dense.main_arg5) = m ((c.tc : Thread Cert.Dense.nD Cert.Dense.τ).loc Cert.Dense.main_arg5)
      ∧ r.2.mem ((c.tc : Thread Cert.Dense.nD Cert.Dense.τ).loc Cert.Dense.main_arg6) = m ((c.tc : Thread Cert.Dense.nD Cert.Dense.τ).loc Cert.Dense.main_arg6)
      ∧ r.2.mem ((c.tc : Thread Cert.Dense.nD Cert.Dense.τ).loc Cert.Dense.main_arg7) = m ((c.tc : Thread Cert.Dense.nD Cert.Dense.τ).loc Cert.Dense.main_arg7)
      ∧ r.2.mem ((c.tc : Thread Cert.Dense.nD Cert.Dense.τ).loc Cert.Dense.main_arg8) = m ((c.tc : Thread Cert.Dense.nD Cert.Dense.τ).loc Cert.Dense.main_arg8)
      ∧ r.2.mem ((c.tc : Thread Cert.Dense.nD Cert.Dense.τ).loc Cert.Dense.main_arg9) = m ((c.tc : Thread Cert.Dense.nD Cert.Dense.τ).loc Cert.Dense.main_arg9))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
      ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
      ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7)
      ∧ r.2.mem ((c.tc : Thread Cert.DenseIdeal.nD Cert.DenseIdeal.τ).loc Cert.DenseIdeal.main_arg8) = m ((c.tc : Thread Cert.DenseIdeal.nD Cert.DenseIdeal.τ).loc Cert.DenseIdeal.main_arg8)
      ∧ r.2.mem ((c.tc : Thread Cert.DenseIdeal.nD Cert.DenseIdeal.τ).loc Cert.DenseIdeal.main_arg9) = m ((c.tc : Thread Cert.DenseIdeal.nD Cert.DenseIdeal.τ).loc Cert.DenseIdeal.main_arg9))
      ∧ r.2.sem = fun _ => 0)

def quiescent_DenseReferenceIdeal [hDenseReferenceIdeal : Cert.DenseReferenceIdeal.Facts] : Prop :=
  ∀ (m : (ℓ : Loc Cert.DenseReferenceIdeal.nD Cert.DenseReferenceIdeal.τ Cert.DenseReferenceIdeal.sig) → Buf (Elt Ideal) ℓ) (g : Dev Cert.DenseReferenceIdeal.nD → PrngReg), Pre_DenseReferenceIdeal m →
    θ_run (Cert.DenseReferenceIdeal.defs (F := Ideal)) (onTc (τ := Cert.DenseReferenceIdeal.τ) (Cert.DenseReferenceIdeal.main (F := Ideal))) ⟨m, fun _ => 0, g⟩ (fun r => (∀ c : Dev Cert.DenseReferenceIdeal.nD,
      r.2.mem ((c.tc : Thread Cert.DenseReferenceIdeal.nD Cert.DenseReferenceIdeal.τ).loc Cert.DenseReferenceIdeal.main_arg0) = m ((c.tc : Thread Cert.DenseReferenceIdeal.nD Cert.DenseReferenceIdeal.τ).loc Cert.DenseReferenceIdeal.main_arg0)
      ∧ r.2.mem ((c.tc : Thread Cert.DenseReferenceIdeal.nD Cert.DenseReferenceIdeal.τ).loc Cert.DenseReferenceIdeal.main_arg1) = m ((c.tc : Thread Cert.DenseReferenceIdeal.nD Cert.DenseReferenceIdeal.τ).loc Cert.DenseReferenceIdeal.main_arg1)
      ∧ r.2.mem ((c.tc : Thread Cert.DenseReferenceIdeal.nD Cert.DenseReferenceIdeal.τ).loc Cert.DenseReferenceIdeal.main_arg2) = m ((c.tc : Thread Cert.DenseReferenceIdeal.nD Cert.DenseReferenceIdeal.τ).loc Cert.DenseReferenceIdeal.main_arg2)
      ∧ r.2.mem ((c.tc : Thread Cert.DenseReferenceIdeal.nD Cert.DenseReferenceIdeal.τ).loc Cert.DenseReferenceIdeal.main_arg3) = m ((c.tc : Thread Cert.DenseReferenceIdeal.nD Cert.DenseReferenceIdeal.τ).loc Cert.DenseReferenceIdeal.main_arg3)
      ∧ r.2.mem ((c.tc : Thread Cert.DenseReferenceIdeal.nD Cert.DenseReferenceIdeal.τ).loc Cert.DenseReferenceIdeal.main_arg4) = m ((c.tc : Thread Cert.DenseReferenceIdeal.nD Cert.DenseReferenceIdeal.τ).loc Cert.DenseReferenceIdeal.main_arg4)
      ∧ r.2.mem ((c.tc : Thread Cert.DenseReferenceIdeal.nD Cert.DenseReferenceIdeal.τ).loc Cert.DenseReferenceIdeal.main_arg5) = m ((c.tc : Thread Cert.DenseReferenceIdeal.nD Cert.DenseReferenceIdeal.τ).loc Cert.DenseReferenceIdeal.main_arg5)
      ∧ r.2.mem ((c.tc : Thread Cert.DenseReferenceIdeal.nD Cert.DenseReferenceIdeal.τ).loc Cert.DenseReferenceIdeal.main_arg6) = m ((c.tc : Thread Cert.DenseReferenceIdeal.nD Cert.DenseReferenceIdeal.τ).loc Cert.DenseReferenceIdeal.main_arg6)
      ∧ r.2.mem ((c.tc : Thread Cert.DenseReferenceIdeal.nD Cert.DenseReferenceIdeal.τ).loc Cert.DenseReferenceIdeal.main_arg7) = m ((c.tc : Thread Cert.DenseReferenceIdeal.nD Cert.DenseReferenceIdeal.τ).loc Cert.DenseReferenceIdeal.main_arg7)
      ∧ r.2.mem ((c.tc : Thread Cert.DenseReferenceIdeal.nD Cert.DenseReferenceIdeal.τ).loc Cert.DenseReferenceIdeal.main_arg8) = m ((c.tc : Thread Cert.DenseReferenceIdeal.nD Cert.DenseReferenceIdeal.τ).loc Cert.DenseReferenceIdeal.main_arg8)
      ∧ r.2.mem ((c.tc : Thread Cert.DenseReferenceIdeal.nD Cert.DenseReferenceIdeal.τ).loc Cert.DenseReferenceIdeal.main_arg9) = m ((c.tc : Thread Cert.DenseReferenceIdeal.nD Cert.DenseReferenceIdeal.τ).loc Cert.DenseReferenceIdeal.main_arg9))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2)
      ∧ r.2.mem ((c.tc : Thread Cert.Router.nD Cert.Router.τ).loc Cert.Router.main_arg3) = m ((c.tc : Thread Cert.Router.nD Cert.Router.τ).loc Cert.Router.main_arg3)
      ∧ r.2.mem ((c.tc : Thread Cert.Router.nD Cert.Router.τ).loc Cert.Router.main_arg4) = m ((c.tc : Thread Cert.Router.nD Cert.Router.τ).loc Cert.Router.main_arg4)
      ∧ r.2.mem ((c.tc : Thread Cert.Router.nD Cert.Router.τ).loc Cert.Router.main_arg5) = m ((c.tc : Thread Cert.Router.nD Cert.Router.τ).loc Cert.Router.main_arg5)
      ∧ r.2.mem ((c.tc : Thread Cert.Router.nD Cert.Router.τ).loc Cert.Router.main_arg6) = m ((c.tc : Thread Cert.Router.nD Cert.Router.τ).loc Cert.Router.main_arg6)
      ∧ r.2.mem ((c.tc : Thread Cert.Router.nD Cert.Router.τ).loc Cert.Router.main_arg7) = m ((c.tc : Thread Cert.Router.nD Cert.Router.τ).loc Cert.Router.main_arg7))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
      ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5)
      ∧ r.2.mem ((c.tc : Thread Cert.RouterIdeal.nD Cert.RouterIdeal.τ).loc Cert.RouterIdeal.main_arg6) = m ((c.tc : Thread Cert.RouterIdeal.nD Cert.RouterIdeal.τ).loc Cert.RouterIdeal.main_arg6)
      ∧ r.2.mem ((c.tc : Thread Cert.RouterIdeal.nD Cert.RouterIdeal.τ).loc Cert.RouterIdeal.main_arg7) = m ((c.tc : Thread Cert.RouterIdeal.nD Cert.RouterIdeal.τ).loc Cert.RouterIdeal.main_arg7))
      ∧ r.2.sem = fun _ => 0)

def quiescent_RouterIdeal_pre_real [hRouterIdeal : Cert.RouterIdeal.Facts] [hPre_real : Cert.Pre_real.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_real m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
      ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5)
      ∧ r.2.mem ((c.tc : Thread Cert.RouterIdeal.nD Cert.RouterIdeal.τ).loc Cert.RouterIdeal.main_arg6) = m ((c.tc : Thread Cert.RouterIdeal.nD Cert.RouterIdeal.τ).loc Cert.RouterIdeal.main_arg6)
      ∧ r.2.mem ((c.tc : Thread Cert.RouterIdeal.nD Cert.RouterIdeal.τ).loc Cert.RouterIdeal.main_arg7) = m ((c.tc : Thread Cert.RouterIdeal.nD Cert.RouterIdeal.τ).loc Cert.RouterIdeal.main_arg7))
      ∧ r.2.sem = fun _ => 0)

def quiescent_RouterReferenceIdeal [hRouterReferenceIdeal : Cert.RouterReferenceIdeal.Facts] : Prop :=
  ∀ (m : (ℓ : Loc Cert.RouterReferenceIdeal.nD Cert.RouterReferenceIdeal.τ Cert.RouterReferenceIdeal.sig) → Buf (Elt Ideal) ℓ) (g : Dev Cert.RouterReferenceIdeal.nD → PrngReg), Pre_RouterReferenceIdeal m →
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1)
      ∧ r.2.mem ((c.tc : Thread Cert.RouterReferenceIdeal.nD Cert.RouterReferenceIdeal.τ).loc Cert.RouterReferenceIdeal.main_arg2) = m ((c.tc : Thread Cert.RouterReferenceIdeal.nD Cert.RouterReferenceIdeal.τ).loc Cert.RouterReferenceIdeal.main_arg2)
      ∧ r.2.mem ((c.tc : Thread Cert.RouterReferenceIdeal.nD Cert.RouterReferenceIdeal.τ).loc Cert.RouterReferenceIdeal.main_arg3) = m ((c.tc : Thread Cert.RouterReferenceIdeal.nD Cert.RouterReferenceIdeal.τ).loc Cert.RouterReferenceIdeal.main_arg3)
      ∧ r.2.mem ((c.tc : Thread Cert.RouterReferenceIdeal.nD Cert.RouterReferenceIdeal.τ).loc Cert.RouterReferenceIdeal.main_arg4) = m ((c.tc : Thread Cert.RouterReferenceIdeal.nD Cert.RouterReferenceIdeal.τ).loc Cert.RouterReferenceIdeal.main_arg4)
      ∧ r.2.mem ((c.tc : Thread Cert.RouterReferenceIdeal.nD Cert.RouterReferenceIdeal.τ).loc Cert.RouterReferenceIdeal.main_arg5) = m ((c.tc : Thread Cert.RouterReferenceIdeal.nD Cert.RouterReferenceIdeal.τ).loc Cert.RouterReferenceIdeal.main_arg5)
      ∧ r.2.mem ((c.tc : Thread Cert.RouterReferenceIdeal.nD Cert.RouterReferenceIdeal.τ).loc Cert.RouterReferenceIdeal.main_arg6) = m ((c.tc : Thread Cert.RouterReferenceIdeal.nD Cert.RouterReferenceIdeal.τ).loc Cert.RouterReferenceIdeal.main_arg6)
      ∧ r.2.mem ((c.tc : Thread Cert.RouterReferenceIdeal.nD Cert.RouterReferenceIdeal.τ).loc Cert.RouterReferenceIdeal.main_arg7) = m ((c.tc : Thread Cert.RouterReferenceIdeal.nD Cert.RouterReferenceIdeal.τ).loc Cert.RouterReferenceIdeal.main_arg7))
      ∧ r.2.sem = fun _ => 0)

def quiescent_RouterReferenceIdeal_pre_real [hRouterReferenceIdeal : Cert.RouterReferenceIdeal.Facts] [hPre_real : Cert.Pre_real.Facts] : Prop :=
  ∀ (m : (ℓ : Loc Cert.RouterReferenceIdeal.nD Cert.RouterReferenceIdeal.τ Cert.RouterReferenceIdeal.sig) → Buf (Elt Ideal) ℓ) (g : Dev Cert.RouterReferenceIdeal.nD → PrngReg), Pre_RouterReferenceIdeal_real m →
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1)
      ∧ r.2.mem ((c.tc : Thread Cert.RouterReferenceIdeal.nD Cert.RouterReferenceIdeal.τ).loc Cert.RouterReferenceIdeal.main_arg2) = m ((c.tc : Thread Cert.RouterReferenceIdeal.nD Cert.RouterReferenceIdeal.τ).loc Cert.RouterReferenceIdeal.main_arg2)
      ∧ r.2.mem ((c.tc : Thread Cert.RouterReferenceIdeal.nD Cert.RouterReferenceIdeal.τ).loc Cert.RouterReferenceIdeal.main_arg3) = m ((c.tc : Thread Cert.RouterReferenceIdeal.nD Cert.RouterReferenceIdeal.τ).loc Cert.RouterReferenceIdeal.main_arg3)
      ∧ r.2.mem ((c.tc : Thread Cert.RouterReferenceIdeal.nD Cert.RouterReferenceIdeal.τ).loc Cert.RouterReferenceIdeal.main_arg4) = m ((c.tc : Thread Cert.RouterReferenceIdeal.nD Cert.RouterReferenceIdeal.τ).loc Cert.RouterReferenceIdeal.main_arg4)
      ∧ r.2.mem ((c.tc : Thread Cert.RouterReferenceIdeal.nD Cert.RouterReferenceIdeal.τ).loc Cert.RouterReferenceIdeal.main_arg5) = m ((c.tc : Thread Cert.RouterReferenceIdeal.nD Cert.RouterReferenceIdeal.τ).loc Cert.RouterReferenceIdeal.main_arg5)
      ∧ r.2.mem ((c.tc : Thread Cert.RouterReferenceIdeal.nD Cert.RouterReferenceIdeal.τ).loc Cert.RouterReferenceIdeal.main_arg6) = m ((c.tc : Thread Cert.RouterReferenceIdeal.nD Cert.RouterReferenceIdeal.τ).loc Cert.RouterReferenceIdeal.main_arg6)
      ∧ r.2.mem ((c.tc : Thread Cert.RouterReferenceIdeal.nD Cert.RouterReferenceIdeal.τ).loc Cert.RouterReferenceIdeal.main_arg7) = m ((c.tc : Thread Cert.RouterReferenceIdeal.nD Cert.RouterReferenceIdeal.τ).loc Cert.RouterReferenceIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Experts_ExpertsIdeal : Prop :=
  True

def algebraic_ExpertsIdeal_ExpertsReferenceIdeal_on_in_use [hExpertsIdeal : Cert.ExpertsIdeal.Facts] [hExpertsReferenceIdeal : Cert.ExpertsReferenceIdeal.Facts] [hPre_tables : Cert.Pre_tables.Facts] [hOn_in_use : Cert.On_in_use.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v2)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          (∀ i : (⟨2, ![172032, 1024]⟩ : Shape).Idx, (Cert.On_in_use.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) i = 1#1 → r.2.mem ((c.tc : Thread Cert.ExpertsIdeal.nD Cert.ExpertsIdeal.τ).loc Cert.ExpertsIdeal.main_v2) i = v0 c i)
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          (∀ i : (⟨2, ![172032, 1024]⟩ : Shape).Idx, (Cert.On_in_use.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) i = 1#1 → r.2.mem ((c.tc : Thread Cert.ExpertsReferenceIdeal.nD Cert.ExpertsReferenceIdeal.τ).loc Cert.ExpertsReferenceIdeal.main_v137) i = v0 c i)
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5))

def preserves_Dense_DenseIdeal : Prop :=
  True

def algebraic_DenseIdeal_DenseReferenceIdeal [hDenseIdeal : Cert.DenseIdeal.Facts] [hDenseReferenceIdeal : Cert.DenseReferenceIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseReferenceIdeal.nD Cert.DenseReferenceIdeal.τ Cert.DenseReferenceIdeal.sig) → Buf (Elt Ideal) ℓ) (g' : Dev Cert.DenseReferenceIdeal.nD → PrngReg), Pre_DenseIdeal m →
    (∀ c : Dev Cert.DenseIdeal.nD,
      m' ((c.tc : Thread Cert.DenseReferenceIdeal.nD Cert.DenseReferenceIdeal.τ).loc Cert.DenseReferenceIdeal.main_arg0) = m ((c.tc : Thread Cert.DenseIdeal.nD Cert.DenseIdeal.τ).loc Cert.DenseIdeal.main_arg0)
      ∧ m' ((c.tc : Thread Cert.DenseReferenceIdeal.nD Cert.DenseReferenceIdeal.τ).loc Cert.DenseReferenceIdeal.main_arg1) = m ((c.tc : Thread Cert.DenseIdeal.nD Cert.DenseIdeal.τ).loc Cert.DenseIdeal.main_arg1)
      ∧ m' ((c.tc : Thread Cert.DenseReferenceIdeal.nD Cert.DenseReferenceIdeal.τ).loc Cert.DenseReferenceIdeal.main_arg2) = m ((c.tc : Thread Cert.DenseIdeal.nD Cert.DenseIdeal.τ).loc Cert.DenseIdeal.main_arg2)
      ∧ m' ((c.tc : Thread Cert.DenseReferenceIdeal.nD Cert.DenseReferenceIdeal.τ).loc Cert.DenseReferenceIdeal.main_arg3) = m ((c.tc : Thread Cert.DenseIdeal.nD Cert.DenseIdeal.τ).loc Cert.DenseIdeal.main_arg3)
      ∧ m' ((c.tc : Thread Cert.DenseReferenceIdeal.nD Cert.DenseReferenceIdeal.τ).loc Cert.DenseReferenceIdeal.main_arg4) = m ((c.tc : Thread Cert.DenseIdeal.nD Cert.DenseIdeal.τ).loc Cert.DenseIdeal.main_arg4)
      ∧ m' ((c.tc : Thread Cert.DenseReferenceIdeal.nD Cert.DenseReferenceIdeal.τ).loc Cert.DenseReferenceIdeal.main_arg5) = m ((c.tc : Thread Cert.DenseIdeal.nD Cert.DenseIdeal.τ).loc Cert.DenseIdeal.main_arg5)
      ∧ m' ((c.tc : Thread Cert.DenseReferenceIdeal.nD Cert.DenseReferenceIdeal.τ).loc Cert.DenseReferenceIdeal.main_arg6) = m ((c.tc : Thread Cert.DenseIdeal.nD Cert.DenseIdeal.τ).loc Cert.DenseIdeal.main_arg6)
      ∧ m' ((c.tc : Thread Cert.DenseReferenceIdeal.nD Cert.DenseReferenceIdeal.τ).loc Cert.DenseReferenceIdeal.main_arg7) = m ((c.tc : Thread Cert.DenseIdeal.nD Cert.DenseIdeal.τ).loc Cert.DenseIdeal.main_arg7)
      ∧ m' ((c.tc : Thread Cert.DenseReferenceIdeal.nD Cert.DenseReferenceIdeal.τ).loc Cert.DenseReferenceIdeal.main_arg8) = m ((c.tc : Thread Cert.DenseIdeal.nD Cert.DenseIdeal.τ).loc Cert.DenseIdeal.main_arg8)
      ∧ m' ((c.tc : Thread Cert.DenseReferenceIdeal.nD Cert.DenseReferenceIdeal.τ).loc Cert.DenseReferenceIdeal.main_arg9) = m ((c.tc : Thread Cert.DenseIdeal.nD Cert.DenseIdeal.τ).loc Cert.DenseIdeal.main_arg9)) →
    ∃ (v0 : (c : Dev Cert.DenseIdeal.nD) → Buf (Elt Ideal) ((c.tc : Thread Cert.DenseIdeal.nD Cert.DenseIdeal.τ).loc Cert.DenseIdeal.main_v4)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v4) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
          ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
          ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
          ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7)
          ∧ r.2.mem ((c.tc : Thread Cert.DenseIdeal.nD Cert.DenseIdeal.τ).loc Cert.DenseIdeal.main_arg8) = m ((c.tc : Thread Cert.DenseIdeal.nD Cert.DenseIdeal.τ).loc Cert.DenseIdeal.main_arg8)
          ∧ r.2.mem ((c.tc : Thread Cert.DenseIdeal.nD Cert.DenseIdeal.τ).loc Cert.DenseIdeal.main_arg9) = m ((c.tc : Thread Cert.DenseIdeal.nD Cert.DenseIdeal.τ).loc Cert.DenseIdeal.main_arg9))
      ∧ θ_run (Cert.DenseReferenceIdeal.defs (F := Ideal)) (onTc (τ := Cert.DenseReferenceIdeal.τ) (Cert.DenseReferenceIdeal.main (F := Ideal))) ⟨m', fun _ => 0, g'⟩ (fun r => ∀ c : Dev Cert.DenseReferenceIdeal.nD,
          r.2.mem ((c.tc : Thread Cert.DenseReferenceIdeal.nD Cert.DenseReferenceIdeal.τ).loc Cert.DenseReferenceIdeal.main_v26) = v0 c
          ∧ r.2.mem ((c.tc : Thread Cert.DenseReferenceIdeal.nD Cert.DenseReferenceIdeal.τ).loc Cert.DenseReferenceIdeal.main_arg0) = m' ((c.tc : Thread Cert.DenseReferenceIdeal.nD Cert.DenseReferenceIdeal.τ).loc Cert.DenseReferenceIdeal.main_arg0)
          ∧ r.2.mem ((c.tc : Thread Cert.DenseReferenceIdeal.nD Cert.DenseReferenceIdeal.τ).loc Cert.DenseReferenceIdeal.main_arg1) = m' ((c.tc : Thread Cert.DenseReferenceIdeal.nD Cert.DenseReferenceIdeal.τ).loc Cert.DenseReferenceIdeal.main_arg1)
          ∧ r.2.mem ((c.tc : Thread Cert.DenseReferenceIdeal.nD Cert.DenseReferenceIdeal.τ).loc Cert.DenseReferenceIdeal.main_arg2) = m' ((c.tc : Thread Cert.DenseReferenceIdeal.nD Cert.DenseReferenceIdeal.τ).loc Cert.DenseReferenceIdeal.main_arg2)
          ∧ r.2.mem ((c.tc : Thread Cert.DenseReferenceIdeal.nD Cert.DenseReferenceIdeal.τ).loc Cert.DenseReferenceIdeal.main_arg3) = m' ((c.tc : Thread Cert.DenseReferenceIdeal.nD Cert.DenseReferenceIdeal.τ).loc Cert.DenseReferenceIdeal.main_arg3)
          ∧ r.2.mem ((c.tc : Thread Cert.DenseReferenceIdeal.nD Cert.DenseReferenceIdeal.τ).loc Cert.DenseReferenceIdeal.main_arg4) = m' ((c.tc : Thread Cert.DenseReferenceIdeal.nD Cert.DenseReferenceIdeal.τ).loc Cert.DenseReferenceIdeal.main_arg4)
          ∧ r.2.mem ((c.tc : Thread Cert.DenseReferenceIdeal.nD Cert.DenseReferenceIdeal.τ).loc Cert.DenseReferenceIdeal.main_arg5) = m' ((c.tc : Thread Cert.DenseReferenceIdeal.nD Cert.DenseReferenceIdeal.τ).loc Cert.DenseReferenceIdeal.main_arg5)
          ∧ r.2.mem ((c.tc : Thread Cert.DenseReferenceIdeal.nD Cert.DenseReferenceIdeal.τ).loc Cert.DenseReferenceIdeal.main_arg6) = m' ((c.tc : Thread Cert.DenseReferenceIdeal.nD Cert.DenseReferenceIdeal.τ).loc Cert.DenseReferenceIdeal.main_arg6)
          ∧ r.2.mem ((c.tc : Thread Cert.DenseReferenceIdeal.nD Cert.DenseReferenceIdeal.τ).loc Cert.DenseReferenceIdeal.main_arg7) = m' ((c.tc : Thread Cert.DenseReferenceIdeal.nD Cert.DenseReferenceIdeal.τ).loc Cert.DenseReferenceIdeal.main_arg7)
          ∧ r.2.mem ((c.tc : Thread Cert.DenseReferenceIdeal.nD Cert.DenseReferenceIdeal.τ).loc Cert.DenseReferenceIdeal.main_arg8) = m' ((c.tc : Thread Cert.DenseReferenceIdeal.nD Cert.DenseReferenceIdeal.τ).loc Cert.DenseReferenceIdeal.main_arg8)
          ∧ r.2.mem ((c.tc : Thread Cert.DenseReferenceIdeal.nD Cert.DenseReferenceIdeal.τ).loc Cert.DenseReferenceIdeal.main_arg9) = m' ((c.tc : Thread Cert.DenseReferenceIdeal.nD Cert.DenseReferenceIdeal.τ).loc Cert.DenseReferenceIdeal.main_arg9))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v75_0)) (v1 : (c : Dev Cert.InProjIdeal.nD) → Buf (Elt Ideal) ((c.tc : Thread Cert.InProjIdeal.nD Cert.InProjIdeal.τ).loc Cert.InProjIdeal.main_v75_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v75_0) = v0 c
          ∧ r.2.mem ((c.tc : Thread Cert.InProjIdeal.nD Cert.InProjIdeal.τ).loc Cert.InProjIdeal.main_v75_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v91) = v0 c
          ∧ r.2.mem ((c.tc : Thread Cert.InProjReferenceIdeal.nD Cert.InProjReferenceIdeal.τ).loc Cert.InProjReferenceIdeal.main_v92) = v1 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3))

def preserves_Router_RouterIdeal : Prop :=
  True

def algebraic_RouterIdeal_RouterReferenceIdeal_on_of_tokens [hRouterIdeal : Cert.RouterIdeal.Facts] [hRouterReferenceIdeal : Cert.RouterReferenceIdeal.Facts] [hOn_of_tokens : Cert.On_of_tokens.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterReferenceIdeal.nD Cert.RouterReferenceIdeal.τ Cert.RouterReferenceIdeal.sig) → Buf (Elt Ideal) ℓ) (g' : Dev Cert.RouterReferenceIdeal.nD → PrngReg), Pre_RouterIdeal m →
    (∀ c : Dev Cert.RouterIdeal.nD,
      m' ((c.tc : Thread Cert.RouterReferenceIdeal.nD Cert.RouterReferenceIdeal.τ).loc Cert.RouterReferenceIdeal.main_arg0) = m ((c.tc : Thread Cert.RouterIdeal.nD Cert.RouterIdeal.τ).loc Cert.RouterIdeal.main_arg0)
      ∧ m' ((c.tc : Thread Cert.RouterReferenceIdeal.nD Cert.RouterReferenceIdeal.τ).loc Cert.RouterReferenceIdeal.main_arg1) = m ((c.tc : Thread Cert.RouterIdeal.nD Cert.RouterIdeal.τ).loc Cert.RouterIdeal.main_arg1)
      ∧ m' ((c.tc : Thread Cert.RouterReferenceIdeal.nD Cert.RouterReferenceIdeal.τ).loc Cert.RouterReferenceIdeal.main_arg2) = m ((c.tc : Thread Cert.RouterIdeal.nD Cert.RouterIdeal.τ).loc Cert.RouterIdeal.main_arg2)
      ∧ m' ((c.tc : Thread Cert.RouterReferenceIdeal.nD Cert.RouterReferenceIdeal.τ).loc Cert.RouterReferenceIdeal.main_arg3) = m ((c.tc : Thread Cert.RouterIdeal.nD Cert.RouterIdeal.τ).loc Cert.RouterIdeal.main_arg3)
      ∧ m' ((c.tc : Thread Cert.RouterReferenceIdeal.nD Cert.RouterReferenceIdeal.τ).loc Cert.RouterReferenceIdeal.main_arg4) = m ((c.tc : Thread Cert.RouterIdeal.nD Cert.RouterIdeal.τ).loc Cert.RouterIdeal.main_arg4)
      ∧ m' ((c.tc : Thread Cert.RouterReferenceIdeal.nD Cert.RouterReferenceIdeal.τ).loc Cert.RouterReferenceIdeal.main_arg5) = m ((c.tc : Thread Cert.RouterIdeal.nD Cert.RouterIdeal.τ).loc Cert.RouterIdeal.main_arg5)
      ∧ m' ((c.tc : Thread Cert.RouterReferenceIdeal.nD Cert.RouterReferenceIdeal.τ).loc Cert.RouterReferenceIdeal.main_arg6) = m ((c.tc : Thread Cert.RouterIdeal.nD Cert.RouterIdeal.τ).loc Cert.RouterIdeal.main_arg6)
      ∧ m' ((c.tc : Thread Cert.RouterReferenceIdeal.nD Cert.RouterReferenceIdeal.τ).loc Cert.RouterReferenceIdeal.main_arg7) = m ((c.tc : Thread Cert.RouterIdeal.nD Cert.RouterIdeal.τ).loc Cert.RouterIdeal.main_arg7)) →
    ∃ (v0 : (c : Dev Cert.RouterIdeal.nD) → Buf (Elt Ideal) ((c.tc : Thread Cert.RouterIdeal.nD Cert.RouterIdeal.τ).loc Cert.RouterIdeal.main_v3_0)) (v1 : (c : Dev Cert.RouterIdeal.nD) → Buf (Elt Ideal) ((c.tc : Thread Cert.RouterIdeal.nD Cert.RouterIdeal.τ).loc Cert.RouterIdeal.main_v3_1)) (v2 : (c : Dev Cert.RouterIdeal.nD) → Buf (Elt Ideal) ((c.tc : Thread Cert.RouterIdeal.nD Cert.RouterIdeal.τ).loc Cert.RouterIdeal.main_v3_2)) (v3 : (c : Dev Cert.RouterIdeal.nD) → Buf (Elt Ideal) ((c.tc : Thread Cert.RouterIdeal.nD Cert.RouterIdeal.τ).loc Cert.RouterIdeal.main_v3_3)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          (∀ i : (⟨2, ![81920, 1024]⟩ : Shape).Idx, (Cert.On_of_tokens.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4)) (m ((c.tc : Thread Cert.RouterIdeal.nD Cert.RouterIdeal.τ).loc Cert.RouterIdeal.main_arg5)) (m ((c.tc : Thread Cert.RouterIdeal.nD Cert.RouterIdeal.τ).loc Cert.RouterIdeal.main_arg6)) (m ((c.tc : Thread Cert.RouterIdeal.nD Cert.RouterIdeal.τ).loc Cert.RouterIdeal.main_arg7))).1 i = 1#1 → r.2.mem ((c.tc : Thread Cert.RouterIdeal.nD Cert.RouterIdeal.τ).loc Cert.RouterIdeal.main_v3_0) i = v0 c i)
          ∧ (∀ i : (⟨2, ![81920, 1024]⟩ : Shape).Idx, (Cert.On_of_tokens.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4)) (m ((c.tc : Thread Cert.RouterIdeal.nD Cert.RouterIdeal.τ).loc Cert.RouterIdeal.main_arg5)) (m ((c.tc : Thread Cert.RouterIdeal.nD Cert.RouterIdeal.τ).loc Cert.RouterIdeal.main_arg6)) (m ((c.tc : Thread Cert.RouterIdeal.nD Cert.RouterIdeal.τ).loc Cert.RouterIdeal.main_arg7))).2.1 i = 1#1 → r.2.mem ((c.tc : Thread Cert.RouterIdeal.nD Cert.RouterIdeal.τ).loc Cert.RouterIdeal.main_v3_1) i = v1 c i)
          ∧ (∀ i : (⟨2, ![8, 81920]⟩ : Shape).Idx, (Cert.On_of_tokens.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4)) (m ((c.tc : Thread Cert.RouterIdeal.nD Cert.RouterIdeal.τ).loc Cert.RouterIdeal.main_arg5)) (m ((c.tc : Thread Cert.RouterIdeal.nD Cert.RouterIdeal.τ).loc Cert.RouterIdeal.main_arg6)) (m ((c.tc : Thread Cert.RouterIdeal.nD Cert.RouterIdeal.τ).loc Cert.RouterIdeal.main_arg7))).2.2.1 i = 1#1 → r.2.mem ((c.tc : Thread Cert.RouterIdeal.nD Cert.RouterIdeal.τ).loc Cert.RouterIdeal.main_v3_2) i = v2 c i)
          ∧ (∀ i : (⟨2, ![8, 128]⟩ : Shape).Idx, (Cert.On_of_tokens.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4)) (m ((c.tc : Thread Cert.RouterIdeal.nD Cert.RouterIdeal.τ).loc Cert.RouterIdeal.main_arg5)) (m ((c.tc : Thread Cert.RouterIdeal.nD Cert.RouterIdeal.τ).loc Cert.RouterIdeal.main_arg6)) (m ((c.tc : Thread Cert.RouterIdeal.nD Cert.RouterIdeal.τ).loc Cert.RouterIdeal.main_arg7))).2.2.2 i = 1#1 → r.2.mem ((c.tc : Thread Cert.RouterIdeal.nD Cert.RouterIdeal.τ).loc Cert.RouterIdeal.main_v3_3) i = v3 c i)
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
          ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
          ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
          ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5)
          ∧ r.2.mem ((c.tc : Thread Cert.RouterIdeal.nD Cert.RouterIdeal.τ).loc Cert.RouterIdeal.main_arg6) = m ((c.tc : Thread Cert.RouterIdeal.nD Cert.RouterIdeal.τ).loc Cert.RouterIdeal.main_arg6)
          ∧ r.2.mem ((c.tc : Thread Cert.RouterIdeal.nD Cert.RouterIdeal.τ).loc Cert.RouterIdeal.main_arg7) = m ((c.tc : Thread Cert.RouterIdeal.nD Cert.RouterIdeal.τ).loc Cert.RouterIdeal.main_arg7))
      ∧ θ_run (Cert.RouterReferenceIdeal.defs (F := Ideal)) (onTc (τ := Cert.RouterReferenceIdeal.τ) (Cert.RouterReferenceIdeal.main (F := Ideal))) ⟨m', fun _ => 0, g'⟩ (fun r => ∀ c : Dev Cert.RouterReferenceIdeal.nD,
          (∀ i : (⟨2, ![81920, 1024]⟩ : Shape).Idx, (Cert.On_of_tokens.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4)) (m ((c.tc : Thread Cert.RouterIdeal.nD Cert.RouterIdeal.τ).loc Cert.RouterIdeal.main_arg5)) (m ((c.tc : Thread Cert.RouterIdeal.nD Cert.RouterIdeal.τ).loc Cert.RouterIdeal.main_arg6)) (m ((c.tc : Thread Cert.RouterIdeal.nD Cert.RouterIdeal.τ).loc Cert.RouterIdeal.main_arg7))).1 i = 1#1 → r.2.mem ((c.tc : Thread Cert.RouterReferenceIdeal.nD Cert.RouterReferenceIdeal.τ).loc Cert.RouterReferenceIdeal.main_v5) i = v0 c i)
          ∧ (∀ i : (⟨2, ![81920, 1024]⟩ : Shape).Idx, (Cert.On_of_tokens.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4)) (m ((c.tc : Thread Cert.RouterIdeal.nD Cert.RouterIdeal.τ).loc Cert.RouterIdeal.main_arg5)) (m ((c.tc : Thread Cert.RouterIdeal.nD Cert.RouterIdeal.τ).loc Cert.RouterIdeal.main_arg6)) (m ((c.tc : Thread Cert.RouterIdeal.nD Cert.RouterIdeal.τ).loc Cert.RouterIdeal.main_arg7))).2.1 i = 1#1 → r.2.mem ((c.tc : Thread Cert.RouterReferenceIdeal.nD Cert.RouterReferenceIdeal.τ).loc Cert.RouterReferenceIdeal.main_v46) i = v1 c i)
          ∧ (∀ i : (⟨2, ![8, 81920]⟩ : Shape).Idx, (Cert.On_of_tokens.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4)) (m ((c.tc : Thread Cert.RouterIdeal.nD Cert.RouterIdeal.τ).loc Cert.RouterIdeal.main_arg5)) (m ((c.tc : Thread Cert.RouterIdeal.nD Cert.RouterIdeal.τ).loc Cert.RouterIdeal.main_arg6)) (m ((c.tc : Thread Cert.RouterIdeal.nD Cert.RouterIdeal.τ).loc Cert.RouterIdeal.main_arg7))).2.2.1 i = 1#1 → r.2.mem ((c.tc : Thread Cert.RouterReferenceIdeal.nD Cert.RouterReferenceIdeal.τ).loc Cert.RouterReferenceIdeal.main_v42) i = v2 c i)
          ∧ (∀ i : (⟨2, ![8, 128]⟩ : Shape).Idx, (Cert.On_of_tokens.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4)) (m ((c.tc : Thread Cert.RouterIdeal.nD Cert.RouterIdeal.τ).loc Cert.RouterIdeal.main_arg5)) (m ((c.tc : Thread Cert.RouterIdeal.nD Cert.RouterIdeal.τ).loc Cert.RouterIdeal.main_arg6)) (m ((c.tc : Thread Cert.RouterIdeal.nD Cert.RouterIdeal.τ).loc Cert.RouterIdeal.main_arg7))).2.2.2 i = 1#1 → r.2.mem ((c.tc : Thread Cert.RouterReferenceIdeal.nD Cert.RouterReferenceIdeal.τ).loc Cert.RouterReferenceIdeal.main_v45) i = v3 c i)
          ∧ r.2.mem ((c.tc : Thread Cert.RouterReferenceIdeal.nD Cert.RouterReferenceIdeal.τ).loc Cert.RouterReferenceIdeal.main_arg0) = m' ((c.tc : Thread Cert.RouterReferenceIdeal.nD Cert.RouterReferenceIdeal.τ).loc Cert.RouterReferenceIdeal.main_arg0)
          ∧ r.2.mem ((c.tc : Thread Cert.RouterReferenceIdeal.nD Cert.RouterReferenceIdeal.τ).loc Cert.RouterReferenceIdeal.main_arg1) = m' ((c.tc : Thread Cert.RouterReferenceIdeal.nD Cert.RouterReferenceIdeal.τ).loc Cert.RouterReferenceIdeal.main_arg1)
          ∧ r.2.mem ((c.tc : Thread Cert.RouterReferenceIdeal.nD Cert.RouterReferenceIdeal.τ).loc Cert.RouterReferenceIdeal.main_arg2) = m' ((c.tc : Thread Cert.RouterReferenceIdeal.nD Cert.RouterReferenceIdeal.τ).loc Cert.RouterReferenceIdeal.main_arg2)
          ∧ r.2.mem ((c.tc : Thread Cert.RouterReferenceIdeal.nD Cert.RouterReferenceIdeal.τ).loc Cert.RouterReferenceIdeal.main_arg3) = m' ((c.tc : Thread Cert.RouterReferenceIdeal.nD Cert.RouterReferenceIdeal.τ).loc Cert.RouterReferenceIdeal.main_arg3)
          ∧ r.2.mem ((c.tc : Thread Cert.RouterReferenceIdeal.nD Cert.RouterReferenceIdeal.τ).loc Cert.RouterReferenceIdeal.main_arg4) = m' ((c.tc : Thread Cert.RouterReferenceIdeal.nD Cert.RouterReferenceIdeal.τ).loc Cert.RouterReferenceIdeal.main_arg4)
          ∧ r.2.mem ((c.tc : Thread Cert.RouterReferenceIdeal.nD Cert.RouterReferenceIdeal.τ).loc Cert.RouterReferenceIdeal.main_arg5) = m' ((c.tc : Thread Cert.RouterReferenceIdeal.nD Cert.RouterReferenceIdeal.τ).loc Cert.RouterReferenceIdeal.main_arg5)
          ∧ r.2.mem ((c.tc : Thread Cert.RouterReferenceIdeal.nD Cert.RouterReferenceIdeal.τ).loc Cert.RouterReferenceIdeal.main_arg6) = m' ((c.tc : Thread Cert.RouterReferenceIdeal.nD Cert.RouterReferenceIdeal.τ).loc Cert.RouterReferenceIdeal.main_arg6)
          ∧ r.2.mem ((c.tc : Thread Cert.RouterReferenceIdeal.nD Cert.RouterReferenceIdeal.τ).loc Cert.RouterReferenceIdeal.main_arg7) = m' ((c.tc : Thread Cert.RouterReferenceIdeal.nD Cert.RouterReferenceIdeal.τ).loc Cert.RouterReferenceIdeal.main_arg7))

def algebraic_RouterIdeal_RouterReferenceIdeal_pre_real [hRouterIdeal : Cert.RouterIdeal.Facts] [hRouterReferenceIdeal : Cert.RouterReferenceIdeal.Facts] [hPre_real : Cert.Pre_real.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterReferenceIdeal.nD Cert.RouterReferenceIdeal.τ Cert.RouterReferenceIdeal.sig) → Buf (Elt Ideal) ℓ) (g' : Dev Cert.RouterReferenceIdeal.nD → PrngReg), Pre_RouterIdeal_real m →
    (∀ c : Dev Cert.RouterIdeal.nD,
      m' ((c.tc : Thread Cert.RouterReferenceIdeal.nD Cert.RouterReferenceIdeal.τ).loc Cert.RouterReferenceIdeal.main_arg0) = m ((c.tc : Thread Cert.RouterIdeal.nD Cert.RouterIdeal.τ).loc Cert.RouterIdeal.main_arg0)
      ∧ m' ((c.tc : Thread Cert.RouterReferenceIdeal.nD Cert.RouterReferenceIdeal.τ).loc Cert.RouterReferenceIdeal.main_arg1) = m ((c.tc : Thread Cert.RouterIdeal.nD Cert.RouterIdeal.τ).loc Cert.RouterIdeal.main_arg1)
      ∧ m' ((c.tc : Thread Cert.RouterReferenceIdeal.nD Cert.RouterReferenceIdeal.τ).loc Cert.RouterReferenceIdeal.main_arg2) = m ((c.tc : Thread Cert.RouterIdeal.nD Cert.RouterIdeal.τ).loc Cert.RouterIdeal.main_arg2)
      ∧ m' ((c.tc : Thread Cert.RouterReferenceIdeal.nD Cert.RouterReferenceIdeal.τ).loc Cert.RouterReferenceIdeal.main_arg3) = m ((c.tc : Thread Cert.RouterIdeal.nD Cert.RouterIdeal.τ).loc Cert.RouterIdeal.main_arg3)
      ∧ m' ((c.tc : Thread Cert.RouterReferenceIdeal.nD Cert.RouterReferenceIdeal.τ).loc Cert.RouterReferenceIdeal.main_arg4) = m ((c.tc : Thread Cert.RouterIdeal.nD Cert.RouterIdeal.τ).loc Cert.RouterIdeal.main_arg4)
      ∧ m' ((c.tc : Thread Cert.RouterReferenceIdeal.nD Cert.RouterReferenceIdeal.τ).loc Cert.RouterReferenceIdeal.main_arg5) = m ((c.tc : Thread Cert.RouterIdeal.nD Cert.RouterIdeal.τ).loc Cert.RouterIdeal.main_arg5)
      ∧ m' ((c.tc : Thread Cert.RouterReferenceIdeal.nD Cert.RouterReferenceIdeal.τ).loc Cert.RouterReferenceIdeal.main_arg6) = m ((c.tc : Thread Cert.RouterIdeal.nD Cert.RouterIdeal.τ).loc Cert.RouterIdeal.main_arg6)
      ∧ m' ((c.tc : Thread Cert.RouterReferenceIdeal.nD Cert.RouterReferenceIdeal.τ).loc Cert.RouterReferenceIdeal.main_arg7) = m ((c.tc : Thread Cert.RouterIdeal.nD Cert.RouterIdeal.τ).loc Cert.RouterIdeal.main_arg7)) →
    ∃ (v0 : (c : Dev Cert.RouterIdeal.nD) → Buf (Elt Ideal) ((c.tc : Thread Cert.RouterIdeal.nD Cert.RouterIdeal.τ).loc Cert.RouterIdeal.main_v3_0)) (v1 : (c : Dev Cert.RouterIdeal.nD) → Buf (Elt Ideal) ((c.tc : Thread Cert.RouterIdeal.nD Cert.RouterIdeal.τ).loc Cert.RouterIdeal.main_v3_1)) (v2 : (c : Dev Cert.RouterIdeal.nD) → Buf (Elt Ideal) ((c.tc : Thread Cert.RouterIdeal.nD Cert.RouterIdeal.τ).loc Cert.RouterIdeal.main_v3_2)) (v3 : (c : Dev Cert.RouterIdeal.nD) → Buf (Elt Ideal) ((c.tc : Thread Cert.RouterIdeal.nD Cert.RouterIdeal.τ).loc Cert.RouterIdeal.main_v3_3)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v3_0) = v0 c
          ∧ r.2.mem ((c.tc : Thread Cert.RouterIdeal.nD Cert.RouterIdeal.τ).loc Cert.RouterIdeal.main_v3_1) = v1 c
          ∧ r.2.mem ((c.tc : Thread Cert.RouterIdeal.nD Cert.RouterIdeal.τ).loc Cert.RouterIdeal.main_v3_2) = v2 c
          ∧ r.2.mem ((c.tc : Thread Cert.RouterIdeal.nD Cert.RouterIdeal.τ).loc Cert.RouterIdeal.main_v3_3) = v3 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
          ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
          ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
          ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5)
          ∧ r.2.mem ((c.tc : Thread Cert.RouterIdeal.nD Cert.RouterIdeal.τ).loc Cert.RouterIdeal.main_arg6) = m ((c.tc : Thread Cert.RouterIdeal.nD Cert.RouterIdeal.τ).loc Cert.RouterIdeal.main_arg6)
          ∧ r.2.mem ((c.tc : Thread Cert.RouterIdeal.nD Cert.RouterIdeal.τ).loc Cert.RouterIdeal.main_arg7) = m ((c.tc : Thread Cert.RouterIdeal.nD Cert.RouterIdeal.τ).loc Cert.RouterIdeal.main_arg7))
      ∧ θ_run (Cert.RouterReferenceIdeal.defs (F := Ideal)) (onTc (τ := Cert.RouterReferenceIdeal.τ) (Cert.RouterReferenceIdeal.main (F := Ideal))) ⟨m', fun _ => 0, g'⟩ (fun r => ∀ c : Dev Cert.RouterReferenceIdeal.nD,
          r.2.mem ((c.tc : Thread Cert.RouterReferenceIdeal.nD Cert.RouterReferenceIdeal.τ).loc Cert.RouterReferenceIdeal.main_v5) = v0 c
          ∧ r.2.mem ((c.tc : Thread Cert.RouterReferenceIdeal.nD Cert.RouterReferenceIdeal.τ).loc Cert.RouterReferenceIdeal.main_v46) = v1 c
          ∧ r.2.mem ((c.tc : Thread Cert.RouterReferenceIdeal.nD Cert.RouterReferenceIdeal.τ).loc Cert.RouterReferenceIdeal.main_v42) = v2 c
          ∧ r.2.mem ((c.tc : Thread Cert.RouterReferenceIdeal.nD Cert.RouterReferenceIdeal.τ).loc Cert.RouterReferenceIdeal.main_v45) = v3 c
          ∧ r.2.mem ((c.tc : Thread Cert.RouterReferenceIdeal.nD Cert.RouterReferenceIdeal.τ).loc Cert.RouterReferenceIdeal.main_arg0) = m' ((c.tc : Thread Cert.RouterReferenceIdeal.nD Cert.RouterReferenceIdeal.τ).loc Cert.RouterReferenceIdeal.main_arg0)
          ∧ r.2.mem ((c.tc : Thread Cert.RouterReferenceIdeal.nD Cert.RouterReferenceIdeal.τ).loc Cert.RouterReferenceIdeal.main_arg1) = m' ((c.tc : Thread Cert.RouterReferenceIdeal.nD Cert.RouterReferenceIdeal.τ).loc Cert.RouterReferenceIdeal.main_arg1)
          ∧ r.2.mem ((c.tc : Thread Cert.RouterReferenceIdeal.nD Cert.RouterReferenceIdeal.τ).loc Cert.RouterReferenceIdeal.main_arg2) = m' ((c.tc : Thread Cert.RouterReferenceIdeal.nD Cert.RouterReferenceIdeal.τ).loc Cert.RouterReferenceIdeal.main_arg2)
          ∧ r.2.mem ((c.tc : Thread Cert.RouterReferenceIdeal.nD Cert.RouterReferenceIdeal.τ).loc Cert.RouterReferenceIdeal.main_arg3) = m' ((c.tc : Thread Cert.RouterReferenceIdeal.nD Cert.RouterReferenceIdeal.τ).loc Cert.RouterReferenceIdeal.main_arg3)
          ∧ r.2.mem ((c.tc : Thread Cert.RouterReferenceIdeal.nD Cert.RouterReferenceIdeal.τ).loc Cert.RouterReferenceIdeal.main_arg4) = m' ((c.tc : Thread Cert.RouterReferenceIdeal.nD Cert.RouterReferenceIdeal.τ).loc Cert.RouterReferenceIdeal.main_arg4)
          ∧ r.2.mem ((c.tc : Thread Cert.RouterReferenceIdeal.nD Cert.RouterReferenceIdeal.τ).loc Cert.RouterReferenceIdeal.main_arg5) = m' ((c.tc : Thread Cert.RouterReferenceIdeal.nD Cert.RouterReferenceIdeal.τ).loc Cert.RouterReferenceIdeal.main_arg5)
          ∧ r.2.mem ((c.tc : Thread Cert.RouterReferenceIdeal.nD Cert.RouterReferenceIdeal.τ).loc Cert.RouterReferenceIdeal.main_arg6) = m' ((c.tc : Thread Cert.RouterReferenceIdeal.nD Cert.RouterReferenceIdeal.τ).loc Cert.RouterReferenceIdeal.main_arg6)
          ∧ r.2.mem ((c.tc : Thread Cert.RouterReferenceIdeal.nD Cert.RouterReferenceIdeal.τ).loc Cert.RouterReferenceIdeal.main_arg7) = m' ((c.tc : Thread Cert.RouterReferenceIdeal.nD Cert.RouterReferenceIdeal.τ).loc Cert.RouterReferenceIdeal.main_arg7))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hDense : Cert.Dense.Facts) (hDenseIdeal : Cert.DenseIdeal.Facts) (hDenseReferenceIdeal : Cert.DenseReferenceIdeal.Facts) (hInProj : Cert.InProj.Facts) (hInProjIdeal : Cert.InProjIdeal.Facts) (hInProjReferenceIdeal : Cert.InProjReferenceIdeal.Facts) (hRouter : Cert.Router.Facts) (hRouterIdeal : Cert.RouterIdeal.Facts) (hRouterReferenceIdeal : Cert.RouterReferenceIdeal.Facts) (hPre_finite : Cert.Pre_finite.Facts) (hPre_tables : Cert.Pre_tables.Facts) (hPre_real : Cert.Pre_real.Facts) (hOn_in_use : Cert.On_in_use.Facts) (hOn_of_tokens : Cert.On_of_tokens.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Experts (hExperts := hExperts) (hPre_tables := hPre_tables)
    ∧ quiescent_ExpertsIdeal (hExpertsIdeal := hExpertsIdeal) (hPre_tables := hPre_tables)
    ∧ quiescent_ExpertsReferenceIdeal (hExpertsReferenceIdeal := hExpertsReferenceIdeal)
    ∧ quiescent_ExpertsReferenceIdeal_pre_tables (hExpertsReferenceIdeal := hExpertsReferenceIdeal) (hPre_tables := hPre_tables)
    ∧ quiescent_Dense (hDense := hDense)
    ∧ quiescent_DenseIdeal (hDenseIdeal := hDenseIdeal)
    ∧ quiescent_DenseReferenceIdeal (hDenseReferenceIdeal := hDenseReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_Router (hRouter := hRouter)
    ∧ quiescent_RouterIdeal (hRouterIdeal := hRouterIdeal)
    ∧ quiescent_RouterIdeal_pre_real (hRouterIdeal := hRouterIdeal) (hPre_real := hPre_real)
    ∧ quiescent_RouterReferenceIdeal (hRouterReferenceIdeal := hRouterReferenceIdeal)
    ∧ quiescent_RouterReferenceIdeal_pre_real (hRouterReferenceIdeal := hRouterReferenceIdeal) (hPre_real := hPre_real)
    ∧ preserves_Kernel_KernelIdeal
    ∧ algebraic_KernelIdeal_ReferenceIdeal_pre_finite (hKernelIdeal := hKernelIdeal) (hReferenceIdeal := hReferenceIdeal) (hPre_finite := hPre_finite)
    ∧ preserves_Experts_ExpertsIdeal
    ∧ algebraic_ExpertsIdeal_ExpertsReferenceIdeal_on_in_use (hExpertsIdeal := hExpertsIdeal) (hExpertsReferenceIdeal := hExpertsReferenceIdeal) (hPre_tables := hPre_tables) (hOn_in_use := hOn_in_use)
    ∧ preserves_Dense_DenseIdeal
    ∧ algebraic_DenseIdeal_DenseReferenceIdeal (hDenseIdeal := hDenseIdeal) (hDenseReferenceIdeal := hDenseReferenceIdeal)
    ∧ preserves_InProj_InProjIdeal
    ∧ algebraic_InProjIdeal_InProjReferenceIdeal (hInProjIdeal := hInProjIdeal) (hInProjReferenceIdeal := hInProjReferenceIdeal)
    ∧ preserves_Router_RouterIdeal
    ∧ algebraic_RouterIdeal_RouterReferenceIdeal_on_of_tokens (hRouterIdeal := hRouterIdeal) (hRouterReferenceIdeal := hRouterReferenceIdeal) (hOn_of_tokens := hOn_of_tokens)
    ∧ algebraic_RouterIdeal_RouterReferenceIdeal_pre_real (hRouterIdeal := hRouterIdeal) (hRouterReferenceIdeal := hRouterReferenceIdeal) (hPre_real := hPre_real)
-- ==== On_in_use.lean ====
abbrev S168 : Shape := ⟨1, ![168]⟩
abbrev S1 : Shape := ⟨1, ![1]⟩
abbrev S172032x1024 : Shape := ⟨2, ![172032, 1024]⟩
abbrev S8x1024x7168 : Shape := ⟨3, ![8, 1024, 7168]⟩
abbrev S8x3584x1024 : Shape := ⟨3, ![8, 3584, 1024]⟩
abbrev S172032 : Shape := ⟨1, ![172032]⟩
abbrev S_ : Shape := ⟨0, ![]⟩
abbrev S172032x1 : Shape := ⟨2, ![172032, 1]⟩

class Facts : Prop where
  shapeCasts_S1_S_ : S1.ShapeCasts S_
  bcast_S_S172032 : S_.BroadcastsInDim S172032 (![] : Fin 0 → Fin S172032.rank)
  bcast_S172032_S172032x1_0 : S172032.BroadcastsInDim S172032x1 (![0] : Fin 1 → Fin S172032x1.rank)
  bcast_S172032x1_S172032x1024_0_1 : S172032x1.BroadcastsInDim S172032x1024 (![0, 1] : Fin 2 → Fin S172032x1024.rank)

variable [Facts]

def fn {F : FTy → Type} [FloatOps F] (main_arg0 : IVec S168 32) (main_arg1 : IVec S1 32) (main_arg2 : IVec S168 32) (main_arg3 : FVec F S172032x1024 .f32) (main_arg4 : FVec F S8x1024x7168 .f32) (main_arg5 : FVec F S8x3584x1024 .f32) : IVec S172032x1024 1 :=
  let main_v0 : IVec S172032 32 := iotaInDim S172032 32 0
  let main_v1 : IVec S_ 32 := shapeCast S_ main_arg1 shapeCasts_S1_S_
  let main_c : IVec S_ 32 := constantI S_ 32 1024#32
  let main_v2 : IVec S_ 32 := muli main_v1 main_c
  let main_v3 : IVec S172032 32 := broadcastInDim S172032 ![] bcast_S_S172032 main_v2
  let main_v4 : IVec S172032 1 := cmpi .slt main_v0 main_v3
  let main_v5 : IVec S172032x1 1 := broadcastInDim S172032x1 ![0] bcast_S172032_S172032x1_0 main_v4
  let main_v6 : IVec S172032x1024 1 := broadcastInDim S172032x1024 ![0, 1] bcast_S172032x1_S172032x1024_0_1 main_v5
  main_v6
-- ==== On_of_tokens.lean ====
abbrev S81920x1024 : Shape := ⟨2, ![81920, 1024]⟩
abbrev S65536x256 : Shape := ⟨2, ![65536, 256]⟩
abbrev S16384x256 : Shape := ⟨2, ![16384, 256]⟩
abbrev S65536x768 : Shape := ⟨2, ![65536, 768]⟩
abbrev S16384x768 : Shape := ⟨2, ![16384, 768]⟩
abbrev S1024x1024 : Shape := ⟨2, ![1024, 1024]⟩
abbrev S1024 : Shape := ⟨1, ![1024]⟩
abbrev S1024x8 : Shape := ⟨2, ![1024, 8]⟩
abbrev S_ : Shape := ⟨0, ![]⟩
abbrev S8x81920 : Shape := ⟨2, ![8, 81920]⟩
abbrev S8x128 : Shape := ⟨2, ![8, 128]⟩

class Facts : Prop where
  bcast_S_S81920x1024 : S_.BroadcastsInDim S81920x1024 (![] : Fin 0 → Fin S81920x1024.rank)
  bcast_S_S8x81920 : S_.BroadcastsInDim S8x81920 (![] : Fin 0 → Fin S8x81920.rank)
  bcast_S_S8x128 : S_.BroadcastsInDim S8x128 (![] : Fin 0 → Fin S8x128.rank)

variable [Facts]

def fn {F : FTy → Type} [FloatOps F] (main_arg0 : FVec F S81920x1024 .f32) (main_arg1 : FVec F S65536x256 .bf16) (main_arg2 : FVec F S16384x256 .bf16) (main_arg3 : FVec F S65536x768 .bf16) (main_arg4 : FVec F S16384x768 .bf16) (main_arg5 : FVec F S1024x1024 .f32) (main_arg6 : FVec F S1024 .f32) (main_arg7 : FVec F S1024x8 .f32) : IVec S81920x1024 1 × IVec S81920x1024 1 × IVec S8x81920 1 × IVec S8x128 1 :=
  let main_c : IVec S_ 1 := constantI S_ 1 1#1
  let main_v0 : IVec S81920x1024 1 := broadcastInDim S81920x1024 ![] bcast_S_S81920x1024 main_c
  let main_c_0 : IVec S_ 1 := constantI S_ 1 1#1
  let main_v1 : IVec S81920x1024 1 := broadcastInDim S81920x1024 ![] bcast_S_S81920x1024 main_c_0
  let main_c_1 : IVec S_ 1 := constantI S_ 1 0#1
  let main_v2 : IVec S8x81920 1 := broadcastInDim S8x81920 ![] bcast_S_S8x81920 main_c_1
  let main_c_2 : IVec S_ 1 := constantI S_ 1 0#1
  let main_v3 : IVec S8x128 1 := broadcastInDim S8x128 ![] bcast_S_S8x128 main_c_2
  (main_v0, main_v1, main_v2, main_v3)
-- ==== Pre_finite.lean ====
abbrev S81920x768 : Shape := ⟨2, ![81920, 768]⟩
abbrev S4x64 : Shape := ⟨2, ![4, 64]⟩
abbrev S128 : Shape := ⟨1, ![128]⟩
abbrev S_ : Shape := ⟨0, ![]⟩

class Facts : Prop where
  bcast_S_S81920x768 : S_.BroadcastsInDim S81920x768 (![] : Fin 0 → Fin S81920x768.rank)
  reducesTo_S81920x768_S_d0_1 : S81920x768.ReducesTo [0, 1] S_
  h_S_ : 0 < S_.numel
  bcast_S_S4x64 : S_.BroadcastsInDim S4x64 (![] : Fin 0 → Fin S4x64.rank)
  reducesTo_S4x64_S_d0_1 : S4x64.ReducesTo [0, 1] S_

variable [Facts]

def fn_part1 {F : FTy → Type} [FloatOps F] (main_v13 : IVec S_ 1) (main_v16 : IVec S4x64 1) : IVec S_ 1 :=
  let main_c_5 : IVec S_ 1 := constantI S_ 1 1#1
  let main_v17 : IVec S_ 1 := (fun x v => Host.reduce IntOp.andi x v reducesTo_S4x64_S_d0_1 h_S_) main_v16 main_c_5
  let main_v18 : IVec S_ 1 := andi main_v13 main_v17
  main_v18

def fn {F : FTy → Type} [FloatOps F] (main_arg0 : FVec F S81920x768 .f32) (main_arg1 : FVec F S81920x768 .f32) (main_arg2 : FVec F S81920x768 .f32) (main_arg3 : FVec F S4x64 .f32) (main_arg4 : FVec F S128 .f32) : IVec S_ 1 :=
  let main_v0 : FVec F S81920x768 .f32 := Host.absf main_arg0
  let main_cst : FVec F S_ .f32 := constant S_ .f32 0x7F800000#32
  let main_v1 : FVec F S81920x768 .f32 := broadcastInDim S81920x768 ![] bcast_S_S81920x768 main_cst
  let main_v2 : IVec S81920x768 1 := cmpf .olt main_v0 main_v1
  let main_c : IVec S_ 1 := constantI S_ 1 1#1
  let main_v3 : IVec S_ 1 := (fun x v => Host.reduce IntOp.andi x v reducesTo_S81920x768_S_d0_1 h_S_) main_v2 main_c
  let main_v4 : FVec F S81920x768 .f32 := Host.absf main_arg1
  let main_cst_0 : FVec F S_ .f32 := constant S_ .f32 0x7F800000#32
  let main_v5 : FVec F S81920x768 .f32 := broadcastInDim S81920x768 ![] bcast_S_S81920x768 main_cst_0
  let main_v6 : IVec S81920x768 1 := cmpf .olt main_v4 main_v5
  let main_c_1 : IVec S_ 1 := constantI S_ 1 1#1
  let main_v7 : IVec S_ 1 := (fun x v => Host.reduce IntOp.andi x v reducesTo_S81920x768_S_d0_1 h_S_) main_v6 main_c_1
  let main_v8 : IVec S_ 1 := andi main_v3 main_v7
  let main_v9 : FVec F S81920x768 .f32 := Host.absf main_arg2
  let main_cst_2 : FVec F S_ .f32 := constant S_ .f32 0x7F800000#32
  let main_v10 : FVec F S81920x768 .f32 := broadcastInDim S81920x768 ![] bcast_S_S81920x768 main_cst_2
  let main_v11 : IVec S81920x768 1 := cmpf .olt main_v9 main_v10
  let main_c_3 : IVec S_ 1 := constantI S_ 1 1#1
  let main_v12 : IVec S_ 1 := (fun x v => Host.reduce IntOp.andi x v reducesTo_S81920x768_S_d0_1 h_S_) main_v11 main_c_3
  let main_v13 : IVec S_ 1 := andi main_v8 main_v12
  let main_v14 : FVec F S4x64 .f32 := Host.absf main_arg3
  let main_cst_4 : FVec F S_ .f32 := constant S_ .f32 0x7F800000#32
  let main_v15 : FVec F S4x64 .f32 := broadcastInDim S4x64 ![] bcast_S_S4x64 main_cst_4
  let main_v16 : IVec S4x64 1 := cmpf .olt main_v14 main_v15
  fn_part1 (F := F) main_v13 main_v16
-- ==== Pre_real.lean ====
abbrev S81920x1024 : Shape := ⟨2, ![81920, 1024]⟩
abbrev S65536x256 : Shape := ⟨2, ![65536, 256]⟩
abbrev S16384x256 : Shape := ⟨2, ![16384, 256]⟩
abbrev S65536x768 : Shape := ⟨2, ![65536, 768]⟩
abbrev S16384x768 : Shape := ⟨2, ![16384, 768]⟩
abbrev S1024x1024 : Shape := ⟨2, ![1024, 1024]⟩
abbrev S1024 : Shape := ⟨1, ![1024]⟩
abbrev S1024x8 : Shape := ⟨2, ![1024, 8]⟩
abbrev S_ : Shape := ⟨0, ![]⟩

class Facts : Prop where
  bcast_S_S81920x1024 : S_.BroadcastsInDim S81920x1024 (![] : Fin 0 → Fin S81920x1024.rank)
  reducesTo_S81920x1024_S_d0_1 : S81920x1024.ReducesTo [0, 1] S_
  h_S_ : 0 < S_.numel
  bcast_S_S65536x256 : S_.BroadcastsInDim S65536x256 (![] : Fin 0 → Fin S65536x256.rank)
  reducesTo_S65536x256_S_d0_1 : S65536x256.ReducesTo [0, 1] S_
  bcast_S_S16384x256 : S_.BroadcastsInDim S16384x256 (![] : Fin 0 → Fin S16384x256.rank)
  reducesTo_S16384x256_S_d0_1 : S16384x256.ReducesTo [0, 1] S_
  bcast_S_S65536x768 : S_.BroadcastsInDim S65536x768 (![] : Fin 0 → Fin S65536x768.rank)
  reducesTo_S65536x768_S_d0_1 : S65536x768.ReducesTo [0, 1] S_
  bcast_S_S16384x768 : S_.BroadcastsInDim S16384x768 (![] : Fin 0 → Fin S16384x768.rank)
  reducesTo_S16384x768_S_d0_1 : S16384x768.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x8 : S_.BroadcastsInDim S1024x8 (![] : Fin 0 → Fin S1024x8.rank)
  reducesTo_S1024x8_S_d0_1 : S1024x8.ReducesTo [0, 1] S_

variable [Facts]

def fn_part2 {F : FTy → Type} [FloatOps F] (main_arg7 : FVec F S1024x8 .f32) (main_v33 : IVec S_ 1) : IVec S_ 1 :=
  let main_v34 : FVec F S1024x8 .f32 := Host.absf main_arg7
  let main_cst_12 : FVec F S_ .f32 := constant S_ .f32 0x7F800000#32
  let main_v35 : FVec F S1024x8 .f32 := broadcastInDim S1024x8 ![] bcast_S_S1024x8 main_cst_12
  let main_v36 : IVec S1024x8 1 := cmpf .olt main_v34 main_v35
  let main_c_13 : IVec S_ 1 := constantI S_ 1 1#1
  let main_v37 : IVec S_ 1 := (fun x v => Host.reduce IntOp.andi x v reducesTo_S1024x8_S_d0_1 h_S_) main_v36 main_c_13
  let main_v38 : IVec S_ 1 := andi main_v33 main_v37
  main_v38

def fn_part1 {F : FTy → Type} [FloatOps F] (main_arg4 : FVec F S16384x768 .bf16) (main_arg5 : FVec F S1024x1024 .f32) (main_arg6 : FVec F S1024 .f32) (main_arg7 : FVec F S1024x8 .f32) (main_v13 : IVec S_ 1) (main_v16 : IVec S65536x768 1) : IVec S_ 1 :=
  let main_c_5 : IVec S_ 1 := constantI S_ 1 1#1
  let main_v17 : IVec S_ 1 := (fun x v => Host.reduce IntOp.andi x v reducesTo_S65536x768_S_d0_1 h_S_) main_v16 main_c_5
  let main_v18 : IVec S_ 1 := andi main_v13 main_v17
  let main_v19 : FVec F S16384x768 .bf16 := Host.absf main_arg4
  let main_cst_6 : FVec F S_ .bf16 := constant S_ .bf16 0x7F80#16
  let main_v20 : FVec F S16384x768 .bf16 := broadcastInDim S16384x768 ![] bcast_S_S16384x768 main_cst_6
  let main_v21 : IVec S16384x768 1 := cmpf .olt main_v19 main_v20
  let main_c_7 : IVec S_ 1 := constantI S_ 1 1#1
  let main_v22 : IVec S_ 1 := (fun x v => Host.reduce IntOp.andi x v reducesTo_S16384x768_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_v33

def fn {F : FTy → Type} [FloatOps F] (main_arg0 : FVec F S81920x1024 .f32) (main_arg1 : FVec F S65536x256 .bf16) (main_arg2 : FVec F S16384x256 .bf16) (main_arg3 : FVec F S65536x768 .bf16) (main_arg4 : FVec F S16384x768 .bf16) (main_arg5 : FVec F S1024x1024 .f32) (main_arg6 : FVec F S1024 .f32) (main_arg7 : FVec F S1024x8 .f32) : IVec S_ 1 :=
  let main_v0 : FVec F S81920x1024 .f32 := Host.absf main_arg0
  let main_cst : FVec F S_ .f32 := constant S_ .f32 0x7F800000#32
  let main_v1 : FVec F S81920x1024 .f32 := broadcastInDim S81920x1024 ![] bcast_S_S81920x1024 main_cst
  let main_v2 : IVec S81920x1024 1 := cmpf .olt main_v0 main_v1
  let main_c : IVec S_ 1 := constantI S_ 1 1#1
  let main_v3 : IVec S_ 1 := (fun x v => Host.reduce IntOp.andi x v reducesTo_S81920x1024_S_d0_1 h_S_) main_v2 main_c
  let main_v4 : FVec F S65536x256 .bf16 := Host.absf main_arg1
  let main_cst_0 : FVec F S_ .bf16 := constant S_ .bf16 0x7F80#16
  let main_v5 : FVec F S65536x256 .bf16 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S16384x256 .bf16 := Host.absf main_arg2
  let main_cst_2 : FVec F S_ .bf16 := constant S_ .bf16 0x7F80#16
  let main_v10 : FVec F S16384x256 .bf16 := broadcastInDim S16384x256 ![] bcast_S_S16384x256 main_cst_2
  let main_v11 : IVec S16384x256 1 := cmpf .olt main_v9 main_v10
  let main_c_3 : IVec S_ 1 := constantI S_ 1 1#1
  let main_v12 : IVec S_ 1 := (fun x v => Host.reduce IntOp.andi x v reducesTo_S16384x256_S_d0_1 h_S_) main_v11 main_c_3
  let main_v13 : IVec S_ 1 := andi main_v8 main_v12
  let main_v14 : FVec F S65536x768 .bf16 := Host.absf main_arg3
  let main_cst_4 : FVec F S_ .bf16 := constant S_ .bf16 0x7F80#16
  let main_v15 : FVec F S65536x768 .bf16 := broadcastInDim S65536x768 ![] bcast_S_S65536x768 main_cst_4
  let main_v16 : IVec S65536x768 1 := cmpf .olt main_v14 main_v15
  fn_part1 (F := F) main_arg4 main_arg5 main_arg6 main_arg7 main_v13 main_v16
-- ==== Pre_tables.lean ====
abbrev S168 : Shape := ⟨1, ![168]⟩
abbrev S1 : Shape := ⟨1, ![1]⟩
abbrev S172032x1024 : Shape := ⟨2, ![172032, 1024]⟩
abbrev S8x1024x7168 : Shape := ⟨3, ![8, 1024, 7168]⟩
abbrev S8x3584x1024 : Shape := ⟨3, ![8, 3584, 1024]⟩
abbrev S_ : Shape := ⟨0, ![]⟩

class Facts : Prop where
  bcast_S_S168 : S_.BroadcastsInDim S168 (![] : Fin 0 → Fin S168.rank)
  reducesTo_S168_S_d0 : S168.ReducesTo [0] S_
  h_S_ : 0 < S_.numel
  shapeCasts_S1_S_ : S1.ShapeCasts S_

variable [Facts]

def fn {F : FTy → Type} [FloatOps F] (main_arg0 : IVec S168 32) (main_arg1 : IVec S1 32) (main_arg2 : IVec S168 32) (main_arg3 : FVec F S172032x1024 .f32) (main_arg4 : FVec F S8x1024x7168 .f32) (main_arg5 : FVec F S8x3584x1024 .f32) : IVec S_ 1 :=
  let main_c : IVec S_ 32 := constantI S_ 32 0#32
  let main_v0 : IVec S168 32 := broadcastInDim S168 ![] bcast_S_S168 main_c
  let main_v1 : IVec S168 1 := cmpi .sge main_arg0 main_v0
  let main_c_0 : IVec S_ 32 := constantI S_ 32 8#32
  let main_v2 : IVec S168 32 := broadcastInDim S168 ![] bcast_S_S168 main_c_0
  let main_v3 : IVec S168 1 := cmpi .slt main_arg0 main_v2
  let main_v4 : IVec S168 1 := andi main_v1 main_v3
  let main_c_1 : IVec S_ 1 := constantI S_ 1 1#1
  let main_v5 : IVec S_ 1 := (fun x v => Host.reduce IntOp.andi x v reducesTo_S168_S_d0 h_S_) main_v4 main_c_1
  let main_v6 : IVec S_ 32 := shapeCast S_ main_arg1 shapeCasts_S1_S_
  let main_c_2 : IVec S_ 32 := constantI S_ 32 1#32
  let main_v7 : IVec S_ 1 := cmpi .sge main_v6 main_c_2
  let main_v8 : IVec S_ 1 := andi main_v5 main_v7
  let main_v9 : IVec S_ 32 := shapeCast S_ main_arg1 shapeCasts_S1_S_
  let main_c_3 : IVec S_ 32 := constantI S_ 32 168#32
  let main_v10 : IVec S_ 1 := cmpi .sle main_v9 main_c_3
  let main_v11 : IVec S_ 1 := andi main_v8 main_v10
  main_v11
-- ==== Kernel.lean ====
abbrev S81920x768 : Shape := ⟨2, ![81920, 768]⟩
abbrev S4x64 : Shape := ⟨2, ![4, 64]⟩
abbrev S128 : Shape := ⟨1, ![128]⟩
abbrev S_ : Shape := ⟨0, ![]⟩
abbrev S81920x2304 : Shape := ⟨2, ![81920, 2304]⟩
abbrev S128x1 : Shape := ⟨2, ![128, 1]⟩
abbrev S65536x768 : Shape := ⟨2, ![65536, 768]⟩
abbrev S2048x128 : Shape := ⟨2, ![2048, 128]⟩
abbrev S1x128x2048 : Shape := ⟨3, ![1, 128, 2048]⟩
abbrev S2x4x512x512 : Shape := ⟨4, ![2, 4, 512, 512]⟩
abbrev S2x2048x512 : Shape := ⟨3, ![2, 2048, 512]⟩
abbrev S2x128x512 : Shape := ⟨3, ![2, 128, 512]⟩
abbrev S512x128 : Shape := ⟨2, ![512, 128]⟩
abbrev S128x512 : Shape := ⟨2, ![128, 512]⟩
abbrev S1x128x512 : Shape := ⟨3, ![1, 128, 512]⟩
abbrev S1x64 : Shape := ⟨2, ![1, 64]⟩
abbrev S1 : Shape := ⟨1, ![1]⟩
abbrev S1x1 : Shape := ⟨2, ![1, 1]⟩
abbrev S1x128 : Shape := ⟨2, ![1, 128]⟩
abbrev S8x512 : Shape := ⟨2, ![8, 512]⟩
abbrev S512x512 : Shape := ⟨2, ![512, 512]⟩
abbrev S1x1x512x512 : Shape := ⟨4, ![1, 1, 512, 512]⟩
abbrev S64x8x512 : Shape := ⟨3, ![64, 8, 512]⟩
abbrev S1x512 : Shape := ⟨2, ![1, 512]⟩
abbrev S512 : Shape := ⟨1, ![512]⟩
abbrev S1x512x512 : Shape := ⟨3, ![1, 512, 512]⟩
abbrev S128x2048 : Shape := ⟨2, ![128, 2048]⟩
abbrev S1x2048x512 : Shape := ⟨3, ![1, 2048, 512]⟩
abbrev S2048x512 : Shape := ⟨2, ![2048, 512]⟩

abbrev nBuf : Space → Nat
  | .hbm => 17
  | .vmem => 15
  | .smem => 0
  | _ => 0

abbrev bufTy : (tb : Table) → Fin (tcTables nBuf tb) → BufTy
  | .hbm, ⟨0, _⟩ => ⟨S81920x768, .f32⟩
  | .hbm, ⟨1, _⟩ => ⟨S81920x768, .f32⟩
  | .hbm, ⟨2, _⟩ => ⟨S81920x768, .f32⟩
  | .hbm, ⟨3, _⟩ => ⟨S4x64, .f32⟩
  | .hbm, ⟨4, _⟩ => ⟨S128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S81920x768, .f32⟩
  | .hbm, ⟨12, _⟩ => ⟨S81920x768, .f32⟩
  | .hbm, ⟨13, _⟩ => ⟨S81920x2304, .f32⟩
  | .hbm, ⟨14, _⟩ => ⟨S81920x2304, .bf16⟩
  | .hbm, ⟨15, _⟩ => ⟨S128x1, .f32⟩
  | .hbm, ⟨16, _⟩ => ⟨S65536x768, .bf16⟩
  | .local _ .vmem, ⟨0, _⟩ => ⟨S4x64, .f32⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S128x1, .f32⟩
  | .local _ .vmem, ⟨8, _⟩ => ⟨S2048x128, .bf16⟩
  | .local _ .vmem, ⟨9, _⟩ => ⟨S2048x128, .bf16⟩
  | .local _ .vmem, ⟨10, _⟩ => ⟨S1x128x2048, .bf16⟩
  | .local _ .vmem, ⟨11, _⟩ => ⟨S2x4x512x512, .f32⟩
  | .local _ .vmem, ⟨12, _⟩ => ⟨S2x4x512x512, .f32⟩
  | .local _ .vmem, ⟨13, _⟩ => ⟨S2x2048x512, .bf16⟩
  | .local _ .vmem, ⟨14, _⟩ => ⟨S2x128x512, .f32⟩
  | _, _ => ⟨S81920x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 6], ![false, false]⟩

def k0_mult1 : BitVec 32 :=
  let c2_i32 : BitVec 32 := 2#32
  let c0_i32 : BitVec 32 := 0#32
  let v135 : BitVec 32 := Scalar.muli c2_i32 c0_i32
  let c1_i32_105 : BitVec 32 := 1#32
  let v177 : BitVec 32 := Scalar.addi v135 c1_i32_105
  let c0_i32_107 : BitVec 32 := 0#32
  let v179 : BitVec 1 := Scalar.cmpi .sgt v177 c0_i32_107
  let v180 : BitVec 32 := Scalar.extui v179
  let c0_i32_108 : BitVec 32 := 0#32
  let v181 : BitVec 1 := Scalar.cmpi .slt v177 c0_i32_108
  let v182 : BitVec 32 := Scalar.extui v181
  let v183 : BitVec 32 := Scalar.subi v180 v182
  let c1_i32_106 : BitVec 32 := 1#32
  let c0_i32_109 : BitVec 32 := 0#32
  let v184 : BitVec 1 := Scalar.cmpi .sgt c1_i32_106 c0_i32_109
  let v185 : BitVec 32 := Scalar.extui v184
  let c0_i32_110 : BitVec 32 := 0#32
  let v186 : BitVec 1 := Scalar.cmpi .slt c1_i32_106 c0_i32_110
  let v187 : BitVec 32 := Scalar.extui v186
  let v188 : BitVec 32 := Scalar.subi v185 v187
  let v189 : BitVec 1 := Scalar.cmpi .ne v183 v188
  let v190 : BitVec 32 := Scalar.remsi v177 c1_i32_106
  let c0_i32_111 : BitVec 32 := 0#32
  let v191 : BitVec 1 := Scalar.cmpi .ne v190 c0_i32_111
  let v192 : BitVec 1 := Scalar.andi v189 v191
  let v178 : BitVec 32 := Scalar.divsi v177 c1_i32_106
  let c1_i32_112 : BitVec 32 := 1#32
  let v193 : BitVec 32 := Scalar.subi v178 c1_i32_112
  let v194 : BitVec 32 := Scalar.select v192 v193 v178
  let c512_i32 : BitVec 32 := 512#32
  let v195 : BitVec 32 := Scalar.muli v194 c512_i32
  v195
def k0_off1 : Fin 2 → Nat :=
  let c2_i32 : BitVec 32 := 2#32
  let c0_i32 : BitVec 32 := 0#32
  let v135 : BitVec 32 := Scalar.muli c2_i32 c0_i32
  let c1_i32_105 : BitVec 32 := 1#32
  let v177 : BitVec 32 := Scalar.addi v135 c1_i32_105
  let c0_i32_107 : BitVec 32 := 0#32
  let v179 : BitVec 1 := Scalar.cmpi .sgt v177 c0_i32_107
  let v180 : BitVec 32 := Scalar.extui v179
  let c0_i32_108 : BitVec 32 := 0#32
  let v181 : BitVec 1 := Scalar.cmpi .slt v177 c0_i32_108
  let v182 : BitVec 32 := Scalar.extui v181
  let v183 : BitVec 32 := Scalar.subi v180 v182
  let c1_i32_106 : BitVec 32 := 1#32
  let c0_i32_109 : BitVec 32 := 0#32
  let v184 : BitVec 1 := Scalar.cmpi .sgt c1_i32_106 c0_i32_109
  let v185 : BitVec 32 := Scalar.extui v184
  let c0_i32_110 : BitVec 32 := 0#32
  let v186 : BitVec 1 := Scalar.cmpi .slt c1_i32_106 c0_i32_110
  let v187 : BitVec 32 := Scalar.extui v186
  let v188 : BitVec 32 := Scalar.subi v185 v187
  let v189 : BitVec 1 := Scalar.cmpi .ne v183 v188
  let v190 : BitVec 32 := Scalar.remsi v177 c1_i32_106
  let c0_i32_111 : BitVec 32 := 0#32
  let v191 : BitVec 1 := Scalar.cmpi .ne v190 c0_i32_111
  let v192 : BitVec 1 := Scalar.andi v189 v191
  let v178 : BitVec 32 := Scalar.divsi v177 c1_i32_106
  let c1_i32_112 : BitVec 32 := 1#32
  let v193 : BitVec 32 := Scalar.subi v178 c1_i32_112
  let v194 : BitVec 32 := Scalar.select v192 v193 v178
  let c512_i32 : BitVec 32 := 512#32
  let v195 : BitVec 32 := Scalar.muli v194 c512_i32
  let v196 : BitVec 32 := v195
  let v197 : Index := Scalar.indexCast v196
  let c0_113 : Index := 0#32
  ![v197.toNat, 0]
def k0_mult2 : BitVec 32 :=
  let c2_i32 : BitVec 32 := 2#32
  let c0_i32 : BitVec 32 := 0#32
  let v135 : BitVec 32 := Scalar.muli c2_i32 c0_i32
  let c1_i32_116 : BitVec 32 := 1#32
  let v208 : BitVec 32 := Scalar.addi v135 c1_i32_116
  let c1_i32_117 : BitVec 32 := 1#32
  let c0_i32_118 : BitVec 32 := 0#32
  let v209 : BitVec 1 := Scalar.cmpi .eq c1_i32_117 c0_i32_118
  let c1_i32_119 : BitVec 32 := 1#32
  let v210 : BitVec 32 := Scalar.select v209 c1_i32_119 c1_i32_117
  let v211 : BitVec 32 := Scalar.remsi v208 v210
  let c0_i32_121 : BitVec 32 := 0#32
  let v213 : BitVec 1 := Scalar.cmpi .slt v211 c0_i32_121
  let c0_i32_122 : BitVec 32 := 0#32
  let v214 : BitVec 1 := Scalar.cmpi .slt v210 c0_i32_122
  let v215 : BitVec 1 := Scalar.xori v213 v214
  let c0_i32_120 : BitVec 32 := 0#32
  let v212 : BitVec 1 := Scalar.cmpi .ne v211 c0_i32_120
  let v216 : BitVec 1 := Scalar.andi v215 v212
  let v217 : BitVec 32 := Scalar.addi v211 v210
  let v218 : BitVec 32 := Scalar.select v216 v217 v211
  let c2048_i32 : BitVec 32 := 2048#32
  let v219 : BitVec 32 := Scalar.muli v218 c2048_i32
  let c0_i32_123 : BitVec 32 := 0#32
  let v220 : BitVec 32 := Scalar.addi v219 c0_i32_123
  v220
def k0_off2 (c0_i32_123 : BitVec 32) : Fin 2 → Nat :=
  let c2_i32 : BitVec 32 := 2#32
  let c0_i32 : BitVec 32 := 0#32
  let v135 : BitVec 32 := Scalar.muli c2_i32 c0_i32
  let c1_i32_116 : BitVec 32 := 1#32
  let v208 : BitVec 32 := Scalar.addi v135 c1_i32_116
  let c1_i32_117 : BitVec 32 := 1#32
  let c0_i32_118 : BitVec 32 := 0#32
  let v209 : BitVec 1 := Scalar.cmpi .eq c1_i32_117 c0_i32_118
  let c1_i32_119 : BitVec 32 := 1#32
  let v210 : BitVec 32 := Scalar.select v209 c1_i32_119 c1_i32_117
  let v211 : BitVec 32 := Scalar.remsi v208 v210
  let c0_i32_121 : BitVec 32 := 0#32
  let v213 : BitVec 1 := Scalar.cmpi .slt v211 c0_i32_121
  let c0_i32_122 : BitVec 32 := 0#32
  let v214 : BitVec 1 := Scalar.cmpi .slt v210 c0_i32_122
  let v215 : BitVec 1 := Scalar.xori v213 v214
  let c0_i32_120 : BitVec 32 := 0#32
  let v212 : BitVec 1 := Scalar.cmpi .ne v211 c0_i32_120
  let v216 : BitVec 1 := Scalar.andi v215 v212
  let v217 : BitVec 32 := Scalar.addi v211 v210
  let v218 : BitVec 32 := Scalar.select v216 v217 v211
  let c2048_i32 : BitVec 32 := 2048#32
  let v219 : BitVec 32 := Scalar.muli v218 c2048_i32
  let v220 : BitVec 32 := Scalar.addi v219 c0_i32_123
  let v221 : BitVec 32 := v220
  let v222 : Index := Scalar.indexCast v221
  let c0_124 : Index := 0#32
  ![v222.toNat, 0]
def k0_mult3 : BitVec 32 :=
  let c2_i32 : BitVec 32 := 2#32
  let c0_i32 : BitVec 32 := 0#32
  let v135 : BitVec 32 := Scalar.muli c2_i32 c0_i32
  let c1_i32_153 : BitVec 32 := 1#32
  let v263 : BitVec 32 := Scalar.addi v135 c1_i32_153
  let c1_i32_154 : BitVec 32 := 1#32
  let c0_i32_155 : BitVec 32 := 0#32
  let v264 : BitVec 1 := Scalar.cmpi .eq c1_i32_154 c0_i32_155
  let c1_i32_156 : BitVec 32 := 1#32
  let v265 : BitVec 32 := Scalar.select v264 c1_i32_156 c1_i32_154
  let v266 : BitVec 32 := Scalar.remsi v263 v265
  let c0_i32_158 : BitVec 32 := 0#32
  let v268 : BitVec 1 := Scalar.cmpi .slt v266 c0_i32_158
  let c0_i32_159 : BitVec 32 := 0#32
  let v269 : BitVec 1 := Scalar.cmpi .slt v265 c0_i32_159
  let v270 : BitVec 1 := Scalar.xori v268 v269
  let c0_i32_157 : BitVec 32 := 0#32
  let v267 : BitVec 1 := Scalar.cmpi .ne v266 c0_i32_157
  let v271 : BitVec 1 := Scalar.andi v270 v267
  let v272 : BitVec 32 := Scalar.addi v266 v265
  let v273 : BitVec 32 := Scalar.select v271 v272 v266
  let c2048_i32_160 : BitVec 32 := 2048#32
  let v274 : BitVec 32 := Scalar.muli v273 c2048_i32_160
  let c512_i32_161 : BitVec 32 := 512#32
  let v275 : BitVec 32 := Scalar.addi v274 c512_i32_161
  v275
def k0_mult4 : BitVec 32 :=
  let c2_i32 : BitVec 32 := 2#32
  let c0_i32 : BitVec 32 := 0#32
  let v135 : BitVec 32 := Scalar.muli c2_i32 c0_i32
  let c1_i32_191 : BitVec 32 := 1#32
  let v318 : BitVec 32 := Scalar.addi v135 c1_i32_191
  let c1_i32_192 : BitVec 32 := 1#32
  let c0_i32_193 : BitVec 32 := 0#32
  let v319 : BitVec 1 := Scalar.cmpi .eq c1_i32_192 c0_i32_193
  let c1_i32_194 : BitVec 32 := 1#32
  let v320 : BitVec 32 := Scalar.select v319 c1_i32_194 c1_i32_192
  let v321 : BitVec 32 := Scalar.remsi v318 v320
  let c0_i32_196 : BitVec 32 := 0#32
  let v323 : BitVec 1 := Scalar.cmpi .slt v321 c0_i32_196
  let c0_i32_197 : BitVec 32 := 0#32
  let v324 : BitVec 1 := Scalar.cmpi .slt v320 c0_i32_197
  let v325 : BitVec 1 := Scalar.xori v323 v324
  let c0_i32_195 : BitVec 32 := 0#32
  let v322 : BitVec 1 := Scalar.cmpi .ne v321 c0_i32_195
  let v326 : BitVec 1 := Scalar.andi v325 v322
  let v327 : BitVec 32 := Scalar.addi v321 v320
  let v328 : BitVec 32 := Scalar.select v326 v327 v321
  let c2048_i32_198 : BitVec 32 := 2048#32
  let v329 : BitVec 32 := Scalar.muli v328 c2048_i32_198
  let c1024_i32 : BitVec 32 := 1024#32
  let v330 : BitVec 32 := Scalar.addi v329 c1024_i32
  v330
def k0_mult5 : BitVec 32 :=
  let c2_i32 : BitVec 32 := 2#32
  let c0_i32 : BitVec 32 := 0#32
  let v135 : BitVec 32 := Scalar.muli c2_i32 c0_i32
  let c1_i32_228 : BitVec 32 := 1#32
  let v373 : BitVec 32 := Scalar.addi v135 c1_i32_228
  let c1_i32_229 : BitVec 32 := 1#32
  let c0_i32_230 : BitVec 32 := 0#32
  let v374 : BitVec 1 := Scalar.cmpi .eq c1_i32_229 c0_i32_230
  let c1_i32_231 : BitVec 32 := 1#32
  let v375 : BitVec 32 := Scalar.select v374 c1_i32_231 c1_i32_229
  let v376 : BitVec 32 := Scalar.remsi v373 v375
  let c0_i32_233 : BitVec 32 := 0#32
  let v378 : BitVec 1 := Scalar.cmpi .slt v376 c0_i32_233
  let c0_i32_234 : BitVec 32 := 0#32
  let v379 : BitVec 1 := Scalar.cmpi .slt v375 c0_i32_234
  let v380 : BitVec 1 := Scalar.xori v378 v379
  let c0_i32_232 : BitVec 32 := 0#32
  let v377 : BitVec 1 := Scalar.cmpi .ne v376 c0_i32_232
  let v381 : BitVec 1 := Scalar.andi v380 v377
  let v382 : BitVec 32 := Scalar.addi v376 v375
  let v383 : BitVec 32 := Scalar.select v381 v382 v376
  let c2048_i32_235 : BitVec 32 := 2048#32
  let v384 : BitVec 32 := Scalar.muli v383 c2048_i32_235
  let c1536_i32 : BitVec 32 := 1536#32
  let v385 : BitVec 32 := Scalar.addi v384 c1536_i32
  v385
def k0_off3 : Fin 3 → Nat :=
  let c2_i32 : BitVec 32 := 2#32
  let c0_i32 : BitVec 32 := 0#32
  let v135 : BitVec 32 := Scalar.muli c2_i32 c0_i32
  let c1_i32 : BitVec 32 := 1#32
  let c0_i32_87 : BitVec 32 := 0#32
  let v136 : BitVec 1 := Scalar.cmpi .eq c1_i32 c0_i32_87
  let c1_i32_88 : BitVec 32 := 1#32
  let v137 : BitVec 32 := Scalar.select v136 c1_i32_88 c1_i32
  let v138 : BitVec 32 := Scalar.remsi v135 v137
  let c0_i32_90 : BitVec 32 := 0#32
  let v140 : BitVec 1 := Scalar.cmpi .slt v138 c0_i32_90
  let c0_i32_91 : BitVec 32 := 0#32
  let v141 : BitVec 1 := Scalar.cmpi .slt v137 c0_i32_91
  let v142 : BitVec 1 := Scalar.xori v140 v141
  let c0_i32_89 : BitVec 32 := 0#32
  let v139 : BitVec 1 := Scalar.cmpi .ne v138 c0_i32_89
  let v143 : BitVec 1 := Scalar.andi v142 v139
  let v144 : BitVec 32 := Scalar.addi v138 v137
  let v145 : BitVec 32 := Scalar.select v143 v144 v138
  let v436 : Index := Scalar.indexCast v145
  let c0_267 : Index := 0#32
  let c0_268 : Index := 0#32
  ![v436.toNat, 0, 0]
def k0_cond1 : BitVec 1 :=
  let c2_i32 : BitVec 32 := 2#32
  let c0_i32 : BitVec 32 := 0#32
  let v135 : BitVec 32 := Scalar.muli c2_i32 c0_i32
  let c1_i32 : BitVec 32 := 1#32
  let c0_i32_87 : BitVec 32 := 0#32
  let v136 : BitVec 1 := Scalar.cmpi .eq c1_i32 c0_i32_87
  let c1_i32_88 : BitVec 32 := 1#32
  let v137 : BitVec 32 := Scalar.select v136 c1_i32_88 c1_i32
  let v138 : BitVec 32 := Scalar.remsi v135 v137
  let c0_i32_90 : BitVec 32 := 0#32
  let v140 : BitVec 1 := Scalar.cmpi .slt v138 c0_i32_90
  let c0_i32_91 : BitVec 32 := 0#32
  let v141 : BitVec 1 := Scalar.cmpi .slt v137 c0_i32_91
  let v142 : BitVec 1 := Scalar.xori v140 v141
  let c0_i32_89 : BitVec 32 := 0#32
  let v139 : BitVec 1 := Scalar.cmpi .ne v138 c0_i32_89
  let v143 : BitVec 1 := Scalar.andi v142 v139
  let v144 : BitVec 32 := Scalar.addi v138 v137
  let v145 : BitVec 32 := Scalar.select v143 v144 v138
  let c0_i32_289 : BitVec 32 := 0#32
  let v461 : BitVec 1 := Scalar.cmpi .eq v145 c0_i32_289
  let v462 : BitVec 32 := Scalar.extui v461
  let c0_i32_290 : BitVec 32 := 0#32
  let v463 : BitVec 1 := Scalar.cmpi .ne v462 c0_i32_290
  v463

def k0_mult6 : BitVec 32 :=
  let c2_i32 : BitVec 32 := 2#32
  let c0_i32 : BitVec 32 := 0#32
  let v135 : BitVec 32 := Scalar.muli c2_i32 c0_i32
  let c0_i32_93 : BitVec 32 := 0#32
  let v147 : BitVec 1 := Scalar.cmpi .sgt v135 c0_i32_93
  let v148 : BitVec 32 := Scalar.extui v147
  let c0_i32_94 : BitVec 32 := 0#32
  let v149 : BitVec 1 := Scalar.cmpi .slt v135 c0_i32_94
  let v150 : BitVec 32 := Scalar.extui v149
  let v151 : BitVec 32 := Scalar.subi v148 v150
  let c1_i32_92 : BitVec 32 := 1#32
  let c0_i32_95 : BitVec 32 := 0#32
  let v152 : BitVec 1 := Scalar.cmpi .sgt c1_i32_92 c0_i32_95
  let v153 : BitVec 32 := Scalar.extui v152
  let c0_i32_96 : BitVec 32 := 0#32
  let v154 : BitVec 1 := Scalar.cmpi .slt c1_i32_92 c0_i32_96
  let v155 : BitVec 32 := Scalar.extui v154
  let v156 : BitVec 32 := Scalar.subi v153 v155
  let v157 : BitVec 1 := Scalar.cmpi .ne v151 v156
  let v158 : BitVec 32 := Scalar.remsi v135 c1_i32_92
  let c0_i32_97 : BitVec 32 := 0#32
  let v159 : BitVec 1 := Scalar.cmpi .ne v158 c0_i32_97
  let v160 : BitVec 1 := Scalar.andi v157 v159
  let v146 : BitVec 32 := Scalar.divsi v135 c1_i32_92
  let c1_i32_98 : BitVec 32 := 1#32
  let v161 : BitVec 32 := Scalar.subi v146 c1_i32_98
  let v162 : BitVec 32 := Scalar.select v160 v161 v146
  let c512_i32_816 : BitVec 32 := 512#32
  let v1277 : BitVec 32 := Scalar.muli v162 c512_i32_816
  v1277
def k0_off4 : Fin 2 → Nat :=
  let c2_i32 : BitVec 32 := 2#32
  let c0_i32 : BitVec 32 := 0#32
  let v135 : BitVec 32 := Scalar.muli c2_i32 c0_i32
  let c0_i32_93 : BitVec 32 := 0#32
  let v147 : BitVec 1 := Scalar.cmpi .sgt v135 c0_i32_93
  let v148 : BitVec 32 := Scalar.extui v147
  let c0_i32_94 : BitVec 32 := 0#32
  let v149 : BitVec 1 := Scalar.cmpi .slt v135 c0_i32_94
  let v150 : BitVec 32 := Scalar.extui v149
  let v151 : BitVec 32 := Scalar.subi v148 v150
  let c1_i32_92 : BitVec 32 := 1#32
  let c0_i32_95 : BitVec 32 := 0#32
  let v152 : BitVec 1 := Scalar.cmpi .sgt c1_i32_92 c0_i32_95
  let v153 : BitVec 32 := Scalar.extui v152
  let c0_i32_96 : BitVec 32 := 0#32
  let v154 : BitVec 1 := Scalar.cmpi .slt c1_i32_92 c0_i32_96
  let v155 : BitVec 32 := Scalar.extui v154
  let v156 : BitVec 32 := Scalar.subi v153 v155
  let v157 : BitVec 1 := Scalar.cmpi .ne v151 v156
  let v158 : BitVec 32 := Scalar.remsi v135 c1_i32_92
  let c0_i32_97 : BitVec 32 := 0#32
  let v159 : BitVec 1 := Scalar.cmpi .ne v158 c0_i32_97
  let v160 : BitVec 1 := Scalar.andi v157 v159
  let v146 : BitVec 32 := Scalar.divsi v135 c1_i32_92
  let c1_i32_98 : BitVec 32 := 1#32
  let v161 : BitVec 32 := Scalar.subi v146 c1_i32_98
  let v162 : BitVec 32 := Scalar.select v160 v161 v146
  let c512_i32_816 : BitVec 32 := 512#32
  let v1277 : BitVec 32 := Scalar.muli v162 c512_i32_816
  let v1278 : BitVec 32 := v1277
  let v1279 : Index := Scalar.indexCast v1278
  let c0_817 : Index := 0#32
  ![v1279.toNat, 0]
def k0_mult7 : BitVec 32 :=
  let c2_i32_295 : BitVec 32 := 2#32
  let c0_i32 : BitVec 32 := 0#32
  let v472 : BitVec 32 := Scalar.muli c2_i32_295 c0_i32
  let c1_i32_296 : BitVec 32 := 1#32
  let v473 : BitVec 32 := Scalar.addi v472 c1_i32_296
  let c1_i32_316 : BitVec 32 := 1#32
  let v515 : BitVec 32 := Scalar.addi v473 c1_i32_316
  let c0_i32_318 : BitVec 32 := 0#32
  let v517 : BitVec 1 := Scalar.cmpi .sgt v515 c0_i32_318
  let v518 : BitVec 32 := Scalar.extui v517
  let c0_i32_319 : BitVec 32 := 0#32
  let v519 : BitVec 1 := Scalar.cmpi .slt v515 c0_i32_319
  let v520 : BitVec 32 := Scalar.extui v519
  let v521 : BitVec 32 := Scalar.subi v518 v520
  let c1_i32_317 : BitVec 32 := 1#32
  let c0_i32_320 : BitVec 32 := 0#32
  let v522 : BitVec 1 := Scalar.cmpi .sgt c1_i32_317 c0_i32_320
  let v523 : BitVec 32 := Scalar.extui v522
  let c0_i32_321 : BitVec 32 := 0#32
  let v524 : BitVec 1 := Scalar.cmpi .slt c1_i32_317 c0_i32_321
  let v525 : BitVec 32 := Scalar.extui v524
  let v526 : BitVec 32 := Scalar.subi v523 v525
  let v527 : BitVec 1 := Scalar.cmpi .ne v521 v526
  let v528 : BitVec 32 := Scalar.remsi v515 c1_i32_317
  let c0_i32_322 : BitVec 32 := 0#32
  let v529 : BitVec 1 := Scalar.cmpi .ne v528 c0_i32_322
  let v530 : BitVec 1 := Scalar.andi v527 v529
  let v516 : BitVec 32 := Scalar.divsi v515 c1_i32_317
  let c1_i32_323 : BitVec 32 := 1#32
  let v531 : BitVec 32 := Scalar.subi v516 c1_i32_323
  let v532 : BitVec 32 := Scalar.select v530 v531 v516
  let c512_i32_324 : BitVec 32 := 512#32
  let v533 : BitVec 32 := Scalar.muli v532 c512_i32_324
  v533
def k0_off5 : Fin 2 → Nat :=
  let c2_i32_295 : BitVec 32 := 2#32
  let c0_i32 : BitVec 32 := 0#32
  let v472 : BitVec 32 := Scalar.muli c2_i32_295 c0_i32
  let c1_i32_296 : BitVec 32 := 1#32
  let v473 : BitVec 32 := Scalar.addi v472 c1_i32_296
  let c1_i32_316 : BitVec 32 := 1#32
  let v515 : BitVec 32 := Scalar.addi v473 c1_i32_316
  let c0_i32_318 : BitVec 32 := 0#32
  let v517 : BitVec 1 := Scalar.cmpi .sgt v515 c0_i32_318
  let v518 : BitVec 32 := Scalar.extui v517
  let c0_i32_319 : BitVec 32 := 0#32
  let v519 : BitVec 1 := Scalar.cmpi .slt v515 c0_i32_319
  let v520 : BitVec 32 := Scalar.extui v519
  let v521 : BitVec 32 := Scalar.subi v518 v520
  let c1_i32_317 : BitVec 32 := 1#32
  let c0_i32_320 : BitVec 32 := 0#32
  let v522 : BitVec 1 := Scalar.cmpi .sgt c1_i32_317 c0_i32_320
  let v523 : BitVec 32 := Scalar.extui v522
  let c0_i32_321 : BitVec 32 := 0#32
  let v524 : BitVec 1 := Scalar.cmpi .slt c1_i32_317 c0_i32_321
  let v525 : BitVec 32 := Scalar.extui v524
  let v526 : BitVec 32 := Scalar.subi v523 v525
  let v527 : BitVec 1 := Scalar.cmpi .ne v521 v526
  let v528 : BitVec 32 := Scalar.remsi v515 c1_i32_317
  let c0_i32_322 : BitVec 32 := 0#32
  let v529 : BitVec 1 := Scalar.cmpi .ne v528 c0_i32_322
  let v530 : BitVec 1 := Scalar.andi v527 v529
  let v516 : BitVec 32 := Scalar.divsi v515 c1_i32_317
  let c1_i32_323 : BitVec 32 := 1#32
  let v531 : BitVec 32 := Scalar.subi v516 c1_i32_323
  let v532 : BitVec 32 := Scalar.select v530 v531 v516
  let c512_i32_324 : BitVec 32 := 512#32
  let v533 : BitVec 32 := Scalar.muli v532 c512_i32_324
  let v534 : BitVec 32 := v533
  let v535 : Index := Scalar.indexCast v534
  let c0_325 : Index := 0#32
  ![v535.toNat, 0]
def k0_mult8 : BitVec 32 :=
  let c2_i32_295 : BitVec 32 := 2#32
  let c0_i32 : BitVec 32 := 0#32
  let v472 : BitVec 32 := Scalar.muli c2_i32_295 c0_i32
  let c1_i32_296 : BitVec 32 := 1#32
  let v473 : BitVec 32 := Scalar.addi v472 c1_i32_296
  let c1_i32_328 : BitVec 32 := 1#32
  let v546 : BitVec 32 := Scalar.addi v473 c1_i32_328
  let c1_i32_329 : BitVec 32 := 1#32
  let c0_i32_330 : BitVec 32 := 0#32
  let v547 : BitVec 1 := Scalar.cmpi .eq c1_i32_329 c0_i32_330
  let c1_i32_331 : BitVec 32 := 1#32
  let v548 : BitVec 32 := Scalar.select v547 c1_i32_331 c1_i32_329
  let v549 : BitVec 32 := Scalar.remsi v546 v548
  let c0_i32_333 : BitVec 32 := 0#32
  let v551 : BitVec 1 := Scalar.cmpi .slt v549 c0_i32_333
  let c0_i32_334 : BitVec 32 := 0#32
  let v552 : BitVec 1 := Scalar.cmpi .slt v548 c0_i32_334
  let v553 : BitVec 1 := Scalar.xori v551 v552
  let c0_i32_332 : BitVec 32 := 0#32
  let v550 : BitVec 1 := Scalar.cmpi .ne v549 c0_i32_332
  let v554 : BitVec 1 := Scalar.andi v553 v550
  let v555 : BitVec 32 := Scalar.addi v549 v548
  let v556 : BitVec 32 := Scalar.select v554 v555 v549
  let c2048_i32_335 : BitVec 32 := 2048#32
  let v557 : BitVec 32 := Scalar.muli v556 c2048_i32_335
  let c0_i32_336 : BitVec 32 := 0#32
  let v558 : BitVec 32 := Scalar.addi v557 c0_i32_336
  v558
def k0_off6 (c0_i32_336 : BitVec 32) : Fin 2 → Nat :=
  let c2_i32_295 : BitVec 32 := 2#32
  let c0_i32 : BitVec 32 := 0#32
  let v472 : BitVec 32 := Scalar.muli c2_i32_295 c0_i32
  let c1_i32_296 : BitVec 32 := 1#32
  let v473 : BitVec 32 := Scalar.addi v472 c1_i32_296
  let c1_i32_328 : BitVec 32 := 1#32
  let v546 : BitVec 32 := Scalar.addi v473 c1_i32_328
  let c1_i32_329 : BitVec 32 := 1#32
  let c0_i32_330 : BitVec 32 := 0#32
  let v547 : BitVec 1 := Scalar.cmpi .eq c1_i32_329 c0_i32_330
  let c1_i32_331 : BitVec 32 := 1#32
  let v548 : BitVec 32 := Scalar.select v547 c1_i32_331 c1_i32_329
  let v549 : BitVec 32 := Scalar.remsi v546 v548
  let c0_i32_333 : BitVec 32 := 0#32
  let v551 : BitVec 1 := Scalar.cmpi .slt v549 c0_i32_333
  let c0_i32_334 : BitVec 32 := 0#32
  let v552 : BitVec 1 := Scalar.cmpi .slt v548 c0_i32_334
  let v553 : BitVec 1 := Scalar.xori v551 v552
  let c0_i32_332 : BitVec 32 := 0#32
  let v550 : BitVec 1 := Scalar.cmpi .ne v549 c0_i32_332
  let v554 : BitVec 1 := Scalar.andi v553 v550
  let v555 : BitVec 32 := Scalar.addi v549 v548
  let v556 : BitVec 32 := Scalar.select v554 v555 v549
  let c2048_i32_335 : BitVec 32 := 2048#32
  let v557 : BitVec 32 := Scalar.muli v556 c2048_i32_335
  let v558 : BitVec 32 := Scalar.addi v557 c0_i32_336
  let v559 : BitVec 32 := v558
  let v560 : Index := Scalar.indexCast v559
  let c0_337 : Index := 0#32
  ![v560.toNat, 0]
def k0_mult9 : BitVec 32 :=
  let c2_i32_295 : BitVec 32 := 2#32
  let c0_i32 : BitVec 32 := 0#32
  let v472 : BitVec 32 := Scalar.muli c2_i32_295 c0_i32
  let c1_i32_296 : BitVec 32 := 1#32
  let v473 : BitVec 32 := Scalar.addi v472 c1_i32_296
  let c1_i32_366 : BitVec 32 := 1#32
  let v601 : BitVec 32 := Scalar.addi v473 c1_i32_366
  let c1_i32_367 : BitVec 32 := 1#32
  let c0_i32_368 : BitVec 32 := 0#32
  let v602 : BitVec 1 := Scalar.cmpi .eq c1_i32_367 c0_i32_368
  let c1_i32_369 : BitVec 32 := 1#32
  let v603 : BitVec 32 := Scalar.select v602 c1_i32_369 c1_i32_367
  let v604 : BitVec 32 := Scalar.remsi v601 v603
  let c0_i32_371 : BitVec 32 := 0#32
  let v606 : BitVec 1 := Scalar.cmpi .slt v604 c0_i32_371
  let c0_i32_372 : BitVec 32 := 0#32
  let v607 : BitVec 1 := Scalar.cmpi .slt v603 c0_i32_372
  let v608 : BitVec 1 := Scalar.xori v606 v607
  let c0_i32_370 : BitVec 32 := 0#32
  let v605 : BitVec 1 := Scalar.cmpi .ne v604 c0_i32_370
  let v609 : BitVec 1 := Scalar.andi v608 v605
  let v610 : BitVec 32 := Scalar.addi v604 v603
  let v611 : BitVec 32 := Scalar.select v609 v610 v604
  let c2048_i32_373 : BitVec 32 := 2048#32
  let v612 : BitVec 32 := Scalar.muli v611 c2048_i32_373
  let c512_i32_374 : BitVec 32 := 512#32
  let v613 : BitVec 32 := Scalar.addi v612 c512_i32_374
  v613
def k0_mult10 : BitVec 32 :=
  let c2_i32_295 : BitVec 32 := 2#32
  let c0_i32 : BitVec 32 := 0#32
  let v472 : BitVec 32 := Scalar.muli c2_i32_295 c0_i32
  let c1_i32_296 : BitVec 32 := 1#32
  let v473 : BitVec 32 := Scalar.addi v472 c1_i32_296
  let c1_i32_404 : BitVec 32 := 1#32
  let v656 : BitVec 32 := Scalar.addi v473 c1_i32_404
  let c1_i32_405 : BitVec 32 := 1#32
  let c0_i32_406 : BitVec 32 := 0#32
  let v657 : BitVec 1 := Scalar.cmpi .eq c1_i32_405 c0_i32_406
  let c1_i32_407 : BitVec 32 := 1#32
  let v658 : BitVec 32 := Scalar.select v657 c1_i32_407 c1_i32_405
  let v659 : BitVec 32 := Scalar.remsi v656 v658
  let c0_i32_409 : BitVec 32 := 0#32
  let v661 : BitVec 1 := Scalar.cmpi .slt v659 c0_i32_409
  let c0_i32_410 : BitVec 32 := 0#32
  let v662 : BitVec 1 := Scalar.cmpi .slt v658 c0_i32_410
  let v663 : BitVec 1 := Scalar.xori v661 v662
  let c0_i32_408 : BitVec 32 := 0#32
  let v660 : BitVec 1 := Scalar.cmpi .ne v659 c0_i32_408
  let v664 : BitVec 1 := Scalar.andi v663 v660
  let v665 : BitVec 32 := Scalar.addi v659 v658
  let v666 : BitVec 32 := Scalar.select v664 v665 v659
  let c2048_i32_411 : BitVec 32 := 2048#32
  let v667 : BitVec 32 := Scalar.muli v666 c2048_i32_411
  let c1024_i32_412 : BitVec 32 := 1024#32
  let v668 : BitVec 32 := Scalar.addi v667 c1024_i32_412
  v668
def k0_mult11 : BitVec 32 :=
  let c2_i32_295 : BitVec 32 := 2#32
  let c0_i32 : BitVec 32 := 0#32
  let v472 : BitVec 32 := Scalar.muli c2_i32_295 c0_i32
  let c1_i32_296 : BitVec 32 := 1#32
  let v473 : BitVec 32 := Scalar.addi v472 c1_i32_296
  let c1_i32_442 : BitVec 32 := 1#32
  let v711 : BitVec 32 := Scalar.addi v473 c1_i32_442
  let c1_i32_443 : BitVec 32 := 1#32
  let c0_i32_444 : BitVec 32 := 0#32
  let v712 : BitVec 1 := Scalar.cmpi .eq c1_i32_443 c0_i32_444
  let c1_i32_445 : BitVec 32 := 1#32
  let v713 : BitVec 32 := Scalar.select v712 c1_i32_445 c1_i32_443
  let v714 : BitVec 32 := Scalar.remsi v711 v713
  let c0_i32_447 : BitVec 32 := 0#32
  let v716 : BitVec 1 := Scalar.cmpi .slt v714 c0_i32_447
  let c0_i32_448 : BitVec 32 := 0#32
  let v717 : BitVec 1 := Scalar.cmpi .slt v713 c0_i32_448
  let v718 : BitVec 1 := Scalar.xori v716 v717
  let c0_i32_446 : BitVec 32 := 0#32
  let v715 : BitVec 1 := Scalar.cmpi .ne v714 c0_i32_446
  let v719 : BitVec 1 := Scalar.andi v718 v715
  let v720 : BitVec 32 := Scalar.addi v714 v713
  let v721 : BitVec 32 := Scalar.select v719 v720 v714
  let c2048_i32_449 : BitVec 32 := 2048#32
  let v722 : BitVec 32 := Scalar.muli v721 c2048_i32_449
  let c1536_i32_450 : BitVec 32 := 1536#32
  let v723 : BitVec 32 := Scalar.addi v722 c1536_i32_450
  v723
def k0_off7 : Fin 3 → Nat :=
  let c2_i32_295 : BitVec 32 := 2#32
  let c0_i32 : BitVec 32 := 0#32
  let v472 : BitVec 32 := Scalar.muli c2_i32_295 c0_i32
  let c1_i32_296 : BitVec 32 := 1#32
  let v473 : BitVec 32 := Scalar.addi v472 c1_i32_296
  let c1_i32_297 : BitVec 32 := 1#32
  let c0_i32_298 : BitVec 32 := 0#32
  let v474 : BitVec 1 := Scalar.cmpi .eq c1_i32_297 c0_i32_298
  let c1_i32_299 : BitVec 32 := 1#32
  let v475 : BitVec 32 := Scalar.select v474 c1_i32_299 c1_i32_297
  let v476 : BitVec 32 := Scalar.remsi v473 v475
  let c0_i32_301 : BitVec 32 := 0#32
  let v478 : BitVec 1 := Scalar.cmpi .slt v476 c0_i32_301
  let c0_i32_302 : BitVec 32 := 0#32
  let v479 : BitVec 1 := Scalar.cmpi .slt v475 c0_i32_302
  let v480 : BitVec 1 := Scalar.xori v478 v479
  let c0_i32_300 : BitVec 32 := 0#32
  let v477 : BitVec 1 := Scalar.cmpi .ne v476 c0_i32_300
  let v481 : BitVec 1 := Scalar.andi v480 v477
  let v482 : BitVec 32 := Scalar.addi v476 v475
  let v483 : BitVec 32 := Scalar.select v481 v482 v476
  let v774 : Index := Scalar.indexCast v483
  let c0_482 : Index := 0#32
  let c0_483 : Index := 0#32
  ![v774.toNat, 0, 0]
def k0_cond2 : BitVec 1 :=
  let c2_i32_295 : BitVec 32 := 2#32
  let c0_i32 : BitVec 32 := 0#32
  let v472 : BitVec 32 := Scalar.muli c2_i32_295 c0_i32
  let c1_i32_296 : BitVec 32 := 1#32
  let v473 : BitVec 32 := Scalar.addi v472 c1_i32_296
  let c1_i32_297 : BitVec 32 := 1#32
  let c0_i32_298 : BitVec 32 := 0#32
  let v474 : BitVec 1 := Scalar.cmpi .eq c1_i32_297 c0_i32_298
  let c1_i32_299 : BitVec 32 := 1#32
  let v475 : BitVec 32 := Scalar.select v474 c1_i32_299 c1_i32_297
  let v476 : BitVec 32 := Scalar.remsi v473 v475
  let c0_i32_301 : BitVec 32 := 0#32
  let v478 : BitVec 1 := Scalar.cmpi .slt v476 c0_i32_301
  let c0_i32_302 : BitVec 32 := 0#32
  let v479 : BitVec 1 := Scalar.cmpi .slt v475 c0_i32_302
  let v480 : BitVec 1 := Scalar.xori v478 v479
  let c0_i32_300 : BitVec 32 := 0#32
  let v477 : BitVec 1 := Scalar.cmpi .ne v476 c0_i32_300
  let v481 : BitVec 1 := Scalar.andi v480 v477
  let v482 : BitVec 32 := Scalar.addi v476 v475
  let v483 : BitVec 32 := Scalar.select v481 v482 v476
  let c0_i32_504 : BitVec 32 := 0#32
  let v799 : BitVec 1 := Scalar.cmpi .eq v483 c0_i32_504
  let v800 : BitVec 32 := Scalar.extui v799
  let c0_i32_505 : BitVec 32 := 0#32
  let v801 : BitVec 1 := Scalar.cmpi .ne v800 c0_i32_505
  v801

def k0_mult12 : BitVec 32 :=
  let c2_i32_295 : BitVec 32 := 2#32
  let c0_i32 : BitVec 32 := 0#32
  let v472 : BitVec 32 := Scalar.muli c2_i32_295 c0_i32
  let c1_i32_296 : BitVec 32 := 1#32
  let v473 : BitVec 32 := Scalar.addi v472 c1_i32_296
  let c0_i32_304 : BitVec 32 := 0#32
  let v485 : BitVec 1 := Scalar.cmpi .sgt v473 c0_i32_304
  let v486 : BitVec 32 := Scalar.extui v485
  let c0_i32_305 : BitVec 32 := 0#32
  let v487 : BitVec 1 := Scalar.cmpi .slt v473 c0_i32_305
  let v488 : BitVec 32 := Scalar.extui v487
  let v489 : BitVec 32 := Scalar.subi v486 v488
  let c1_i32_303 : BitVec 32 := 1#32
  let c0_i32_306 : BitVec 32 := 0#32
  let v490 : BitVec 1 := Scalar.cmpi .sgt c1_i32_303 c0_i32_306
  let v491 : BitVec 32 := Scalar.extui v490
  let c0_i32_307 : BitVec 32 := 0#32
  let v492 : BitVec 1 := Scalar.cmpi .slt c1_i32_303 c0_i32_307
  let v493 : BitVec 32 := Scalar.extui v492
  let v494 : BitVec 32 := Scalar.subi v491 v493
  let v495 : BitVec 1 := Scalar.cmpi .ne v489 v494
  let v496 : BitVec 32 := Scalar.remsi v473 c1_i32_303
  let c0_i32_308 : BitVec 32 := 0#32
  let v497 : BitVec 1 := Scalar.cmpi .ne v496 c0_i32_308
  let v498 : BitVec 1 := Scalar.andi v495 v497
  let v484 : BitVec 32 := Scalar.divsi v473 c1_i32_303
  let c1_i32_309 : BitVec 32 := 1#32
  let v499 : BitVec 32 := Scalar.subi v484 c1_i32_309
  let v500 : BitVec 32 := Scalar.select v498 v499 v484
  let c512_i32_816 : BitVec 32 := 512#32
  let v1277 : BitVec 32 := Scalar.muli v500 c512_i32_816
  v1277
def k0_off8 : Fin 2 → Nat :=
  let c2_i32_295 : BitVec 32 := 2#32
  let c0_i32 : BitVec 32 := 0#32
  let v472 : BitVec 32 := Scalar.muli c2_i32_295 c0_i32
  let c1_i32_296 : BitVec 32 := 1#32
  let v473 : BitVec 32 := Scalar.addi v472 c1_i32_296
  let c0_i32_304 : BitVec 32 := 0#32
  let v485 : BitVec 1 := Scalar.cmpi .sgt v473 c0_i32_304
  let v486 : BitVec 32 := Scalar.extui v485
  let c0_i32_305 : BitVec 32 := 0#32
  let v487 : BitVec 1 := Scalar.cmpi .slt v473 c0_i32_305
  let v488 : BitVec 32 := Scalar.extui v487
  let v489 : BitVec 32 := Scalar.subi v486 v488
  let c1_i32_303 : BitVec 32 := 1#32
  let c0_i32_306 : BitVec 32 := 0#32
  let v490 : BitVec 1 := Scalar.cmpi .sgt c1_i32_303 c0_i32_306
  let v491 : BitVec 32 := Scalar.extui v490
  let c0_i32_307 : BitVec 32 := 0#32
  let v492 : BitVec 1 := Scalar.cmpi .slt c1_i32_303 c0_i32_307
  let v493 : BitVec 32 := Scalar.extui v492
  let v494 : BitVec 32 := Scalar.subi v491 v493
  let v495 : BitVec 1 := Scalar.cmpi .ne v489 v494
  let v496 : BitVec 32 := Scalar.remsi v473 c1_i32_303
  let c0_i32_308 : BitVec 32 := 0#32
  let v497 : BitVec 1 := Scalar.cmpi .ne v496 c0_i32_308
  let v498 : BitVec 1 := Scalar.andi v495 v497
  let v484 : BitVec 32 := Scalar.divsi v473 c1_i32_303
  let c1_i32_309 : BitVec 32 := 1#32
  let v499 : BitVec 32 := Scalar.subi v484 c1_i32_309
  let v500 : BitVec 32 := Scalar.select v498 v499 v484
  let c512_i32_816 : BitVec 32 := 512#32
  let v1277 : BitVec 32 := Scalar.muli v500 c512_i32_816
  let v1278 : BitVec 32 := v1277
  let v1279 : Index := Scalar.indexCast v1278
  let c0_817 : Index := 0#32
  ![v1279.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c6_i32 : BitVec 32 := 6#32
  let v1 : BitVec 32 := Scalar.addi c6_i32 arg1
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c12_i32 : BitVec 32 := 12#32
  let v1 : BitVec 32 := Scalar.addi c12_i32 arg1
  let c0_i32_0 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S81920x768 : Shape := ⟨2, ![81920, 768]⟩
abbrev S4x64 : Shape := ⟨2, ![4, 64]⟩
abbrev S128 : Shape := ⟨1, ![128]⟩
abbrev S65536x768 : Shape := ⟨2, ![65536, 768]⟩
abbrev S32x2048x6x2x64 : Shape := ⟨5, ![32, 2048, 6, 2, 64]⟩
abbrev S32x2048x6x128 : Shape := ⟨4, ![32, 2048, 6, 128]⟩
abbrev S1x64 : Shape := ⟨2, ![1, 64]⟩
abbrev S64 : Shape := ⟨1, ![64]⟩
abbrev S_ : Shape := ⟨0, ![]⟩
abbrev S32x6x2x2048x2048 : Shape := ⟨5, ![32, 6, 2, 2048, 2048]⟩
abbrev S32x6x2x2048 : Shape := ⟨4, ![32, 6, 2, 2048]⟩
abbrev S32x6x2x2048x1 : Shape := ⟨5, ![32, 6, 2, 2048, 1]⟩
abbrev S32x6x1x2048x2048 : Shape := ⟨5, ![32, 6, 1, 2048, 2048]⟩
abbrev S32x6x2048x2048 : Shape := ⟨4, ![32, 6, 2048, 2048]⟩
abbrev S32x6x128x2048 : Shape := ⟨4, ![32, 6, 128, 2048]⟩
abbrev S32x2048x6 : Shape := ⟨3, ![32, 2048, 6]⟩
abbrev S32x2048x6x1 : Shape := ⟨4, ![32, 2048, 6, 1]⟩
abbrev S1x1x1x128 : Shape := ⟨4, ![1, 1, 1, 128]⟩

abbrev nBuf : Space → Nat
  | .hbm => 78
  | .vmem => 0
  | .smem => 0
  | _ => 0

abbrev bufTy : (tb : Table) → Fin (tcTables nBuf tb) → BufTy
  | .hbm, ⟨0, _⟩ => ⟨S81920x768, .f32⟩
  | .hbm, ⟨1, _⟩ => ⟨S81920x768, .f32⟩
  | .hbm, ⟨2, _⟩ => ⟨S81920x768, .f32⟩
  | .hbm, ⟨3, _⟩ => ⟨S4x64, .f32⟩
  | .hbm, ⟨4, _⟩ => ⟨S128, .f32⟩
  | .hbm, ⟨5, _⟩ => ⟨S65536x768, .f32⟩
  | .hbm, ⟨6, _⟩ => ⟨S32x2048x6x2x64, .f32⟩
  | .hbm, ⟨7, _⟩ => ⟨S65536x768, .f32⟩
  | .hbm, ⟨8, _⟩ => ⟨S32x2048x6x2x64, .f32⟩
  | .hbm, ⟨9, _⟩ => ⟨S65536x768, .f32⟩
  | .hbm, ⟨10, _⟩ => ⟨S32x2048x6x128, .f32⟩
  | .hbm, ⟨11, _⟩ => ⟨S1x64, .f32⟩
  | .hbm, ⟨12, _⟩ => ⟨S64, .f32⟩
  | .hbm, ⟨13, _⟩ => ⟨S1x64, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x64, .f32⟩
  | .hbm, ⟨20, _⟩ => ⟨S64, .f32⟩
  | .hbm, ⟨21, _⟩ => ⟨S1x64, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S32x6x2x2048x2048, .f32⟩
  | .hbm, ⟨31, _⟩ => ⟨S_, .f32⟩
  | .hbm, ⟨32, _⟩ => ⟨S32x6x2x2048x2048, .f32⟩
  | .hbm, ⟨33, _⟩ => ⟨S32x6x2x2048x2048, .f32⟩
  | .hbm, ⟨34, _⟩ => ⟨S_, .f32⟩
  | .hbm, ⟨35, _⟩ => ⟨S32x6x2x2048, .f32⟩
  | .hbm, ⟨36, _⟩ => ⟨S_, .f32⟩
  | .hbm, ⟨37, _⟩ => ⟨S32x6x2x2048, .f32⟩
  | .hbm, ⟨38, _⟩ => ⟨S32x6x2x2048, .f32⟩
  | .hbm, ⟨39, _⟩ => ⟨S32x6x2x2048x1, .f32⟩
  | .hbm, ⟨40, _⟩ => ⟨S32x6x2x2048x2048, .f32⟩
  | .hbm, ⟨41, _⟩ => ⟨S32x6x2x2048x2048, .f32⟩
  | .hbm, ⟨42, _⟩ => ⟨S32x6x2x2048x2048, .f32⟩
  | .hbm, ⟨43, _⟩ => ⟨S_, .f32⟩
  | .hbm, ⟨44, _⟩ => ⟨S32x6x2x2048, .f32⟩
  | .hbm, ⟨45, _⟩ => ⟨S32x6x2x2048x1, .f32⟩
  | .hbm, ⟨46, _⟩ => ⟨S32x6x2x2048x2048, .f32⟩
  | .hbm, ⟨47, _⟩ => ⟨S32x6x2x2048x2048, .f32⟩
  | .hbm, ⟨48, _⟩ => ⟨S32x6x1x2048x2048, .f32⟩
  | .hbm, ⟨49, _⟩ => ⟨S32x6x2048x2048, .f32⟩
  | .hbm, ⟨50, _⟩ => ⟨S32x6x1x2048x2048, .f32⟩
  | .hbm, ⟨51, _⟩ => ⟨S32x6x2048x2048, .f32⟩
  | .hbm, ⟨52, _⟩ => ⟨S32x6x2048x2048, .f32⟩
  | .hbm, ⟨53, _⟩ => ⟨S32x6x2048x2048, .f32⟩
  | .hbm, ⟨54, _⟩ => ⟨S32x6x2048x2048, .f32⟩
  | .hbm, ⟨55, _⟩ => ⟨S32x6x128x2048, .f32⟩
  | .hbm, ⟨56, _⟩ => ⟨S32x2048x6x128, .f32⟩
  | .hbm, ⟨57, _⟩ => ⟨S32x2048x6x128, .f32⟩
  | .hbm, ⟨58, _⟩ => ⟨S_, .f32⟩
  | .hbm, ⟨59, _⟩ => ⟨S32x2048x6, .f32⟩
  | .hbm, ⟨60, _⟩ => ⟨S32x2048x6x1, .f32⟩
  | .hbm, ⟨61, _⟩ => ⟨S_, .f32⟩
  | .hbm, ⟨62, _⟩ => ⟨S32x2048x6x1, .f32⟩
  | .hbm, ⟨63, _⟩ => ⟨S32x2048x6x1, .f32⟩
  | .hbm, ⟨64, _⟩ => ⟨S_, .f32⟩
  | .hbm, ⟨65, _⟩ => ⟨S32x2048x6x1, .f32⟩
  | .hbm, ⟨66, _⟩ => ⟨S32x2048x6x1, .f32⟩
  | .hbm, ⟨67, _⟩ => ⟨S32x2048x6x1, .f32⟩
  | .hbm, ⟨68, _⟩ => ⟨S32x2048x6x128, .f32⟩
  | .hbm, ⟨69, _⟩ => ⟨S32x2048x6x128, .f32⟩
  | .hbm, ⟨70, _⟩ => ⟨S1x1x1x128, .f32⟩
  | .hbm, ⟨71, _⟩ => ⟨S32x2048x6x128, .f32⟩
  | .hbm, ⟨72, _⟩ => ⟨S32x2048x6x128, .f32⟩
  | .hbm, ⟨73, _⟩ => ⟨S_, .f32⟩
  | .hbm, ⟨74, _⟩ => ⟨S32x2048x6x128, .f32⟩
  | .hbm, ⟨75, _⟩ => ⟨S32x2048x6x128, .f32⟩
  | .hbm, ⟨76, _⟩ => ⟨S65536x768, .f32⟩
  | .hbm, ⟨77, _⟩ => ⟨S65536x768, .bf16⟩
  | _, _ => ⟨S81920x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_6 : Ref sig .tc := ⟨.hbm, 58, rfl⟩
abbrev main_v46 : Ref sig .tc := ⟨.hbm, 59, rfl⟩
abbrev main_v47 : Ref sig .tc := ⟨.hbm, 60, rfl⟩
abbrev main_cst_7 : Ref sig .tc := ⟨.hbm, 61, rfl⟩
abbrev main_v48 : Ref sig .tc := ⟨.hbm, 62, rfl⟩
abbrev main_v49 : Ref sig .tc := ⟨.hbm, 63, rfl⟩
abbrev main_cst_8 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_9 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩

abbrev nD : Nat := 1
abbrev τ : Topo := Topo.v7x

variable {F : FTy → Type} [FloatOps F]
-- ==== Experts.lean ====
abbrev S168 : Shape := ⟨1, ![168]⟩
abbrev S1 : Shape := ⟨1, ![1]⟩
abbrev S172032x1024 : Shape := ⟨2, ![172032, 1024]⟩
abbrev S8x1024x7168 : Shape := ⟨3, ![8, 1024, 7168]⟩
abbrev S8x3584x1024 : Shape := ⟨3, ![8, 3584, 1024]⟩
abbrev S1024x1024 : Shape := ⟨2, ![1024, 1024]⟩
abbrev S1x1024x1792 : Shape := ⟨3, ![1, 1024, 1792]⟩
abbrev S1x1792x1024 : Shape := ⟨3, ![1, 1792, 1024]⟩
abbrev S1024x1 : Shape := ⟨2, ![1024, 1]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 6
  | .vmem => 11
  | .smem => 3
  | _ => 0

abbrev bufTy : (tb : Table) → Fin (tcTables nBuf tb) → BufTy
  | .hbm, ⟨0, _⟩ => ⟨S172032x1024, .f32⟩
  | .hbm, ⟨1, _⟩ => ⟨S8x1024x7168, .f32⟩
  | .hbm, ⟨2, _⟩ => ⟨S8x3584x1024, .f32⟩
  | .hbm, ⟨3, _⟩ => ⟨S8x1024x7168, .bf16⟩
  | .hbm, ⟨4, _⟩ => ⟨S8x3584x1024, .bf16⟩
  | .hbm, ⟨5, _⟩ => ⟨S172032x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1792x1024, .bf16⟩
  | .local _ .vmem, ⟨7, _⟩ => ⟨S1x1792x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .smem, ⟨0, _⟩ => ⟨S168, .i32⟩
  | .local _ .smem, ⟨1, _⟩ => ⟨S1, .i32⟩
  | .local _ .smem, ⟨2, _⟩ => ⟨S168, .i32⟩
  | _, _ => ⟨S172032x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![168, 2], ![false, false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg1 : BitVec 32 := BitVec.ofNat 32 (i 1).val
  let c0_i32_0 : BitVec 32 := 0#32
  let v4 : BitVec 1 := Scalar.cmpi .eq arg1 c0_i32_0
  let v5 : BitVec 32 := Scalar.extui v4
  let c0_i32_1 : BitVec 32 := 0#32
  let v6 : BitVec 1 := Scalar.cmpi .ne v5 c0_i32_1
  v6

def k0_off2 (i : grid0.Coords) : Fin 1 → Nat :=
  let arg0 : BitVec 32 := BitVec.ofNat 32 (i 0).val
  let v170 : Index := Scalar.indexCast arg0
  ![v170.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S168.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S168) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S168.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S168) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c2_i32 : BitVec 32 := 2#32
  let v5 : BitVec 32 := Scalar.addi c2_i32 v4
  let c0_i32 : BitVec 32 := 0#32
  let c0_i32_0 : BitVec 32 := 0#32
  ![v1.toNat, c0_i32.toNat, v5.toNat]

def cc0_transform_3 (k0_off1_inb : ∀ i : grid0.Coords, ∀ a, (k0_off1 i) a + S1.size a ≤ S168.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S168) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, v4.toNat, c0_i32.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ExpertsReferenceIdeal.lean ====
abbrev S168 : Shape := ⟨1, ![168]⟩
abbrev S1 : Shape := ⟨1, ![1]⟩
abbrev S172032x1024 : Shape := ⟨2, ![172032, 1024]⟩
abbrev S8x1024x7168 : Shape := ⟨3, ![8, 1024, 7168]⟩
abbrev S8x3584x1024 : Shape := ⟨3, ![8, 3584, 1024]⟩
abbrev S1024 : Shape := ⟨1, ![1024]⟩
abbrev S1x1024 : Shape := ⟨2, ![1, 1024]⟩
abbrev S168x1024 : Shape := ⟨2, ![168, 1024]⟩
abbrev S172032x1 : Shape := ⟨2, ![172032, 1]⟩
abbrev S168x1 : Shape := ⟨2, ![168, 1]⟩
abbrev S_ : Shape := ⟨0, ![]⟩
abbrev S1x1024x7168 : Shape := ⟨3, ![1, 1024, 7168]⟩
abbrev S1024x7168 : Shape := ⟨2, ![1024, 7168]⟩
abbrev S1x3584x1024 : Shape := ⟨3, ![1, 3584, 1024]⟩
abbrev S3584x1024 : Shape := ⟨2, ![3584, 1024]⟩
abbrev S172032x7168 : Shape := ⟨2, ![172032, 7168]⟩
abbrev S172032x3584 : Shape := ⟨2, ![172032, 3584]⟩

abbrev nBuf : Space → Nat
  | .hbm => 229
  | .vmem => 0
  | .smem => 0
  | _ => 0

abbrev hbmTy0_0 (i : Nat) : BufTy := match i % 128 with
  | 0 => ⟨S168, .i32⟩
  | 1 => ⟨S1, .i32⟩
  | 2 => ⟨S168, .i32⟩
  | 3 => ⟨S172032x1024, .f32⟩
  | 4 => ⟨S8x1024x7168, .f32⟩
  | 5 => ⟨S8x3584x1024, .f32⟩
  | 6 => ⟨S1024, .i32⟩
  | 7 => ⟨S1x1024, .i32⟩
  | 8 => ⟨S168x1024, .i32⟩
  | 9 => ⟨S172032x1, .i32⟩
  | 10 => ⟨S168x1, .i32⟩
  | 11 => ⟨S168x1024, .i32⟩
  | 12 => ⟨S172032x1, .i32⟩
  | 13 => ⟨S172032x1, .i1⟩
  | 14 => ⟨S_, .f32⟩
  | 15 => ⟨S_, .f32⟩
  | 16 => ⟨S172032x1024, .i1⟩
  | 17 => ⟨S172032x1024, .f32⟩
  | 18 => ⟨S172032x1024, .f32⟩
  | 19 => ⟨S_, .f32⟩
  | 20 => ⟨S172032x1024, .f32⟩
  | 21 => ⟨S168x1, .i32⟩
  | 22 => ⟨S168x1024, .i32⟩
  | 23 => ⟨S172032x1, .i32⟩
  | 24 => ⟨S_, .i32⟩
  | 25 => ⟨S172032x1, .i32⟩
  | 26 => ⟨S172032x1, .i1⟩
  | 27 => ⟨S1x1024x7168, .f32⟩
  | 28 => ⟨S1024x7168, .f32⟩
  | 29 => ⟨S1x3584x1024, .f32⟩
  | 30 => ⟨S3584x1024, .f32⟩
  | 31 => ⟨S172032x7168, .f32⟩
  | 32 => ⟨S172032x3584, .f32⟩
  | 33 => ⟨S172032x3584, .f32⟩
  | 34 => ⟨S172032x3584, .f32⟩
  | 35 => ⟨S172032x3584, .f32⟩
  | 36 => ⟨S_, .f32⟩
  | 37 => ⟨S172032x3584, .f32⟩
  | 38 => ⟨S172032x3584, .f32⟩
  | 39 => ⟨S_, .f32⟩
  | 40 => ⟨S172032x3584, .f32⟩
  | 41 => ⟨S172032x3584, .f32⟩
  | 42 => ⟨S172032x3584, .f32⟩
  | 43 => ⟨S172032x3584, .f32⟩
  | 44 => ⟨S172032x1024, .f32⟩
  | 45 => ⟨S172032x1024, .i1⟩
  | 46 => ⟨S172032x1024, .f32⟩
  | 47 => ⟨S168x1, .i32⟩
  | 48 => ⟨S168x1024, .i32⟩
  | 49 => ⟨S172032x1, .i32⟩
  | 50 => ⟨S_, .i32⟩
  | 51 => ⟨S172032x1, .i32⟩
  | 52 => ⟨S172032x1, .i1⟩
  | 53 => ⟨S1x1024x7168, .f32⟩
  | 54 => ⟨S1024x7168, .f32⟩
  | 55 => ⟨S1x3584x1024, .f32⟩
  | 56 => ⟨S3584x1024, .f32⟩
  | 57 => ⟨S172032x7168, .f32⟩
  | 58 => ⟨S172032x3584, .f32⟩
  | 59 => ⟨S172032x3584, .f32⟩
  | 60 => ⟨S172032x3584, .f32⟩
  | 61 => ⟨S172032x3584, .f32⟩
  | 62 => ⟨S_, .f32⟩
  | 63 => ⟨S172032x3584, .f32⟩
  | 64 => ⟨S172032x3584, .f32⟩
  | 65 => ⟨S_, .f32⟩
  | 66 => ⟨S172032x3584, .f32⟩
  | 67 => ⟨S172032x3584, .f32⟩
  | 68 => ⟨S172032x3584, .f32⟩
  | 69 => ⟨S172032x3584, .f32⟩
  | 70 => ⟨S172032x1024, .f32⟩
  | 71 => ⟨S172032x1024, .i1⟩
  | 72 => ⟨S172032x1024, .f32⟩
  | 73 => ⟨S168x1, .i32⟩
  | 74 => ⟨S168x1024, .i32⟩
  | 75 => ⟨S172032x1, .i32⟩
  | 76 => ⟨S_, .i32⟩
  | 77 => ⟨S172032x1, .i32⟩
  | 78 => ⟨S172032x1, .i1⟩
  | 79 => ⟨S1x1024x7168, .f32⟩
  | 80 => ⟨S1024x7168, .f32⟩
  | 81 => ⟨S1x3584x1024, .f32⟩
  | 82 => ⟨S3584x1024, .f32⟩
  | 83 => ⟨S172032x7168, .f32⟩
  | 84 => ⟨S172032x3584, .f32⟩
  | 85 => ⟨S172032x3584, .f32⟩
  | 86 => ⟨S172032x3584, .f32⟩
  | 87 => ⟨S172032x3584, .f32⟩
  | 88 => ⟨S_, .f32⟩
  | 89 => ⟨S172032x3584, .f32⟩
  | 90 => ⟨S172032x3584, .f32⟩
  | 91 => ⟨S_, .f32⟩
  | 92 => ⟨S172032x3584, .f32⟩
  | 93 => ⟨S172032x3584, .f32⟩
  | 94 => ⟨S172032x3584, .f32⟩
  | 95 => ⟨S172032x3584, .f32⟩
  | 96 => ⟨S172032x1024, .f32⟩
  | 97 => ⟨S172032x1024, .i1⟩
  | 98 => ⟨S172032x1024, .f32⟩
  | 99 => ⟨S168x1, .i32⟩
  | 100 => ⟨S168x1024, .i32⟩
  | 101 => ⟨S172032x1, .i32⟩
  | 102 => ⟨S_, .i32⟩
  | 103 => ⟨S172032x1, .i32⟩
  | 104 => ⟨S172032x1, .i1⟩
  | 105 => ⟨S1x1024x7168, .f32⟩
  | 106 => ⟨S1024x7168, .f32⟩
  | 107 => ⟨S1x3584x1024, .f32⟩
  | 108 => ⟨S3584x1024, .f32⟩
  | 109 => ⟨S172032x7168, .f32⟩
  | 110 => ⟨S172032x3584, .f32⟩
  | 111 => ⟨S172032x3584, .f32⟩
  | 112 => ⟨S172032x3584, .f32⟩
  | 113 => ⟨S172032x3584, .f32⟩
  | 114 => ⟨S_, .f32⟩
  | 115 => ⟨S172032x3584, .f32⟩
  | 116 => ⟨S172032x3584, .f32⟩
  | 117 => ⟨S_, .f32⟩
  | 118 => ⟨S172032x3584, .f32⟩
  | 119 => ⟨S172032x3584, .f32⟩
  | 120 => ⟨S172032x3584, .f32⟩
  | 121 => ⟨S172032x3584, .f32⟩
  | 122 => ⟨S172032x1024, .f32⟩
  | 123 => ⟨S172032x1024, .i1⟩
  | 124 => ⟨S172032x1024, .f32⟩
  | 125 => ⟨S168x1, .i32⟩
  | 126 => ⟨S168x1024, .i32⟩
  | 127 => ⟨S172032x1, .i32⟩
  | _ => ⟨S168, .i32⟩

abbrev hbmTy0_1 (i : Nat) : BufTy := match i % 128 with
  | 0 => ⟨S_, .i32⟩
  | 1 => ⟨S172032x1, .i32⟩
  | 2 => ⟨S172032x1, .i1⟩
  | 3 => ⟨S1x1024x7168, .f32⟩
  | 4 => ⟨S1024x7168, .f32⟩
  | 5 => ⟨S1x3584x1024, .f32⟩
  | 6 => ⟨S3584x1024, .f32⟩
  | 7 => ⟨S172032x7168, .f32⟩
  | 8 => ⟨S172032x3584, .f32⟩
  | 9 => ⟨S172032x3584, .f32⟩
  | 10 => ⟨S172032x3584, .f32⟩
  | 11 => ⟨S172032x3584, .f32⟩
  | 12 => ⟨S_, .f32⟩
  | 13 => ⟨S172032x3584, .f32⟩
  | 14 => ⟨S172032x3584, .f32⟩
  | 15 => ⟨S_, .f32⟩
  | 16 => ⟨S172032x3584, .f32⟩
  | 17 => ⟨S172032x3584, .f32⟩
  | 18 => ⟨S172032x3584, .f32⟩
  | 19 => ⟨S172032x3584, .f32⟩
  | 20 => ⟨S172032x1024, .f32⟩
  | 21 => ⟨S172032x1024, .i1⟩
  | 22 => ⟨S172032x1024, .f32⟩
  | 23 => ⟨S168x1, .i32⟩
  | 24 => ⟨S168x1024, .i32⟩
  | 25 => ⟨S172032x1, .i32⟩
  | 26 => ⟨S_, .i32⟩
  | 27 => ⟨S172032x1, .i32⟩
  | 28 => ⟨S172032x1, .i1⟩
  | 29 => ⟨S1x1024x7168, .f32⟩
  | 30 => ⟨S1024x7168, .f32⟩
  | 31 => ⟨S1x3584x1024, .f32⟩
  | 32 => ⟨S3584x1024, .f32⟩
  | 33 => ⟨S172032x7168, .f32⟩
  | 34 => ⟨S172032x3584, .f32⟩
  | 35 => ⟨S172032x3584, .f32⟩
  | 36 => ⟨S172032x3584, .f32⟩
  | 37 => ⟨S172032x3584, .f32⟩
  | 38 => ⟨S_, .f32⟩
  | 39 => ⟨S172032x3584, .f32⟩
  | 40 => ⟨S172032x3584, .f32⟩
  | 41 => ⟨S_, .f32⟩
  | 42 => ⟨S172032x3584, .f32⟩
  | 43 => ⟨S172032x3584, .f32⟩
  | 44 => ⟨S172032x3584, .f32⟩
  | 45 => ⟨S172032x3584, .f32⟩
  | 46 => ⟨S172032x1024, .f32⟩
  | 47 => ⟨S172032x1024, .i1⟩
  | 48 => ⟨S172032x1024, .f32⟩
  | 49 => ⟨S168x1, .i32⟩
  | 50 => ⟨S168x1024, .i32⟩
  | 51 => ⟨S172032x1, .i32⟩
  | 52 => ⟨S_, .i32⟩
  | 53 => ⟨S172032x1, .i32⟩
  | 54 => ⟨S172032x1, .i1⟩
  | 55 => ⟨S1x1024x7168, .f32⟩
  | 56 => ⟨S1024x7168, .f32⟩
  | 57 => ⟨S1x3584x1024, .f32⟩
  | 58 => ⟨S3584x1024, .f32⟩
  | 59 => ⟨S172032x7168, .f32⟩
  | 60 => ⟨S172032x3584, .f32⟩
  | 61 => ⟨S172032x3584, .f32⟩
  | 62 => ⟨S172032x3584, .f32⟩
  | 63 => ⟨S172032x3584, .f32⟩
  | 64 => ⟨S_, .f32⟩
  | 65 => ⟨S172032x3584, .f32⟩
  | 66 => ⟨S172032x3584, .f32⟩
  | 67 => ⟨S_, .f32⟩
  | 68 => ⟨S172032x3584, .f32⟩
  | 69 => ⟨S172032x3584, .f32⟩
  | 70 => ⟨S172032x3584, .f32⟩
  | 71 => ⟨S172032x3584, .f32⟩
  | 72 => ⟨S172032x1024, .f32⟩
  | 73 => ⟨S172032x1024, .i1⟩
  | 74 => ⟨S172032x1024, .f32⟩
  | 75 => ⟨S168x1, .i32⟩
  | 76 => ⟨S168x1024, .i32⟩
  | 77 => ⟨S172032x1, .i32⟩
  | 78 => ⟨S_, .i32⟩
  | 79 => ⟨S172032x1, .i32⟩
  | 80 => ⟨S172032x1, .i1⟩
  | 81 => ⟨S1x1024x7168, .f32⟩
  | 82 => ⟨S1024x7168, .f32⟩
  | 83 => ⟨S1x3584x1024, .f32⟩
  | 84 => ⟨S3584x1024, .f32⟩
  | 85 => ⟨S172032x7168, .f32⟩
  | 86 => ⟨S172032x3584, .f32⟩
  | 87 => ⟨S172032x3584, .f32⟩
  | 88 => ⟨S172032x3584, .f32⟩
  | 89 => ⟨S172032x3584, .f32⟩
  | 90 => ⟨S_, .f32⟩
  | 91 => ⟨S172032x3584, .f32⟩
  | 92 => ⟨S172032x3584, .f32⟩
  | 93 => ⟨S_, .f32⟩
  | 94 => ⟨S172032x3584, .f32⟩
  | 95 => ⟨S172032x3584, .f32⟩
  | 96 => ⟨S172032x3584, .f32⟩
  | 97 => ⟨S172032x3584, .f32⟩
  | 98 => ⟨S172032x1024, .f32⟩
  | 99 => ⟨S172032x1024, .i1⟩
  | 100 => ⟨S172032x1024, .f32⟩
  | _ => ⟨S168, .i32⟩

abbrev hbmTy (i : Nat) : BufTy := match i / 128 with
  | 0 => hbmTy0_0 i
  | 1 => hbmTy0_1 i
  | _ => ⟨S168, .i32⟩

abbrev bufTy : (tb : Table) → Fin (tcTables nBuf tb) → BufTy
  | .hbm, ⟨i, _⟩ => hbmTy i
  | _, _ => ⟨S168, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call1_v0 : Ref sig .tc := ⟨.hbm, 34, rfl⟩
abbrev main_call1_v1 : Ref sig .tc := ⟨.hbm, 35, rfl⟩
abbrev main_call1_cst : Ref sig .tc := ⟨.hbm, 36, rfl⟩
abbrev main_call1_v2 : Ref sig .tc := ⟨.hbm, 37, rfl⟩
abbrev main_call1_v3 : Ref sig .tc := ⟨.hbm, 38, rfl⟩
abbrev main_call1_cst_0 : Ref sig .tc := ⟨.hbm, 39, rfl⟩
abbrev main_call1_v4 : Ref sig .tc := ⟨.hbm, 40, rfl⟩
abbrev main_call1_v5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_call2_v0 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_1 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_call3_v0 : Ref sig .tc := ⟨.hbm, 60, rfl⟩
abbrev main_call3_v1 : Ref sig .tc := ⟨.hbm, 61, rfl⟩
abbrev main_call3_cst : Ref sig .tc := ⟨.hbm, 62, rfl⟩
abbrev main_call3_v2 : Ref sig .tc := ⟨.hbm, 63, rfl⟩
abbrev main_call3_v3 : Ref sig .tc := ⟨.hbm, 64, rfl⟩
abbrev main_call3_cst_0 : Ref sig .tc := ⟨.hbm, 65, rfl⟩
abbrev main_call3_v4 : Ref sig .tc := ⟨.hbm, 66, rfl⟩
abbrev main_call3_v5 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_call4_v0 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_c_2 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_call5_v0 : Ref sig .tc := ⟨.hbm, 86, rfl⟩
abbrev main_call5_v1 : Ref sig .tc := ⟨.hbm, 87, rfl⟩
abbrev main_call5_cst : Ref sig .tc := ⟨.hbm, 88, rfl⟩
abbrev main_call5_v2 : Ref sig .tc := ⟨.hbm, 89, rfl⟩
abbrev main_call5_v3 : Ref sig .tc := ⟨.hbm, 90, rfl⟩
abbrev main_call5_cst_0 : Ref sig .tc := ⟨.hbm, 91, rfl⟩
abbrev main_call5_v4 : Ref sig .tc := ⟨.hbm, 92, rfl⟩
abbrev main_call5_v5 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_call6_v0 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_c_3 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_call7_v0 : Ref sig .tc := ⟨.hbm, 112, rfl⟩
abbrev main_call7_v1 : Ref sig .tc := ⟨.hbm, 113, rfl⟩
abbrev main_call7_cst : Ref sig .tc := ⟨.hbm, 114, rfl⟩
abbrev main_call7_v2 : Ref sig .tc := ⟨.hbm, 115, rfl⟩
abbrev main_call7_v3 : Ref sig .tc := ⟨.hbm, 116, rfl⟩
abbrev main_call7_cst_0 : Ref sig .tc := ⟨.hbm, 117, rfl⟩
abbrev main_call7_v4 : Ref sig .tc := ⟨.hbm, 118, rfl⟩
abbrev main_call7_v5 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_call8_v0 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_c_4 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_call9_v0 : Ref sig .tc := ⟨.hbm, 138, rfl⟩
abbrev main_call9_v1 : Ref sig .tc := ⟨.hbm, 139, rfl⟩
abbrev main_call9_cst : Ref sig .tc := ⟨.hbm, 140, rfl⟩
abbrev main_call9_v2 : Ref sig .tc := ⟨.hbm, 141, rfl⟩
abbrev main_call9_v3 : Ref sig .tc := ⟨.hbm, 142, rfl⟩
abbrev main_call9_cst_0 : Ref sig .tc := ⟨.hbm, 143, rfl⟩
abbrev main_call9_v4 : Ref sig .tc := ⟨.hbm, 144, rfl⟩
abbrev main_call9_v5 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_call10_v0 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_c_5 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_call11_v0 : Ref sig .tc := ⟨.hbm, 164, rfl⟩
abbrev main_call11_v1 : Ref sig .tc := ⟨.hbm, 165, rfl⟩
abbrev main_call11_cst : Ref sig .tc := ⟨.hbm, 166, rfl⟩
abbrev main_call11_v2 : Ref sig .tc := ⟨.hbm, 167, rfl⟩
abbrev main_call11_v3 : Ref sig .tc := ⟨.hbm, 168, rfl⟩
abbrev main_call11_cst_0 : Ref sig .tc := ⟨.hbm, 169, rfl⟩
abbrev main_call11_v4 : Ref sig .tc := ⟨.hbm, 170, rfl⟩
abbrev main_call11_v5 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_call12_v0 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_c_6 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_call13_v0 : Ref sig .tc := ⟨.hbm, 190, rfl⟩
abbrev main_call13_v1 : Ref sig .tc := ⟨.hbm, 191, rfl⟩
abbrev main_call13_cst : Ref sig .tc := ⟨.hbm, 192, rfl⟩
abbrev main_call13_v2 : Ref sig .tc := ⟨.hbm, 193, rfl⟩
abbrev main_call13_v3 : Ref sig .tc := ⟨.hbm, 194, rfl⟩
abbrev main_call13_cst_0 : Ref sig .tc := ⟨.hbm, 195, rfl⟩
abbrev main_call13_v4 : Ref sig .tc := ⟨.hbm, 196, rfl⟩
abbrev main_call13_v5 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_call14_v0 : Ref sig .tc := ⟨.hbm, 201, rfl⟩
abbrev main_v121 : Ref sig .tc := ⟨.hbm, 202, rfl⟩
abbrev main_v122 : Ref sig .tc := ⟨.hbm, 203, rfl⟩
abbrev main_v123 : Ref sig .tc := ⟨.hbm, 204, rfl⟩
abbrev main_v124 : Ref sig .tc := ⟨.hbm, 205, rfl⟩
abbrev main_c_7 : Ref sig .tc := ⟨.hbm, 206, rfl⟩
abbrev main_v125 : Ref sig .tc := ⟨.hbm, 207, rfl⟩
abbrev main_v126 : Ref sig .tc := ⟨.hbm, 208, rfl⟩
abbrev main_v127 : Ref sig .tc := ⟨.hbm, 209, rfl⟩
abbrev main_v128 : Ref sig .tc := ⟨.hbm, 210, rfl⟩
abbrev main_v129 : Ref sig .tc := ⟨.hbm, 211, rfl⟩
abbrev main_v130 : Ref sig .tc := ⟨.hbm, 212, rfl⟩
abbrev main_v131 : Ref sig .tc := ⟨.hbm, 213, rfl⟩
abbrev main_v132 : Ref sig .tc := ⟨.hbm, 214, rfl⟩
abbrev main_v133 : Ref sig .tc := ⟨.hbm, 215, rfl⟩
abbrev main_call15_v0 : Ref sig .tc := ⟨.hbm, 216, rfl⟩
abbrev main_call15_v1 : Ref sig .tc := ⟨.hbm, 217, rfl⟩
abbrev main_call15_cst : Ref sig .tc := ⟨.hbm, 218, rfl⟩
abbrev main_call15_v2 : Ref sig .tc := ⟨.hbm, 219, rfl⟩
abbrev main_call15_v3 : Ref sig .tc := ⟨.hbm, 220, rfl⟩
abbrev main_call15_cst_0 : Ref sig .tc := ⟨.hbm, 221, rfl⟩
abbrev main_call15_v4 : Ref sig .tc := ⟨.hbm, 222, rfl⟩
abbrev main_call15_v5 : Ref sig .tc := ⟨.hbm, 223, rfl⟩
abbrev main_v134 : Ref sig .tc := ⟨.hbm, 224, rfl⟩
abbrev main_v135 : Ref sig .tc := ⟨.hbm, 225, rfl⟩
abbrev main_v136 : Ref sig .tc := ⟨.hbm, 226, rfl⟩
abbrev main_call16_v0 : Ref sig .tc := ⟨.hbm, 227, rfl⟩
abbrev main_v137 : Ref sig .tc := ⟨.hbm, 228, rfl⟩

abbrev nD : Nat := 1
abbrev τ : Topo := Topo.v7x

variable {F : FTy → Type} [FloatOps F]
-- ==== Dense.lean ====
abbrev S65536x1024 : Shape := ⟨2, ![65536, 1024]⟩
abbrev S16384x1024 : Shape := ⟨2, ![16384, 1024]⟩
abbrev S65536x256 : Shape := ⟨2, ![65536, 256]⟩
abbrev S16384x256 : Shape := ⟨2, ![16384, 256]⟩
abbrev S65536x768 : Shape := ⟨2, ![65536, 768]⟩
abbrev S16384x768 : Shape := ⟨2, ![16384, 768]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S81920x1024 : Shape := ⟨2, ![81920, 1024]⟩
abbrev S512x1024 : Shape := ⟨2, ![512, 1024]⟩
abbrev S512x256 : Shape := ⟨2, ![512, 256]⟩
abbrev S512x768 : Shape := ⟨2, ![512, 768]⟩
abbrev S256x1024 : Shape := ⟨2, ![256, 1024]⟩
abbrev S768x1024 : Shape := ⟨2, ![768, 1024]⟩
abbrev S512 : Shape := ⟨1, ![512]⟩
abbrev S512x1 : Shape := ⟨2, ![512, 1]⟩
abbrev S1024x256 : Shape := ⟨2, ![1024, 256]⟩

abbrev nBuf : Space → Nat
  | .hbm => 15
  | .vmem => 19
  | .smem => 0
  | _ => 0

abbrev bufTy : (tb : Table) → Fin (tcTables nBuf tb) → BufTy
  | .hbm, ⟨0, _⟩ => ⟨S65536x1024, .f32⟩
  | .hbm, ⟨1, _⟩ => ⟨S16384x1024, .f32⟩
  | .hbm, ⟨2, _⟩ => ⟨S65536x256, .bf16⟩
  | .hbm, ⟨3, _⟩ => ⟨S16384x256, .bf16⟩
  | .hbm, ⟨4, _⟩ => ⟨S65536x768, .bf16⟩
  | .hbm, ⟨5, _⟩ => ⟨S16384x768, .bf16⟩
  | .hbm, ⟨6, _⟩ => ⟨S1024x1024, .f32⟩
  | .hbm, ⟨7, _⟩ => ⟨S1024, .f32⟩
  | .hbm, ⟨8, _⟩ => ⟨S1024x5632, .f32⟩
  | .hbm, ⟨9, _⟩ => ⟨S2816x1024, .f32⟩
  | .hbm, ⟨10, _⟩ => ⟨S1024x1024, .bf16⟩
  | .hbm, ⟨11, _⟩ => ⟨S1x1024, .f32⟩
  | .hbm, ⟨12, _⟩ => ⟨S1024x5632, .bf16⟩
  | .hbm, ⟨13, _⟩ => ⟨S2816x1024, .bf16⟩
  | .hbm, ⟨14, _⟩ => ⟨S81920x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x768, .bf16⟩
  | .local _ .vmem, ⟨9, _⟩ => ⟨S512x768, .bf16⟩
  | .local _ .vmem, ⟨10, _⟩ => ⟨S512x768, .bf16⟩
  | .local _ .vmem, ⟨11, _⟩ => ⟨S512x768, .bf16⟩
  | .local _ .vmem, ⟨12, _⟩ => ⟨S1024x1024, .bf16⟩
  | .local _ .vmem, ⟨13, _⟩ => ⟨S1x1024, .f32⟩
  | .local _ .vmem, ⟨14, _⟩ => ⟨S1024x5632, .bf16⟩
  | .local _ .vmem, ⟨15, _⟩ => ⟨S2816x1024, .bf16⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c128_i32 : BitVec 32 := 128#32
  let v0 : BitVec 32 := Scalar.subi arg0 c128_i32
  let c0_i32 : BitVec 32 := 0#32
  let v1 : BitVec 32 := Scalar.maxsi v0 c0_i32
  let c0_i32_0 : BitVec 32 := 0#32
  let v2 : BitVec 32 := Scalar.addi c0_i32_0 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c128_i32 : BitVec 32 := 128#32
  let v0 : BitVec 32 := Scalar.subi arg0 c128_i32
  let c0_i32 : BitVec 32 := 0#32
  let v1 : BitVec 32 := Scalar.maxsi v0 c0_i32
  let c0_i32_0 : BitVec 32 := 0#32
  let v2 : BitVec 32 := Scalar.addi c0_i32_0 v1
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c128_i32 : BitVec 32 := 128#32
  let v0 : BitVec 32 := Scalar.subi arg0 c128_i32
  let c0_i32 : BitVec 32 := 0#32
  let v1 : BitVec 32 := Scalar.maxsi v0 c0_i32
  let c0_i32_0 : BitVec 32 := 0#32
  let v2 : BitVec 32 := Scalar.addi c0_i32_0 v1
  let c0_i32_1 : BitVec 32 := 0#32
  let c0_i32_2 : BitVec 32 := 0#32
  ![v2.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== DenseReferenceIdeal.lean ====
abbrev S65536x1024 : Shape := ⟨2, ![65536, 1024]⟩
abbrev S16384x1024 : Shape := ⟨2, ![16384, 1024]⟩
abbrev S65536x256 : Shape := ⟨2, ![65536, 256]⟩
abbrev S16384x256 : Shape := ⟨2, ![16384, 256]⟩
abbrev S65536x768 : Shape := ⟨2, ![65536, 768]⟩
abbrev S16384x768 : Shape := ⟨2, ![16384, 768]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S81920x1024 : Shape := ⟨2, ![81920, 1024]⟩
abbrev S81920x256 : Shape := ⟨2, ![81920, 256]⟩
abbrev S81920x768 : Shape := ⟨2, ![81920, 768]⟩
abbrev S_ : Shape := ⟨0, ![]⟩
abbrev S81920 : Shape := ⟨1, ![81920]⟩
abbrev S81920x1 : Shape := ⟨2, ![81920, 1]⟩
abbrev S1x1024 : Shape := ⟨2, ![1, 1024]⟩
abbrev S81920x5632 : Shape := ⟨2, ![81920, 5632]⟩
abbrev S81920x2816 : Shape := ⟨2, ![81920, 2816]⟩

abbrev nBuf : Space → Nat
  | .hbm => 48
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S16384x1024, .f32⟩
  | .hbm, ⟨2, _⟩ => ⟨S65536x256, .bf16⟩
  | .hbm, ⟨3, _⟩ => ⟨S16384x256, .bf16⟩
  | .hbm, ⟨4, _⟩ => ⟨S65536x768, .bf16⟩
  | .hbm, ⟨5, _⟩ => ⟨S16384x768, .bf16⟩
  | .hbm, ⟨6, _⟩ => ⟨S1024x1024, .f32⟩
  | .hbm, ⟨7, _⟩ => ⟨S1024, .f32⟩
  | .hbm, ⟨8, _⟩ => ⟨S1024x5632, .f32⟩
  | .hbm, ⟨9, _⟩ => ⟨S2816x1024, .f32⟩
  | .hbm, ⟨10, _⟩ => ⟨S81920x1024, .f32⟩
  | .hbm, ⟨11, _⟩ => ⟨S81920x256, .bf16⟩
  | .hbm, ⟨12, _⟩ => ⟨S81920x768, .bf16⟩
  | .hbm, ⟨13, _⟩ => ⟨S81920x1024, .bf16⟩
  | .hbm, ⟨14, _⟩ => ⟨S81920x1024, .f32⟩
  | .hbm, ⟨15, _⟩ => ⟨S81920x1024, .f32⟩
  | .hbm, ⟨16, _⟩ => ⟨S81920x1024, .f32⟩
  | .hbm, ⟨17, _⟩ => ⟨S81920x1024, .f32⟩
  | .hbm, ⟨18, _⟩ => ⟨S_, .f32⟩
  | .hbm, ⟨19, _⟩ => ⟨S81920, .f32⟩
  | .hbm, ⟨20, _⟩ => ⟨S81920x1, .f32⟩
  | .hbm, ⟨21, _⟩ => ⟨S_, .f32⟩
  | .hbm, ⟨22, _⟩ => ⟨S81920x1, .f32⟩
  | .hbm, ⟨23, _⟩ => ⟨S81920x1, .f32⟩
  | .hbm, ⟨24, _⟩ => ⟨S_, .f32⟩
  | .hbm, ⟨25, _⟩ => ⟨S81920x1, .f32⟩
  | .hbm, ⟨26, _⟩ => ⟨S81920x1, .f32⟩
  | .hbm, ⟨27, _⟩ => ⟨S81920x1, .f32⟩
  | .hbm, ⟨28, _⟩ => ⟨S81920x1024, .f32⟩
  | .hbm, ⟨29, _⟩ => ⟨S81920x1024, .f32⟩
  | .hbm, ⟨30, _⟩ => ⟨S1x1024, .f32⟩
  | .hbm, ⟨31, _⟩ => ⟨S81920x1024, .f32⟩
  | .hbm, ⟨32, _⟩ => ⟨S81920x1024, .f32⟩
  | .hbm, ⟨33, _⟩ => ⟨S81920x5632, .f32⟩
  | .hbm, ⟨34, _⟩ => ⟨S81920x2816, .f32⟩
  | .hbm, ⟨35, _⟩ => ⟨S81920x2816, .f32⟩
  | .hbm, ⟨36, _⟩ => ⟨S81920x2816, .f32⟩
  | .hbm, ⟨37, _⟩ => ⟨S81920x2816, .f32⟩
  | .hbm, ⟨38, _⟩ => ⟨S_, .f32⟩
  | .hbm, ⟨39, _⟩ => ⟨S81920x2816, .f32⟩
  | .hbm, ⟨40, _⟩ => ⟨S81920x2816, .f32⟩
  | .hbm, ⟨41, _⟩ => ⟨S_, .f32⟩
  | .hbm, ⟨42, _⟩ => ⟨S81920x2816, .f32⟩
  | .hbm, ⟨43, _⟩ => ⟨S81920x2816, .f32⟩
  | .hbm, ⟨44, _⟩ => ⟨S81920x2816, .f32⟩
  | .hbm, ⟨45, _⟩ => ⟨S81920x2816, .f32⟩
  | .hbm, ⟨46, _⟩ => ⟨S81920x1024, .f32⟩
  | .hbm, ⟨47, _⟩ => ⟨S81920x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩

abbrev nD : Nat := 1
abbrev τ : Topo := Topo.v7x

variable {F : FTy → Type} [FloatOps F]
-- ==== InProj.lean ====
abbrev S65536x1024 : Shape := ⟨2, ![65536, 1024]⟩
abbrev S16384x1024 : Shape := ⟨2, ![16384, 1024]⟩
abbrev S1024 : Shape := ⟨1, ![1024]⟩
abbrev S1024x2560 : Shape := ⟨2, ![1024, 2560]⟩
abbrev S8 : Shape := ⟨1, ![8]⟩
abbrev S_ : Shape := ⟨0, ![]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S1x8192x1x64 : Shape := ⟨4, ![1, 8192, 1, 64]⟩
abbrev S1x8192x4x64 : Shape := ⟨4, ![1, 8192, 4, 64]⟩
abbrev S8192x256 : Shape := ⟨2, ![8192, 256]⟩
abbrev S1x1024 : Shape := ⟨2, ![1, 1024]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S4x4 : Shape := ⟨2, ![4, 4]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S256x256 : Shape := ⟨2, ![256, 256]⟩
abbrev S256x512 : Shape := ⟨2, ![256, 512]⟩
abbrev S81920x512 : Shape := ⟨2, ![81920, 512]⟩
abbrev S81920x2304 : Shape := ⟨2, ![81920, 2304]⟩
abbrev S512x1024 : Shape := ⟨2, ![512, 1024]⟩
abbrev S512x256 : Shape := ⟨2, ![512, 256]⟩
abbrev S512x512 : Shape := ⟨2, ![512, 512]⟩
abbrev S512x2304 : Shape := ⟨2, ![512, 2304]⟩
abbrev S512 : Shape := ⟨1, ![512]⟩
abbrev S512x1 : Shape := ⟨2, ![512, 1]⟩
abbrev S1024x256 : Shape := ⟨2, ![1024, 256]⟩

abbrev nBuf : Space → Nat
  | .hbm => 94
  | .vmem => 18
  | .smem => 0
  | _ => 0

abbrev bufTy : (tb : Table) → Fin (tcTables nBuf tb) → BufTy
  | .hbm, ⟨0, _⟩ => ⟨S65536x1024, .f32⟩
  | .hbm, ⟨1, _⟩ => ⟨S16384x1024, .f32⟩
  | .hbm, ⟨2, _⟩ => ⟨S1024, .f32⟩
  | .hbm, ⟨3, _⟩ => ⟨S1024x2560, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S8192, .f32⟩
  | .hbm, ⟨19, _⟩ => ⟨S8192x1, .f32⟩
  | .hbm, ⟨20, _⟩ => ⟨S1x8, .f32⟩
  | .hbm, ⟨21, _⟩ => ⟨S8192x8, .f32⟩
  | .hbm, ⟨22, _⟩ => ⟨S8192x8, .f32⟩
  | .hbm, ⟨23, _⟩ => ⟨S8192x8, .f32⟩
  | .hbm, ⟨24, _⟩ => ⟨S8192x8, .f32⟩
  | .hbm, ⟨25, _⟩ => ⟨S8192x8, .f32⟩
  | .hbm, ⟨26, _⟩ => ⟨S_, .f32⟩
  | .hbm, ⟨27, _⟩ => ⟨S8192x48, .f32⟩
  | .hbm, ⟨28, _⟩ => ⟨S_, .f32⟩
  | .hbm, ⟨29, _⟩ => ⟨S8192x48, .f32⟩
  | .hbm, ⟨30, _⟩ => ⟨S_, .f32⟩
  | .hbm, ⟨31, _⟩ => ⟨S8192x8, .f32⟩
  | .hbm, ⟨32, _⟩ => ⟨S8192x64, .f32⟩
  | .hbm, ⟨33, _⟩ => ⟨S8192x8, .f32⟩
  | .hbm, ⟨34, _⟩ => ⟨S8192x64, .f32⟩
  | .hbm, ⟨35, _⟩ => ⟨S8192x64, .f32⟩
  | .hbm, ⟨36, _⟩ => ⟨S1x8192x1x64, .f32⟩
  | .hbm, ⟨37, _⟩ => ⟨S1x8192x4x64, .f32⟩
  | .hbm, ⟨38, _⟩ => ⟨S8192x256, .f32⟩
  | .hbm, ⟨39, _⟩ => ⟨S1x8192x1x64, .f32⟩
  | .hbm, ⟨40, _⟩ => ⟨S1x8192x4x64, .f32⟩
  | .hbm, ⟨41, _⟩ => ⟨S8192x256, .f32⟩
  | .hbm, ⟨42, _⟩ => ⟨S1x8192x1x64, .f32⟩
  | .hbm, ⟨43, _⟩ => ⟨S1x8192x4x64, .f32⟩
  | .hbm, ⟨44, _⟩ => ⟨S8192x256, .f32⟩
  | .hbm, ⟨45, _⟩ => ⟨S1x1024, .f32⟩
  | .hbm, ⟨46, _⟩ => ⟨S1024x2560, .bf16⟩
  | .hbm, ⟨47, _⟩ => ⟨S64, .i32⟩
  | .hbm, ⟨48, _⟩ => ⟨S64x1, .i32⟩
  | .hbm, ⟨49, _⟩ => ⟨S1x64, .i32⟩
  | .hbm, ⟨50, _⟩ => ⟨S64x64, .i32⟩
  | .hbm, ⟨51, _⟩ => ⟨S64x64, .i32⟩
  | .hbm, ⟨52, _⟩ => ⟨S64x64, .i32⟩
  | .hbm, ⟨53, _⟩ => ⟨S_, .i32⟩
  | .hbm, ⟨54, _⟩ => ⟨S64x64, .i32⟩
  | .hbm, ⟨55, _⟩ => ⟨S64x64, .i32⟩
  | .hbm, ⟨56, _⟩ => ⟨S64x64, .f32⟩
  | .hbm, ⟨57, _⟩ => ⟨S_, .f32⟩
  | .hbm, ⟨58, _⟩ => ⟨S64x64, .f32⟩
  | .hbm, ⟨59, _⟩ => ⟨S64x64, .f32⟩
  | .hbm, ⟨60, _⟩ => ⟨S_, .f32⟩
  | .hbm, ⟨61, _⟩ => ⟨S64x64, .f32⟩
  | .hbm, ⟨62, _⟩ => ⟨S64x64, .f32⟩
  | .hbm, ⟨63, _⟩ => ⟨S4x4, .i32⟩
  | .hbm, ⟨64, _⟩ => ⟨S4x4, .i32⟩
  | .hbm, ⟨65, _⟩ => ⟨S_, .i32⟩
  | .hbm, ⟨66, _⟩ => ⟨S4x4, .i32⟩
  | .hbm, ⟨67, _⟩ => ⟨S4x4, .i32⟩
  | .hbm, ⟨68, _⟩ => ⟨S4x4, .i1⟩
  | .hbm, ⟨69, _⟩ => ⟨S4x4, .f32⟩
  | .hbm, ⟨70, _⟩ => ⟨S64x64, .f32⟩
  | .hbm, ⟨71, _⟩ => ⟨S_, .f32⟩
  | .hbm, ⟨72, _⟩ => ⟨S64x64, .f32⟩
  | .hbm, ⟨73, _⟩ => ⟨S64x64, .f32⟩
  | .hbm, ⟨74, _⟩ => ⟨S4x1x4x1, .f32⟩
  | .hbm, ⟨75, _⟩ => ⟨S1x64x1x64, .f32⟩
  | .hbm, ⟨76, _⟩ => ⟨S4x64x4x64, .f32⟩
  | .hbm, ⟨77, _⟩ => ⟨S4x64x4x64, .f32⟩
  | .hbm, ⟨78, _⟩ => ⟨S4x64x4x64, .f32⟩
  | .hbm, ⟨79, _⟩ => ⟨S256x256, .f32⟩
  | .hbm, ⟨80, _⟩ => ⟨S64x64, .f32⟩
  | .hbm, ⟨81, _⟩ => ⟨S_, .f32⟩
  | .hbm, ⟨82, _⟩ => ⟨S64x64, .f32⟩
  | .hbm, ⟨83, _⟩ => ⟨S64x64, .f32⟩
  | .hbm, ⟨84, _⟩ => ⟨S4x1x4x1, .f32⟩
  | .hbm, ⟨85, _⟩ => ⟨S1x64x1x64, .f32⟩
  | .hbm, ⟨86, _⟩ => ⟨S4x64x4x64, .f32⟩
  | .hbm, ⟨87, _⟩ => ⟨S4x64x4x64, .f32⟩
  | .hbm, ⟨88, _⟩ => ⟨S4x64x4x64, .f32⟩
  | .hbm, ⟨89, _⟩ => ⟨S256x256, .f32⟩
  | .hbm, ⟨90, _⟩ => ⟨S256x512, .f32⟩
  | .hbm, ⟨91, _⟩ => ⟨S256x512, .bf16⟩
  | .hbm, ⟨92, _⟩ => ⟨S81920x512, .bf16⟩
  | .hbm, ⟨93, _⟩ => ⟨S81920x2304, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x2560, .bf16⟩
  | .local _ .vmem, ⟨6, _⟩ => ⟨S256x512, .bf16⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x512, .bf16⟩
  | .local _ .vmem, ⟨14, _⟩ => ⟨S512x512, .bf16⟩
  | .local _ .vmem, ⟨15, _⟩ => ⟨S512x2304, .bf16⟩
  | .local _ .vmem, ⟨16, _⟩ => ⟨S512x2304, .bf16⟩
  | .local _ .vmem, ⟨17, _⟩ => ⟨S512x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_c : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_6 : Ref sig .tc := ⟨.hbm, 57, rfl⟩
abbrev main_v45 : Ref sig .tc := ⟨.hbm, 58, rfl⟩
abbrev main_v46 : Ref sig .tc := ⟨.hbm, 59, rfl⟩
abbrev main_cst_7 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_c_8 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_9 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_10 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75_0 : Ref sig .tc := ⟨.hbm, 92, rfl⟩
abbrev main_v75_1 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c128_i32 : BitVec 32 := 128#32
  let v0 : BitVec 32 := Scalar.subi arg0 c128_i32
  let c0_i32 : BitVec 32 := 0#32
  let v1 : BitVec 32 := Scalar.maxsi v0 c0_i32
  let c0_i32_0 : BitVec 32 := 0#32
  let v2 : BitVec 32 := Scalar.addi c0_i32_0 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c128_i32 : BitVec 32 := 128#32
  let v0 : BitVec 1 := Scalar.cmpi .slt arg0 c128_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c128_i32_3 : BitVec 32 := 128#32
  let v11 : BitVec 32 := Scalar.subi arg0 c128_i32_3
  let c16_i32 : BitVec 32 := 16#32
  let c0_i32_4 : BitVec 32 := 0#32
  let v12 : BitVec 1 := Scalar.cmpi .eq c16_i32 c0_i32_4
  let c1_i32_5 : BitVec 32 := 1#32
  let v13 : BitVec 32 := Scalar.select v12 c1_i32_5 c16_i32
  let v14 : BitVec 32 := Scalar.remsi v11 v13
  let c0_i32_6 : BitVec 32 := 0#32
  let v15 : BitVec 1 := Scalar.cmpi .ne v14 c0_i32_6
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let v19 : BitVec 1 := Scalar.andi v18 v15
  let v20 : BitVec 32 := Scalar.addi v14 v13
  let v21 : BitVec 32 := Scalar.select v19 v20 v14
  let v22 : BitVec 32 := Scalar.select v0 v10 v21
  let c0_i32_9 : BitVec 32 := 0#32
  let c0_i32_10 : BitVec 32 := 0#32
  ![v22.toNat, c0_i32_9.toNat]

def cc0_transform_6 (i : grid0.Coords) : Fin 2 → Nat :=
  let arg0 : BitVec 32 := BitVec.ofNat 32 (i 0).val
  let c128_i32 : BitVec 32 := 128#32
  let v0 : BitVec 1 := Scalar.cmpi .slt arg0 c128_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c128_i32_3 : BitVec 32 := 128#32
  let v11 : BitVec 32 := Scalar.subi arg0 c128_i32_3
  let c16_i32 : BitVec 32 := 16#32
  let c0_i32_4 : BitVec 32 := 0#32
  let v12 : BitVec 1 := Scalar.cmpi .eq c16_i32 c0_i32_4
  let c1_i32_5 : BitVec 32 := 1#32
  let v13 : BitVec 32 := Scalar.select v12 c1_i32_5 c16_i32
  let v14 : BitVec 32 := Scalar.remsi v11 v13
  let c0_i32_6 : BitVec 32 := 0#32
  let v15 : BitVec 1 := Scalar.cmpi .ne v14 c0_i32_6
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let v19 : BitVec 1 := Scalar.andi v18 v15
  let v20 : BitVec 32 := Scalar.addi v14 v13
  let v21 : BitVec 32 := Scalar.select v19 v20 v14
  let v22 : BitVec 32 := Scalar.select v0 v10 v21
  let c0_i32_9 : BitVec 32 := 0#32
  let c0_i32_10 : BitVec 32 := 0#32
  ![v22.toNat, c0_i32_9.toNat]

def cc0_transform_7 (i : grid0.Coords) : Fin 2 → Nat :=
  let arg0 : BitVec 32 := BitVec.ofNat 32 (i 0).val
  let c128_i32 : BitVec 32 := 128#32
  let v0 : BitVec 1 := Scalar.cmpi .slt arg0 c128_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c128_i32_3 : BitVec 32 := 128#32
  let v11 : BitVec 32 := Scalar.subi arg0 c128_i32_3
  let c16_i32 : BitVec 32 := 16#32
  let c0_i32_4 : BitVec 32 := 0#32
  let v12 : BitVec 1 := Scalar.cmpi .eq c16_i32 c0_i32_4
  let c1_i32_5 : BitVec 32 := 1#32
  let v13 : BitVec 32 := Scalar.select v12 c1_i32_5 c16_i32
  let v14 : BitVec 32 := Scalar.remsi v11 v13
  let c0_i32_6 : BitVec 32 := 0#32
  let v15 : BitVec 1 := Scalar.cmpi .ne v14 c0_i32_6
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let v19 : BitVec 1 := Scalar.andi v18 v15
  let v20 : BitVec 32 := Scalar.addi v14 v13
  let v21 : BitVec 32 := Scalar.select v19 v20 v14
  let v22 : BitVec 32 := Scalar.select v0 v10 v21
  let c0_i32_9 : BitVec 32 := 0#32
  let c0_i32_10 : BitVec 32 := 0#32
  ![v22.toNat, c0_i32_9.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2304 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== InProjReferenceIdeal.lean ====
abbrev S65536x1024 : Shape := ⟨2, ![65536, 1024]⟩
abbrev S16384x1024 : Shape := ⟨2, ![16384, 1024]⟩
abbrev S1024 : Shape := ⟨1, ![1024]⟩
abbrev S1024x2560 : Shape := ⟨2, ![1024, 2560]⟩
abbrev S81920x1024 : Shape := ⟨2, ![81920, 1024]⟩
abbrev S_ : Shape := ⟨0, ![]⟩
abbrev S81920 : Shape := ⟨1, ![81920]⟩
abbrev S81920x1 : Shape := ⟨2, ![81920, 1]⟩
abbrev S1x1024 : Shape := ⟨2, ![1, 1024]⟩
abbrev S81920x2560 : Shape := ⟨2, ![81920, 2560]⟩
abbrev S81920x256 : Shape := ⟨2, ![81920, 256]⟩
abbrev S81920x1536 : Shape := ⟨2, ![81920, 1536]⟩
abbrev S81920x768 : Shape := ⟨2, ![81920, 768]⟩
abbrev S2048 : Shape := ⟨1, ![2048]⟩
abbrev S1x2048 : Shape := ⟨2, ![1, 2048]⟩
abbrev S32x2048 : Shape := ⟨2, ![32, 2048]⟩
abbrev S65536 : Shape := ⟨1, ![65536]⟩
abbrev S8192 : Shape := ⟨1, ![8192]⟩
abbrev S1x8192 : Shape := ⟨2, ![1, 8192]⟩
abbrev S2x8192 : Shape := ⟨2, ![2, 8192]⟩
abbrev S16384 : Shape := ⟨1, ![16384]⟩
abbrev S81920x24x64 : Shape := ⟨3, ![81920, 24, 64]⟩
abbrev S8 : Shape := ⟨1, ![8]⟩
abbrev S1x8 : Shape := ⟨2, ![1, 8]⟩
abbrev S81920x8 : Shape := ⟨2, ![81920, 8]⟩
abbrev S81920x1x8 : Shape := ⟨3, ![81920, 1, 8]⟩
abbrev S81920x24x16 : Shape := ⟨3, ![81920, 24, 16]⟩
abbrev S81920x24x8 : Shape := ⟨3, ![81920, 24, 8]⟩
abbrev S81920x24x48 : Shape := ⟨3, ![81920, 24, 48]⟩
abbrev S81920x2304 : Shape := ⟨2, ![81920, 2304]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S81920x4x64 : Shape := ⟨3, ![81920, 4, 64]⟩
abbrev S81920x512 : Shape := ⟨2, ![81920, 512]⟩

abbrev nBuf : Space → Nat
  | .hbm => 109
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S16384x1024, .f32⟩
  | .hbm, ⟨2, _⟩ => ⟨S1024, .f32⟩
  | .hbm, ⟨3, _⟩ => ⟨S1024x2560, .f32⟩
  | .hbm, ⟨4, _⟩ => ⟨S81920x1024, .f32⟩
  | .hbm, ⟨5, _⟩ => ⟨S81920x1024, .f32⟩
  | .hbm, ⟨6, _⟩ => ⟨S_, .f32⟩
  | .hbm, ⟨7, _⟩ => ⟨S81920, .f32⟩
  | .hbm, ⟨8, _⟩ => ⟨S81920x1, .f32⟩
  | .hbm, ⟨9, _⟩ => ⟨S_, .f32⟩
  | .hbm, ⟨10, _⟩ => ⟨S81920x1, .f32⟩
  | .hbm, ⟨11, _⟩ => ⟨S81920x1, .f32⟩
  | .hbm, ⟨12, _⟩ => ⟨S_, .f32⟩
  | .hbm, ⟨13, _⟩ => ⟨S81920x1, .f32⟩
  | .hbm, ⟨14, _⟩ => ⟨S81920x1, .f32⟩
  | .hbm, ⟨15, _⟩ => ⟨S81920x1, .f32⟩
  | .hbm, ⟨16, _⟩ => ⟨S81920x1024, .f32⟩
  | .hbm, ⟨17, _⟩ => ⟨S81920x1024, .f32⟩
  | .hbm, ⟨18, _⟩ => ⟨S1x1024, .f32⟩
  | .hbm, ⟨19, _⟩ => ⟨S81920x1024, .f32⟩
  | .hbm, ⟨20, _⟩ => ⟨S81920x1024, .f32⟩
  | .hbm, ⟨21, _⟩ => ⟨S81920x2560, .f32⟩
  | .hbm, ⟨22, _⟩ => ⟨S81920x256, .f32⟩
  | .hbm, ⟨23, _⟩ => ⟨S81920x1536, .f32⟩
  | .hbm, ⟨24, _⟩ => ⟨S81920x768, .f32⟩
  | .hbm, ⟨25, _⟩ => ⟨S2048, .i32⟩
  | .hbm, ⟨26, _⟩ => ⟨S1x2048, .i32⟩
  | .hbm, ⟨27, _⟩ => ⟨S32x2048, .i32⟩
  | .hbm, ⟨28, _⟩ => ⟨S65536, .i32⟩
  | .hbm, ⟨29, _⟩ => ⟨S8192, .i32⟩
  | .hbm, ⟨30, _⟩ => ⟨S1x8192, .i32⟩
  | .hbm, ⟨31, _⟩ => ⟨S2x8192, .i32⟩
  | .hbm, ⟨32, _⟩ => ⟨S16384, .i32⟩
  | .hbm, ⟨33, _⟩ => ⟨S81920, .i32⟩
  | .hbm, ⟨34, _⟩ => ⟨S81920x24x64, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S_, .f32⟩
  | .hbm, ⟨40, _⟩ => ⟨S8, .f32⟩
  | .hbm, ⟨41, _⟩ => ⟨S8, .f32⟩
  | .hbm, ⟨42, _⟩ => ⟨S8, .f32⟩
  | .hbm, ⟨43, _⟩ => ⟨S_, .f32⟩
  | .hbm, ⟨44, _⟩ => ⟨S8, .f32⟩
  | .hbm, ⟨45, _⟩ => ⟨S8, .f32⟩
  | .hbm, ⟨46, _⟩ => ⟨S_, .f32⟩
  | .hbm, ⟨47, _⟩ => ⟨S8, .f32⟩
  | .hbm, ⟨48, _⟩ => ⟨S8, .f32⟩
  | .hbm, ⟨49, _⟩ => ⟨S81920, .f32⟩
  | .hbm, ⟨50, _⟩ => ⟨S81920x1, .f32⟩
  | .hbm, ⟨51, _⟩ => ⟨S1x8, .f32⟩
  | .hbm, ⟨52, _⟩ => ⟨S81920x8, .f32⟩
  | .hbm, ⟨53, _⟩ => ⟨S81920x8, .f32⟩
  | .hbm, ⟨54, _⟩ => ⟨S81920x8, .f32⟩
  | .hbm, ⟨55, _⟩ => ⟨S81920x8, .f32⟩
  | .hbm, ⟨56, _⟩ => ⟨S81920x1x8, .f32⟩
  | .hbm, ⟨57, _⟩ => ⟨S81920x8, .f32⟩
  | .hbm, ⟨58, _⟩ => ⟨S81920x1x8, .f32⟩
  | .hbm, ⟨59, _⟩ => ⟨S81920x24x16, .f32⟩
  | .hbm, ⟨60, _⟩ => ⟨S81920x24x8, .f32⟩
  | .hbm, ⟨61, _⟩ => ⟨S81920x24x8, .f32⟩
  | .hbm, ⟨62, _⟩ => ⟨S81920x24x8, .f32⟩
  | .hbm, ⟨63, _⟩ => ⟨S81920x24x8, .f32⟩
  | .hbm, ⟨64, _⟩ => ⟨S81920x24x8, .f32⟩
  | .hbm, ⟨65, _⟩ => ⟨S81920x24x8, .f32⟩
  | .hbm, ⟨66, _⟩ => ⟨S81920x24x8, .f32⟩
  | .hbm, ⟨67, _⟩ => ⟨S81920x24x8, .f32⟩
  | .hbm, ⟨68, _⟩ => ⟨S81920x24x8, .f32⟩
  | .hbm, ⟨69, _⟩ => ⟨S81920x24x8, .f32⟩
  | .hbm, ⟨70, _⟩ => ⟨S81920x24x8, .f32⟩
  | .hbm, ⟨71, _⟩ => ⟨S81920x24x8, .f32⟩
  | .hbm, ⟨72, _⟩ => ⟨S81920x24x16, .f32⟩
  | .hbm, ⟨73, _⟩ => ⟨S81920x24x48, .f32⟩
  | .hbm, ⟨74, _⟩ => ⟨S81920x24x64, .f32⟩
  | .hbm, ⟨75, _⟩ => ⟨S81920x1536, .f32⟩
  | .hbm, ⟨76, _⟩ => ⟨S81920x2304, .f32⟩
  | .hbm, ⟨77, _⟩ => ⟨S64, .i32⟩
  | .hbm, ⟨78, _⟩ => ⟨S64x1, .i32⟩
  | .hbm, ⟨79, _⟩ => ⟨S1x64, .i32⟩
  | .hbm, ⟨80, _⟩ => ⟨S64x64, .i32⟩
  | .hbm, ⟨81, _⟩ => ⟨S64x64, .i32⟩
  | .hbm, ⟨82, _⟩ => ⟨S64x64, .i32⟩
  | .hbm, ⟨83, _⟩ => ⟨S_, .i32⟩
  | .hbm, ⟨84, _⟩ => ⟨S64x64, .i32⟩
  | .hbm, ⟨85, _⟩ => ⟨S64x64, .i32⟩
  | .hbm, ⟨86, _⟩ => ⟨S64x64, .f32⟩
  | .hbm, ⟨87, _⟩ => ⟨S_, .f32⟩
  | .hbm, ⟨88, _⟩ => ⟨S64x64, .f32⟩
  | .hbm, ⟨89, _⟩ => ⟨S64x64, .f32⟩
  | .hbm, ⟨90, _⟩ => ⟨S_, .f32⟩
  | .hbm, ⟨91, _⟩ => ⟨S64x64, .f32⟩
  | .hbm, ⟨92, _⟩ => ⟨S64x64, .f32⟩
  | .hbm, ⟨93, _⟩ => ⟨S81920x4x64, .f32⟩
  | .hbm, ⟨94, _⟩ => ⟨S64x64, .f32⟩
  | .hbm, ⟨95, _⟩ => ⟨S_, .f32⟩
  | .hbm, ⟨96, _⟩ => ⟨S64x64, .f32⟩
  | .hbm, ⟨97, _⟩ => ⟨S64x64, .f32⟩
  | .hbm, ⟨98, _⟩ => ⟨S81920x4x64, .f32⟩
  | .hbm, ⟨99, _⟩ => ⟨S81920x256, .f32⟩
  | .hbm, ⟨100, _⟩ => ⟨S64x64, .f32⟩
  | .hbm, ⟨101, _⟩ => ⟨S_, .f32⟩
  | .hbm, ⟨102, _⟩ => ⟨S64x64, .f32⟩
  | .hbm, ⟨103, _⟩ => ⟨S64x64, .f32⟩
  | .hbm, ⟨104, _⟩ => ⟨S81920x4x64, .f32⟩
  | .hbm, ⟨105, _⟩ => ⟨S81920x256, .f32⟩
  | .hbm, ⟨106, _⟩ => ⟨S81920x512, .f32⟩
  | .hbm, ⟨107, _⟩ => ⟨S81920x512, .bf16⟩
  | .hbm, ⟨108, _⟩ => ⟨S81920x2304, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_c : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_cst_6 : Ref sig .tc := ⟨.hbm, 87, rfl⟩
abbrev main_v75 : Ref sig .tc := ⟨.hbm, 88, rfl⟩
abbrev main_v76 : Ref sig .tc := ⟨.hbm, 89, rfl⟩
abbrev main_cst_7 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_cst_8 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_cst_9 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩

abbrev nD : Nat := 1
abbrev τ : Topo := Topo.v7x

variable {F : FTy → Type} [FloatOps F]
-- ==== Router.lean ====
abbrev S81920x1024 : Shape := ⟨2, ![81920, 1024]⟩
abbrev S65536x256 : Shape := ⟨2, ![65536, 256]⟩
abbrev S16384x256 : Shape := ⟨2, ![16384, 256]⟩
abbrev S65536x768 : Shape := ⟨2, ![65536, 768]⟩
abbrev S16384x768 : Shape := ⟨2, ![16384, 768]⟩
abbrev S1024x1024 : Shape := ⟨2, ![1024, 1024]⟩
abbrev S1024 : Shape := ⟨1, ![1024]⟩
abbrev S1024x8 : Shape := ⟨2, ![1024, 8]⟩
abbrev S1x1024 : Shape := ⟨2, ![1, 1024]⟩
abbrev S8x1024 : Shape := ⟨2, ![8, 1024]⟩
abbrev S8x81920 : Shape := ⟨2, ![8, 81920]⟩
abbrev S8x128 : Shape := ⟨2, ![8, 128]⟩
abbrev S512x1024 : Shape := ⟨2, ![512, 1024]⟩
abbrev S512x256 : Shape := ⟨2, ![512, 256]⟩
abbrev S512x768 : Shape := ⟨2, ![512, 768]⟩
abbrev S8x512 : Shape := ⟨2, ![8, 512]⟩
abbrev S256x1024 : Shape := ⟨2, ![256, 1024]⟩
abbrev S768x1024 : Shape := ⟨2, ![768, 1024]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S8x1 : Shape := ⟨2, ![8, 1]⟩
abbrev S8 : Shape := ⟨1, ![8]⟩

abbrev nBuf : Space → Nat
  | .hbm => 15
  | .vmem => 23
  | .smem => 0
  | _ => 0

abbrev bufTy : (tb : Table) → Fin (tcTables nBuf tb) → BufTy
  | .hbm, ⟨0, _⟩ => ⟨S81920x1024, .f32⟩
  | .hbm, ⟨1, _⟩ => ⟨S65536x256, .bf16⟩
  | .hbm, ⟨2, _⟩ => ⟨S16384x256, .bf16⟩
  | .hbm, ⟨3, _⟩ => ⟨S65536x768, .bf16⟩
  | .hbm, ⟨4, _⟩ => ⟨S16384x768, .bf16⟩
  | .hbm, ⟨5, _⟩ => ⟨S1024x1024, .f32⟩
  | .hbm, ⟨6, _⟩ => ⟨S1024, .f32⟩
  | .hbm, ⟨7, _⟩ => ⟨S1024x8, .f32⟩
  | .hbm, ⟨8, _⟩ => ⟨S1024x1024, .bf16⟩
  | .hbm, ⟨9, _⟩ => ⟨S1x1024, .f32⟩
  | .hbm, ⟨10, _⟩ => ⟨S8x1024, .f32⟩
  | .hbm, ⟨11, _⟩ => ⟨S81920x1024, .f32⟩
  | .hbm, ⟨12, _⟩ => ⟨S81920x1024, .bf16⟩
  | .hbm, ⟨13, _⟩ => ⟨S8x81920, .f32⟩
  | .hbm, ⟨14, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x768, .bf16⟩
  | .local _ .vmem, ⟨9, _⟩ => ⟨S512x768, .bf16⟩
  | .local _ .vmem, ⟨10, _⟩ => ⟨S512x768, .bf16⟩
  | .local _ .vmem, ⟨11, _⟩ => ⟨S512x768, .bf16⟩
  | .local _ .vmem, ⟨12, _⟩ => ⟨S1024x1024, .bf16⟩
  | .local _ .vmem, ⟨13, _⟩ => ⟨S1x1024, .f32⟩
  | .local _ .vmem, ⟨14, _⟩ => ⟨S8x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S8x512, .f32⟩
  | .local _ .vmem, ⟨20, _⟩ => ⟨S8x512, .f32⟩
  | .local _ .vmem, ⟨21, _⟩ => ⟨S8x128, .f32⟩
  | .local _ .vmem, ⟨22, _⟩ => ⟨S8x128, .f32⟩
  | _, _ => ⟨S81920x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c128_i32 : BitVec 32 := 128#32
  let v0 : BitVec 32 := Scalar.subi arg0 c128_i32
  let c0_i32 : BitVec 32 := 0#32
  let v1 : BitVec 32 := Scalar.maxsi v0 c0_i32
  let c128_i32_0 : BitVec 32 := 128#32
  let v2 : BitVec 32 := Scalar.addi c128_i32_0 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c128_i32 : BitVec 32 := 128#32
  let v0 : BitVec 32 := Scalar.subi arg0 c128_i32
  let c0_i32 : BitVec 32 := 0#32
  let v1 : BitVec 32 := Scalar.maxsi v0 c0_i32
  let c0_i32_0 : BitVec 32 := 0#32
  let v2 : BitVec 32 := Scalar.addi c0_i32_0 v1
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c128_i32 : BitVec 32 := 128#32
  let v0 : BitVec 32 := Scalar.subi arg0 c128_i32
  let c0_i32 : BitVec 32 := 0#32
  let v1 : BitVec 32 := Scalar.maxsi v0 c0_i32
  let c0_i32_0 : BitVec 32 := 0#32
  let v2 : BitVec 32 := Scalar.addi c0_i32_0 v1
  let c0_i32_1 : BitVec 32 := 0#32
  let c0_i32_2 : BitVec 32 := 0#32
  ![v2.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== RouterReferenceIdeal.lean ====
abbrev S81920x1024 : Shape := ⟨2, ![81920, 1024]⟩
abbrev S65536x256 : Shape := ⟨2, ![65536, 256]⟩
abbrev S16384x256 : Shape := ⟨2, ![16384, 256]⟩
abbrev S65536x768 : Shape := ⟨2, ![65536, 768]⟩
abbrev S16384x768 : Shape := ⟨2, ![16384, 768]⟩
abbrev S1024x1024 : Shape := ⟨2, ![1024, 1024]⟩
abbrev S1024 : Shape := ⟨1, ![1024]⟩
abbrev S1024x8 : Shape := ⟨2, ![1024, 8]⟩
abbrev S81920x256 : Shape := ⟨2, ![81920, 256]⟩
abbrev S81920x768 : Shape := ⟨2, ![81920, 768]⟩
abbrev S_ : Shape := ⟨0, ![]⟩
abbrev S81920 : Shape := ⟨1, ![81920]⟩
abbrev S81920x1 : Shape := ⟨2, ![81920, 1]⟩
abbrev S1x1024 : Shape := ⟨2, ![1, 1024]⟩
abbrev S81920x8 : Shape := ⟨2, ![81920, 8]⟩
abbrev S81920x2 : Shape := ⟨2, ![81920, 2]⟩
abbrev S81920x2x1 : Shape := ⟨3, ![81920, 2, 1]⟩
abbrev S1x1x8 : Shape := ⟨3, ![1, 1, 8]⟩
abbrev S81920x2x8 : Shape := ⟨3, ![81920, 2, 8]⟩
abbrev S81920x1x8 : Shape := ⟨3, ![81920, 1, 8]⟩
abbrev S8x81920 : Shape := ⟨2, ![8, 81920]⟩
abbrev S8 : Shape := ⟨1, ![8]⟩
abbrev S8x1 : Shape := ⟨2, ![8, 1]⟩
abbrev S8x128 : Shape := ⟨2, ![8, 128]⟩

abbrev nBuf : Space → Nat
  | .hbm => 74
  | .vmem => 0
  | .smem => 0
  | _ => 0

abbrev bufTy : (tb : Table) → Fin (tcTables nBuf tb) → BufTy
  | .hbm, ⟨0, _⟩ => ⟨S81920x1024, .f32⟩
  | .hbm, ⟨1, _⟩ => ⟨S65536x256, .bf16⟩
  | .hbm, ⟨2, _⟩ => ⟨S16384x256, .bf16⟩
  | .hbm, ⟨3, _⟩ => ⟨S65536x768, .bf16⟩
  | .hbm, ⟨4, _⟩ => ⟨S16384x768, .bf16⟩
  | .hbm, ⟨5, _⟩ => ⟨S1024x1024, .f32⟩
  | .hbm, ⟨6, _⟩ => ⟨S1024, .f32⟩
  | .hbm, ⟨7, _⟩ => ⟨S1024x8, .f32⟩
  | .hbm, ⟨8, _⟩ => ⟨S81920x256, .bf16⟩
  | .hbm, ⟨9, _⟩ => ⟨S81920x768, .bf16⟩
  | .hbm, ⟨10, _⟩ => ⟨S81920x1024, .bf16⟩
  | .hbm, ⟨11, _⟩ => ⟨S81920x1024, .f32⟩
  | .hbm, ⟨12, _⟩ => ⟨S81920x1024, .f32⟩
  | .hbm, ⟨13, _⟩ => ⟨S81920x1024, .f32⟩
  | .hbm, ⟨14, _⟩ => ⟨S81920x1024, .f32⟩
  | .hbm, ⟨15, _⟩ => ⟨S_, .f32⟩
  | .hbm, ⟨16, _⟩ => ⟨S81920, .f32⟩
  | .hbm, ⟨17, _⟩ => ⟨S81920x1, .f32⟩
  | .hbm, ⟨18, _⟩ => ⟨S_, .f32⟩
  | .hbm, ⟨19, _⟩ => ⟨S81920x1, .f32⟩
  | .hbm, ⟨20, _⟩ => ⟨S81920x1, .f32⟩
  | .hbm, ⟨21, _⟩ => ⟨S_, .f32⟩
  | .hbm, ⟨22, _⟩ => ⟨S81920x1, .f32⟩
  | .hbm, ⟨23, _⟩ => ⟨S81920x1, .f32⟩
  | .hbm, ⟨24, _⟩ => ⟨S81920x1, .f32⟩
  | .hbm, ⟨25, _⟩ => ⟨S81920x1024, .f32⟩
  | .hbm, ⟨26, _⟩ => ⟨S81920x1024, .f32⟩
  | .hbm, ⟨27, _⟩ => ⟨S1x1024, .f32⟩
  | .hbm, ⟨28, _⟩ => ⟨S81920x1024, .f32⟩
  | .hbm, ⟨29, _⟩ => ⟨S81920x1024, .f32⟩
  | .hbm, ⟨30, _⟩ => ⟨S81920x8, .f32⟩
  | .hbm, ⟨31, _⟩ => ⟨S81920x2, .f32⟩
  | .hbm, ⟨32, _⟩ => ⟨S81920x2, .i32⟩
  | .hbm, ⟨33, _⟩ => ⟨S_, .f32⟩
  | .hbm, ⟨34, _⟩ => ⟨S81920, .f32⟩
  | .hbm, ⟨35, _⟩ => ⟨S_, .f32⟩
  | .hbm, ⟨36, _⟩ => ⟨S81920, .f32⟩
  | .hbm, ⟨37, _⟩ => ⟨S81920, .f32⟩
  | .hbm, ⟨38, _⟩ => ⟨S81920x1, .f32⟩
  | .hbm, ⟨39, _⟩ => ⟨S81920x2, .f32⟩
  | .hbm, ⟨40, _⟩ => ⟨S81920x2, .f32⟩
  | .hbm, ⟨41, _⟩ => ⟨S81920x2, .f32⟩
  | .hbm, ⟨42, _⟩ => ⟨S_, .f32⟩
  | .hbm, ⟨43, _⟩ => ⟨S81920, .f32⟩
  | .hbm, ⟨44, _⟩ => ⟨S81920x1, .f32⟩
  | .hbm, ⟨45, _⟩ => ⟨S81920x2, .f32⟩
  | .hbm, ⟨46, _⟩ => ⟨S81920x2, .f32⟩
  | .hbm, ⟨47, _⟩ => ⟨S81920x2x1, .i32⟩
  | .hbm, ⟨48, _⟩ => ⟨S1x1x8, .i32⟩
  | .hbm, ⟨49, _⟩ => ⟨S81920x2x8, .i32⟩
  | .hbm, ⟨50, _⟩ => ⟨S81920x2x8, .i32⟩
  | .hbm, ⟨51, _⟩ => ⟨S81920x2x8, .i1⟩
  | .hbm, ⟨52, _⟩ => ⟨S81920x2x8, .f32⟩
  | .hbm, ⟨53, _⟩ => ⟨S_, .f32⟩
  | .hbm, ⟨54, _⟩ => ⟨S81920x8, .f32⟩
  | .hbm, ⟨55, _⟩ => ⟨S_, .f32⟩
  | .hbm, ⟨56, _⟩ => ⟨S_, .f32⟩
  | .hbm, ⟨57, _⟩ => ⟨S81920x8, .f32⟩
  | .hbm, ⟨58, _⟩ => ⟨S81920x8, .f32⟩
  | .hbm, ⟨59, _⟩ => ⟨S81920x1x8, .f32⟩
  | .hbm, ⟨60, _⟩ => ⟨S81920x2x8, .f32⟩
  | .hbm, ⟨61, _⟩ => ⟨S81920x2x8, .f32⟩
  | .hbm, ⟨62, _⟩ => ⟨S_, .f32⟩
  | .hbm, ⟨63, _⟩ => ⟨S81920x2, .f32⟩
  | .hbm, ⟨64, _⟩ => ⟨S81920x2, .f32⟩
  | .hbm, ⟨65, _⟩ => ⟨S_, .f32⟩
  | .hbm, ⟨66, _⟩ => ⟨S81920x2, .f32⟩
  | .hbm, ⟨67, _⟩ => ⟨S81920x8, .f32⟩
  | .hbm, ⟨68, _⟩ => ⟨S8x81920, .f32⟩
  | .hbm, ⟨69, _⟩ => ⟨S_, .f32⟩
  | .hbm, ⟨70, _⟩ => ⟨S8, .f32⟩
  | .hbm, ⟨71, _⟩ => ⟨S8x1, .f32⟩
  | .hbm, ⟨72, _⟩ => ⟨S8x128, .f32⟩
  | .hbm, ⟨73, _⟩ => ⟨S81920x1024, .bf16⟩
  | _, _ => ⟨S81920x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_values : Ref sig .tc := ⟨.hbm, 31, rfl⟩
abbrev main_indices : Ref sig .tc := ⟨.hbm, 32, rfl⟩
abbrev main_cst_2 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_v31 : Ref sig .tc := ⟨.hbm, 52, rfl⟩
abbrev main_cst_5 : Ref sig .tc := ⟨.hbm, 53, rfl⟩
abbrev main_v32 : Ref sig .tc := ⟨.hbm, 54, rfl⟩
abbrev main_call1_call0_cst : Ref sig .tc := ⟨.hbm, 55, rfl⟩
abbrev main_call1_call0_v0 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_6 : Ref sig .tc := ⟨.hbm, 62, rfl⟩
abbrev main_v38 : Ref sig .tc := ⟨.hbm, 63, rfl⟩
abbrev main_v39 : Ref sig .tc := ⟨.hbm, 64, rfl⟩
abbrev main_cst_7 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_8 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩

abbrev nD : Nat := 1
abbrev τ : Topo := Topo.v7x

variable {F : FTy → Type} [FloatOps F]
-- ==== Proof.Body.lean ====
/- One grid point of the differential attention, executed at any staging memrefs: the run that finds what the
   output block holds afterwards. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 2936000 in
/-- The body's run: from the five input blocks, what it leaves in the output block (the four scratch buffers end at
    some contents), with the triple that says so. -/
def bodyRun (c : Dev nD) (i : grid0.Coords) (arg2 : Memref sig .tc .vmem S4x64 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S128x1 .f32) (harg6 : arg6.IsWhole) (arg7 : Memref sig .tc .vmem S2048x128 .bf16) (harg7 : arg7.IsWhole) (arg8 : Memref sig .tc .vmem S1x128x2048 .bf16) (harg8 : arg8.IsWhole) (arg9 : Memref sig .tc .vmem S2x4x512x512 .f32) (harg9 : arg9.IsWhole) (arg10 : Memref sig .tc .vmem S2x4x512x512 .f32) (harg10 : arg10.IsWhole) (arg11 : Memref sig .tc .vmem S2x2048x512 .bf16) (harg11 : arg11.IsWhole) (arg12 : Memref sig .tc .vmem S2x128x512 .f32) (harg12 : arg12.IsWhole) (hc0 : k0_cond1 = 1#1) (hc1 : k0_cond2 = 1#1)
    (x0 : Vec F S4x64 .f32) (x1 : Vec F S2048x128 .bf16) (x2 : Vec F S2048x128 .bf16) (x3 : Vec F S2048x128 .bf16) (x4 : Vec F S128x1 .f32) :
      { Y : Vec F S2048x128 .bf16 // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare Y ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_diff_attention i arg2 harg2 arg3 harg3 arg4 harg4 arg5 harg5 arg6 harg6 arg7 harg7 arg8 harg8 arg9 harg9 arg10 harg10 arg11 harg11 arg12 harg12) K } := by
    refine ⟨?_, fun E K => ?run⟩
    case run =>
    simp only [cc0_diff_attention_eq_skeleton]; unfold cc0_diff_attention_skel
    simp only [k0_part36_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4
    sl_exec! (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.Attn

end
-- ==== Proof.Tile.lean ====
/-
  What the attention kernel's body leaves in its output block, as a plain function of its input blocks, at any float
  interpretation.  The body handles its 2048 queries in four tiles of 512; every tile is the same function `tile` of
  the tile's queries, all keys and all values.  `bodyRun_val` says that the block the run finds holds the four tiles,
  one under the other.
-/
module

public import proofs.«01_k».proof.Proof.Body
public import Idealize.ShloMosaic.Lib.Pipeline.Value
public import Idealize.ShloMosaic.Lib.Pipeline.ReadBack
public import Idealize.ShloMosaic.Lib.ValueIdx

@[expose] public section

set_option maxRecDepth 16384

noncomputable section

namespace Cert.KernelIdeal.Attn

open Idealize.ShloMosaic Idealize.ShloMosaic.TcCoe Idealize.ShloMosaic.Tactic
open Idealize.ShloMosaic.ValueIdx
open Cert.KernelIdeal.Gen

variable {F : FTy → Type} [FloatOps F]

/-! ## The pieces of a tile -/

theorem rows_inb (u : Fin 4) : ∀ a, (![512 * u.val, 0] : Fin 2 → Nat) a + S512x128.size a ≤ S2048x128.size a := by
  revert u; decide

/-- Rows `512 u … 512 u + 511` of a block. -/
def rows (x : Vec F S2048x128 .bf16) (u : Fin 4) : Vec F S512x128 .bf16 :=
  View.ld (Val := Elt F) x (Rect.unit (s := S2048x128) ![512 * u.val, 0] S512x128.size (rows_inb u))

/-- The lanes of the first component (`< 64`), as the kernel's mask. -/
def laneMask : IVec S512x128 1 :=
  broadcastTo S512x128 (shapeCast S1x128 (cmpi .slt (iota .tc S1x128 32 [1] iota_S1x128_d1_w32) (broadcast S1x128 64#32)) shapeCasts_S1x128_S1x128) broadcasts_S1x128_S512x128

def bzero : FVec F S512x128 .bf16 := broadcast S512x128 (Scalar.ofBits .bf16 0x0000#16)

/-- The queries with the other component's lanes zeroed. -/
def qFst (q : Vec F S512x128 .bf16) : FVec F S512x128 .bf16 := select laneMask (shapeCast S512x128 q shapeCasts_S512x128_S512x128) bzero
def qSnd (q : Vec F S512x128 .bf16) : FVec F S512x128 .bf16 := select laneMask bzero (shapeCast S512x128 q shapeCasts_S512x128_S512x128)

/-- Scores of 512 keys (rows) against the tile's 512 queries (columns). -/
def sc (qm : FVec F S512x128 .bf16) (k : Vec F S512x128 .bf16) : FVec F S512x512 .f32 :=
  matmul dot_S512x128_S512x128_S512x512_1_1_0_0_n_n none (shapeCast S512x128 k shapeCasts_S512x128_S512x128) qm (constant S512x512 .f32 0x00000000#32)

def negRow : FVec F S1x512 .f32 := broadcast S1x512 (Scalar.ofBits .f32 0xFF800000#32)
def zeroRow : FVec F S1x512 .f32 := broadcast S1x512 (Scalar.ofBits .f32 0x00000000#32)

/-- One chunk's keys folded into the running maxima, eight rows of them. -/
def mxStep (mx : FVec F S8x512 .f32) (s : FVec F S512x512 .f32) : FVec F S8x512 .f32 :=
  maximumf mx (multiReduction .maximumf [0] S8x512 (shapeCast S64x8x512 s shapeCasts_S512x512_S64x8x512) 0xFF800000#32 reduces_S64x8x512_S8x512 (.inl rfl) rfl)

/-- The maximum of every query's scores. -/
def mRow (qm : FVec F S512x128 .bf16) (k : Fin 4 → Vec F S512x128 .bf16) : FVec F S1x512 .f32 :=
  maximumf negRow (shapeCast S1x512 (multiReduction .maximumf [0] S512
    (mxStep (mxStep (mxStep (mxStep (broadcast S8x512 (Scalar.ofBits .f32 0xFF800000#32)) (sc qm (k 0))) (sc qm (k 1))) (sc qm (k 2))) (sc qm (k 3)))
    0xFF800000#32 reduces_S8x512_S512 (.inl rfl) rfl) shapeCasts_S512_S1x512)

/-- The factor the earlier keys' sums are rescaled by: there are none, so the power of two of `-∞ - m`. -/
def alpha (m : FVec F S1x512 .f32) : FVec F S1x512 .f32 := exp2 (subf negRow m)

/-- A chunk of scores as the scratch buffer hands it back. -/
def back (s : FVec F S512x512 .f32) : FVec F S512x512 .f32 :=
  shapeCast S512x512 (shapeCast S1x1x512x512 s shapeCasts_S512x512_S1x1x512x512) shapeCasts_S1x1x512x512_S512x512

/-- A chunk's unnormalised probabilities. -/
def ex (m : FVec F S1x512 .f32) (s : FVec F S512x512 .f32) : FVec F S512x512 .f32 :=
  exp2 (subf (back s) (broadcastTo S512x512 m broadcasts_S1x512_S512x512))

def lsStep (ls : FVec F S8x512 .f32) (p : FVec F S512x512 .f32) : FVec F S8x512 .f32 :=
  addf ls (multiReduction .add [0] S8x512 (shapeCast S64x8x512 p shapeCasts_S512x512_S64x8x512) 0x00000000#32 reduces_S64x8x512_S8x512 (.inl rfl) rfl)

/-- Every query's sum of unnormalised probabilities. -/
def lRow (m : FVec F S1x512 .f32) (qm : FVec F S512x128 .bf16) (k : Fin 4 → Vec F S512x128 .bf16) : FVec F S1x512 .f32 :=
  addf (mulf (alpha m) zeroRow) (shapeCast S1x512 (multiReduction .add [0] S512
    (lsStep (lsStep (lsStep (lsStep (broadcast S8x512 (Scalar.ofBits .f32 0x00000000#32)) (ex m (sc qm (k 0)))) (ex m (sc qm (k 1)))) (ex m (sc qm (k 2)))) (ex m (sc qm (k 3))))
    0x00000000#32 reduces_S8x512_S512 (.inl rfl) rfl) shapeCasts_S512_S1x512)

/-- A chunk's probabilities as they are stored. -/
def pPiece (m : FVec F S1x512 .f32) (s : FVec F S512x512 .f32) : FVec F S1x512x512 .bf16 :=
  shapeCast S1x512x512 (truncf .bf16 (ex m s) bitsLt_bf16_f32) shapeCasts_S512x512_S1x512x512

/-- Four chunks of one component, as one array. -/
def pCat (p : Fin 4 → FVec F S1x512x512 .bf16) : Vec F S1x2048x512 .bf16 :=
  fun y => p ⟨(y 1).val / 512, by have : (y 1).val < 2048 := (y 1).isLt; omega⟩ (ix3 (0 : Fin 1) (⟨(y 1).val % 512, by omega⟩ : Fin 512) (y 2 : Fin 512))

def vPiece (v : Vec F S512x128 .bf16) : FVec F S1x128x512 .bf16 :=
  shapeCast S1x128x512 (truncf .bf16 (transpose S128x512 [1, 0] (extf .f32 (shapeCast S512x128 v shapeCasts_S512x128_S512x128) bitsLt_bf16_f32) transposes_S512x128_p1_0_S128x512) bitsLt_bf16_f32) shapeCasts_S128x512_S1x128x512

/-- The values transposed, four chunks side by side. -/
def vCat (v : Fin 4 → Vec F S512x128 .bf16) : Vec F S1x128x2048 .bf16 :=
  fun y => vPiece (v ⟨(y 2).val / 512, by have : (y 2).val < 2048 := (y 2).isLt; omega⟩) (ix3 (0 : Fin 1) (y 1 : Fin 128) (⟨(y 2).val % 512, by omega⟩ : Fin 512))

/-- The accumulator's zeros, one component of them. -/
def accZero : Vec F S1x128x512 .f32 := fun _ => Scalar.ofBits .f32 0x00000000#32

/-- The values weighted by the unnormalised probabilities, one component. -/
def acc (m : FVec F S1x512 .f32) (v : Fin 4 → Vec F S512x128 .bf16) (p : Fin 4 → FVec F S1x512x512 .bf16) : FVec F S1x128x512 .f32 :=
  shapeCast S1x128x512 (addf (mulf (broadcastTo S128x512 (alpha m) broadcasts_S1x512_S128x512) (shapeCast S128x512 accZero shapeCasts_S1x128x512_S128x512))
    (matmul dot_S128x2048_S2048x512_S128x512_1_0_0_1_n_n none (shapeCast S128x2048 (vCat v) shapeCasts_S1x128x2048_S128x2048) (shapeCast S2048x512 (pCat p) shapeCasts_S1x2048x512_S2048x512) (constant S128x512 .f32 0x00000000#32))) shapeCasts_S128x512_S1x128x512

def normed (l : FVec F S1x512 .f32) (a : FVec F S1x128x512 .f32) : FVec F S128x512 .f32 :=
  mulf (shapeCast S128x512 a shapeCasts_S1x128x512_S128x512) (broadcastTo S128x512 (divf (broadcast S1x512 (Scalar.ofBits .f32 0x3F800000#32)) l) broadcasts_S1x512_S128x512)

/-- The difference of the two components. -/
def diff (lam : FVec F S1x1 .f32) (a b : FVec F S128x512 .f32) : FVec F S128x512 .f32 :=
  subf a (mulf (broadcastTo S128x512 lam broadcasts_S1x1_S128x512) b)

/-- Normalised by the root of the mean square, times the gain, times `1 - lam_init`, transposed back. -/
def fin (gain : FVec F S128x1 .f32) (o : FVec F S128x512 .f32) : FVec F S512x128 .bf16 :=
  truncf .bf16 (transpose S512x128 [1, 0]
    (mulf (mulf (mulf o (broadcastTo S128x512 (rsqrt (addf (divf (shapeCast S1x512 (multiReduction .add [0] S512 (mulf o o) 0x00000000#32 reduces_S128x512_S512 (.inl rfl) rfl) shapeCasts_S512_S1x512)
        (broadcast S1x512 (Scalar.ofBits .f32 0x43000000#32))) (broadcast S1x512 (Scalar.ofBits .f32 0x3727C5AC#32)))) broadcasts_S1x512_S128x512))
      (broadcastTo S128x512 gain broadcasts_S128x1_S128x512)) (broadcast S128x512 (Scalar.ofBits .f32 0x3F4CCCCD#32))) transposes_S128x512_p1_0_S512x128) bitsLt_bf16_f32

/-- One component of a tile: the normalised weighted values. -/
def comp (qm : FVec F S512x128 .bf16) (k v : Fin 4 → Vec F S512x128 .bf16) : FVec F S128x512 .f32 :=
  normed (lRow (mRow qm k) qm k) (acc (mRow qm k) v ![pPiece (mRow qm k) (sc qm (k 0)), pPiece (mRow qm k) (sc qm (k 1)), pPiece (mRow qm k) (sc qm (k 2)), pPiece (mRow qm k) (sc qm (k 3))])

/-- The difference's weight, from its four vectors. -/
def lamOf (x0 : Vec F S4x64 .f32) : FVec F S1x1 .f32 := k0_pay7 x0

/-- One tile of the output block. -/
def tile (x0 : Vec F S4x64 .f32) (x1 x2 x3 : Vec F S2048x128 .bf16) (x4 : Vec F S128x1 .f32) (u : Fin 4) : FVec F S512x128 .bf16 :=
  fin (shapeCast S128x1 x4 shapeCasts_S128x1_S128x1) (diff (lamOf x0) (comp (qFst (rows x1 u)) (rows x2) (rows x3)) (comp (qSnd (rows x1 u)) (rows x2) (rows x3)))

/-- The output block: the four tiles one under the other. -/
def block (x0 : Vec F S4x64 .f32) (x1 x2 x3 : Vec F S2048x128 .bf16) (x4 : Vec F S128x1 .f32) : Vec F S2048x128 .bf16 :=
  fun y => tile x0 x1 x2 x3 x4 ⟨(y 0).val / 512, by have : (y 0).val < 2048 := (y 0).isLt; omega⟩ (ix2 (⟨(y 0).val % 512, by omega⟩ : Fin 512) (y 1 : Fin 128))

end Cert.KernelIdeal.Attn

end
-- ==== Proof.BodyVal.lean ====
/-
  The block the body's run finds, read as `block`: the loads the run states over its own stores are read back, and what
  is left is `tile` word for word.
-/
module

public import proofs.«01_k».proof.Proof.Tile

@[expose] public section

set_option maxRecDepth 16384

noncomputable section

namespace Cert.KernelIdeal.Attn

open Idealize.ShloMosaic Idealize.ShloMosaic.TcCoe Idealize.ShloMosaic.Tactic
open Idealize.ShloMosaic.ValueIdx
open Cert.KernelIdeal.Gen

variable {F : FTy → Type} [FloatOps F]

/-! ## Loads of the input blocks -/

theorem ld_rows (x : Vec F S2048x128 .bf16) (u : Fin 4) (off : Fin 2 → Nat) (inb : ∀ a, off a + S512x128.size a ≤ S2048x128.size a)
    (h : off = ![512 * u.val, 0]) :
    View.ld (Val := Elt F) x (Rect.unit (s := S2048x128) off S512x128.size inb) = rows x u := by
  subst h
  rfl

/-! ## Loads read back from the scratch buffers -/

section
variable {κ : Kind} {sp : Space}

/-- The probabilities' buffer after both components' four chunks are stored. -/
def pBuf (a b : Fin 4 → FVec F S1x512x512 .bf16) : Vec F S2x2048x512 .bf16 :=
  fun y => (if (y 0).val = 0 then pCat a else pCat b) (ix3 (0 : Fin 1) (y 1 : Fin 2048) (y 2 : Fin 512))

theorem pBuf_piece (a b : Fin 4 → FVec F S1x512x512 .bf16) (c : Fin 2) (u : Fin 4)
    (off : Fin 3 → Nat) (inb : ∀ d, off d + S1x512x512.size d ≤ S2x2048x512.size d) (h : off = ![c.val, 512 * u.val, 0])
    (w : FVec F S1x512x512 .bf16) (hw : (if c.val = 0 then a u else b u) = w)
    (x : (Rect.unit (s := S2x2048x512) off S1x512x512.size inb).shape.Idx) :
    w x = pBuf a b ((Rect.unit (s := S2x2048x512) off S1x512x512.size inb).emb x) := by
  subst h hw
  have e0 : (((Rect.unit (s := S2x2048x512) ![c.val, 512 * u.val, 0] S1x512x512.size inb).emb x) 0).val = c.val := by
    have : (x 0).val < 1 := (x 0).isLt
    show c.val + 1 * (x 0).val = c.val; omega
  have e1 : (((Rect.unit (s := S2x2048x512) ![c.val, 512 * u.val, 0] S1x512x512.size inb).emb x) 1).val = 512 * u.val + (x 1).val := by
    show 512 * u.val + 1 * (x 1).val = _; omega
  have e2 : (((Rect.unit (s := S2x2048x512) ![c.val, 512 * u.val, 0] S1x512x512.size inb).emb x) 2).val = (x 2).val := by
    show 0 + 1 * (x 2).val = _; omega
  have hx1 : (x 1).val < 512 := (x 1).isLt
  have hx0 : (x 0).val < 1 := (x 0).isLt
  have hi : x = (ix3 (0 : Fin 1) (⟨((ix3 (0 : Fin 1) (((Rect.unit (s := S2x2048x512) ![c.val, 512 * u.val, 0] S1x512x512.size inb).emb x) 1 : Fin 2048) (((Rect.unit (s := S2x2048x512) ![c.val, 512 * u.val, 0] S1x512x512.size inb).emb x) 2 : Fin 512) : S1x2048x512.Idx) 1).val % 512, by omega⟩ : Fin 512) (((Rect.unit (s := S2x2048x512) ![c.val, 512 * u.val, 0] S1x512x512.size inb).emb x) 2 : Fin 512) : S1x512x512.Idx) := by
    funext d
    fin_cases d
    · exact Fin.ext (show (x 0).val = 0 by omega)
    · refine Fin.ext ?_
      show (x 1).val = (((Rect.unit (s := S2x2048x512) ![c.val, 512 * u.val, 0] S1x512x512.size inb).emb x) 1).val % 512
      omega
    · exact Fin.ext e2.symm
  have hu : (⟨(((Rect.unit (s := S2x2048x512) ![c.val, 512 * u.val, 0] S1x512x512.size inb).emb x) 1).val / 512, by omega⟩ : Fin 4) = u :=
    Fin.ext (show _ / 512 = u.val by omega)
  unfold pBuf
  rw [e0]
  split
  · show a u x = a _ _
    exact congr (congrArg a hu.symm) hi
  · show b u x = b _ _
    exact congr (congrArg b hu.symm) hi

/-- Reading component `c`'s 2048 rows after the eight stores. -/
theorem read_p (v : View sig κ sp S2x2048x512 .bf16) (a0 a1 a2 a3 b0 b1 b2 b3 : FVec F S1x512x512 .bf16) (L : List (View.Piece (Elt F) S2x2048x512 .bf16))
    (c : Fin 2) (off : Fin 3 → Nat) (inb : ∀ d, off d + S1x2048x512.size d ≤ S2x2048x512.size d) (h : off = ![c.val, 0, 0])
    (i7 i6 i5 i4 i3 i2 i1 i0) :
    v.readCov (⟨Rect.unit (s := S2x2048x512) ![1, 1536, 0] S1x512x512.size i7, b3⟩ :: ⟨Rect.unit (s := S2x2048x512) ![0, 1536, 0] S1x512x512.size i6, a3⟩ ::
      ⟨Rect.unit (s := S2x2048x512) ![1, 1024, 0] S1x512x512.size i5, b2⟩ :: ⟨Rect.unit (s := S2x2048x512) ![0, 1024, 0] S1x512x512.size i4, a2⟩ ::
      ⟨Rect.unit (s := S2x2048x512) ![1, 512, 0] S1x512x512.size i3, b1⟩ :: ⟨Rect.unit (s := S2x2048x512) ![0, 512, 0] S1x512x512.size i2, a1⟩ ::
      ⟨Rect.unit (s := S2x2048x512) ![1, 0, 0] S1x512x512.size i1, b0⟩ :: ⟨Rect.unit (s := S2x2048x512) ![0, 0, 0] S1x512x512.size i0, a0⟩ :: L)
      (Rect.unit (s := S2x2048x512) off S1x2048x512.size inb).toLoadRect = if c.val = 0 then pCat ![a0, a1, a2, a3] else pCat ![b0, b1, b2, b3] := by
  subst h
  rw [View.readCov_eq_canon']
  funext j
  have key : ∀ y : S2x2048x512.Idx, View.canon ([⟨Rect.unit (s := S2x2048x512) ![1, 1536, 0] S1x512x512.size i7, b3⟩, ⟨Rect.unit (s := S2x2048x512) ![0, 1536, 0] S1x512x512.size i6, a3⟩,
      ⟨Rect.unit (s := S2x2048x512) ![1, 1024, 0] S1x512x512.size i5, b2⟩, ⟨Rect.unit (s := S2x2048x512) ![0, 1024, 0] S1x512x512.size i4, a2⟩,
      ⟨Rect.unit (s := S2x2048x512) ![1, 512, 0] S1x512x512.size i3, b1⟩, ⟨Rect.unit (s := S2x2048x512) ![0, 512, 0] S1x512x512.size i2, a1⟩,
      ⟨Rect.unit (s := S2x2048x512) ![1, 0, 0] S1x512x512.size i1, b0⟩, ⟨Rect.unit (s := S2x2048x512) ![0, 0, 0] S1x512x512.size i0, a0⟩] ++ L) y = pBuf ![a0, a1, a2, a3] ![b0, b1, b2, b3] y := by
    intro y
    refine View.canon_append_of_piecesOf (pBuf ![a0, a1, a2, a3] ![b0, b1, b2, b3]) L _ ?_ y ?_
    · exact ⟨fun x => pBuf_piece ![a0, a1, a2, a3] ![b0, b1, b2, b3] 1 3 _ i7 rfl _ rfl x, fun x => pBuf_piece ![a0, a1, a2, a3] ![b0, b1, b2, b3] 0 3 _ i6 rfl _ rfl x, fun x => pBuf_piece ![a0, a1, a2, a3] ![b0, b1, b2, b3] 1 2 _ i5 rfl _ rfl x, fun x => pBuf_piece ![a0, a1, a2, a3] ![b0, b1, b2, b3] 0 2 _ i4 rfl _ rfl x,
        fun x => pBuf_piece ![a0, a1, a2, a3] ![b0, b1, b2, b3] 1 1 _ i3 rfl _ rfl x, fun x => pBuf_piece ![a0, a1, a2, a3] ![b0, b1, b2, b3] 0 1 _ i2 rfl _ rfl x, fun x => pBuf_piece ![a0, a1, a2, a3] ![b0, b1, b2, b3] 1 0 _ i1 rfl _ rfl x, fun x => pBuf_piece ![a0, a1, a2, a3] ![b0, b1, b2, b3] 0 0 _ i0 rfl _ rfl x, trivial⟩
    · have h0 : (y 0).val < 2 := (y 0).isLt
      have h1 : (y 1).val < 2048 := (y 1).isLt
      have h2 : (y 2).val < 512 := (y 2).isLt
      simp only [List.mem_cons, List.not_mem_nil, or_false, exists_eq_or_imp, exists_eq_left, Rect.mem_set_unit, Fin.forall_fin_succ, Fin.forall_fin_zero_pi]
      simp
      omega
  refine (key _).trans ?_
  unfold pBuf
  have e0 : (((Rect.unit (s := S2x2048x512) ![c.val, 0, 0] S1x2048x512.size inb).toLoadRect.idx j) 0).val = c.val := by
    have : (j 0).val < 1 := (j 0).isLt
    show c.val + 1 * (j 0).val = c.val; omega
  rw [e0]
  have hj : (ix3 (0 : Fin 1) (((Rect.unit (s := S2x2048x512) ![c.val, 0, 0] S1x2048x512.size inb).toLoadRect.idx j) 1 : Fin 2048) (((Rect.unit (s := S2x2048x512) ![c.val, 0, 0] S1x2048x512.size inb).toLoadRect.idx j) 2 : Fin 512) : S1x2048x512.Idx) = j := by
    have hj0 : (j 0).val < 1 := (j 0).isLt
    funext d
    fin_cases d
    · exact Fin.ext (show 0 = (j 0).val by omega)
    · exact Fin.ext (show 0 + 1 * (j 1).val = (j 1).val by omega)
    · exact Fin.ext (show 0 + 1 * (j 2).val = (j 2).val by omega)
  exact congrArg _ hj

/-- Reading the first component's 2048 rows, -/
theorem read_p0 (v : View sig κ sp S2x2048x512 .bf16) (a0 a1 a2 a3 b0 b1 b2 b3 : FVec F S1x512x512 .bf16) (L : List (View.Piece (Elt F) S2x2048x512 .bf16))
    (inb : ∀ d, (![0, 0, 0] : Fin 3 → Nat) d + S1x2048x512.size d ≤ S2x2048x512.size d) (i7 i6 i5 i4 i3 i2 i1 i0) :
    v.readCov (⟨Rect.unit (s := S2x2048x512) ![1, 1536, 0] S1x512x512.size i7, b3⟩ :: ⟨Rect.unit (s := S2x2048x512) ![0, 1536, 0] S1x512x512.size i6, a3⟩ ::
      ⟨Rect.unit (s := S2x2048x512) ![1, 1024, 0] S1x512x512.size i5, b2⟩ :: ⟨Rect.unit (s := S2x2048x512) ![0, 1024, 0] S1x512x512.size i4, a2⟩ ::
      ⟨Rect.unit (s := S2x2048x512) ![1, 512, 0] S1x512x512.size i3, b1⟩ :: ⟨Rect.unit (s := S2x2048x512) ![0, 512, 0] S1x512x512.size i2, a1⟩ ::
      ⟨Rect.unit (s := S2x2048x512) ![1, 0, 0] S1x512x512.size i1, b0⟩ :: ⟨Rect.unit (s := S2x2048x512) ![0, 0, 0] S1x512x512.size i0, a0⟩ :: L)
      (Rect.unit (s := S2x2048x512) ![0, 0, 0] S1x2048x512.size inb).toLoadRect = pCat ![a0, a1, a2, a3] :=
  read_p v a0 a1 a2 a3 b0 b1 b2 b3 L 0 _ inb rfl i7 i6 i5 i4 i3 i2 i1 i0

/-- and the second's. -/
theorem read_p1 (v : View sig κ sp S2x2048x512 .bf16) (a0 a1 a2 a3 b0 b1 b2 b3 : FVec F S1x512x512 .bf16) (L : List (View.Piece (Elt F) S2x2048x512 .bf16))
    (inb : ∀ d, (![1, 0, 0] : Fin 3 → Nat) d + S1x2048x512.size d ≤ S2x2048x512.size d) (i7 i6 i5 i4 i3 i2 i1 i0) :
    v.readCov (⟨Rect.unit (s := S2x2048x512) ![1, 1536, 0] S1x512x512.size i7, b3⟩ :: ⟨Rect.unit (s := S2x2048x512) ![0, 1536, 0] S1x512x512.size i6, a3⟩ ::
      ⟨Rect.unit (s := S2x2048x512) ![1, 1024, 0] S1x512x512.size i5, b2⟩ :: ⟨Rect.unit (s := S2x2048x512) ![0, 1024, 0] S1x512x512.size i4, a2⟩ ::
      ⟨Rect.unit (s := S2x2048x512) ![1, 512, 0] S1x512x512.size i3, b1⟩ :: ⟨Rect.unit (s := S2x2048x512) ![0, 512, 0] S1x512x512.size i2, a1⟩ ::
      ⟨Rect.unit (s := S2x2048x512) ![1, 0, 0] S1x512x512.size i1, b0⟩ :: ⟨Rect.unit (s := S2x2048x512) ![0, 0, 0] S1x512x512.size i0, a0⟩ :: L)
      (Rect.unit (s := S2x2048x512) ![1, 0, 0] S1x2048x512.size inb).toLoadRect = pCat ![b0, b1, b2, b3] :=
  read_p v a0 a1 a2 a3 b0 b1 b2 b3 L 1 _ inb rfl i7 i6 i5 i4 i3 i2 i1 i0

theorem vPiece_piece (w : Fin 4 → Vec F S512x128 .bf16) (u : Fin 4)
    (off : Fin 3 → Nat) (inb : ∀ d, off d + S1x128x512.size d ≤ S1x128x2048.size d) (h : off = ![0, 0, 512 * u.val])
    (x : (Rect.unit (s := S1x128x2048) off S1x128x512.size inb).shape.Idx) :
    vPiece (w u) x = vCat w ((Rect.unit (s := S1x128x2048) off S1x128x512.size inb).emb x) := by
  subst h
  have hx0 : (x 0).val < 1 := (x 0).isLt
  have hx2 : (x 2).val < 512 := (x 2).isLt
  have e1 : (((Rect.unit (s := S1x128x2048) ![0, 0, 512 * u.val] S1x128x512.size inb).emb x) 1).val = (x 1).val := by
    show 0 + 1 * (x 1).val = _; omega
  have e2 : (((Rect.unit (s := S1x128x2048) ![0, 0, 512 * u.val] S1x128x512.size inb).emb x) 2).val = 512 * u.val + (x 2).val := by
    show 512 * u.val + 1 * (x 2).val = _; omega
  have hi : x = (ix3 (0 : Fin 1) (((Rect.unit (s := S1x128x2048) ![0, 0, 512 * u.val] S1x128x512.size inb).emb x) 1 : Fin 128)
      (⟨(((Rect.unit (s := S1x128x2048) ![0, 0, 512 * u.val] S1x128x512.size inb).emb x) 2).val % 512, by omega⟩ : Fin 512) : S1x128x512.Idx) := by
    funext d
    fin_cases d
    · exact Fin.ext (show (x 0).val = 0 by omega)
    · exact Fin.ext e1.symm
    · refine Fin.ext ?_
      show (x 2).val = (((Rect.unit (s := S1x128x2048) ![0, 0, 512 * u.val] S1x128x512.size inb).emb x) 2).val % 512
      omega
  have hu : (⟨(((Rect.unit (s := S1x128x2048) ![0, 0, 512 * u.val] S1x128x512.size inb).emb x) 2).val / 512, by omega⟩ : Fin 4) = u :=
    Fin.ext (show _ / 512 = u.val by omega)
  show vPiece (w u) x = vPiece (w _) _
  exact congr (congrArg (fun z => vPiece (w z)) hu.symm) hi

/-- Reading the transposed values after the four stores. -/
theorem read_v (v : View sig κ sp S1x128x2048 .bf16) (w : Fin 4 → Vec F S512x128 .bf16)
    (off : Fin 3 → Nat) (inb : ∀ d, off d + S1x128x2048.size d ≤ S1x128x2048.size d) (h : off = ![0, 0, 0]) (i3 i2 i1 i0) :
    v.readCov [⟨Rect.unit (s := S1x128x2048) ![0, 0, 1536] S1x128x512.size i3, vPiece (w 3)⟩, ⟨Rect.unit (s := S1x128x2048) ![0, 0, 1024] S1x128x512.size i2, vPiece (w 2)⟩,
      ⟨Rect.unit (s := S1x128x2048) ![0, 0, 512] S1x128x512.size i1, vPiece (w 1)⟩, ⟨Rect.unit (s := S1x128x2048) ![0, 0, 0] S1x128x512.size i0, vPiece (w 0)⟩]
      (Rect.unit (s := S1x128x2048) off S1x128x2048.size inb).toLoadRect = vCat w := by
  subst h
  rw [View.readCov_eq_canon']
  funext j
  refine (View.canon_append_of_piecesOf (vCat w) [] [_, _, _, _] ?_ _ ?_).trans ?_
  · exact ⟨fun x => vPiece_piece w 3 _ i3 rfl x, fun x => vPiece_piece w 2 _ i2 rfl x, fun x => vPiece_piece w 1 _ i1 rfl x, fun x => vPiece_piece w 0 _ i0 rfl x, trivial⟩
  · generalize (Rect.unit (s := S1x128x2048) ![0, 0, 0] S1x128x2048.size inb).toLoadRect.idx j = y
    have h0 : (y 0).val < 1 := (y 0).isLt
    have h1 : (y 1).val < 128 := (y 1).isLt
    have h2 : (y 2).val < 2048 := (y 2).isLt
    simp only [List.mem_cons, List.not_mem_nil, or_false, exists_eq_or_imp, exists_eq_left, Rect.mem_set_unit, Fin.forall_fin_succ, Fin.forall_fin_zero_pi]
    simp
    omega
  · congr 1
    funext d
    fin_cases d
    · exact Fin.ext (show 0 + 1 * (j 0).val = (j 0).val by omega)
    · exact Fin.ext (show 0 + 1 * (j 1).val = (j 1).val by omega)
    · exact Fin.ext (show 0 + 1 * (j 2).val = (j 2).val by omega)

theorem block_piece (x0 : Vec F S4x64 .f32) (x1 x2 x3 : Vec F S2048x128 .bf16) (x4 : Vec F S128x1 .f32) (u : Fin 4)
    (off : Fin 2 → Nat) (inb : ∀ d, off d + S512x128.size d ≤ S2048x128.size d) (h : off = ![512 * u.val, 0])
    (w : FVec F S512x128 .bf16) (hw : w = tile x0 x1 x2 x3 x4 u)
    (x : (Rect.unit (s := S2048x128) off S512x128.size inb).shape.Idx) :
    w x = block x0 x1 x2 x3 x4 ((Rect.unit (s := S2048x128) off S512x128.size inb).emb x) := by
  subst h hw
  have hx0 : (x 0).val < 512 := (x 0).isLt
  have e0 : (((Rect.unit (s := S2048x128) ![512 * u.val, 0] S512x128.size inb).emb x) 0).val = 512 * u.val + (x 0).val := by
    show 512 * u.val + 1 * (x 0).val = _; omega
  have e1 : (((Rect.unit (s := S2048x128) ![512 * u.val, 0] S512x128.size inb).emb x) 1).val = (x 1).val := by
    show 0 + 1 * (x 1).val = _; omega
  have hi : x = (ix2 (⟨(((Rect.unit (s := S2048x128) ![512 * u.val, 0] S512x128.size inb).emb x) 0).val % 512, by omega⟩ : Fin 512)
      (((Rect.unit (s := S2048x128) ![512 * u.val, 0] S512x128.size inb).emb x) 1 : Fin 128) : S512x128.Idx) := by
    funext d
    fin_cases d
    · refine Fin.ext ?_
      show (x 0).val = (((Rect.unit (s := S2048x128) ![512 * u.val, 0] S512x128.size inb).emb x) 0).val % 512
      omega
    · exact Fin.ext e1.symm
  have hu : (⟨(((Rect.unit (s := S2048x128) ![512 * u.val, 0] S512x128.size inb).emb x) 0).val / 512, by omega⟩ : Fin 4) = u :=
    Fin.ext (show _ / 512 = u.val by omega)
  show tile x0 x1 x2 x3 x4 u x = tile x0 x1 x2 x3 x4 _ _
  exact congr (congrArg (tile x0 x1 x2 x3 x4) hu.symm) hi

end

/-! ## The printed offsets -/

theorem off1 : k0_off1 = ![512 * (1 : Fin 4).val, 0] := by decide +kernel
theorem off5 : k0_off5 = ![512 * (2 : Fin 4).val, 0] := by decide +kernel
theorem off4 : k0_off4 = ![512 * (0 : Fin 4).val, 0] := by decide +kernel
theorem off8 : k0_off8 = ![512 * (1 : Fin 4).val, 0] := by decide +kernel
theorem off7 : k0_off7 = ![0, 0, 0] := by decide +kernel
theorem off3 : k0_off3 = ![0, 0, 0] := by decide +kernel

/-! ## The block -/

set_option maxHeartbeats 4000000 in
/-- What the run leaves in the output block is the four tiles. -/
theorem bodyRun_val (c : Dev nD) (i : grid0.Coords) (arg2 : Memref sig .tc .vmem S4x64 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S128x1 .f32) (harg6 : arg6.IsWhole) (arg7 : Memref sig .tc .vmem S2048x128 .bf16) (harg7 : arg7.IsWhole) (arg8 : Memref sig .tc .vmem S1x128x2048 .bf16) (harg8 : arg8.IsWhole) (arg9 : Memref sig .tc .vmem S2x4x512x512 .f32) (harg9 : arg9.IsWhole) (arg10 : Memref sig .tc .vmem S2x4x512x512 .f32) (harg10 : arg10.IsWhole) (arg11 : Memref sig .tc .vmem S2x2048x512 .bf16) (harg11 : arg11.IsWhole) (arg12 : Memref sig .tc .vmem S2x128x512 .f32) (harg12 : arg12.IsWhole) (hc0 : k0_cond1 = 1#1) (hc1 : k0_cond2 = 1#1)
    (x0 : Vec F S4x64 .f32) (x1 : Vec F S2048x128 .bf16) (x2 : Vec F S2048x128 .bf16) (x3 : Vec F S2048x128 .bf16) (x4 : Vec F S128x1 .f32) :
    (bodyRun c i arg2 harg2 arg3 harg3 arg4 harg4 arg5 harg5 arg6 harg6 arg7 harg7 arg8 harg8 arg9 harg9 arg10 harg10 arg11 harg11 arg12 harg12 hc0 hc1 x0 x1 x2 x3 x4).1
      = block x0 x1 x2 x3 x4 := by
  unfold bodyRun
  dsimp only
  rw [View.read_writes_junk_eq_canon]
  sl_unfold_run_names
  simp only [View.readAt_eq_ld, Memref.IsWhole.read_unread, ld_rows _ 1 _ _ off1, ld_rows _ 2 _ _ off5, ld_rows _ 0 ![0, 0] _ rfl, ld_rows _ 1 ![512, 0] _ rfl, ld_rows _ 2 ![1024, 0] _ rfl, ld_rows _ 3 ![1536, 0] _ rfl]
  simp only [show ∀ z : Vec F S512x128 .bf16, k0_pay3 z = vPiece z from fun _ => rfl, show ∀ z : Vec F S512x128 .bf16, k0_pay4 z = vPiece z from fun _ => rfl,
    show ∀ z : Vec F S512x128 .bf16, k0_pay5 z = vPiece z from fun _ => rfl, show ∀ z : Vec F S512x128 .bf16, k0_pay6 z = vPiece z from fun _ => rfl,
    read_v _ (rows x3) _ _ off3, read_v _ (rows x3) _ _ off7, read_v _ (rows x3) ![0, 0, 0] _ rfl]
  rw [read_p0, read_p0, read_p0, read_p0, read_p1, read_p1, read_p1, read_p1]
  simp (disch := decide) only [↓ View.readCov_skip, ↓ View.readCov_cons_toLoadRect, ↓ View.readCov_fill]
  rw [View.ld_unit_zero (S := S4x64) (by funext a; fin_cases a <;> rfl), View.ld_unit_zero (S := S128x1) (by funext a; fin_cases a <;> rfl)]
  funext y
  refine View.canon_apply_of_pieces (block x0 x1 x2 x3 x4) _ (View.PiecesOf.mem (G := block x0 x1 x2 x3 x4) ?_) y ?_
  · refine ⟨fun x => block_piece x0 x1 x2 x3 x4 3 ![1536, 0] inb_S2048x128_S512x128_1536_0 rfl _ ?_ x, fun x => block_piece x0 x1 x2 x3 x4 2 ![1024, 0] inb_S2048x128_S512x128_1024_0 rfl _ ?_ x, fun x => block_piece x0 x1 x2 x3 x4 1 k0_off8 (by rw [off8]; decide) off8 _ ?_ x, fun x => block_piece x0 x1 x2 x3 x4 0 k0_off4 (by rw [off4]; decide) off4 _ ?_ x, trivial⟩
    · rfl
    · rfl
    · rfl
    · rfl
  · have h0 : (y 0).val < 2048 := (y 0).isLt
    have h1 : (y 1).val < 128 := (y 1).isLt
    simp only [List.mem_cons, List.not_mem_nil, or_false, exists_eq_or_imp, exists_eq_left, Rect.mem_set_unit, Fin.forall_fin_succ, Fin.forall_fin_zero_pi, off4, off8]
    simp
    omega

end Cert.KernelIdeal.Attn

end
-- ==== Proof.Launch.lean ====
/- The launch of the differential attention: the proof data (each output block at the four tiles of its input blocks),
   the body obligation, the run of @main and the frame at any value type. -/
module

public import proofs.«01_k».proof.Proof.BodyVal
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's memrefs and conditions -/

theorem hcond0 : ∀ t : Fin cfg0.N, k0_cond1 = 1#1 := (by decide +kernel : ∀ t : Fin grid0.N, k0_cond1 = 1#1)
theorem hcond1 : ∀ t : Fin cfg0.N, k0_cond2 = 1#1 := (by decide +kernel : ∀ t : Fin grid0.N, k0_cond2 = 1#1)

abbrev ms0_0 (t : Fin cfg0.N) : Memref sig .tc .vmem S4x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x128 .bf16 := win0_5.stage (cfg0.slots t 5)
abbrev hs0_5 (t : Fin cfg0.N) : (ms0_5 t).IsWhole := hstage0_5 ((cfg0.slots t 5).cast nbuf0_5)
abbrev scM0_0 : Memref sig .tc .vmem S1x128x2048 .bf16 := Memref.whole cc0_scratch0
abbrev scM0_1 : Memref sig .tc .vmem S2x4x512x512 .f32 := Memref.whole cc0_scratch1
abbrev scM0_2 : Memref sig .tc .vmem S2x4x512x512 .f32 := Memref.whole cc0_scratch2
abbrev scM0_3 : Memref sig .tc .vmem S2x2048x512 .bf16 := Memref.whole cc0_scratch3
abbrev scM0_4 : Memref sig .tc .vmem S2x128x512 .f32 := Memref.whole cc0_scratch4

/-- The kit's invariant, the scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-! ## The proof data -/

/-- What point `t` leaves in the output's staging buffer. -/
def outBlk (c : Dev nD) (t : Fin cfg0.N) : Vec F S2048x128 .bf16 :=
  block (iblk m c 0 t) (iblk m c 1 t) (iblk m c 2 t) (iblk m c 3 t) (iblk m c 4 t)

/-- The arrays as the region finds them; every input block left in place, the output at `outBlk`. -/
def dats (_p : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outBlk m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 800000 in
/-- The body at any point: the run at the point's blocks, its result read by `bodyRun_val`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  have hrun := (bodyRun (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (hcond0 t) (hcond1 t) (iblk m c 0 t) (iblk m c 1 t) (iblk m c 2 t) (iblk m c 3 t) (iblk m c 4 t)).2
  rw [bodyRun_val] at hrun
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩⟩
  iapply (hrun Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  isplitl [HS4]; · iexact HS4
  iintro ⟨H0, H1, H2, H3, H4, H5, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every execution of @main ends with the output array at `arrAt` of the proof data and every counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame at any value type. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Attn

end
-- ==== Proof.Frames.lean ====
/- The frames: the one run of `Launch.lean` read at each value type. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import Idealize.ShloMosaic.Lib.Quiescent

@[expose] public section

set_option maxRecDepth 16384

noncomputable section

namespace Cert.Proof

open Idealize.ShloMosaic Idealize.SL.Sem

attribute [local instance] Cert.Kernel.Gen.facts

/-! ## The two programs are the same text -/

theorem body_eq : @Cert.Kernel.cc0_diff_attention Bits _ _ = @Cert.KernelIdeal.cc0_diff_attention Bits _ _ := rfl

theorem defs₀_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl

theorem defs_eq : Cert.Kernel.defs (F := Bits) = Cert.KernelIdeal.defs (F := Bits) :=
  congrArg (Pipeline.defs Cert.KernelIdeal.pcfgs) defs₀_eq
/-! ## The frames -/

theorem frame_kernel : Cert.quiescent_Kernel := fun m ρ _ => by
  rw [defs_eq]
  exact (θ_run Cert.KernelIdeal.defs _ _).mono (fun _ h => h) (Cert.KernelIdeal.Attn.frame_any (F := Bits) m ρ)

theorem frame_ideal : Cert.quiescent_KernelIdeal := fun m ρ _ => Cert.KernelIdeal.Attn.frame_any (F := Ideal) m ρ

theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Proof

end
-- ==== Proof.TileIdeal.lean ====
/- The tile's pieces read at an index, on the extended reals. -/
module

public import proofs.«01_k».proof.Proof.Tile
public import Idealize.ShloMosaic.Lib.Pointwise
public import Idealize.ShloMosaic.Lib.IdealHost
public import Idealize.ShloMosaic.PureOps.Ideal.Laws

@[expose] public section

set_option maxRecDepth 16384

noncomputable section

namespace Cert.KernelIdeal.Attn

open Idealize.ShloMosaic
open Cert.KernelIdeal.Gen
open scoped BigOperators

theorem ofBits_negInf : Ideal.ofBits .f32 0xFF800000#32 = ⊥ := by simp [Ideal.ofBits, Ideal.ieee]

theorem rows_apply (x : Vec Ideal S2048x128 .bf16) (u : Fin 4) (r : Fin 512) (e : Fin 128) :
    rows x u (ix2 r e) = x (ix2 (⟨512 * u.val + r.val, by omega⟩ : Fin 2048) e) := by
  pointwise [rows]

theorem qFst_apply (q : Vec Ideal S512x128 .bf16) (r : Fin 512) (e : Fin 128) :
    qFst q (ix2 r e) = if e.val < 64 then q (ix2 r e) else 0 := by
  pointwise [qFst, laneMask, bzero]
  have h : IntOp.cmpi CmpIPredicate.slt (BitVec.ofNat 32 e.val) 64#32 = if e.val < 64 then 1#1 else 0#1 := by
    revert e; decide +kernel
  rw [h]; split <;> rfl

theorem qSnd_apply (q : Vec Ideal S512x128 .bf16) (r : Fin 512) (e : Fin 128) :
    qSnd q (ix2 r e) = if e.val < 64 then 0 else q (ix2 r e) := by
  pointwise [qSnd, laneMask, bzero]
  have h : IntOp.cmpi CmpIPredicate.slt (BitVec.ofNat 32 e.val) 64#32 = if e.val < 64 then 1#1 else 0#1 := by
    revert e; decide +kernel
  rw [h]; split <;> rfl

theorem sc_apply (qm k : Vec Ideal S512x128 .bf16) (j i : Fin 512) :
    sc (F := Ideal) qm k (ix2 j i) = ∑ e : Fin 128, k (ix2 j e) * qm (ix2 i e) := by
  pointwise [sc]

theorem mxStep_apply (mx : FVec Ideal S8x512 .f32) (s : FVec Ideal S512x512 .f32) (r : Fin 8) (i : Fin 512) :
    mxStep mx s (ix2 r i) = max (mx (ix2 r i)) (Finset.univ.fold max ⊥ fun a : Fin 64 => s (ix2 (⟨a.val * 8 + r.val, by omega⟩ : Fin 512) i)) := by
  pointwise [mxStep]
  rw [ofBits_negInf]

theorem ex_apply (m : FVec Ideal S1x512 .f32) (s : FVec Ideal S512x512 .f32) (j i : Fin 512) :
    ex m s (ix2 j i) = Ideal.exp2 (s (ix2 j i) - m (ix2 0 i)) := by
  pointwise [ex, back]
  rfl

theorem lsStep_apply (ls : FVec Ideal S8x512 .f32) (p : FVec Ideal S512x512 .f32) (r : Fin 8) (i : Fin 512) :
    lsStep ls p (ix2 r i) = ls (ix2 r i) + ∑ a : Fin 64, p (ix2 (⟨a.val * 8 + r.val, by omega⟩ : Fin 512) i) := by
  pointwise [lsStep]

theorem acc_apply (m : FVec Ideal S1x512 .f32) (v : Fin 4 → Vec Ideal S512x128 .bf16) (p : Fin 4 → FVec Ideal S1x512x512 .bf16) (d : Fin 128) (i : Fin 512) :
    acc m v p (ix3 0 d i) = ∑ j : Fin 2048, v ⟨j.val / 512, by omega⟩ (ix2 (⟨j.val % 512, by omega⟩ : Fin 512) d)
      * p ⟨j.val / 512, by omega⟩ (ix3 0 (⟨j.val % 512, by omega⟩ : Fin 512) i) := by
  pointwise [acc, alpha, vCat, pCat, accZero, vPiece]
  rw [mul_zero, zero_add]; rfl

theorem pPiece_apply (m : FVec Ideal S1x512 .f32) (s : FVec Ideal S512x512 .f32) (j i : Fin 512) :
    pPiece m s (ix3 0 j i) = ex m s (ix2 j i) := by
  pointwise [pPiece]

theorem normed_apply (l : FVec Ideal S1x512 .f32) (a : FVec Ideal S1x128x512 .f32) (d : Fin 128) (i : Fin 512) :
    normed l a (ix2 d i) = a (ix3 0 d i) * Ideal.div 1 (l (ix2 0 i)) := by
  pointwise [normed]

theorem fin_apply (g : FVec Ideal S128x1 .f32) (o : FVec Ideal S128x512 .f32) (i : Fin 512) (d : Fin 128) :
    fin g o (ix2 i d) = o (ix2 d i) * Ideal.rsqrt (Ideal.div (∑ e : Fin 128, o (ix2 e i) * o (ix2 e i)) (Ideal.ofBits .f32 0x43000000#32) + Ideal.ofBits .f32 0x3727C5AC#32)
      * g (ix2 d 0) * Ideal.ofBits .f32 0x3F4CCCCD#32 := by
  pointwise [fin]

theorem lamOf_apply (x : Vec Ideal S4x64 .f32) :
    lamOf x (ix2 0 0) = Ideal.exp (∑ e : Fin 64, x (ix2 0 e) * x (ix2 1 e)) - Ideal.exp (∑ e : Fin 64, x (ix2 2 e) * x (ix2 3 e)) + Ideal.ofBits .f32 0x3E4CCCCD#32 := by
  pointwise [lamOf, k0_pay7]

/-! ## Finite values -/

/-- The extended real is a real. -/
def Fin' (x : EReal) : Prop := x ≠ ⊥ ∧ x ≠ ⊤

theorem Fin'.exists {x : EReal} (h : Fin' x) : ∃ r : ℝ, x = r := ⟨x.toReal, (EReal.coe_toReal h.2 h.1).symm⟩

theorem fin'_coe (r : ℝ) : Fin' (r : EReal) := ⟨EReal.coe_ne_bot r, EReal.coe_ne_top r⟩

/-- The maximum of some reals, from `-∞`, is a real. -/
theorem fin'_fold {n : ℕ} [NeZero n] (f : Fin n → EReal) (h : ∀ a, Fin' (f a)) : Fin' (Finset.univ.fold max ⊥ f) := by
  constructor
  · apply ne_of_gt
    rw [Finset.lt_fold_max]
    exact .inr ⟨0, Finset.mem_univ _, bot_lt_iff_ne_bot.mpr (h 0).1⟩
  · apply ne_of_lt
    rw [Finset.fold_max_lt]
    exact ⟨bot_lt_top, fun x _ => lt_top_iff_ne_top.mpr (h x).2⟩

theorem fin'_max {x y : EReal} (hx : x ≠ ⊤) (hy : Fin' y) : Fin' (max x y) :=
  ⟨ne_of_gt (lt_max_of_lt_right (bot_lt_iff_ne_bot.mpr hy.1)), ne_of_lt (max_lt (lt_top_iff_ne_top.mpr hx) (lt_top_iff_ne_top.mpr hy.2))⟩

theorem mxStep_fin (mx : FVec Ideal S8x512 .f32) (s : FVec Ideal S512x512 .f32) (i : Fin 512)
    (hm : ∀ r, mx (ix2 r i) ≠ ⊤) (hs : ∀ j, Fin' (s (ix2 j i))) (r : Fin 8) : Fin' (mxStep mx s (ix2 r i)) := by
  rw [mxStep_apply]
  exact fin'_max (hm r) (fin'_fold _ fun a => hs _)

theorem mRow_fin (qm : FVec Ideal S512x128 .bf16) (k : Fin 4 → Vec Ideal S512x128 .bf16) (i : Fin 512)
    (h : ∀ u j, Fin' (sc (F := Ideal) qm (k u) (ix2 j i))) : Fin' (mRow qm k (ix2 0 i)) := by
  pointwise [mRow, negRow]
  rw [ofBits_negInf]
  refine fin'_max bot_ne_top (fin'_fold _ fun r => ?_)
  refine mxStep_fin _ _ i (fun r => ?_) (h 3) r
  refine (mxStep_fin _ _ i (fun r => ?_) (h 2) r).2
  refine (mxStep_fin _ _ i (fun r => ?_) (h 1) r).2
  refine (mxStep_fin _ _ i (fun r => ?_) (h 0) r).2
  exact bot_ne_top

/-! ## Sums over chunks as sums over keys -/

theorem sum_chunks {n p : ℕ} (f : Fin n → Fin p → EReal) (hp : 0 < p) :
    ∑ j : Fin (n * p), f ⟨j.val / p, Nat.div_lt_of_lt_mul (lt_of_lt_of_eq j.isLt (Nat.mul_comm _ _))⟩ ⟨j.val % p, Nat.mod_lt _ hp⟩ = ∑ u, ∑ r, f u r := by
  rw [← Fintype.sum_prod_type']
  exact Fintype.sum_equiv finProdFinEquiv.symm _ _ fun j => rfl

theorem sum_rows (p : Fin 512 → EReal) : ∑ r : Fin 8, ∑ a : Fin 64, p ⟨a.val * 8 + r.val, by omega⟩ = ∑ j, p j := by
  rw [Finset.sum_comm, ← Fintype.sum_prod_type']
  refine Fintype.sum_equiv (finProdFinEquiv (m := 64) (n := 8)) _ _ fun j => ?_
  refine congrArg p (Fin.ext ?_)
  show j.1.val * 8 + j.2.val = j.2.val + 8 * j.1.val
  omega

theorem lRow_apply (m : FVec Ideal S1x512 .f32) (qm : FVec Ideal S512x128 .bf16) (k : Fin 4 → Vec Ideal S512x128 .bf16) (i : Fin 512) :
    lRow m qm k (ix2 0 i) = ∑ u : Fin 4, ∑ j : Fin 512, Ideal.exp2 (sc (F := Ideal) qm (k u) (ix2 j i) - m (ix2 0 i)) := by
  pointwise [lRow, negRow, zeroRow, alpha]
  simp only [lsStep_apply, Finset.sum_add_distrib]
  rw [Fin.sum_univ_four]
  rw [sum_rows fun j => ex m (sc qm (k 0)) (ix2 j i), sum_rows fun j => ex m (sc qm (k 1)) (ix2 j i), sum_rows fun j => ex m (sc qm (k 2)) (ix2 j i), sum_rows fun j => ex m (sc qm (k 3)) (ix2 j i)]
  have h0 : ∑ x : Fin 8, (broadcast S8x512 (0 : EReal) : S8x512.Idx → EReal) (ix2 x i) = 0 := Finset.sum_eq_zero fun _ _ => rfl
  simp only [ex_apply]
  rw [mul_zero, zero_add]
  erw [h0]
  rw [zero_add]

/-! ## The softmax on reals -/

/-- The average of `v`, weighted by the exponentials of `t`. -/
def avg {n : ℕ} (t v : Fin n → ℝ) : ℝ := (∑ j, v j * Real.exp (t j)) / ∑ j, Real.exp (t j)

/-- Subtracting the same number from every exponent changes nothing. -/
theorem avg_shift {n : ℕ} (t v : Fin n → ℝ) (m : ℝ) : (∑ j, v j * Real.exp (t j - m)) / (∑ j, Real.exp (t j - m)) = avg t v := by
  have h1 : ∀ j, Real.exp (t j - m) = Real.exp (t j) * Real.exp (-m) := fun j => by rw [sub_eq_add_neg, Real.exp_add]
  simp only [h1, ← mul_assoc, ← Finset.sum_mul]
  exact mul_div_mul_right _ _ (Real.exp_pos _).ne'

theorem exp2_sub_coe (t m : ℝ) : Ideal.exp2 (((t / Real.log 2 : ℝ) : EReal) - (m : EReal)) = ((Real.exp (t - m * Real.log 2) : ℝ) : EReal) := by
  have h2 : Real.log 2 ≠ 0 := (Real.log_pos one_lt_two).ne'
  rw [← EReal.coe_sub]
  show ((Real.rpow 2 _ : ℝ) : EReal) = _
  congr 1
  show (2 : ℝ) ^ (_ : ℝ) = _
  rw [Real.rpow_def_of_pos two_pos]
  congr 1
  field_simp

theorem coe_sum {ι : Type*} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

theorem div_one_coe {x : ℝ} (h : x ≠ 0) : Ideal.div 1 (x : EReal) = ((1 / x : ℝ) : EReal) := by
  unfold Ideal.div
  rw [if_neg (by exact_mod_cast h), one_mul, one_div]
  rfl

/-- One component of a tile: the average of the values, weighted by the exponentials of the scores. -/
theorem comp_avg (qm : FVec Ideal S512x128 .bf16) (k v : Fin 4 → Vec Ideal S512x128 .bf16) (d : Fin 128) (i : Fin 512)
    (t w : Fin 2048 → ℝ)
    (ht : ∀ j : Fin 2048, sc (F := Ideal) qm (k ⟨j.val / 512, by omega⟩) (ix2 (⟨j.val % 512, by omega⟩ : Fin 512) i) = ((t j / Real.log 2 : ℝ) : EReal))
    (hw : ∀ j : Fin 2048, v ⟨j.val / 512, by omega⟩ (ix2 (⟨j.val % 512, by omega⟩ : Fin 512) d) = (w j : EReal)) :
    comp qm k v (ix2 d i) = ((avg t w : ℝ) : EReal) := by
  obtain ⟨m, hm⟩ := (mRow_fin qm k i fun u j => by
    have := ht ⟨512 * u.val + j.val, by omega⟩
    have e1 : (⟨(512 * u.val + j.val) / 512, by omega⟩ : Fin 4) = u := Fin.ext (by show (512 * u.val + j.val) / 512 = u.val; omega)
    have e2 : (⟨(512 * u.val + j.val) % 512, by omega⟩ : Fin 512) = j := Fin.ext (by show (512 * u.val + j.val) % 512 = j.val; omega)
    simp only [e1, e2] at this
    rw [this]; exact fin'_coe _).exists
  unfold comp
  rw [normed_apply, acc_apply, lRow_apply, hm]
  have hp : ∀ (u : Fin 4) (j : Fin 512), (![pPiece (mRow qm k) (sc qm (k 0)), pPiece (mRow qm k) (sc qm (k 1)), pPiece (mRow qm k) (sc qm (k 2)), pPiece (mRow qm k) (sc qm (k 3))] : Fin 4 → FVec Ideal S1x512x512 .bf16) u (ix3 0 j i)
      = Ideal.exp2 (sc (F := Ideal) qm (k u) (ix2 j i) - (m : EReal)) := by
    intro u j
    rw [← hm, ← ex_apply, ← pPiece_apply]
    fin_cases u <;> rfl
  simp only [hp]
  rw [← sum_chunks (n := 4) (p := 512) (fun u j => Ideal.exp2 (sc (F := Ideal) qm (k u) (ix2 j i) - (m : EReal))) (by omega)]
  have hs : ∀ j : Fin 2048, Ideal.exp2 (sc (F := Ideal) qm (k ⟨j.val / 512, by omega⟩) (ix2 (⟨j.val % 512, by omega⟩ : Fin 512) i) - (m : EReal)) = ((Real.exp (t j - m * Real.log 2) : ℝ) : EReal) :=
    fun j => by rw [ht, exp2_sub_coe]
  have hpos : (∑ j : Fin 2048, Real.exp (t j - m * Real.log 2)) ≠ 0 :=
    (Finset.sum_pos (fun j _ => Real.exp_pos _) ⟨0, Finset.mem_univ _⟩).ne'
  have hsum : (∑ j : Fin (4 * 512), Ideal.exp2 (sc (F := Ideal) qm (k ⟨j.val / 512, by omega⟩) (ix2 (⟨j.val % 512, by omega⟩ : Fin 512) i) - (m : EReal)))
      = ((∑ j : Fin 2048, Real.exp (t j - m * Real.log 2) : ℝ) : EReal) := by
    rw [coe_sum]; exact Finset.sum_congr rfl fun j _ => hs j
  rw [hsum, div_one_coe hpos]
  simp only [hs, hw, ← EReal.coe_mul, ← coe_sum]
  rw [mul_one_div, avg_shift]

/-! ## Scores, and a block of the output -/

/-- The score of a query and a key in a component (lanes `64 c … 64 c + 63`), scaled by one eighth. -/
def score (c : Fin 2) (q k : Fin 128 → ℝ) : ℝ := 0.125 * ∑ e : Fin 64, q ⟨64 * c.val + e.val, by omega⟩ * k ⟨64 * c.val + e.val, by omega⟩

/-- A sum over 128 lanes that is zero on the second half. -/
theorem sum_fst (f : Fin 128 → EReal) : ∑ e : Fin 128, (if e.val < 64 then f e else 0) = ∑ e : Fin 64, f ⟨64 * (0 : Fin 2).val + e.val, by show 64 * 0 + e.val < 128; omega⟩ := by
  rw [Fin.sum_univ_add (a := 64) (b := 64)]
  rw [Finset.sum_congr rfl (g := fun e : Fin 64 => f ⟨64 * (0 : Fin 2).val + e.val, by show 64 * 0 + e.val < 128; omega⟩), Finset.sum_eq_zero (s := Finset.univ) (f := fun i : Fin 64 => if (Fin.natAdd 64 i).val < 64 then f (Fin.natAdd 64 i) else 0), add_zero]
  · intro i _
    exact if_neg (by show ¬ 64 + i.val < 64; omega)
  · intro i _
    have hi : (Fin.castAdd 64 i).val < 64 := i.isLt
    rw [if_pos hi]
    exact congrArg f (Fin.ext (by show i.val = 64 * 0 + i.val; omega))

theorem sum_snd (f : Fin 128 → EReal) : ∑ e : Fin 128, (if e.val < 64 then 0 else f e) = ∑ e : Fin 64, f ⟨64 * (1 : Fin 2).val + e.val, by show 64 * 1 + e.val < 128; omega⟩ := by
  rw [Fin.sum_univ_add (a := 64) (b := 64)]
  rw [Finset.sum_eq_zero (s := Finset.univ) (f := fun i : Fin 64 => if (Fin.castAdd 64 i).val < 64 then 0 else f (Fin.castAdd 64 i)), zero_add]
  · refine Finset.sum_congr rfl fun i _ => ?_
    rw [if_neg (by show ¬ 64 + i.val < 64; omega)]
    exact congrArg f (Fin.ext (by show 64 + i.val = 64 * 1 + i.val; omega))
  · intro i _
    exact if_pos i.isLt

/-- The queries masked to a component. -/
def qMask (c : Fin 2) (q : Vec Ideal S512x128 .bf16) : FVec Ideal S512x128 .bf16 := if c = 0 then qFst q else qSnd q

theorem sc_mask (c : Fin 2) (q k : Vec Ideal S512x128 .bf16) (j i : Fin 512) :
    sc (F := Ideal) (qMask c q) k (ix2 j i) = ∑ e : Fin 64, k (ix2 j (⟨64 * c.val + e.val, by omega⟩ : Fin 128)) * q (ix2 i (⟨64 * c.val + e.val, by omega⟩ : Fin 128)) := by
  rw [sc_apply]
  fin_cases c
  · have h : ∀ e : Fin 128, k (ix2 j e) * qMask 0 q (ix2 i e) = if e.val < 64 then k (ix2 j e) * q (ix2 i e) else 0 := fun e => by
      rw [show qMask 0 q = qFst q from rfl, qFst_apply]; split <;> simp
    exact (Finset.sum_congr rfl fun e _ => h e).trans (sum_fst fun e => k (ix2 j e) * q (ix2 i e))
  · have h : ∀ e : Fin 128, k (ix2 j e) * qMask 1 q (ix2 i e) = if e.val < 64 then 0 else k (ix2 j e) * q (ix2 i e) := fun e => by
      rw [show qMask 1 q = qSnd q from rfl, qSnd_apply]; split <;> simp
    exact (Finset.sum_congr rfl fun e _ => h e).trans (sum_snd fun e => k (ix2 j e) * q (ix2 i e))

/-- The same scores from real queries (scaled by an eighth of `1 / log 2`) and keys. -/
theorem sc_coe (c : Fin 2) (q k : Vec Ideal S512x128 .bf16) (j i : Fin 512) (qr kr : Fin 128 → ℝ)
    (hq : ∀ e, q (ix2 i e) = ((qr e * (0.125 * (1 / Real.log 2)) : ℝ) : EReal)) (hk : ∀ e, k (ix2 j e) = (kr e : EReal)) :
    sc (F := Ideal) (qMask c q) k (ix2 j i) = ((score c qr kr / Real.log 2 : ℝ) : EReal) := by
  rw [sc_mask]
  simp only [hq, hk, ← EReal.coe_mul, ← coe_sum]
  congr 1
  unfold score
  rw [Finset.mul_sum, Finset.sum_div]
  exact Finset.sum_congr rfl fun e _ => by ring

/-- Normalised by the root of the mean square of the 128 entries, times the gain, times `1 - lam_init`. -/
def tail (o g : Fin 128 → EReal) (d : Fin 128) : EReal :=
  o d * Ideal.rsqrt (Ideal.div (∑ e : Fin 128, o e * o e) (Ideal.ofBits .f32 0x43000000#32) + Ideal.ofBits .f32 0x3727C5AC#32)
    * g d * Ideal.ofBits .f32 0x3F4CCCCD#32

/-- The difference of the two averages of the values `v` for the query `q` over the keys `k`. -/
def diffAvg (l : ℝ) (q : Fin 128 → ℝ) (k v : Fin 2048 → Fin 128 → ℝ) (d : Fin 128) : ℝ :=
  avg (fun j => score 0 q (k j)) (fun j => v j d) - l * avg (fun j => score 1 q (k j)) (fun j => v j d)

theorem diff_apply (lam : FVec Ideal S1x1 .f32) (a b : FVec Ideal S128x512 .f32) (d : Fin 128) (i : Fin 512) :
    diff lam a b (ix2 d i) = a (ix2 d i) - lam (ix2 0 0) * b (ix2 d i) := by
  pointwise [diff]

/-- The output block at real queries, keys and values. -/
theorem block_apply (x0 : Vec Ideal S4x64 .f32) (x1 x2 x3 : Vec Ideal S2048x128 .bf16) (x4 : Vec Ideal S128x1 .f32)
    (l : ℝ) (q k v : Fin 2048 → Fin 128 → ℝ) (hl : lamOf x0 (ix2 0 0) = (l : EReal))
    (hq : ∀ n e, x1 (ix2 n e) = ((q n e * (0.125 * (1 / Real.log 2)) : ℝ) : EReal))
    (hk : ∀ n e, x2 (ix2 n e) = (k n e : EReal)) (hv : ∀ n e, x3 (ix2 n e) = (v n e : EReal))
    (n : Fin 2048) (d : Fin 128) :
    block x0 x1 x2 x3 x4 (ix2 n d) = tail (fun e => ((diffAvg l (q n) k v e : ℝ) : EReal)) (fun e => x4 (ix2 e 0)) d := by
  have hc : ∀ (c : Fin 2) (u : Fin 4) (i : Fin 512) (e : Fin 128), comp (qMask c (rows x1 u)) (rows x2) (rows x3) (ix2 e i)
      = ((avg (fun j => score c (q ⟨512 * u.val + i.val, by omega⟩) (k j)) (fun j => v j e) : ℝ) : EReal) := by
    intro c u i e
    refine comp_avg _ _ _ e i _ _ (fun j => ?_) fun j => ?_
    · refine sc_coe c _ _ _ _ _ _ (fun e => ?_) fun e => ?_
      · rw [rows_apply]; exact hq _ e
      · rw [rows_apply]; exact (congrArg (fun z => x2 (ix2 z e)) (Fin.ext (Nat.div_add_mod _ _))).trans (hk j e)
    · rw [rows_apply]; exact (congrArg (fun z => x3 (ix2 z e)) (Fin.ext (Nat.div_add_mod _ _))).trans (hv j e)
  show tile x0 x1 x2 x3 x4 ⟨n.val / 512, _⟩ (ix2 (⟨n.val % 512, _⟩ : Fin 512) d) = _
  unfold tile
  rw [fin_apply]
  have hn : (⟨512 * (n.val / 512) + n.val % 512, by omega⟩ : Fin 2048) = n := Fin.ext (Nat.div_add_mod _ _)
  have ho : ∀ e, diff (lamOf x0) (comp (qFst (rows x1 ⟨n.val / 512, by omega⟩)) (rows x2) (rows x3)) (comp (qSnd (rows x1 ⟨n.val / 512, by omega⟩)) (rows x2) (rows x3)) (ix2 e (⟨n.val % 512, by omega⟩ : Fin 512))
      = ((diffAvg l (q n) k v e : ℝ) : EReal) := by
    intro e
    rw [diff_apply, hl]
    have h0 := hc 0 ⟨n.val / 512, by omega⟩ ⟨n.val % 512, by omega⟩ e
    have h1 := hc 1 ⟨n.val / 512, by omega⟩ ⟨n.val % 512, by omega⟩ e
    simp only [hn] at h0 h1
    rw [show qFst (rows x1 ⟨n.val / 512, by omega⟩) = qMask 0 (rows x1 ⟨n.val / 512, by omega⟩) from rfl, show qSnd (rows x1 ⟨n.val / 512, by omega⟩) = qMask 1 (rows x1 ⟨n.val / 512, by omega⟩) from rfl, h0, h1]
    rw [← EReal.coe_mul, ← EReal.coe_sub]
    rfl
  simp only [ho]
  have hg : shapeCast S128x1 x4 shapeCasts_S128x1_S128x1 (ix2 d 0) = x4 (ix2 d 0) := by pointwise
  rw [hg]
  rfl

end Cert.KernelIdeal.Attn

end
-- ==== Proof.RefIdeal.lean ====
/- The reference's attention, stage by stage, read at an index on the extended reals. -/
module

public import proofs.«01_k».proof.Proof.Gen.ReferenceIdeal.Run
public import proofs.«01_k».proof.Proof.TileIdeal
public import Idealize.ShloMosaic.Lib.Tactic.CleanTypes

@[expose] public section

set_option maxRecDepth 16384

noncomputable section

namespace Cert.ReferenceIdeal.Attn

open Idealize.ShloMosaic
open Cert.KernelIdeal.Attn (Fin' fin'_coe fin'_max ofBits_negInf avg avg_shift coe_sum score tail diffAvg)
open Cert.ReferenceIdeal Cert.ReferenceIdeal.Gen Cert.ReferenceIdeal.Value
open scoped BigOperators

/-- Queries or keys of the 32 sequences, by head and component. -/
def split (x : FVec Ideal S81920x768 .f32) : FVec Ideal S32x2048x6x2x64 .f32 :=
  shapeCast _ (extractStridedSlice S65536x768 ![0, 0] x slices_S81920x768_S65536x768_0_0) shapeCasts_S65536x768_S32x2048x6x2x64

/-- Values of the 32 sequences, by head. -/
def splitV (x : FVec Ideal S81920x768 .f32) : FVec Ideal S32x2048x6x128 .f32 :=
  shapeCast _ (extractStridedSlice S65536x768 ![0, 0] x slices_S81920x768_S65536x768_0_0) shapeCasts_S65536x768_S32x2048x6x128

/-- The scores. -/
def scores (q k : FVec Ideal S81920x768 .f32) : FVec Ideal S32x6x2x2048x2048 .f32 :=
  mulf (Host.dotGeneral dot_S32x2048x6x2x64_S32x2048x6x2x64_S32x6x2x2048x2048_4_4_1_1_023_023 none (split q) (split k)) (broadcastInDim S32x6x2x2048x2048 ![] bcast_S_S32x6x2x2048x2048 (constant S_ .f32 0x3E000000#32))

/-- Every query's maximum. -/
def maxes (s : FVec Ideal S32x6x2x2048x2048 .f32) : FVec Ideal S32x6x2x2048 .f32 :=
  maximumf (broadcastInDim S32x6x2x2048 ![] bcast_S_S32x6x2x2048 (constant S_ .f32 0xFF800000#32)) (Host.reduce FloatOps.maximumf s (constant S_ .f32 0xFF800000#32) reducesTo_S32x6x2x2048x2048_S32x6x2x2048_d4 h_S_)

/-- A row's number at each of its entries. -/
def spread (m : FVec Ideal S32x6x2x2048 .f32) : FVec Ideal S32x6x2x2048x2048 .f32 :=
  broadcastInDim S32x6x2x2048x2048 ![0, 1, 2, 3, 4] bcast_S32x6x2x2048x1_S32x6x2x2048x2048_0_1_2_3_4 (broadcastInDim S32x6x2x2048x1 ![0, 1, 2, 3] bcast_S32x6x2x2048_S32x6x2x2048x1_0_1_2_3 m)

def unnorm (s : FVec Ideal S32x6x2x2048x2048 .f32) : FVec Ideal S32x6x2x2048x2048 .f32 := Host.exp (subf s (spread (maxes s)))

/-- The softmax of each row. -/
def probs (s : FVec Ideal S32x6x2x2048x2048 .f32) : FVec Ideal S32x6x2x2048x2048 .f32 :=
  Host.divf (unnorm s) (spread (Host.reduceAdd (unnorm s) (constant S_ .f32 0x00000000#32) reducesTo_S32x6x2x2048x2048_S32x6x2x2048_d4 h_S_))

/-- The difference's weight. -/
def lam (x : FVec Ideal S4x64 .f32) : FVec Ideal S_ .f32 :=
  addf (subf (Host.exp (Host.reduceAdd (mulf (shapeCast _ (extractStridedSlice S1x64 ![0, 0] x slices_S4x64_S1x64_0_0) shapeCasts_S1x64_S64) (shapeCast _ (extractStridedSlice S1x64 ![1, 0] x slices_S4x64_S1x64_1_0) shapeCasts_S1x64_S64)) (constant S_ .f32 0x00000000#32) reducesTo_S64_S_d0 h_S_)) (Host.exp (Host.reduceAdd (mulf (shapeCast _ (extractStridedSlice S1x64 ![2, 0] x slices_S4x64_S1x64_2_0) shapeCasts_S1x64_S64) (shapeCast _ (extractStridedSlice S1x64 ![3, 0] x slices_S4x64_S1x64_3_0) shapeCasts_S1x64_S64)) (constant S_ .f32 0x00000000#32) reducesTo_S64_S_d0 h_S_))) (constant S_ .f32 0x3E4CCCCD#32)

/-- The difference of the two softmaxes. -/
def weights (l : FVec Ideal S_ .f32) (p : FVec Ideal S32x6x2x2048x2048 .f32) : FVec Ideal S32x6x2048x2048 .f32 :=
  subf (shapeCast _ (extractStridedSlice S32x6x1x2048x2048 ![0, 0, 0, 0, 0] p slices_S32x6x2x2048x2048_S32x6x1x2048x2048_0_0_0_0_0) shapeCasts_S32x6x1x2048x2048_S32x6x2048x2048) (mulf (broadcastInDim S32x6x2048x2048 ![] bcast_S_S32x6x2048x2048 l) (shapeCast _ (extractStridedSlice S32x6x1x2048x2048 ![0, 0, 1, 0, 0] p slices_S32x6x2x2048x2048_S32x6x1x2048x2048_0_0_1_0_0) shapeCasts_S32x6x1x2048x2048_S32x6x2048x2048))

/-- The weighted values. -/
def weighted (v : FVec Ideal S81920x768 .f32) (w : FVec Ideal S32x6x2048x2048 .f32) : FVec Ideal S32x2048x6x128 .f32 :=
  transpose S32x2048x6x128 [0, 3, 1, 2] (Host.dotGeneral dot_S32x2048x6x128_S32x6x2048x2048_S32x6x128x2048_1_3_3_2_02_01 none (splitV v) w) transposes_S32x6x128x2048_S32x2048x6x128_0_3_1_2

/-- The per-head normalisation, the gain, the factor, and the rounding. -/
def out (g : FVec Ideal S128 .f32) (o : FVec Ideal S32x2048x6x128 .f32) : FVec Ideal S65536x768 .bf16 :=
  truncf .bf16 (shapeCast _ (mulf (mulf (mulf o (broadcastInDim S32x2048x6x128 ![0, 1, 2, 3] bcast_S32x2048x6x1_S32x2048x6x128_0_1_2_3 (Host.rsqrt (addf (Host.divf (broadcastInDim S32x2048x6x1 ![0, 1, 2] bcast_S32x2048x6_S32x2048x6x1_0_1_2 (Host.reduceAdd (mulf o o) (constant S_ .f32 0x00000000#32) reducesTo_S32x2048x6x128_S32x2048x6_d3 h_S_)) (broadcastInDim S32x2048x6x1 ![] bcast_S_S32x2048x6x1 (constant S_ .f32 0x43000000#32))) (broadcastInDim S32x2048x6x1 ![] bcast_S_S32x2048x6x1 (constant S_ .f32 0x3727C5AC#32)))))) (broadcastInDim S32x2048x6x128 ![0, 1, 2, 3] bcast_S1x1x1x128_S32x2048x6x128_0_1_2_3 (broadcastInDim S1x1x1x128 ![3] bcast_S128_S1x1x1x128_3 g))) (broadcastInDim S32x2048x6x128 ![] bcast_S_S32x2048x6x128 (constant S_ .f32 0x3F4CCCCD#32))) shapeCasts_S32x2048x6x128_S65536x768) bitsLt_bf16_f32

set_option maxHeartbeats 2000000 in
/-- The reference's result, by these stages. -/
theorem res_eq (m : (ℓ : Loc nD τ sig) → Buf (Elt Ideal) ℓ) (c : Dev nD) :
    res_out0 m c = out (m ((c.tc : Thread nD τ).loc main_arg4)) (weighted (m ((c.tc : Thread nD τ).loc main_arg2))
      (weights (lam (m ((c.tc : Thread nD τ).loc main_arg3))) (probs (scores (m ((c.tc : Thread nD τ).loc main_arg0)) (m ((c.tc : Thread nD τ).loc main_arg1)))))) := by
  unfold res_out0 res_main_v61
  rfl

theorem split_apply (x : FVec Ideal S81920x768 .f32) (b : Fin 32) (n : Fin 2048) (h : Fin 6) (c : Fin 2) (e : Fin 64) :
    split x (ix5 b n h c e) = x (ix2 (⟨b.val * 2048 + n.val, by omega⟩ : Fin 81920) (⟨h.val * 128 + (64 * c.val + e.val), by omega⟩ : Fin 768)) := by
  pointwise [split]
  exact congrArg (fun z => x (ix2 _ z)) (Fin.ext (by show h.val * 128 + c.val * 64 + e.val = h.val * 128 + (64 * c.val + e.val); omega))

theorem splitV_apply (x : FVec Ideal S81920x768 .f32) (b : Fin 32) (n : Fin 2048) (h : Fin 6) (d : Fin 128) :
    splitV x (ix4 b n h d) = x (ix2 (⟨b.val * 2048 + n.val, by omega⟩ : Fin 81920) (⟨h.val * 128 + d.val, by omega⟩ : Fin 768)) := by
  pointwise [splitV]

theorem scores_apply (q k : FVec Ideal S81920x768 .f32) (b : Fin 32) (h : Fin 6) (c : Fin 2) (n j : Fin 2048) :
    scores q k (ix5 b h c n j) = (∑ e : Fin 64, split q (ix5 b n h c e) * split k (ix5 b j h c e)) * Ideal.ofBits .f32 0x3E000000#32 := by
  pointwise [scores]

theorem probs_apply (s : FVec Ideal S32x6x2x2048x2048 .f32) (b : Fin 32) (h : Fin 6) (c : Fin 2) (n j : Fin 2048) :
    probs s (ix5 b h c n j) = Ideal.div (Ideal.exp (s (ix5 b h c n j) - maxes s (ix4 b h c n))) (∑ j : Fin 2048, Ideal.exp (s (ix5 b h c n j) - maxes s (ix4 b h c n))) := by
  pointwise [probs, unnorm, spread]

theorem lam_apply (x : FVec Ideal S4x64 .f32) (i : S_.Idx) :
    lam x i = Ideal.exp (∑ e : Fin 64, x (ix2 0 e) * x (ix2 1 e)) - Ideal.exp (∑ e : Fin 64, x (ix2 2 e) * x (ix2 3 e)) + Ideal.ofBits .f32 0x3E4CCCCD#32 := by
  pointwise [lam]

theorem weights_apply (l : FVec Ideal S_ .f32) (p : FVec Ideal S32x6x2x2048x2048 .f32) (b : Fin 32) (h : Fin 6) (n j : Fin 2048) :
    weights l p (ix4 b h n j) = p (ix5 b h 0 n j) - l ix0 * p (ix5 b h 1 n j) := by
  pointwise [weights]

theorem weighted_apply (v : FVec Ideal S81920x768 .f32) (w : FVec Ideal S32x6x2048x2048 .f32) (b : Fin 32) (n : Fin 2048) (h : Fin 6) (d : Fin 128) :
    weighted v w (ix4 b n h d) = ∑ j : Fin 2048, splitV v (ix4 b j h d) * w (ix4 b h n j) := by
  pointwise [weighted]

theorem out_apply (g : FVec Ideal S128 .f32) (o : FVec Ideal S32x2048x6x128 .f32) (r : Fin 65536) (c : Fin 768) :
    out g o (ix2 r c) = tail (fun d => o (ix4 (⟨r.val / 2048, by omega⟩ : Fin 32) (⟨r.val % 2048, by omega⟩ : Fin 2048) (⟨c.val / 128, by omega⟩ : Fin 6) d))
      (fun d => g (ix1 d)) ⟨c.val % 128, by omega⟩ := by
  pointwise [out, tail]

/-! ## On real operands -/

theorem reduce_fin {s t u : Shape} {a : Fin s.rank} (x : FVec Ideal s .f32) (init : FVec Ideal u .f32) (h' : s.ReducesTo [a] t) (h : s.Reduces [a] t) (hu : 0 < u.numel) (j : t.Idx)
    (hpos : 0 < s.size a) (hi : init (Shape.Idx.first hu) = ⊥) (hx : ∀ i, Fin' (x i)) : Fin' (Host.reduce (FloatOps.maximumf (F := Ideal) (φ := .f32)) x init h' hu j) := by
  rw [Host.reduce_eq_fold_single _ _ _ h' h, hi]
  haveI : NeZero (s.size a) := ⟨hpos.ne'⟩
  exact Cert.KernelIdeal.Attn.fin'_fold _ fun k => hx _

theorem maximumf_fin {s : Shape} (a b : FVec Ideal s .f32) (j : s.Idx) (ha : a j ≠ ⊤) (hb : Fin' (b j)) : Fin' (maximumf a b j) := fin'_max ha hb

theorem reduces_d4 : S32x6x2x2048x2048.Reduces [4] S32x6x2x2048 := by decide

theorem maxes_fin (s : FVec Ideal S32x6x2x2048x2048 .f32) (hs : ∀ i, Fin' (s i)) (j : S32x6x2x2048.Idx) : Fin' (maxes s j) := by
  unfold maxes
  refine maximumf_fin _ _ j ?_ (reduce_fin s _ reducesTo_S32x6x2x2048x2048_S32x6x2x2048_d4 reduces_d4 h_S_ j (by decide) ofBits_negInf hs)
  rw [show broadcastInDim S32x6x2x2048 ![] bcast_S_S32x6x2x2048 (constant (F := Ideal) S_ .f32 0xFF800000#32) j = ⊥ from ofBits_negInf]
  exact bot_ne_top

theorem ofBits_eighth : Ideal.ofBits .f32 0x3E000000#32 = ((0.125 : ℝ) : EReal) := by
  simp [Ideal.ofBits, Ideal.ieee, -EReal.coe_mul]; norm_num

theorem div_coe (x : ℝ) {y : ℝ} (h : y ≠ 0) : Ideal.div (x : EReal) (y : EReal) = ((x / y : ℝ) : EReal) := by
  unfold Ideal.div
  rw [if_neg (by exact_mod_cast h), div_eq_mul_inv, EReal.coe_mul]
  rfl

/-- A row's softmax, on reals. -/
theorem probs_coe (s : FVec Ideal S32x6x2x2048x2048 .f32) (b : Fin 32) (h : Fin 6) (c : Fin 2) (n : Fin 2048) (t : Fin 2048 → ℝ)
    (hs : ∀ i, Fin' (s i)) (ht : ∀ j, s (ix5 b h c n j) = (t j : EReal)) :
    ∃ M : ℝ, ∀ j, probs s (ix5 b h c n j) = ((Real.exp (t j - M) / ∑ j, Real.exp (t j - M) : ℝ) : EReal) := by
  obtain ⟨M, hM⟩ := (maxes_fin s hs (ix4 b h c n)).exists
  refine ⟨M, fun j => ?_⟩
  have hpos : (∑ j : Fin 2048, Real.exp (t j - M)) ≠ 0 := (Finset.sum_pos (fun j _ => Real.exp_pos _) ⟨0, Finset.mem_univ _⟩).ne'
  have he : ∀ j, Ideal.exp (s (ix5 b h c n j) - maxes s (ix4 b h c n)) = ((Real.exp (t j - M) : ℝ) : EReal) := fun j => by
    rw [ht, hM, ← EReal.coe_sub]; rfl
  rw [probs_apply]
  simp only [he, ← coe_sum]
  exact div_coe _ hpos

/-- The reference's result on real queries, keys and values. -/
theorem out_coe (q k v : FVec Ideal S81920x768 .f32) (x : FVec Ideal S4x64 .f32) (l : ℝ) (Q K V : Fin 81920 → Fin 768 → ℝ)
    (hl : lam x ix0 = (l : EReal)) (hq : ∀ n e, q (ix2 n e) = (Q n e : EReal)) (hk : ∀ n e, k (ix2 n e) = (K n e : EReal)) (hv : ∀ n e, v (ix2 n e) = (V n e : EReal))
    (b : Fin 32) (n : Fin 2048) (h : Fin 6) (d : Fin 128) :
    weighted v (weights (lam x) (probs (scores q k))) (ix4 b n h d)
      = ((diffAvg l (fun e => Q ⟨b.val * 2048 + n.val, by omega⟩ ⟨h.val * 128 + e.val, by omega⟩) (fun j e => K ⟨b.val * 2048 + j.val, by omega⟩ ⟨h.val * 128 + e.val, by omega⟩)
          (fun j e => V ⟨b.val * 2048 + j.val, by omega⟩ ⟨h.val * 128 + e.val, by omega⟩) d : ℝ) : EReal) := by
  have ht : ∀ (b : Fin 32) (h : Fin 6) (c : Fin 2) (n j : Fin 2048), scores q k (ix5 b h c n j)
      = ((score c (fun e => Q ⟨b.val * 2048 + n.val, by omega⟩ ⟨h.val * 128 + e.val, by omega⟩) (fun e => K ⟨b.val * 2048 + j.val, by omega⟩ ⟨h.val * 128 + e.val, by omega⟩) : ℝ) : EReal) := by
    intro b h c n j
    rw [scores_apply, ofBits_eighth]
    simp only [split_apply, hq, hk, ← EReal.coe_mul, ← coe_sum]
    rw [mul_comm]; rfl
  have hs : ∀ i, Fin' (scores q k i) := by
    intro i; idx_vars i; rw [ht]; exact fin'_coe _
  obtain ⟨M0, h0⟩ := probs_coe (scores q k) b h 0 n _ hs (fun j => ht b h 0 n j)
  obtain ⟨M1, h1⟩ := probs_coe (scores q k) b h 1 n _ hs (fun j => ht b h 1 n j)
  rw [weighted_apply]
  simp only [weights_apply, splitV_apply, h0, h1, hl, hv, ← EReal.coe_mul, ← EReal.coe_sub, ← coe_sum]
  congr 1
  unfold diffAvg
  rw [← avg_shift _ _ M0, ← avg_shift _ _ M1, Finset.sum_div, Finset.sum_div, Finset.mul_sum, ← Finset.sum_sub_distrib]
  exact Finset.sum_congr rfl fun j _ => by ring

end Cert.ReferenceIdeal.Attn

end
-- ==== Proof.Value.lean ====
/- The kernel's result array on the extended reals: the reference's function of the same arguments. -/
module

public import proofs.«01_k».proof.Proof.Launch
public import proofs.«01_k».proof.Proof.RefIdeal
public import Idealize.ShloMosaic.Lib.Pipeline.Value
public import Idealize.ShloMosaic.Lib.Pipeline.ValueKit

@[expose] public section

set_option maxRecDepth 16384

noncomputable section

namespace Cert.KernelIdeal.Attn

open Idealize.ShloMosaic Idealize.ShloMosaic.TcCoe Idealize.ShloMosaic.Tactic
open Idealize.SL Idealize.SL.Sem
open Idealize.ShloMosaic.Pipeline (Dat Cfg Window)
open Cert.KernelIdeal.Gen

variable (m : (ℓ : Loc nD τ sig) → Buf (Elt Ideal) ℓ) (ρ : Dev nD → PrngReg)

/-! ## The arrays the region finds -/

abbrev argQ (c : Dev nD) : FVec Ideal S81920x768 .f32 := m ((c : Thread nD τ).loc main_arg0)
abbrev argK (c : Dev nD) : FVec Ideal S81920x768 .f32 := m ((c : Thread nD τ).loc main_arg1)
abbrev argV (c : Dev nD) : FVec Ideal S81920x768 .f32 := m ((c : Thread nD τ).loc main_arg2)
abbrev argL (c : Dev nD) : FVec Ideal S4x64 .f32 := m ((c : Thread nD τ).loc main_arg3)
abbrev argG (c : Dev nD) : FVec Ideal S128 .f32 := m ((c : Thread nD τ).loc main_arg4)

/-- The factor of the queries. -/
def sigma : EReal := Ideal.ofBits .f32 0x3E000000#32 * Ideal.div 1 (Ideal.log (Ideal.ofBits .f32 0x40000000#32))

/-- The scaled queries, the keys and the values side by side. -/
def qkv (q k v : FVec Ideal S81920x768 .f32) : FVec Ideal S81920x2304 .bf16 :=
  truncf .bf16 (concatenate S81920x2304 1 [⟨S81920x768, mulf q (broadcastInDim S81920x768 ![] bcast_S_S81920x768 (mulf (constant S_ .f32 0x3E000000#32) (Host.divf (constant S_ .f32 0x3F800000#32) (Host.log (constant S_ .f32 0x40000000#32)))))⟩, ⟨S81920x768, k⟩, ⟨S81920x768, v⟩]
    concatenates_S81920x768_S81920x768_S81920x768_S81920x2304_d1) bitsLt_bf16_f32

set_option maxHeartbeats 4000000 in
theorem V_qkv (c : Dev nD) : V m c main_v6 = qkv (argQ m c) (argK m c) (argV m c) := by
  show StableHlo.after hostOps0 (fun b => m (c, b)) main_v6 = _
  unfold hostOps0
  after_results_simp
  rfl

theorem qkv_q (q k v : FVec Ideal S81920x768 .f32) (r : Fin 81920) (e : Fin 768) : qkv q k v (ix2 r ⟨e.val, by omega⟩) = q (ix2 r e) * sigma := by
  have h := e.isLt
  pointwise [qkv]
  rfl

theorem qkv_k (q k v : FVec Ideal S81920x768 .f32) (r : Fin 81920) (e : Fin 768) : qkv q k v (ix2 r ⟨768 + e.val, by omega⟩) = k (ix2 r e) := by
  have h := e.isLt
  pointwise [qkv]

theorem qkv_v (q k v : FVec Ideal S81920x768 .f32) (r : Fin 81920) (e : Fin 768) : qkv q k v (ix2 r ⟨1536 + e.val, by omega⟩) = v (ix2 r e) := by
  have h := e.isLt
  pointwise [qkv]
  rw [dif_neg (by omega), dif_neg (by omega)]
  exact congrArg (fun z => v (ix2 r z)) (Fin.ext (by show 1536 + e.val - 768 - 768 = e.val; omega))

theorem ofBits_two : Ideal.ofBits .f32 0x40000000#32 = ((2 : ℝ) : EReal) := by
  simp [Ideal.ofBits, Ideal.ieee, -EReal.coe_mul]; norm_num

theorem sigma_coe : sigma = ((0.125 * (1 / Real.log 2) : ℝ) : EReal) := by
  have h : Ideal.log ((2 : ℝ) : EReal) = ((Real.log 2 : ℝ) : EReal) := if_neg (by norm_num)
  unfold sigma
  rw [ofBits_two, h, div_one_coe (Real.log_pos one_lt_two).ne', Cert.ReferenceIdeal.Attn.ofBits_eighth, ← EReal.coe_mul]

theorem V_gain (c : Dev nD) (d : Fin 128) : (V m c main_v7 : FVec Ideal S128x1 .f32) (ix2 d 0) = argG m c (ix1 d) := by
  entry_read
  pointwise

theorem idx1 : ∀ t : Fin cfg0.N, win0_1.index t = ![t.val / 6, t.val % 6] := (by decide +kernel : ∀ t : Fin grid0.N, _)
theorem idx2 : ∀ t : Fin cfg0.N, win0_2.index t = ![t.val / 6, 6 + t.val % 6] := (by decide +kernel : ∀ t : Fin grid0.N, _)
theorem idx3 : ∀ t : Fin cfg0.N, win0_3.index t = ![t.val / 6, 12 + t.val % 6] := (by decide +kernel : ∀ t : Fin grid0.N, _)
theorem idx0 : ∀ t : Fin cfg0.N, win0_0.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val / 6, t.val % 6] := (by decide +kernel : ∀ t : Fin grid0.N, _)

theorem t_lt (t : Fin cfg0.N) : t.val < 192 := lt_of_lt_of_eq t.isLt N_0

theorem iblk1 (c : Dev nD) (t : Fin cfg0.N) (n : Fin 2048) (e : Fin 128) :
    (iblk m c 1 t : Vec Ideal S2048x128 .bf16) (ix2 n e) = argQ m c
      (ix2 (⟨(t.val / 6) * 2048 + n.val, by have := t_lt t; omega⟩ : Fin 81920) (⟨(t.val % 6) * 128 + e.val, by omega⟩ : Fin 768)) * sigma := by
  refine Eq.trans ?_ (qkv_q _ (argK m c) (argV m c) _ _)
  rw [← V_qkv]
  blk_ext [iblk, idx1 t]

theorem iblk2 (c : Dev nD) (t : Fin cfg0.N) (n : Fin 2048) (e : Fin 128) :
    (iblk m c 2 t : Vec Ideal S2048x128 .bf16) (ix2 n e) = argK m c
      (ix2 (⟨(t.val / 6) * 2048 + n.val, by have := t_lt t; omega⟩ : Fin 81920) (⟨(t.val % 6) * 128 + e.val, by omega⟩ : Fin 768)) := by
  refine Eq.trans ?_ (qkv_k (argQ m c) _ (argV m c) _ _)
  rw [← V_qkv]
  blk_ext [iblk, idx2 t]

theorem iblk3 (c : Dev nD) (t : Fin cfg0.N) (n : Fin 2048) (e : Fin 128) :
    (iblk m c 3 t : Vec Ideal S2048x128 .bf16) (ix2 n e) = argV m c
      (ix2 (⟨(t.val / 6) * 2048 + n.val, by have := t_lt t; omega⟩ : Fin 81920) (⟨(t.val % 6) * 128 + e.val, by omega⟩ : Fin 768)) := by
  refine Eq.trans ?_ (qkv_v (argQ m c) (argK m c) _ _ _)
  rw [← V_qkv]
  blk_ext [iblk, idx3 t]

theorem iblk0 (c : Dev nD) (t : Fin cfg0.N) (i : Fin 4) (e : Fin 64) :
    (iblk m c 0 t : Vec Ideal S4x64 .f32) (ix2 i e) = argL m c (ix2 i e) := by
  unfold argL
  rw [← V_main_arg3 m c]
  blk_ext [iblk, idx0 t]

theorem iblk4 (c : Dev nD) (t : Fin cfg0.N) (d : Fin 128) :
    (iblk m c 4 t : Vec Ideal S128x1 .f32) (ix2 d 0) = argG m c (ix1 d) := by
  rw [← V_gain m c]
  blk_ext [iblk, idx4 t]

/-! ## The result -/

/-- Queries, keys, values and the weight's vectors are finite on core `c`. -/
def Finite (c : Dev nD) : Prop :=
  (∀ i, Fin' (argQ m c i)) ∧ (∀ i, Fin' (argK m c i))
    ∧ (∀ i, Fin' (argV m c i)) ∧ (∀ i, Fin' (argL m c i))

theorem lam_real (x : FVec Ideal S4x64 .f32) (h : ∀ i, Fin' (x i)) :
    ∃ l : ℝ, Ideal.exp (∑ e : Fin 64, x (ix2 0 e) * x (ix2 1 e)) - Ideal.exp (∑ e : Fin 64, x (ix2 2 e) * x (ix2 3 e)) + Ideal.ofBits .f32 0x3E4CCCCD#32 = (l : EReal) := by
  have hx : ∀ i, x i = (((x i).toReal : ℝ) : EReal) := fun i => (EReal.coe_toReal (h i).2 (h i).1).symm
  obtain ⟨z, hz⟩ : ∃ z : ℝ, Ideal.ofBits .f32 0x3E4CCCCD#32 = (z : EReal) := by
    refine ⟨EReal.toReal _, (EReal.coe_toReal ?_ ?_).symm⟩ <;> simp [Ideal.ofBits, Ideal.ieee, -EReal.coe_mul]
  have hs : ∀ i j : Fin 4, ∑ e : Fin 64, x (ix2 i e) * x (ix2 j e) = ((∑ e : Fin 64, (x (ix2 i e)).toReal * (x (ix2 j e)).toReal : ℝ) : EReal) := by
    intro i j
    rw [coe_sum]
    refine Finset.sum_congr rfl fun e _ => ?_
    rw [EReal.coe_mul, ← hx, ← hx]
  rw [hs, hs, hz]
  refine ⟨Real.exp (∑ e : Fin 64, (x (ix2 0 e)).toReal * (x (ix2 1 e)).toReal) - Real.exp (∑ e : Fin 64, (x (ix2 2 e)).toReal * (x (ix2 3 e)).toReal) + z, ?_⟩
  rw [EReal.coe_add, EReal.coe_sub]; rfl

/-- The reference's function of a core's arguments. -/
def result (c : Dev nD) : FVec Ideal S65536x768 .bf16 :=
  Cert.ReferenceIdeal.Attn.out (argG m c) (Cert.ReferenceIdeal.Attn.weighted (argV m c)
    (Cert.ReferenceIdeal.Attn.weights (Cert.ReferenceIdeal.Attn.lam (argL m c)) (Cert.ReferenceIdeal.Attn.probs (Cert.ReferenceIdeal.Attn.scores (argQ m c) (argK m c)))))

/-- An output block, in the place of the result it is written to. -/
theorem outBlk_eq (c : Dev nD) (hf : Finite m c) (t : Fin cfg0.N) (n : Fin 2048) (d : Fin 128) :
    outBlk m c t (ix2 n d) = result m c (ix2 (⟨(t.val / 6) * 2048 + n.val, by have := t_lt t; omega⟩ : Fin 65536) (⟨(t.val % 6) * 128 + d.val, by omega⟩ : Fin 768)) := by
  obtain ⟨h0, h1, h2, h3⟩ := hf
  have ht := t_lt t
  obtain ⟨l, hl⟩ := lam_real _ h3
  have hl1 : lamOf (iblk m c 0 t) (ix2 0 0) = (l : EReal) := by rw [lamOf_apply]; simp only [iblk0]; exact hl
  have hl2 : Cert.ReferenceIdeal.Attn.lam (argL m c) ix0 = (l : EReal) := (Cert.ReferenceIdeal.Attn.lam_apply _ _).trans hl
  have hr : ∀ (x : FVec Ideal S81920x768 .f32) (_ : ∀ i, Fin' (x i)) (r : Fin 81920) (e : Fin 768), x (ix2 r e) = (((x (ix2 r e)).toReal : ℝ) : EReal) :=
    fun x hx r e => (EReal.coe_toReal (hx _).2 (hx _).1).symm
  unfold outBlk
  rw [block_apply _ _ _ _ _ l _ _ _ hl1
    (fun n e => (iblk1 m c t n e).trans (by rw [hr _ h0, sigma_coe, ← EReal.coe_mul]))
    (fun n e => (iblk2 m c t n e).trans (hr _ h1 _ _)) (fun n e => (iblk3 m c t n e).trans (hr _ h2 _ _)) n d]
  unfold result
  rw [Cert.ReferenceIdeal.Attn.out_apply]
  have e1 : ((t.val / 6) * 2048 + n.val) / 2048 = t.val / 6 := by omega
  have e2 : ((t.val / 6) * 2048 + n.val) % 2048 = n.val := by omega
  have e3 : ((t.val % 6) * 128 + d.val) / 128 = t.val % 6 := by omega
  have e4 : ((t.val % 6) * 128 + d.val) % 128 = d.val := by omega
  simp only [e1, e2, e3, e4, iblk4]
  congr 1
  funext e
  exact (Cert.ReferenceIdeal.Attn.out_coe _ _ _ _ l _ _ _ hl2 (hr _ h0) (hr _ h1) (hr _ h2) ⟨t.val / 6, by omega⟩ n ⟨t.val % 6, by omega⟩ e).symm

/-- The result array after the run. -/
theorem final (c : Dev nD) (hf : Finite m c) : (dats m 0 c).arrAt 5 cfg0.N = result m c := by
  refine (dats m 0 c).arrAt_eq_of_covers 5 _ (by decide +kernel) fun t _ y => ?_
  blk_simp
  rw [after0_5]
  idx_vars y
  refine (outBlk_eq m c hf t _ _).trans (congrArg (result m c) ?_)
  blk_ext [idx5 t]

end Cert.KernelIdeal.Attn

end
-- ==== Proof.Finite.lean ====
/- The precondition read: every operand but the gain is finite. -/
module

public import proofs.«01_k».proof.Proof.TileIdeal
public import proofs.«01_k».proof.Pre_finite
public import Idealize.ShloMosaic.Lib.ReduceAll

@[expose] public section

set_option maxRecDepth 16384

noncomputable section

namespace Cert.Pre_finite

open Idealize.ShloMosaic
open Cert.KernelIdeal.Attn (Fin')

variable [Facts]

/-- An `i1` array that is `|x| < ∞` at an index says the entry is finite there. -/
theorem fin'_of_lt (x : EReal) (h : Ideal.cmp .olt (max x (-x)) (Ideal.ofBits .f32 0x7F800000#32) = 1#1) : Fin' x := by
  have ht : Ideal.ofBits .f32 0x7F800000#32 = ⊤ := by simp [Ideal.ofBits, Ideal.ieee]
  rw [ht] at h
  constructor
  · rintro rfl; simp [Ideal.cmp] at h
  · rintro rfl; simp [Ideal.cmp] at h

theorem and_one (a b : IVec S_ 1) (i : S_.Idx) (h : andi a b i = 1#1) : a i = 1#1 ∧ b i = 1#1 := by
  have key : ∀ x y : BitVec 1, IntOp.andi x y = 1#1 → x = 1#1 ∧ y = 1#1 := by decide
  exact key _ _ h

theorem finite_of_fn (q k v : FVec Ideal S81920x768 .f32) (l : FVec Ideal S4x64 .f32) (g : FVec Ideal S128 .f32)
    (h : fn (F := Ideal) q k v l g = fun _ => 1#1) : (∀ i, Fin' (q i)) ∧ (∀ i, Fin' (k i)) ∧ (∀ i, Fin' (v i)) ∧ (∀ i, Fin' (l i)) := by
  have h := congrFun h ix0
  dsimp only [fn, fn_part1] at h
  obtain ⟨h, hl⟩ := and_one _ _ _ h
  obtain ⟨h, hv⟩ := and_one _ _ _ h
  obtain ⟨hq, hk⟩ := and_one _ _ _ h
  exact ⟨fun i => fin'_of_lt _ (Host.reduce_andi_all _ _ _ _ _ hq i), fun i => fin'_of_lt _ (Host.reduce_andi_all _ _ _ _ _ hk i),
    fun i => fin'_of_lt _ (Host.reduce_andi_all _ _ _ _ _ hv i), fun i => fin'_of_lt _ (Host.reduce_andi_all _ _ _ _ _ hl i)⟩

end Cert.Pre_finite

end
-- ==== Proof.Claims.lean ====
/- The kernel's run against the reference's, on the extended reals. -/
module

public import proofs.«01_k».proof.Proof.Frames
public import proofs.«01_k».proof.Proof.Value
public import proofs.«01_k».proof.Proof.Finite
public import proofs.«01_k».proof.Proof.Gen.Pre_finite

@[expose] public section

set_option maxRecDepth 16384

noncomputable section

namespace Cert.Proof

open Idealize.ShloMosaic Idealize.SL.Sem

attribute [local instance] Cert.Kernel.Gen.facts Cert.Pre_finite.Gen.facts

/-- The frames under the precondition: the same runs. -/
theorem frame_ideal_finite : Cert.quiescent_KernelIdeal_pre_finite := fun m ρ _ => Cert.KernelIdeal.Attn.frame_any (F := Ideal) m ρ

theorem frame_reference_finite : Cert.quiescent_ReferenceIdeal_pre_finite := fun m ρ _ => frame_reference m ρ trivial

/-- From finite arguments that agree, both programs end with the differential attention of the arguments. -/
theorem algebraic : Cert.algebraic_KernelIdeal_ReferenceIdeal_pre_finite := by
  intro m ρ m' ρ' hpre hagree
  refine ⟨fun c => Cert.KernelIdeal.Attn.result m c, ?_, ?_⟩
  · refine (θ_run Cert.KernelIdeal.defs _ _).mono ?_
      (θ_run_and (Cert.KernelIdeal.Attn.run_main m ρ) ((θ_run Cert.KernelIdeal.defs _ _).mono (fun _ h => h.1) (Cert.KernelIdeal.Attn.frame_any (F := Ideal) m ρ)))
    rintro r ⟨h, harg⟩ c
    refine ⟨((h c).1 5).trans ?_, harg c⟩
    exact (Cert.KernelIdeal.Attn.final m c (Cert.Pre_finite.finite_of_fn _ _ _ _ _ (hpre c)))
  · refine (θ_run Cert.ReferenceIdeal.defs _ _).mono (fun _ h c => ⟨(h c).1.trans ?_, (h c).2⟩)
      (Cert.ReferenceIdeal.Value.run (F := Ideal) m' ρ')
    refine (Cert.ReferenceIdeal.Attn.res_eq m' c).trans ?_
    rw [(hagree c).1, (hagree c).2.1, (hagree c).2.2.1, (hagree c).2.2.2.1, (hagree c).2.2.2.2]
    rfl

end Cert.Proof

end
-- ==== Proof.ExpertsBody.lean ====
/- One grid point of the experts' feed-forward, executed at any staging memrefs: a tile's first half of the features (the
   gathered rows masked and cast into the scratch, the result started from zero), its second half (the result added to), and
   a point past the tiles in use (nothing done). -/
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead

@[expose] public section

set_option maxRecDepth 16384

noncomputable section

namespace Cert.ExpertsIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ExpertsIdeal.Gen

variable {F : FTy → Type} [FloatOps F]

local notation "𝕄" => MT nD τ sig Unit (Elt F) ℕ (UR sig nD τ) ℕ

/-! ## The table words the body reads -/

/-- The number of tiles in use, as the one-word table holds it, -/
abbrev word1 (nt : Vec F S1 .i32) : BitVec 32 := nt ((Rect.unit (s := S1) ![0] S1.size inb_S1_S1_0).emb (Shape.Idx.first (numel1_S1.symm ▸ Nat.one_pos)))

/-- and as the body reads it. -/
abbrev rd1 (arg3 : Memref sig .tc .smem S1 .i32) (harg3 : arg3.IsWhole) (nt : Vec F S1 .i32) : BitVec 32 :=
  View.readAt (Elt F) arg3.view (Rect.unit (s := S1) ![0] S1.size inb_S1_S1_0).toLoadRect (harg3.unread nt) (Shape.Idx.first (numel1_S1.symm ▸ Nat.one_pos))

theorem rd1_eq (arg3 : Memref sig .tc .smem S1 .i32) (harg3 : arg3.IsWhole) (nt : Vec F S1 .i32) : rd1 arg3 harg3 nt = word1 nt :=
  harg3.readAt_unread nt _ _

/-- The number of a tile's rows that hold a token, as the table holds it at the point. -/
abbrev word2 (i : grid0.Coords) (h2 : k0_cond2 i = 1#1) (tv : Vec F S168 .i32) : BitVec 32 :=
  tv ((Rect.unit (s := S168) (k0_off2 i) S1.size (k0_off2_inb i h2)).emb (Shape.Idx.first (numel1_S1.symm ▸ Nat.one_pos)))

/-! ## The runs -/

set_option maxHeartbeats 2936000 in
/-- A point past the tiles in use reads the number of tiles and does nothing else. -/
theorem idleRun (c : Dev nD) (i : grid0.Coords) (arg2 : Memref sig .tc .smem S168 .i32) (harg2 : arg2.IsWhole) (arg3 : Memref sig .tc .smem S1 .i32) (harg3 : arg3.IsWhole) (arg4 : Memref sig .tc .smem S168 .i32) (harg4 : arg4.IsWhole) (arg5 : Memref sig .tc .vmem S1024x1024 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S1024x1024 .f32) (harg9 : arg9.IsWhole) (arg10 : Memref sig .tc .vmem S1024x1024 .bf16) (harg10 : arg10.IsWhole)
    (q : PosShare TreeShare) (nt : Vec F S1 .i32) (hc : ¬ k0_cond1 i (word1 nt) = 1#1) (E : Set ℕ) (K : PUnit → sProp 𝕄) :
    iprop(owns (c : Thread nD τ) arg3 q nt ∗ (owns (c : Thread nD τ) arg3 q nt -∗ K ⟨⟩))
      ⊢ wp frame (wpE (defs₀ (F := F)) Variants.none c none) E (cc0_expert_swiglu i arg2 harg2 arg3 harg3 arg4 harg4 arg5 harg5 arg6 harg6 arg7 harg7 arg8 harg8 arg9 harg9 arg10 harg10) K := by
  have hr : ¬ k0_cond1 i (rd1 arg3 harg3 nt) = 1#1 := by rw [rd1_eq]; exact hc
  simp only [cc0_expert_swiglu_eq_skeleton]; unfold cc0_expert_swiglu_skel
  unfold owns
  iintro ⟨⟨%f0, %hf0, H0⟩, Hk⟩
  obtain rfl := harg3.eq_unread hf0
  sl_exec! (disch := first | (guard_target = ¬ k0_cond1 _ _ = _; exact hr))
  sl_step
  iapply Hk
  iexists _; isplitr; · ipureintro; exact harg3.read_unread _
  iexact H0

set_option maxHeartbeats 2936000 in
/-- A tile's first half of the features: from the tile's rows and the number of them that hold a token, the result block and the
    masked rows in the scratch. -/
def firstRun (c : Dev nD) (i : grid0.Coords) (arg2 : Memref sig .tc .smem S168 .i32) (harg2 : arg2.IsWhole) (arg3 : Memref sig .tc .smem S1 .i32) (harg3 : arg3.IsWhole) (arg4 : Memref sig .tc .smem S168 .i32) (harg4 : arg4.IsWhole) (arg5 : Memref sig .tc .vmem S1024x1024 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S1024x1024 .f32) (harg9 : arg9.IsWhole) (arg10 : Memref sig .tc .vmem S1024x1024 .bf16) (harg10 : arg10.IsWhole)
    (q : PosShare TreeShare) (nt : Vec F S1 .i32) (hc : k0_cond1 i (word1 nt) = 1#1) (h2 : k0_cond2 i = 1#1) (tv : Vec F S168 .i32) (x0 : Vec F S1024x1024 .f32) (x1 x2 : Vec F S1x1024x1792 .bf16) (x3 : Vec F S1x1792x1024 .bf16) :
    { Y : Vec F S1024x1024 .f32 × Vec F S1024x1024 .bf16 // ∀ (E : Set ℕ) (K : PUnit → sProp 𝕄),
      iprop(owns (c : Thread nD τ) arg3 q nt ∗ owns (c : Thread nD τ) arg4 q tv ∗ owns (c : Thread nD τ) arg5 fullShare x0 ∗ owns (c : Thread nD τ) arg6 fullShare x1 ∗ owns (c : Thread nD τ) arg7 fullShare x2 ∗ owns (c : Thread nD τ) arg8 fullShare x3 ∗ (∃ d, owns (c : Thread nD τ) arg9 fullShare d) ∗ (∃ d, owns (c : Thread nD τ) arg10 fullShare d)
          ∗ (iprop(owns (c : Thread nD τ) arg3 q nt ∗ owns (c : Thread nD τ) arg4 q tv ∗ owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare Y.1 ∗ owns (c : Thread nD τ) arg10 fullShare Y.2) -∗ K ⟨⟩))
        ⊢ wp frame (wpE (defs₀ (F := F)) Variants.none c none) E (cc0_expert_swiglu i arg2 harg2 arg3 harg3 arg4 harg4 arg5 harg5 arg6 harg6 arg7 harg7 arg8 harg8 arg9 harg9 arg10 harg10) K } := by
    refine ⟨⟨?_, ?_⟩, fun E K => ?run⟩
    case run =>
    have hr : k0_cond1 i (rd1 arg3 harg3 nt) = 1#1 := by rw [rd1_eq]; exact hc
    simp only [cc0_expert_swiglu_eq_skeleton]; unfold cc0_expert_swiglu_skel
    simp only [k0_part1_eq_skeleton, k0_part2_eq_skeleton, k0_part3_eq_skeleton, k0_part4_eq_skeleton, k0_part5_eq_skeleton]
    unfold owns
    iintro ⟨⟨%f0, %hf0, H0⟩, ⟨%ft, %hft, HT⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg3.eq_unread hf0; obtain rfl := harg4.eq_unread hft; obtain rfl := harg5.eq_unread hf1; obtain rfl := harg6.eq_unread hf2; obtain rfl := harg7.eq_unread hf3; obtain rfl := harg8.eq_unread hf4
    sl_exec! (disch := first | (guard_target = k0_cond1 _ _ = _; exact hr) | sl_exact h2)
    sl_step
    iapply Hk
    isplitl [H0]
    · iexists _; isplitr; · ipureintro; exact harg3.read_unread _
      iexact H0
    isplitl [HT]
    · iexists _; isplitr; · ipureintro; exact harg4.read_unread _
      iexact HT
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; swap; · iexact H5
      ipureintro; rfl
    iexists _; isplitr; swap; · iexact H6
    ipureintro; rfl

set_option maxHeartbeats 2936000 in
/-- A tile's second half of the features: the result block added to. -/
def laterRun (c : Dev nD) (i : grid0.Coords) (arg2 : Memref sig .tc .smem S168 .i32) (harg2 : arg2.IsWhole) (arg3 : Memref sig .tc .smem S1 .i32) (harg3 : arg3.IsWhole) (arg4 : Memref sig .tc .smem S168 .i32) (harg4 : arg4.IsWhole) (arg5 : Memref sig .tc .vmem S1024x1024 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S1024x1024 .f32) (harg9 : arg9.IsWhole) (arg10 : Memref sig .tc .vmem S1024x1024 .bf16) (harg10 : arg10.IsWhole)
    (q : PosShare TreeShare) (nt : Vec F S1 .i32) (hc : k0_cond1 i (word1 nt) = 1#1) (h2 : ¬ k0_cond2 i = 1#1) (x0 : Vec F S1024x1024 .f32) (x1 x2 : Vec F S1x1024x1792 .bf16) (x3 : Vec F S1x1792x1024 .bf16) (y : Vec F S1024x1024 .f32) (xb : Vec F S1024x1024 .bf16) :
    { Y : Vec F S1024x1024 .f32 // ∀ (E : Set ℕ) (K : PUnit → sProp 𝕄),
      iprop(owns (c : Thread nD τ) arg3 q nt ∗ owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare y ∗ owns (c : Thread nD τ) arg10 fullShare xb
          ∗ (iprop(owns (c : Thread nD τ) arg3 q nt ∗ owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare Y ∗ owns (c : Thread nD τ) arg10 fullShare xb) -∗ K ⟨⟩))
        ⊢ wp frame (wpE (defs₀ (F := F)) Variants.none c none) E (cc0_expert_swiglu i arg2 harg2 arg3 harg3 arg4 harg4 arg5 harg5 arg6 harg6 arg7 harg7 arg8 harg8 arg9 harg9 arg10 harg10) K } := by
    refine ⟨?_, fun E K => ?run⟩
    case run =>
    have hr : k0_cond1 i (rd1 arg3 harg3 nt) = 1#1 := by rw [rd1_eq]; exact hc
    simp only [cc0_expert_swiglu_eq_skeleton]; unfold cc0_expert_swiglu_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg3.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6
    sl_exec! (disch := first | (guard_target = k0_cond1 _ _ = _; exact hr) | sl_exact h2)
    sl_step
    iapply Hk
    isplitl [H0]
    · iexists _; isplitr; · ipureintro; exact harg3.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; swap; · iexact H5
      ipureintro; rfl
    iexists _; isplitr; swap; · iexact H6
    ipureintro; exact harg10.read_unread _

end Cert.ExpertsIdeal.Moe

end
-- ==== Proof.ExpertsStep.lean ====
/- What the runs of a point leave, read as `step`: the seven chunks of the point's features added one after another. -/
module

public import proofs.«01_k».proof.Proof.ExpertsBody
public import Idealize.ShloMosaic.Lib.Pipeline.ValueKit

@[expose] public section

set_option maxRecDepth 16384

noncomputable section

namespace Cert.ExpertsIdeal.Moe

open Idealize.ShloMosaic Idealize.ShloMosaic.TcCoe Idealize.ShloMosaic.Tactic
open Idealize.SL Idealize.SL.RA Idealize.SL.BI
open Cert.ExpertsIdeal.Gen

variable {F : FTy → Type} [FloatOps F]

/-! ## One point's features, chunk by chunk -/

/-- Chunk `u`'s columns of a block of the first weights, -/
def cols (w : Vec F S1x1024x1792 .bf16) (u : Fin 7) : Vec F S1x1024x256 .bf16 :=
  fun x => w (Idealize.ShloMosaic.ValueIdx.ix3 (0 : Fin 1) (x 1 : Fin 1024) (⟨256 * u.val + (x 2).val, by have : (x 2).val < 256 := (x 2).isLt; omega⟩ : Fin 1792))
/-- and its rows of a block of the second ones. -/
def rows (w : Vec F S1x1792x1024 .bf16) (u : Fin 7) : Vec F S1x256x1024 .bf16 :=
  fun x => w (Idealize.ShloMosaic.ValueIdx.ix3 (0 : Fin 1) (⟨256 * u.val + (x 1).val, by have : (x 1).val < 256 := (x 1).isLt; omega⟩ : Fin 1792) (x 2 : Fin 1024))

/-- The result block after chunk `u` of the point's features. -/
def chunk (xb : Vec F S1024x1024 .bf16) (wg wu : Vec F S1x1024x1792 .bf16) (wd : Vec F S1x1792x1024 .bf16) (u : Fin 7) (ys : Vec F S1024x1024 .f32) : Vec F S1024x1024 .f32 :=
  k0_pay4 xb (cols wg u) (cols wu u) ys (rows wd u)

/-- The result block after the point's seven chunks. -/
def step (xb : Vec F S1024x1024 .bf16) (wg wu : Vec F S1x1024x1792 .bf16) (wd : Vec F S1x1792x1024 .bf16) (ys : Vec F S1024x1024 .f32) : Vec F S1024x1024 .f32 :=
  (List.finRange 7).foldl (fun y u => chunk xb wg wu wd u y) ys

theorem step_eq (xb : Vec F S1024x1024 .bf16) (wg wu : Vec F S1x1024x1792 .bf16) (wd : Vec F S1x1792x1024 .bf16) (ys : Vec F S1024x1024 .f32) :
    step xb wg wu wd ys = chunk xb wg wu wd 6 (chunk xb wg wu wd 5 (chunk xb wg wu wd 4 (chunk xb wg wu wd 3 (chunk xb wg wu wd 2 (chunk xb wg wu wd 1 (chunk xb wg wu wd 0 ys)))))) := rfl

theorem ld_cols (w : Vec F S1x1024x1792 .bf16) (u : Fin 7) (off : Fin 3 → Nat) (inb : ∀ a, off a + S1x1024x256.size a ≤ S1x1024x1792.size a)
    (h : off = ![0, 0, 256 * u.val]) : View.ld (Val := Elt F) w (Rect.unit (s := S1x1024x1792) off S1x1024x256.size inb) = cols w u := by
  subst h
  funext x
  refine congrArg w ?_
  have hx0 : (x 0).val < 1 := (x 0).isLt
  funext d
  fin_cases d
  · exact Fin.ext (show 0 + 1 * (x 0).val = 0 by omega)
  · exact Fin.ext (show 0 + 1 * (x 1).val = (x 1).val by omega)
  · exact Fin.ext (show 256 * u.val + 1 * (x 2).val = 256 * u.val + (x 2).val by omega)

theorem ld_rows (w : Vec F S1x1792x1024 .bf16) (u : Fin 7) (off : Fin 3 → Nat) (inb : ∀ a, off a + S1x256x1024.size a ≤ S1x1792x1024.size a)
    (h : off = ![0, 256 * u.val, 0]) : View.ld (Val := Elt F) w (Rect.unit (s := S1x1792x1024) off S1x256x1024.size inb) = rows w u := by
  subst h
  funext x
  refine congrArg w ?_
  have hx0 : (x 0).val < 1 := (x 0).isLt
  funext d
  fin_cases d
  · exact Fin.ext (show 0 + 1 * (x 0).val = 0 by omega)
  · exact Fin.ext (show 256 * u.val + 1 * (x 1).val = 256 * u.val + (x 1).val by omega)
  · exact Fin.ext (show 0 + 1 * (x 2).val = (x 2).val by omega)

theorem zero2 : (![0, 0] : Fin 2 → Nat) = fun _ => 0 := by
  funext a
  fin_cases a <;> rfl

/-- The later payloads are the first chunk's, in parts. -/
theorem pay6_eq (a : Vec F S1024x1024 .bf16) (b c y d) : k0_pay6 (F := F) a (k0_pay5 a b) c y d = k0_pay4 a b c y d := rfl
theorem pay11_eq (a : Vec F S1024x1024 .bf16) (b c y d) : k0_pay11 (F := F) (k0_pay7 a b) (k0_pay8 a c) (k0_pay9 y) (k0_pay10 a b) d = k0_pay4 a b c y d := rfl
theorem pay12_eq (a : Vec F S1024x1024 .bf16) (b c y d) : k0_pay12 (F := F) a b c y d = k0_pay4 a b c y d := rfl
theorem pay13_eq (a : Vec F S1024x1024 .bf16) (b c y d) : k0_pay13 (F := F) a b c y d = k0_pay4 a b c y d := rfl
theorem pay16_eq (a : Vec F S1024x1024 .bf16) (b c y d) : k0_pay16 (F := F) (k0_pay14 a b) (k0_pay15 a c) y d = k0_pay4 a b c y d := rfl
theorem pay1_eq (a : Vec F S1024x1024 .bf16) (b c y d) : k0_pay1 (F := F) (k0_pay17 y) (k0_pay18 a b c) d = k0_pay4 a b c y d := rfl

set_option maxHeartbeats 4000000 in
/-- What the second half's run leaves. -/
theorem laterRun_val (c : Dev nD) (i : grid0.Coords) (arg2 : Memref sig .tc .smem S168 .i32) (harg2 : arg2.IsWhole) (arg3 : Memref sig .tc .smem S1 .i32) (harg3 : arg3.IsWhole) (arg4 : Memref sig .tc .smem S168 .i32) (harg4 : arg4.IsWhole) (arg5 : Memref sig .tc .vmem S1024x1024 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S1024x1024 .f32) (harg9 : arg9.IsWhole) (arg10 : Memref sig .tc .vmem S1024x1024 .bf16) (harg10 : arg10.IsWhole)
    (q : PosShare TreeShare) (nt : Vec F S1 .i32) (hc : k0_cond1 i (word1 nt) = 1#1) (h2 : ¬ k0_cond2 i = 1#1) (x0 : Vec F S1024x1024 .f32) (x1 x2 : Vec F S1x1024x1792 .bf16) (x3 : Vec F S1x1792x1024 .bf16) (y : Vec F S1024x1024 .f32) (xb : Vec F S1024x1024 .bf16) :
    (laterRun c i arg2 harg2 arg3 harg3 arg4 harg4 arg5 harg5 arg6 harg6 arg7 harg7 arg8 harg8 arg9 harg9 arg10 harg10 q nt hc h2 x0 x1 x2 x3 y xb).1 = step xb x1 x2 x3 y := by
  unfold laterRun
  dsimp only
  rw [View.read_writes_junk_eq_canon]
  sl_unfold_run_names
  simp only [View.readAt_eq_ld, Memref.IsWhole.read_unread, pay6_eq, pay11_eq, pay12_eq, pay13_eq, pay16_eq, pay1_eq]
  simp only [ld_cols _ 0 ![0, 0, 0] _ rfl, ld_cols _ 1 ![0, 0, 256] _ rfl, ld_cols _ 2 ![0, 0, 512] _ rfl, ld_cols _ 3 ![0, 0, 768] _ rfl,
    ld_cols _ 4 ![0, 0, 1024] _ rfl, ld_cols _ 5 ![0, 0, 1280] _ rfl, ld_cols _ 6 ![0, 0, 1536] _ rfl, ld_rows _ 0 ![0, 0, 0] _ rfl,
    ld_rows _ 1 ![0, 256, 0] _ rfl, ld_rows _ 2 ![0, 512, 0] _ rfl, ld_rows _ 3 ![0, 768, 0] _ rfl, ld_rows _ 4 ![0, 1024, 0] _ rfl,
    ld_rows _ 5 ![0, 1280, 0] _ rfl, ld_rows _ 6 ![0, 1536, 0] _ rfl]
  rw [View.canon_cons_unit_zero zero2]
  simp only [View.readCov_cons_toLoadRect, View.ld_unit_zero (S := S1024x1024) zero2]
  rfl

set_option maxHeartbeats 4000000 in
/-- What the first half's run leaves: the result block, and the rounded rows kept for the second half. -/
theorem firstRun_val (c : Dev nD) (i : grid0.Coords) (arg2 : Memref sig .tc .smem S168 .i32) (harg2 : arg2.IsWhole) (arg3 : Memref sig .tc .smem S1 .i32) (harg3 : arg3.IsWhole) (arg4 : Memref sig .tc .smem S168 .i32) (harg4 : arg4.IsWhole) (arg5 : Memref sig .tc .vmem S1024x1024 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S1024x1024 .f32) (harg9 : arg9.IsWhole) (arg10 : Memref sig .tc .vmem S1024x1024 .bf16) (harg10 : arg10.IsWhole)
    (q : PosShare TreeShare) (nt : Vec F S1 .i32) (hc : k0_cond1 i (word1 nt) = 1#1) (h2 : k0_cond2 i = 1#1) (tv : Vec F S168 .i32) (x0 : Vec F S1024x1024 .f32) (x1 x2 : Vec F S1x1024x1792 .bf16) (x3 : Vec F S1x1792x1024 .bf16) :
    (firstRun c i arg2 harg2 arg3 harg3 arg4 harg4 arg5 harg5 arg6 harg6 arg7 harg7 arg8 harg8 arg9 harg9 arg10 harg10 q nt hc h2 tv x0 x1 x2 x3).1 = (step (k0_pay2 (word2 i h2 tv) x0) x1 x2 x3 k0_pay3, k0_pay2 (word2 i h2 tv) x0) := by
  unfold firstRun
  dsimp only
  rw [View.read_writes_junk_eq_canon, View.read_writes_junk_eq_canon]
  sl_unfold_run_names
  simp only [View.readAt_eq_ld, Memref.IsWhole.read_unread, pay6_eq, pay11_eq, pay12_eq, pay13_eq, pay16_eq, pay1_eq]
  simp only [ld_cols _ 0 ![0, 0, 0] _ rfl, ld_cols _ 1 ![0, 0, 256] _ rfl, ld_cols _ 2 ![0, 0, 512] _ rfl, ld_cols _ 3 ![0, 0, 768] _ rfl,
    ld_cols _ 4 ![0, 0, 1024] _ rfl, ld_cols _ 5 ![0, 0, 1280] _ rfl, ld_cols _ 6 ![0, 0, 1536] _ rfl, ld_rows _ 0 ![0, 0, 0] _ rfl,
    ld_rows _ 1 ![0, 256, 0] _ rfl, ld_rows _ 2 ![0, 512, 0] _ rfl, ld_rows _ 3 ![0, 768, 0] _ rfl, ld_rows _ 4 ![0, 1024, 0] _ rfl,
    ld_rows _ 5 ![0, 1280, 0] _ rfl, ld_rows _ 6 ![0, 1536, 0] _ rfl]
  rw [View.canon_cons_unit_zero zero2, View.canon_cons_unit_zero zero2]
  simp only [View.readCov_cons_toLoadRect, View.ld_unit_zero (S := S1024x1024) zero2]
  rfl

end Cert.ExpertsIdeal.Moe

end
-- ==== Proof.ExpertsTables.lean ====
/- The tables of the experts' launch: what the precondition says of their words, the index maps in closed form, and the
   region's side condition. -/
module

public import proofs.«01_k».proof.Proof.ExpertsStep
public import Idealize.ShloMosaic.Lib.WordArith

@[expose] public section

set_option maxRecDepth 16384

noncomputable section

namespace Cert.ExpertsIdeal.Moe

open Idealize.ShloMosaic Idealize.ShloMosaic.TcCoe Idealize.ShloMosaic.Tactic
open Idealize.SL Idealize.SL.RA Idealize.SL.BI
open Idealize.ShloMosaic.WordCmp
open Cert.ExpertsIdeal.Gen

variable {F : FTy → Type} [FloatOps F]

/-- The word a point's index maps read for its expert, -/
def tew (pf : pre0.Contents (Elt F)) (i : grid0.Coords) : BitVec 32 :=
  pf.at 0 (Rect.unit (s := S168) ![(Scalar.indexCast (BitVec.ofNat 32 (i 0).val) : Index).toNat] S1.size (k0_off1_inb i)) numel1_S1
/-- and the word for the number of tiles in use. -/
def ntw (pf : pre0.Contents (Elt F)) : BitVec 32 :=
  pf.at 1 (Rect.unit (s := S1) ![0] S1.size inb_S1_S1_0) numel1_S1

/-- What the launch needs of the tables. -/
structure Tab (pf : pre0.Contents (Elt F)) : Prop where
  te : ∀ i, (tew pf i).toNat < 8
  pos : 1 ≤ (ntw pf).toNat
  le : (ntw pf).toNat ≤ 168

theorem word1_eq (pf : pre0.Contents (Elt F)) : word1 (F := F) (pf 1) = ntw pf := rfl

theorem atD_eq (pf : pre0.Contents (Elt F)) : pf.atD 1 ![0] = ntw pf := by
  unfold ntw
  refine (dif_pos (fun a => by fin_cases a; exact Nat.one_pos)).trans ?_
  refine congrArg (pf 1) (funext fun a => Fin.ext ?_)
  fin_cases a
  rfl

theorem coord0_lt (i : grid0.Coords) : (i 0).val < 168 := (i 0).isLt
theorem coord1_lt (i : grid0.Coords) : (i 1).val < 2 := (i 1).isLt

theorem cond2_iff (i : grid0.Coords) : k0_cond2 i = 1#1 ↔ (i 1).val = 0 := by
  have h := coord1_lt i
  unfold k0_cond2
  generalize (i 1).val = j at h
  interval_cases j <;> decide

section
variable {pf : pre0.Contents (Elt F)} (hT : Tab pf)
include hT

theorem slt_iff (i : grid0.Coords) : Scalar.cmpi .slt (BitVec.ofNat 32 (i 0).val) (ntw pf) = BitVec.ofBool (decide ((i 0).val < (ntw pf).toNat)) := by
  have h0 := coord0_lt i
  have h1 := hT.le
  have e : (BitVec.ofNat 32 (i 0).val).toNat = (i 0).val := toNat_ofNat_of_lt (by omega)
  show IntOp.cmpi _ _ _ = _
  rw [cmpi_slt_of_lt (by rw [e]; omega) (by omega), e]

theorem cond1_iff (i : grid0.Coords) : k0_cond1 i (ntw pf) = 1#1 ↔ (i 0).val < (ntw pf).toNat := by
  unfold k0_cond1
  dsimp only
  rw [slt_iff hT]
  by_cases h : (i 0).val < (ntw pf).toNat
  · simp only [h, decide_true, iff_true]; decide
  · simp only [h, decide_false, iff_false]; decide

theorem min_eq (i : grid0.Coords) : (Scalar.minsi (BitVec.ofNat 32 (i 0).val) (Scalar.subi (ntw pf) 1#32)).toNat = min (i 0).val ((ntw pf).toNat - 1) := by
  have h0 := coord0_lt i
  have h1 := hT.le
  have h2 := hT.pos
  have e : (BitVec.ofNat 32 (i 0).val).toNat = (i 0).val := toNat_ofNat_of_lt (by omega)
  have es : (Scalar.subi (ntw pf) 1#32).toNat = (ntw pf).toNat - 1 := by
    show (ntw pf - 1#32).toNat = _
    rw [BitVec.toNat_sub]
    simp only [BitVec.toNat_ofNat]
    omega
  exact (WordArith.toNat_minsi_of_lt _ _ (by rw [e]; omega) (by rw [es]; omega)).trans (by rw [e, es])

theorem chunk_eq (i : grid0.Coords) : (Scalar.select (Scalar.cmpi .slt (BitVec.ofNat 32 (i 0).val) (ntw pf)) (BitVec.ofNat 32 (i 1).val) 1#32)
    = BitVec.ofNat 32 (if (i 0).val < (ntw pf).toNat then (i 1).val else 1) := by
  rw [slt_iff hT]
  unfold Scalar.select
  by_cases h : (i 0).val < (ntw pf).toNat
  · simp only [h, decide_true, if_true]; rfl
  · simp only [h, decide_false, if_false]; rfl

/-- The half of the features a point works on (past the tiles in use: the last read one). -/
def half (pf : pre0.Contents (Elt F)) (i : grid0.Coords) : Nat := if (i 0).val < (ntw pf).toNat then (i 1).val else 1

omit hT in
theorem half_lt (i : grid0.Coords) : half pf i < 2 := by
  have := coord1_lt i
  unfold half; split <;> omega

theorem tr0 (i : grid0.Coords) : cc0_transform_0 inb_S1_S1_0 numel1_S1 pf i = ![min (i 0).val ((ntw pf).toNat - 1), 0] := by
  unfold cc0_transform_0
  dsimp only
  rw [show pf.at 1 (Rect.unit (s := S1) ![0] S1.size inb_S1_S1_0) numel1_S1 = ntw pf from rfl, min_eq hT]
  rfl
theorem tr4 (i : grid0.Coords) : cc0_transform_4 inb_S1_S1_0 numel1_S1 pf i = ![min (i 0).val ((ntw pf).toNat - 1), 0] := by
  unfold cc0_transform_4
  dsimp only
  rw [show pf.at 1 (Rect.unit (s := S1) ![0] S1.size inb_S1_S1_0) numel1_S1 = ntw pf from rfl, min_eq hT]
  rfl
theorem tr1 (i : grid0.Coords) : cc0_transform_1 k0_off1_inb numel1_S1 inb_S1_S1_0 pf i = ![(tew pf i).toNat, 0, half pf i] := by
  have hh := half_lt (pf := pf) i
  unfold cc0_transform_1
  dsimp only
  rw [show pf.at 1 (Rect.unit (s := S1) ![0] S1.size inb_S1_S1_0) numel1_S1 = ntw pf from rfl, chunk_eq hT,
    show (BitVec.ofNat 32 (if (i 0).val < (ntw pf).toNat then (i 1).val else 1)).toNat = half pf i from toNat_ofNat_of_lt (show half pf i < 2 ^ 32 by omega)]
  rfl
theorem tr2 (i : grid0.Coords) : cc0_transform_2 k0_off1_inb numel1_S1 inb_S1_S1_0 pf i = ![(tew pf i).toNat, 0, 2 + half pf i] := by
  have hh := half_lt (pf := pf) i
  unfold cc0_transform_2
  dsimp only
  rw [show pf.at 1 (Rect.unit (s := S1) ![0] S1.size inb_S1_S1_0) numel1_S1 = ntw pf from rfl, chunk_eq hT,
    show (Scalar.addi 2#32 (BitVec.ofNat 32 (if (i 0).val < (ntw pf).toNat then (i 1).val else 1))).toNat = 2 + half pf i by
      show (2#32 + BitVec.ofNat 32 (half pf i)).toNat = _
      rw [BitVec.toNat_add, toNat_ofNat_of_lt (show half pf i < 2 ^ 32 by omega)]
      simp only [BitVec.toNat_ofNat]
      omega]
  rfl
theorem tr3 (i : grid0.Coords) : cc0_transform_3 k0_off1_inb numel1_S1 inb_S1_S1_0 pf i = ![(tew pf i).toNat, half pf i, 0] := by
  have hh := half_lt (pf := pf) i
  unfold cc0_transform_3
  dsimp only
  rw [show pf.at 1 (Rect.unit (s := S1) ![0] S1.size inb_S1_S1_0) numel1_S1 = ntw pf from rfl, chunk_eq hT,
    show (BitVec.ofNat 32 (if (i 0).val < (ntw pf).toNat then (i 1).val else 1)).toNat = half pf i from toNat_ofNat_of_lt (show half pf i < 2 ^ 32 by omega)]
  rfl

/-- The region's side condition holds of such tables. -/
theorem ok_of : ok0 pf := by
  have h1 := hT.le
  have h2 := hT.pos
  unfold ok0
  refine ⟨fun i => ⟨?_, .inl rfl⟩, fun i => ⟨?_, .inr (.inr ⟨by decide, rfl, ?_, rfl⟩)⟩, fun i => ⟨?_, .inr (.inr ⟨by decide, rfl, ?_, rfl⟩)⟩,
    fun i => ⟨?_, .inr (.inl (.inr ⟨by decide, rfl, .inl ⟨?_, ?_⟩⟩))⟩, fun i => ⟨?_, .inl rfl⟩⟩
  all_goals have ht := hT.te i
  all_goals have hh := half_lt (pf := pf) i
  all_goals have h0 := coord0_lt i
  · rw [tr0 hT]
    intro a; fin_cases a
    · show (min (i 0).val ((ntw pf).toNat - 1) + 1) * 1024 ≤ 172032
      omega
    · show (0 + 1) * 1024 ≤ 1024
      omega
  · rw [tr1 hT]
    intro a; fin_cases a
    · show ((tew pf i).toNat + 1) * 1 ≤ 8
      omega
    · show (0 + 1) * 1024 ≤ 1024
      omega
    · show (half pf i + 1) * 1792 ≤ 7168
      omega
  · show cc0_transform_1 k0_off1_inb numel1_S1 inb_S1_S1_0 pf i 1 * 1024 = 0
    rw [tr1 hT]
    rfl
  · rw [tr2 hT]
    intro a; fin_cases a
    · show ((tew pf i).toNat + 1) * 1 ≤ 8
      omega
    · show (0 + 1) * 1024 ≤ 1024
      omega
    · show (2 + half pf i + 1) * 1792 ≤ 7168
      omega
  · show cc0_transform_2 k0_off1_inb numel1_S1 inb_S1_S1_0 pf i 1 * 1024 = 0
    rw [tr2 hT]
    rfl
  · rw [tr3 hT]
    intro a; fin_cases a
    · show ((tew pf i).toNat + 1) * 1 ≤ 8
      omega
    · show (half pf i + 1) * 1792 ≤ 3584
      omega
    · show (0 + 1) * 1024 ≤ 1024
      omega
  · show 2 ∣ cc0_transform_3 k0_off1_inb numel1_S1 inb_S1_S1_0 pf i 1 * 1792
    exact Dvd.dvd.mul_left (by decide) _
  · show 2 ∣ 1792
    decide
  · rw [tr4 hT]
    intro a; fin_cases a
    · show (min (i 0).val ((ntw pf).toNat - 1) + 1) * 1024 ≤ 172032
      omega
    · show (0 + 1) * 1024 ≤ 1024
      omega

end

end Cert.ExpertsIdeal.Moe

end
-- ==== Proof.ExpertsSchedule.lean ====
/- The schedule of the experts' launch at admissible tables: each window's block index at a point, when the result's
   block is written back, and at which points its buffer holds nothing yet. -/
module

public import proofs.«01_k».proof.Proof.ExpertsTables
public import Idealize.ShloMosaic.Lib.Pipeline.TableIdle
public import Idealize.ShloMosaic.Lib.Pipeline.Kit

@[expose] public section

set_option maxRecDepth 16384

noncomputable section

namespace Cert.ExpertsIdeal.Moe

open Idealize.ShloMosaic Idealize.ShloMosaic.TcCoe Idealize.ShloMosaic.Tactic
open Idealize.SL Idealize.SL.RA Idealize.SL.BI
open Cert.ExpertsIdeal.Gen

variable {F : FTy → Type} [FloatOps F]

theorem lt_336 (t : Fin grid0.N) : t.val < 336 := by
  have h := t.isLt
  have e := N_0
  omega
theorem c0_val (t : Fin grid0.N) : (grid0.coords t 0).val = t.val / 2 := by
  have h := lt_336 t
  rw [Pipeline.Grid.coords_val (G := grid0) t 0 (S := 2) (B := 168) (by decide) rfl]
  omega
theorem c1_val (t : Fin grid0.N) : (grid0.coords t 1).val = t.val % 2 := by
  rw [Pipeline.Grid.coords_val (G := grid0) t 1 (S := 1) (B := 2) (by decide) rfl, Nat.div_one]

variable (a : (pcfg0 (F := F)).Adm) (hT : Tab a.1)

/-- The number of tiles in use. -/
abbrev nT : Nat := (ntw a.1).toNat

section
include hT

theorem index4 (t : Fin grid0.N) : ((cfg0 a).win 4).index t = ![min (t.val / 2) (nT a - 1), 0] := by
  show cc0_transform_4 inb_S1_S1_0 numel1_S1 a.1 (grid0.coords t) = _
  rw [tr4 hT, c0_val]
theorem index0 (t : Fin grid0.N) : ((cfg0 a).win 0).index t = ![min (t.val / 2) (nT a - 1), 0] := by
  show cc0_transform_0 inb_S1_S1_0 numel1_S1 a.1 (grid0.coords t) = _
  rw [tr0 hT, c0_val]
theorem index1 (t : Fin grid0.N) : ((cfg0 a).win 1).index t = ![(tew a.1 (grid0.coords t)).toNat, 0, half a.1 (grid0.coords t)] :=
  tr1 hT _
theorem index2 (t : Fin grid0.N) : ((cfg0 a).win 2).index t = ![(tew a.1 (grid0.coords t)).toNat, 0, 2 + half a.1 (grid0.coords t)] :=
  tr2 hT _
theorem index3 (t : Fin grid0.N) : ((cfg0 a).win 3).index t = ![(tew a.1 (grid0.coords t)).toNat, half a.1 (grid0.coords t), 0] :=
  tr3 hT _

/-- The result's block is written back after a tile's second half while another tile follows, and at the last point. -/
theorem flush4 (t : Fin grid0.N) : ((cfg0 a).win 4).flush t = true ↔ (t.val = 335 ∨ (t.val % 2 = 1 ∧ t.val / 2 + 1 < nT a)) := by
  have h := lt_336 t
  have hN := N_0
  have h1 := hT.le
  have h2 := hT.pos
  rw [Pipeline.Window.flush_eq_flushF]
  unfold Pipeline.Window.flushF
  rw [show ((cfg0 a).win 4).isOut = true from rfl, Bool.true_and, Bool.or_eq_true, decide_eq_true_eq, decide_eq_true_eq]
  have hN' : (⟨grid0.rank, grid0.bound, grid0.dyn⟩ : Pipeline.Grid).N = 336 := hN
  constructor
  · rintro (hl | ⟨hl, x, hx⟩)
    · left
      have hl' : t.val + 1 = grid0.N := hl
      omega
    · by_cases h3 : t.val = 335
      · exact .inl h3
      right
      rw [index4 a hT t, index4 a hT ⟨t.val + 1, hl⟩] at hx
      have hx' : min ((t.val + 1) / 2) (nT a - 1) ≠ min (t.val / 2) (nT a - 1) := by
        intro e
        refine hx ?_
        fin_cases x
        · exact e
        · rfl
      dsimp only [nT] at hx' ⊢
      omega
  · rintro (hl | ⟨hl, hl'⟩)
    · left
      show t.val + 1 = grid0.N
      omega
    · by_cases h3 : t.val = 335
      · left
        show t.val + 1 = grid0.N
        omega
      right
      have hlt : t.val + 1 < grid0.N := by omega
      refine ⟨hlt, (0 : Fin 2), ?_⟩
      rw [index4 a hT t, index4 a hT ⟨t.val + 1, hlt⟩]
      show min ((t.val + 1) / 2) (nT a - 1) ≠ min (t.val / 2) (nT a - 1)
      dsimp only [nT] at hl' ⊢
      omega

theorem idle4 (t : Fin grid0.N) : (cfg0 a).idle 4 (grid0.coords t) = true ↔ ¬ t.val / 2 < nT a := by
  show (!(k0_cond1 (grid0.coords t) (a.1.atD 1 ![0]) == 1#1 && k0_cond2 (grid0.coords t) == 1#1) && !(k0_cond1 (grid0.coords t) (a.1.atD 1 ![0]) == 1#1)) = true ↔ _
  rw [atD_eq]
  have h := cond1_iff hT (grid0.coords t)
  rw [c0_val] at h
  rw [← h]
  by_cases hc : k0_cond1 (grid0.coords t) (ntw a.1) = 1#1
  · simp [hc]
  · simp [hc]

/-- The buffer holds nothing of the block yet exactly before a tile's first half. -/
theorem fresh4 (t : Fin grid0.N) : (cfg0 a).fresh 4 t.val = true ↔ (t.val % 2 = 0 ∧ t.val / 2 < nT a) := by
  have hN := N_0
  have h1 := hT.le
  have h2 := hT.pos
  have key := Pipeline.Cfg.fresh_tab (cfg0 a) 4 (fun n => decide (n = 336 ∨ (n % 2 = 0 ∧ n / 2 < nT a)))
    (decide_eq_true (.inr ⟨rfl, hT.pos⟩))
    (fun t => by
      have ht := lt_336 t
      have hf := flush4 a hT t
      have hi := idle4 a hT t
      rw [Bool.eq_iff_iff, Bool.or_eq_true, Bool.and_eq_true, decide_eq_true_eq, decide_eq_true_eq]
      refine Iff.trans ?_ (or_congr hf.symm (and_congr_left' hi.symm))
      dsimp only [nT]
      constructor
      · rintro (h | ⟨h3, h4⟩)
        · left; left; omega
        · left
          by_cases h5 : t.val = 335
          · exact .inl h5
          · right; omega
      · rintro ((h | ⟨h3, h4⟩) | ⟨h3, (h | ⟨h4, h5⟩)⟩)
        · left; omega
        · right; omega
        · omega
        · omega) t.val (Nat.le_of_lt t.isLt)
  have ht := lt_336 t
  rw [key, decide_eq_true_eq]
  constructor
  · rintro (h | h)
    · omega
    · exact h
  · exact .inr

end

end Cert.ExpertsIdeal.Moe

end
-- ==== Proof.ExpertsLaunch.lean ====
/- The launch of the experts at admissible tables: the proof data (a tile's result block after its first half, and after
   both), the body obligation by the three kinds of points, and the run of @main. -/
module

public import proofs.«01_k».proof.Proof.ExpertsSchedule
public import Idealize.ShloMosaic.Lib.Pipeline.FrameBody
public import Idealize.ShloMosaic.Lib.Claim

@[expose] public section

set_option maxRecDepth 16384

noncomputable section

namespace Cert.ExpertsIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain : Pipeline.HMainP (Ix := Unit) (Name := ℕ) (U := UR sig nD τ) (Lvl := ℕ) pcfgs 0 defs₀ Variants.none m (main (F := F)) (V m) :=
  Pipeline.hmainP_prefix pcfgs 0 defs₀ Variants.none m main hostOps0 hostOps0_sub hostOps0_fresh main_chain

/-- The region finds a buffer no host operation writes as launched. -/
theorem V_of_ne (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1⟩))

/-! ## The proof data -/

section Data

variable (a : (pcfg0 (F := F)).Adm)

/-- Window `w`'s block at point `t`, read off its array as the region finds it. -/
def iblk (c : Dev nD) (w : Fin 5) (t : Fin grid0.N) : (((cfg0 a).win w).xblock (grid0.coords t)).Idx → Elt F ((cfg0 a).win w).elt :=
  (((cfg0 a).win w).blk t).view.read (Elt F) (V m c (Pipeline.arrRef spec0 w))

/-- The point of the grid at a position. -/
def pt (n : Nat) (h : n < 336) : Fin grid0.N := ⟨n, by have e := N_0; omega⟩

/-- How many of a tile's rows hold a token, as the third table says it. -/
def tvw (pf : pre0.Contents (Elt F)) (i : grid0.Coords) : BitVec 32 := pf 2 (fun x => ⟨(i 0).val, by fin_cases x; exact coord0_lt i⟩)

theorem word2_eq (pf : pre0.Contents (Elt F)) (i : grid0.Coords) (h2 : k0_cond2 i = 1#1) : word2 (F := F) i h2 (pf 2) = tvw pf i := by
  refine congrArg (pf 2) (funext fun x => Fin.ext ?_)
  fin_cases x
  have h0 := coord0_lt i
  show (BitVec.ofNat 32 (i 0).val).toNat + 1 * 0 = (i 0).val
  rw [WordCmp.toNat_ofNat_of_lt (by omega)]
  omega

/-- Tile `k`'s rows, rounded, the rows without a token at zero; -/
def xb (c : Dev nD) (k : Fin 168) : Vec F S1024x1024 .bf16 :=
  k0_pay2 (tvw a.1 (grid0.coords (pt (2 * k.val) (by omega)))) (iblk m a c 0 (pt (2 * k.val) (by omega)))
/-- its result after the first half of the features, -/
def half0 (c : Dev nD) (k : Fin 168) : Vec F S1024x1024 .f32 :=
  step (xb m a c k) (iblk m a c 1 (pt (2 * k.val) (by omega))) (iblk m a c 2 (pt (2 * k.val) (by omega))) (iblk m a c 3 (pt (2 * k.val) (by omega))) k0_pay3
/-- and after both. -/
def full (c : Dev nD) (k : Fin 168) : Vec F S1024x1024 .f32 :=
  step (xb m a c k) (iblk m a c 1 (pt (2 * k.val + 1) (by omega))) (iblk m a c 2 (pt (2 * k.val + 1) (by omega))) (iblk m a c 3 (pt (2 * k.val + 1) (by omega))) (half0 m a c k)

/-- The tile a point works on (past the tiles in use, the last of them). -/
def tileAt (n : Nat) (h : n < 336) : Fin 168 := ⟨min (n / 2) (nT a - 1), by omega⟩

/-- What the result's buffer holds after a point. -/
def outBlk (c : Dev nD) (t : Fin grid0.N) : Vec F S1024x1024 .f32 :=
  if t.val % 2 = 0 ∧ t.val / 2 < nT a then half0 m a c (tileAt a t.val (lt_336 t)) else full m a c (tileAt a t.val (lt_336 t))

abbrev scM : Memref sig .tc .vmem S1024x1024 .bf16 := Memref.whole cc0_scratch0

/-- The kept rows before point `n`: between a tile's halves they are the tile's rounded rows. -/
def scr (c : Dev nD) (n : Nat) : sProp 𝕄 :=
  if n % 2 = 1 ∧ n / 2 < nT a then (if h : n < 336 then owns (c : Thread nD τ) scM fullShare (xb m a c (tileAt a n h)) else iprop(∃ d, owns (c : Thread nD τ) scM fullShare d))
  else iprop(∃ d, owns (c : Thread nD τ) scM fullShare d)

/-- The arrays as the region finds them; every input block left in place, the result's block at `outBlk`. -/
def dats (_p : Fin 1) (c : Dev nD) : Dat τ (Elt F) Unit ℕ (UR sig nD τ) ℕ (cfg0 a) c where
  A w := V m c (Pipeline.arrRef spec0 w)
  after w t := match w with
    | ⟨0, _⟩ => iblk m a c 0 t
    | ⟨1, _⟩ => iblk m a c 1 t
    | ⟨2, _⟩ => iblk m a c 2 t
    | ⟨3, _⟩ => iblk m a c 3 t
    | ⟨4, _⟩ => outBlk m a c t
  Φ t := iprop(scr m a c t.val ∗ (∃ r, prngReg c r) ∗ Pipeline.ΦT pre0 a.1 c)
  q w := Pipeline.shareOf spec0 w
  owed _ := 0

theorem A_eq (c : Dev nD) (w : Fin 5) : (dats m a 0 c).A w = V m c (Pipeline.arrRef spec0 w) := by
  dsimp only [dats]

theorem after0_0 (c : Dev nD) (t : Fin grid0.N) : (dats m a 0 c).after 0 t = iblk m a c 0 t := rfl
theorem after0_1 (c : Dev nD) (t : Fin grid0.N) : (dats m a 0 c).after 1 t = iblk m a c 1 t := rfl
theorem after0_2 (c : Dev nD) (t : Fin grid0.N) : (dats m a 0 c).after 2 t = iblk m a c 2 t := rfl
theorem after0_3 (c : Dev nD) (t : Fin grid0.N) : (dats m a 0 c).after 3 t = iblk m a c 3 t := rfl
theorem after0_4 (c : Dev nD) (t : Fin grid0.N) : (dats m a 0 c).after 4 t = outBlk m a c t := rfl

/-- An input window's buffer holds its block at every point. -/
theorem before0_0 (c : Dev nD) (t : Fin grid0.N) (d) : (dats m a 0 c).before 0 t d = iblk m a c 0 t :=
  ((dats m a 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin grid0.N) (d) : (dats m a 0 c).before 1 t d = iblk m a c 1 t :=
  ((dats m a 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin grid0.N) (d) : (dats m a 0 c).before 2 t d = iblk m a c 2 t :=
  ((dats m a 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin grid0.N) (d) : (dats m a 0 c).before 3 t d = iblk m a c 3 t :=
  ((dats m a 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

section
variable (hT : Tab a.1)
include hT

/-- Past the tiles in use the result's buffer keeps what it held. -/
theorem carry (c : Dev nD) (t : Fin grid0.N) (h0 : t.val ≠ 0) (hi : ¬ t.val / 2 < nT a) :
    outBlk m a c t = outBlk m a c ⟨t.val - 1, by omega⟩ := by
  have h1 : nT a ≤ 168 := hT.le
  have h2 : 1 ≤ nT a := hT.pos
  unfold outBlk
  rw [if_neg (by omega), if_neg (by dsimp only; omega)]
  refine congrArg (full m a c) (Fin.ext ?_)
  show min (t.val / 2) (nT a - 1) = min ((t.val - 1) / 2) (nT a - 1)
  omega

theorem before4 (c : Dev nD) (t : Fin grid0.N) (h : ¬ (t.val % 2 = 0 ∧ t.val / 2 < nT a)) (d) :
    (dats m a 0 c).before 4 t d = outBlk m a c ⟨t.val - 1, by omega⟩ := by
  rw [(dats m a 0 c).before_out_traj 4 rfl (fun _ _ => rfl) (fun t h0 hi _ => by
    rw [after0_4, after0_4]
    exact carry m a hT c t h0 ((idle4 a hT t).mp hi)) t.val t rfl d]
  rw [if_neg (fun e => h ((fresh4 a hT t).mp e)), after0_4]

theorem scr_first (c : Dev nD) (t : Fin grid0.N) (h : t.val % 2 = 0 ∧ t.val / 2 < nT a) :
    scr m a c t.val = iprop(∃ d, owns (c : Thread nD τ) scM fullShare d)
    ∧ scr m a c (t.val + 1) = owns (c : Thread nD τ) scM fullShare (xb m a c (tileAt a t.val (lt_336 t))) := by
  have ht := lt_336 t
  unfold scr
  rw [if_neg (by omega), if_pos (by omega), dif_pos (by omega)]
  refine ⟨rfl, ?_⟩
  rw [show tileAt a (t.val + 1) (by omega) = tileAt a t.val ht from Fin.ext (by
    show min ((t.val + 1) / 2) (nT a - 1) = min (t.val / 2) (nT a - 1)
    omega)]

theorem scr_later (c : Dev nD) (t : Fin grid0.N) (h : t.val % 2 = 1 ∧ t.val / 2 < nT a) :
    scr m a c t.val = owns (c : Thread nD τ) scM fullShare (xb m a c (tileAt a t.val (lt_336 t)))
    ∧ scr m a c (t.val + 1) = iprop(∃ d, owns (c : Thread nD τ) scM fullShare d) := by
  have ht := lt_336 t
  unfold scr
  rw [if_pos h, dif_pos ht, if_neg (by omega)]
  exact ⟨rfl, rfl⟩

theorem scr_idle (c : Dev nD) (t : Fin grid0.N) (h : ¬ t.val / 2 < nT a) : scr m a c t.val = scr m a c (t.val + 1) := by
  unfold scr
  rw [if_neg (by omega), if_neg (by omega)]

end

theorem tile_even (c : Dev nD) (t : Fin grid0.N) (h : t.val % 2 = 0 ∧ t.val / 2 < nT a) :
    pt (2 * (tileAt a t.val (lt_336 t)).val) (by omega) = t := by
  refine Fin.ext ?_
  show 2 * min (t.val / 2) (nT a - 1) = t.val
  omega
theorem tile_odd (c : Dev nD) (t : Fin grid0.N) (h : t.val % 2 = 1 ∧ t.val / 2 < nT a) :
    pt (2 * (tileAt a t.val (lt_336 t)).val + 1) (by omega) = t := by
  refine Fin.ext ?_
  show 2 * min (t.val / 2) (nT a - 1) + 1 = t.val
  omega

/-- A tile's first half leaves `outBlk` of the blocks at the point, -/
theorem out_first (c : Dev nD) (t : Fin grid0.N) (h : t.val % 2 = 0 ∧ t.val / 2 < nT a) :
    step (k0_pay2 (tvw a.1 (grid0.coords t)) (iblk m a c 0 t)) (iblk m a c 1 t) (iblk m a c 2 t) (iblk m a c 3 t) k0_pay3 = outBlk m a c t
    ∧ k0_pay2 (tvw a.1 (grid0.coords t)) (iblk m a c 0 t) = xb m a c (tileAt a t.val (lt_336 t)) := by
  have e := tile_even a c t h
  unfold outBlk
  rw [if_pos h]
  unfold half0 xb
  rw [e]
  exact ⟨rfl, rfl⟩

/-- and its second half continues it. -/
theorem out_later (c : Dev nD) (t : Fin grid0.N) (h : t.val % 2 = 1 ∧ t.val / 2 < nT a) :
    step (xb m a c (tileAt a t.val (lt_336 t))) (iblk m a c 1 t) (iblk m a c 2 t) (iblk m a c 3 t) (outBlk m a c ⟨t.val - 1, by omega⟩) = outBlk m a c t := by
  have e := tile_odd a c t h
  unfold outBlk
  rw [if_neg (show ¬ (t.val % 2 = 0 ∧ t.val / 2 < nT a) by omega), if_pos (by dsimp only; omega)]
  unfold full
  rw [e]
  rw [show tileAt a (⟨t.val - 1, by omega⟩ : Fin grid0.N).val (lt_336 _) = tileAt a t.val (lt_336 t) from Fin.ext (by
    show min ((t.val - 1) / 2) (nT a - 1) = min (t.val / 2) (nT a - 1)
    omega)]

end Data

end Cert.ExpertsIdeal.Moe

end
-- ==== Proof.ExpertsRun.lean ====
/- The run of the experts' @main: the body obligation by the three kinds of points (a tile's first half, its second half,
   past the tiles in use), and what an execution leaves. -/
module

public import proofs.«01_k».proof.Proof.ExpertsLaunch

@[expose] public section

set_option maxRecDepth 16384

noncomputable section

namespace Cert.ExpertsIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (a : (pcfg0 (F := F)).Adm)

theorem PhiT_eq (c : Dev nD) :
    (Pipeline.ΦT pre0 a.1 c : sProp 𝕄)
      = iprop(owns (c : Thread nD τ) (Memref.whole main_arg0) fullShare.right (a.1 0)
          ∗ owns (c : Thread nD τ) (Memref.whole main_arg1) fullShare.right (a.1 1)
          ∗ owns (c : Thread nD τ) (Memref.whole main_arg2) fullShare.right (a.1 2)) := by
  unfold Pipeline.ΦT Pipeline.prefHeld
  rw [bigSep_univ_eq_bigSepL [0, 1, 2] (by decide) (by decide)]
  exact congrArg₂ BI.sep (owns_whole (c : Thread nD τ) main_arg0 fullShare.right (a.1 0)).symm
    (congrArg₂ BI.sep (owns_whole (c : Thread nD τ) main_arg1 fullShare.right (a.1 1)).symm (owns_whole (c : Thread nD τ) main_arg2 fullShare.right (a.1 2)).symm)

abbrev ms0 (t : Fin grid0.N) : Memref sig .tc .vmem S1024x1024 .f32 := spec0_0.stage ((cfg0 a).slots t 0)
abbrev ms1 (t : Fin grid0.N) : Memref sig .tc .vmem S1x1024x1792 .bf16 := spec0_1.stage ((cfg0 a).slots t 1)
abbrev ms2 (t : Fin grid0.N) : Memref sig .tc .vmem S1x1024x1792 .bf16 := spec0_2.stage ((cfg0 a).slots t 2)
abbrev ms3 (t : Fin grid0.N) : Memref sig .tc .vmem S1x1792x1024 .bf16 := spec0_3.stage ((cfg0 a).slots t 3)
abbrev ms4 (t : Fin grid0.N) : Memref sig .tc .vmem S1024x1024 .f32 := spec0_4.stage ((cfg0 a).slots t 4)
abbrev hs0 (t : Fin grid0.N) : (ms0 a t).IsWhole := hstage0_0 (((cfg0 a).slots t 0).cast nbuf0_0)
abbrev hs1 (t : Fin grid0.N) : (ms1 a t).IsWhole := hstage0_1 (((cfg0 a).slots t 1).cast nbuf0_1)
abbrev hs2 (t : Fin grid0.N) : (ms2 a t).IsWhole := hstage0_2 (((cfg0 a).slots t 2).cast nbuf0_2)
abbrev hs3 (t : Fin grid0.N) : (ms3 a t).IsWhole := hstage0_3 (((cfg0 a).slots t 3).cast nbuf0_3)
abbrev hs4 (t : Fin grid0.N) : (ms4 a t).IsWhole := hstage0_4 (((cfg0 a).slots t 4).cast nbuf0_4)

def bodyAt (t : Fin grid0.N) : Prog (TpuEff nD τ sig (Elt F) Λ₀ .tc) PUnit :=
  cc0_expert_swiglu (grid0.coords t) (Memref.whole main_arg0) (Memref.isWhole_whole _) (Memref.whole main_arg1) (Memref.isWhole_whole _) (Memref.whole main_arg2) (Memref.isWhole_whole _)
    (ms0 a t) (hs0 a t) (ms1 a t) (hs1 a t) (ms2 a t) (hs2 a t) (ms3 a t) (hs3 a t) (ms4 a t) (hs4 a t) (Memref.whole cc0_scratch0) (Memref.isWhole_whole _)

def bodyPre (c : Dev nD) (t : Fin grid0.N) : sProp 𝕄 :=
  iprop((dats m a 0 c).Φ t.castSucc ∗ (dats m a 0 c).owesAt () t.castSucc
    ∗ (∃ d, owns (c : Thread nD τ) (ms0 a t) fullShare ((dats m a 0 c).before 0 t d))
    ∗ (∃ d, owns (c : Thread nD τ) (ms1 a t) fullShare ((dats m a 0 c).before 1 t d))
    ∗ (∃ d, owns (c : Thread nD τ) (ms2 a t) fullShare ((dats m a 0 c).before 2 t d))
    ∗ (∃ d, owns (c : Thread nD τ) (ms3 a t) fullShare ((dats m a 0 c).before 3 t d))
    ∗ (∃ d, owns (c : Thread nD τ) (ms4 a t) fullShare ((dats m a 0 c).before 4 t d)))

def bodyPost (c : Dev nD) (t : Fin grid0.N) : sProp 𝕄 :=
  iprop((dats m a 0 c).Φ t.succ ∗ (dats m a 0 c).owesAt () t.succ
    ∗ owns (c : Thread nD τ) (ms0 a t) fullShare ((dats m a 0 c).after 0 t)
    ∗ owns (c : Thread nD τ) (ms1 a t) fullShare ((dats m a 0 c).after 1 t)
    ∗ owns (c : Thread nD τ) (ms2 a t) fullShare ((dats m a 0 c).after 2 t)
    ∗ owns (c : Thread nD τ) (ms3 a t) fullShare ((dats m a 0 c).after 3 t)
    ∗ (dats m a 0 c).leavesExact 4 t)

theorem Phi_castSucc (c : Dev nD) (t : Fin grid0.N) :
    (dats m a 0 c).Φ t.castSucc = iprop(scr m a c t.val ∗ (∃ r, prngReg c r) ∗ Pipeline.ΦT pre0 a.1 c) := rfl
theorem Phi_succ (c : Dev nD) (t : Fin grid0.N) :
    (dats m a 0 c).Φ t.succ = iprop(scr m a c (t.val + 1) ∗ (∃ r, prngReg c r) ∗ Pipeline.ΦT pre0 a.1 c) := rfl

theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

theorem phi_in (c : Dev nD) : iprop(Pipeline.ΦA spec0 c ∗ Pipeline.ΦT pre0 a.1 c) ⊢ ((dats m a 0 c).Φ 0 : sProp 𝕄) := by
  have e : ((dats m a 0 c).Φ 0 : sProp 𝕄) = iprop((∃ d, owns (c : Thread nD τ) scM fullShare d) ∗ (∃ r, prngReg c r) ∗ Pipeline.ΦT pre0 a.1 c) := by
    show iprop(scr m a c 0 ∗ _) = _
    unfold scr
    rw [if_neg (by omega)]
  rw [e, PhiA_eq]
  iintro ⟨⟨Hs, Hg⟩, Ht⟩
  isplitl [Hs]; · iexact Hs
  isplitl [Hg]; · iexact Hg
  iexact Ht

theorem phi_out (c : Dev nD) : ((dats m a 0 c).Φ (Fin.last grid0.N) : sProp 𝕄) ⊢ Pipeline.ΦA spec0 c := by
  have e : ((dats m a 0 c).Φ (Fin.last grid0.N) : sProp 𝕄) = iprop((∃ d, owns (c : Thread nD τ) scM fullShare d) ∗ (∃ r, prngReg c r) ∗ Pipeline.ΦT pre0 a.1 c) := by
    show iprop(scr m a c grid0.N ∗ _) = _
    unfold scr
    rw [if_neg (by rw [N_0]; omega)]
  rw [e, PhiA_eq]
  iintro ⟨Hs, Hg, -⟩
  isplitl [Hs]; · iexact Hs
  iexact Hg

section Body

variable (hT : Tab a.1)
include hT

theorem leaves4 (c : Dev nD) (t : Fin grid0.N) (h : t.val / 2 < nT a) :
    (dats m a 0 c).leavesExact 4 t = owns (c : Thread nD τ) (ms4 a t) fullShare (outBlk m a c t) := by
  have hi : (cfg0 a).idle 4 ((cfg0 a).grid.coords t) = false := by
    rw [Bool.eq_false_iff]
    exact fun e => (idle4 a hT t).mp e h
  unfold Dat.leavesExact
  rw [hi]
  rfl

theorem cond1_at (t : Fin grid0.N) : k0_cond1 (grid0.coords t) (word1 (F := F) (a.1 1)) = 1#1 ↔ t.val / 2 < nT a := by
  rw [word1_eq, cond1_iff hT, c0_val]

omit hT in
theorem cond2_at (t : Fin grid0.N) : k0_cond2 (grid0.coords t) = 1#1 ↔ t.val % 2 = 0 := by
  rw [cond2_iff, c1_val]

/-- Past the tiles in use the body reads the number of tiles and leaves everything. -/
theorem sound_idle (c : Dev nD) (t : Fin grid0.N) (h : ¬ t.val / 2 < nT a) :
    bodyPre m a c t ⊢ wp frame (wpE (defs₀ (F := F)) Variants.none c none) Set.univ (bodyAt a t) (fun _ => bodyPost m a c t) := by
  have hi : (cfg0 a).idle 4 ((cfg0 a).grid.coords t) = true := (idle4 a hT t).mpr h
  have hb : ∀ d, (dats m a 0 c).before 4 t d = outBlk m a c t := fun d => by
    have h2 := hT.pos
    have h0 : t.val ≠ 0 := fun e => h (by rw [e]; exact h2)
    rw [before4 m a hT c t (fun e => h e.2) d, carry m a hT c t h0 h]
  have hl : iprop(∃ d, owns (c : Thread nD τ) (ms4 a t) fullShare ((dats m a 0 c).before 4 t d)) ⊢ (dats m a 0 c).leavesExact 4 t := by
    cases hf : ((cfg0 a).win 4).flush t with
    | false =>
      rw [(dats m a 0 c).leavesExact_idle 4 t hi hf]
      exact .rfl
    | true =>
      unfold Dat.leavesExact
      rw [hi, hf]
      show _ ⊢ owns (c : Thread nD τ) (ms4 a t) fullShare ((dats m a 0 c).after 4 t)
      rw [after0_4]
      iintro ⟨%d, H⟩
      rw [hb d]
      iexact H
  unfold bodyPre bodyPost bodyAt
  simp only [before0_0, before0_1, before0_2, before0_3]
  rw [Phi_castSucc, Phi_succ, PhiT_eq, scr_idle m a hT c t h,
    show (dats m a 0 c).owesAt () t.succ = (dats m a 0 c).owesAt () t.castSucc from rfl, after0_0, after0_1, after0_2, after0_3]
  have hrun := idleRun (F := F) c (grid0.coords t) (Memref.whole main_arg0) (Memref.isWhole_whole _) (Memref.whole main_arg1) (Memref.isWhole_whole _) (Memref.whole main_arg2) (Memref.isWhole_whole _)
    (ms0 a t) (hs0 a t) (ms1 a t) (hs1 a t) (ms2 a t) (hs2 a t) (ms3 a t) (hs3 a t) (ms4 a t) (hs4 a t) (Memref.whole cc0_scratch0) (Memref.isWhole_whole _)
    fullShare.right (a.1 1) (fun e => h ((cond1_at a hT t).mp e))
  iintro ⟨⟨Hs, Hg, T0, T1, T2⟩, Ho, ⟨%d0, H0⟩, ⟨%d1, H1⟩, ⟨%d2, H2⟩, ⟨%d3, H3⟩, H4⟩
  iapply (hrun Set.univ _)
  isplitl [T1]; · iexact T1
  iintro T1
  isplitl [Hs Hg T0 T1 T2]
  · isplitl [Hs]; · iexact Hs
    isplitl [Hg]; · iexact Hg
    isplitl [T0]; · iexact T0
    isplitl [T1]; · iexact T1
    iexact T2
  isplitl [Ho]; · iexact Ho
  isplitl [H0]; · iexact H0
  isplitl [H1]; · iexact H1
  isplitl [H2]; · iexact H2
  isplitl [H3]; · iexact H3
  iapply hl
  iexact H4

/-- A tile's first half: the run that keeps the rounded rows and starts the block from zero. -/
theorem sound_first (c : Dev nD) (t : Fin grid0.N) (h : t.val % 2 = 0 ∧ t.val / 2 < nT a) :
    bodyPre m a c t ⊢ wp frame (wpE (defs₀ (F := F)) Variants.none c none) Set.univ (bodyAt a t) (fun _ => bodyPost m a c t) := by
  unfold bodyPre bodyPost bodyAt
  simp only [before0_0, before0_1, before0_2, before0_3]
  rw [Phi_castSucc, Phi_succ, PhiT_eq, (scr_first m a hT c t h).1, (scr_first m a hT c t h).2, leaves4 m a hT c t h.2,
    show (dats m a 0 c).owesAt () t.succ = (dats m a 0 c).owesAt () t.castSucc from rfl, after0_0, after0_1, after0_2, after0_3]
  obtain ⟨R, hR⟩ : ∃ R, R = firstRun (F := F) c (grid0.coords t) (Memref.whole main_arg0) (Memref.isWhole_whole _) (Memref.whole main_arg1) (Memref.isWhole_whole _) (Memref.whole main_arg2) (Memref.isWhole_whole _)
    (ms0 a t) (hs0 a t) (ms1 a t) (hs1 a t) (ms2 a t) (hs2 a t) (ms3 a t) (hs3 a t) (ms4 a t) (hs4 a t) (Memref.whole cc0_scratch0) (Memref.isWhole_whole _)
    fullShare.right (a.1 1) ((cond1_at a hT t).mpr h.2) ((cond2_at t).mpr h.1) (a.1 2) (iblk m a c 0 t) (iblk m a c 1 t) (iblk m a c 2 t) (iblk m a c 3 t) := ⟨_, rfl⟩
  have hval : R.1 = (outBlk m a c t, xb m a c (tileAt a t.val (lt_336 t))) := by
    rw [hR]
    refine (firstRun_val ..).trans ?_
    rw [word2_eq]
    exact Prod.ext (out_first m a c t h).1 (out_first m a c t h).2
  have hrun := R.2
  rw [hval] at hrun
  iintro ⟨⟨Hs, Hg, T0, T1, T2⟩, Ho, ⟨%d0, H0⟩, ⟨%d1, H1⟩, ⟨%d2, H2⟩, ⟨%d3, H3⟩, ⟨%d4, H4⟩⟩
  iapply (hrun Set.univ _)
  isplitl [T1]; · iexact T1
  isplitl [T2]; · iexact T2
  isplitl [H0]; · iexact H0
  isplitl [H1]; · iexact H1
  isplitl [H2]; · iexact H2
  isplitl [H3]; · iexact H3
  isplitl [H4]; · iexists _; iexact H4
  isplitl [Hs]; · iexact Hs
  iintro ⟨T1, T2, H0, H1, H2, H3, H4, Hs⟩
  isplitl [Hs Hg T0 T1 T2]
  · isplitl [Hs]; · iexact Hs
    isplitl [Hg]; · iexact Hg
    isplitl [T0]; · iexact T0
    isplitl [T1]; · iexact T1
    iexact T2
  isplitl [Ho]; · iexact Ho
  isplitl [H0]; · iexact H0
  isplitl [H1]; · iexact H1
  isplitl [H2]; · iexact H2
  isplitl [H3]; · iexact H3
  iexact H4

/-- A tile's second half: the run on the kept rows, continuing the block. -/
theorem sound_later (c : Dev nD) (t : Fin grid0.N) (h : t.val % 2 = 1 ∧ t.val / 2 < nT a) :
    bodyPre m a c t ⊢ wp frame (wpE (defs₀ (F := F)) Variants.none c none) Set.univ (bodyAt a t) (fun _ => bodyPost m a c t) := by
  unfold bodyPre bodyPost bodyAt
  simp only [before0_0, before0_1, before0_2, before0_3, before4 m a hT c t (by omega)]
  rw [Phi_castSucc, Phi_succ, PhiT_eq, (scr_later m a hT c t h).1, (scr_later m a hT c t h).2, leaves4 m a hT c t h.2,
    show (dats m a 0 c).owesAt () t.succ = (dats m a 0 c).owesAt () t.castSucc from rfl, after0_0, after0_1, after0_2, after0_3]
  have hp : t.val - 1 < grid0.N := by omega
  have hn : ¬ k0_cond2 (grid0.coords t) = 1#1 := fun e => absurd ((cond2_at t).mp e) (by omega)
  obtain ⟨R, hR⟩ : ∃ R, laterRun (F := F) c (grid0.coords t) (Memref.whole main_arg0) (Memref.isWhole_whole _) (Memref.whole main_arg1) (Memref.isWhole_whole _) (Memref.whole main_arg2) (Memref.isWhole_whole _)
    (ms0 a t) (hs0 a t) (ms1 a t) (hs1 a t) (ms2 a t) (hs2 a t) (ms3 a t) (hs3 a t) (ms4 a t) (hs4 a t) (Memref.whole cc0_scratch0) (Memref.isWhole_whole _)
    fullShare.right (a.1 1) ((cond1_at a hT t).mpr h.2) hn (iblk m a c 0 t) (iblk m a c 1 t) (iblk m a c 2 t) (iblk m a c 3 t)
    (outBlk m a c ⟨t.val - 1, hp⟩) (xb m a c (tileAt a t.val (lt_336 t))) = R := ⟨_, rfl⟩
  have hval : R.1 = outBlk m a c t := by
    rw [← hR]
    exact (laterRun_val ..).trans (out_later m a c t h)
  have hrun := R.2
  rw [hval] at hrun
  iintro ⟨⟨Hs, Hg, T0, T1, T2⟩, Ho, ⟨%d0, H0⟩, ⟨%d1, H1⟩, ⟨%d2, H2⟩, ⟨%d3, H3⟩, ⟨%d4, H4⟩⟩
  iapply (hrun Set.univ _)
  isplitl [T1]; · iexact T1
  isplitl [H0]; · iexact H0
  isplitl [H1]; · iexact H1
  isplitl [H2]; · iexact H2
  isplitl [H3]; · iexact H3
  isplitl [H4]; · iexact H4
  isplitl [Hs]; · iexact Hs
  iintro ⟨T1, H0, H1, H2, H3, H4, Hs⟩
  isplitl [Hs Hg T0 T1 T2]
  · isplitl [Hs]; · iexists _; iexact Hs
    isplitl [Hg]; · iexact Hg
    isplitl [T0]; · iexact T0
    isplitl [T1]; · iexact T1
    iexact T2
  isplitl [Ho]; · iexact Ho
  isplitl [H0]; · iexact H0
  isplitl [H1]; · iexact H1
  isplitl [H2]; · iexact H2
  isplitl [H3]; · iexact H3
  iexact H4

theorem sound_body (c : Dev nD) (t : Fin grid0.N) :
    bodyPre m a c t ⊢ wp frame (wpE (defs₀ (F := F)) Variants.none c none) Set.univ (bodyAt a t) (fun _ => bodyPost m a c t) := by
  by_cases h : t.val / 2 < nT a
  · by_cases h2 : t.val % 2 = 0
    · exact sound_first m a hT c t ⟨h2, h⟩
    · exact sound_later m a hT c t ⟨by omega, h⟩
  · exact sound_idle m a hT c t h

omit hT in
theorem defs₀_row (t : Fin grid0.N) :
    defs₀ (F := F) .tc (cfg0 a).body ((cfg0 a).bodyArgs t ((cfg0 a).slots t)) = bodyAt a t := by
  unfold defs₀; rw [Defs.onTc_tc]; rfl

theorem body_obligation (c : Dev nD) : BodyObligation (dats (F := F) m a 0 c) (defs₀ (F := F)) Variants.none () Set.univ := fun t => by
  rw [bigSep_W0, bigSep_W0, defs₀_row]
  exact triple_restated (sound_body m a hT c t) rfl .rfl fun _ => .rfl

end Body

/-! ## The run and the frame -/

/-- The tables as launched. -/
def pfOf : pre0.Contents (Elt F) := fun k => m (((0 : Dev nD) : Thread nD τ).loc (pre0.ref k))

theorem V_pre (c : Dev nD) (k : Fin 3) : V m c (pre0.ref k) = pfOf m k := by
  have hc : c = 0 := Subsingleton.elim _ _
  subst hc
  fin_cases k
  · exact V_of_ne m 0 main_arg0 (by decide) (by decide)
  · exact V_of_ne m 0 main_arg1 (by decide) (by decide)
  · exact V_of_ne m 0 main_arg2 (by decide) (by decide)

section Run

variable (hT : Tab (pfOf m))

/-- The tables as launched, admissible. -/
def adm : (pcfg0 (F := F)).Adm := ⟨pfOf m, ok_of hT⟩

set_option backward.isDefEq.respectTransparency.types false in
/-- Every execution of @main ends with the result at `arrAt` of the proof data and every counter at zero. -/
theorem run_main_quiescent : θ_run defs (onTc (τ := τ) (main (F := F))) (s₀ m ρ)
    (fun r => Pipeline.FramePost (Pipeline.pin pcfgs (fun _ => adm m hT)) (dats m (adm m hT)) 0 (V m) r ∧ r.2.sem = fun _ => 0) :=
  Pipeline.θ_run_frameP_track_shared (Q' := _) pcfgs (fun _ => adm m hT) (dats m (adm m hT)) (0 : Fin 1) launch₀0 defs₀ Variants.none m ρ main
    (hbody := fun c => (body_obligation m (adm m hT) hT c).loose) (hq := fun _ _ _ => rfl)
    (howed := fun _ _ => rfl) (V := V m) (hmain := hmain m) (hA := A_eq m (adm m hT)) (hpf := V_pre m)
    (hin := phi_in m (adm m hT)) (hout := phi_out m (adm m hT))

theorem mem_arg (r : PUnit × MemSt nD τ sig (Elt F)) (h : Pipeline.FramePost (Pipeline.pin pcfgs (fun _ => adm m hT)) (dats m (adm m hT)) 0 (V m) r)
    (c : Dev nD) (b : Ref sig .tc) (hb : b ∈ Pipeline.restRefs sig spec0) (h0 : b ≠ main_v0) (h1 : b ≠ main_v1) :
    r.2.mem ((c.tc : Thread nD τ).loc b) = m ((c.tc : Thread nD τ).loc b) :=
  ((h c).2 b hb).trans (V_of_ne m c b h0 h1)

/-- The arguments end as launched. -/
theorem args_of (r : PUnit × MemSt nD τ sig (Elt F)) (h : Pipeline.FramePost (Pipeline.pin pcfgs (fun _ => adm m hT)) (dats m (adm m hT)) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨mem_arg m hT r h c main_arg0 (Pipeline.mem_restRefs_of main_arg0 (by decide) (by decide)) (by decide) (by decide),
   mem_arg m hT r h c main_arg1 (Pipeline.mem_restRefs_of main_arg1 (by decide) (by decide)) (by decide) (by decide),
   mem_arg m hT r h c main_arg2 (Pipeline.mem_restRefs_of main_arg2 (by decide) (by decide)) (by decide) (by decide),
   ((h c).1 (0 : Fin 5)).trans (((dats m (adm m hT) 0 c).arrAt_in (0 : Fin 5) rfl _).trans ((A_eq m (adm m hT) c 0).trans (V_of_ne m c main_arg3 (by decide) (by decide)))),
   mem_arg m hT r h c main_arg4 (Pipeline.mem_restRefs_of main_arg4 (by decide) (by decide)) (by decide) (by decide),
   mem_arg m hT r h c main_arg5 (Pipeline.mem_restRefs_of main_arg5 (by decide) (by decide)) (by decide) (by decide)⟩

include hT in
/-- The frame at any value type. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨args_of m hT r h.1, h.2⟩) (run_main_quiescent m ρ hT)

end Run

end Cert.ExpertsIdeal.Moe

end
-- ==== Proof.ExpertsPre.lean ====
/- The precondition on the tables read: every tile's expert is one of the eight, and between 1 and 168 tiles are in use. -/
module

public import proofs.«01_k».proof.Proof.ExpertsTables
public import proofs.«01_k».proof.Pre_tables
public import Idealize.ShloMosaic.Lib.ReduceAll

@[expose] public section

set_option maxRecDepth 16384

noncomputable section

namespace Cert.Pre_tables

open Idealize.ShloMosaic

variable [Facts]

theorem and_one (a b : IVec S_ 1) (i : S_.Idx) (h : andi a b i = 1#1) : a i = 1#1 ∧ b i = 1#1 := by
  have key : ∀ x y : BitVec 1, IntOp.andi x y = 1#1 → x = 1#1 ∧ y = 1#1 := by decide
  exact key _ _ h

theorem and_one' {s : Shape} (a b : IVec s 1) (i : s.Idx) (h : andi a b i = 1#1) : a i = 1#1 ∧ b i = 1#1 := by
  have key : ∀ x y : BitVec 1, IntOp.andi x y = 1#1 → x = 1#1 ∧ y = 1#1 := by decide
  exact key _ _ h

theorem of_bool : ∀ b : Bool, BitVec.ofBool b = 1#1 → b = true := by decide

theorem toInt_cases (x : BitVec 32) : x.toInt = x.toNat ∨ (x.toInt < 0) := by
  have hx := x.isLt
  rw [BitVec.toInt_eq_toNat_cond]
  split
  · exact .inl rfl
  · exact .inr (by omega)

theorem lt_eight (x : BitVec 32) (h1 : IntOp.cmpi .sge x 0#32 = 1#1) (h2 : IntOp.cmpi .slt x 8#32 = 1#1) : x.toNat < 8 := by
  have a1 : (0#32 : BitVec 32).toInt ≤ x.toInt := of_decide_eq_true (of_bool _ h1)
  have a2 : x.toInt < (8#32 : BitVec 32).toInt := of_decide_eq_true (of_bool _ h2)
  rw [show (0#32 : BitVec 32).toInt = 0 by decide] at a1
  rw [show (8#32 : BitVec 32).toInt = 8 by decide] at a2
  rcases toInt_cases x with e | e <;> omega

theorem one_le (x : BitVec 32) (h1 : IntOp.cmpi .sge x 1#32 = 1#1) (h2 : IntOp.cmpi .sle x 168#32 = 1#1) : 1 ≤ x.toNat ∧ x.toNat ≤ 168 := by
  have a1 : (1#32 : BitVec 32).toInt ≤ x.toInt := of_decide_eq_true (of_bool _ h1)
  have a2 : x.toInt ≤ (168#32 : BitVec 32).toInt := of_decide_eq_true (of_bool _ h2)
  rw [show (1#32 : BitVec 32).toInt = 1 by decide] at a1
  rw [show (168#32 : BitVec 32).toInt = 168 by decide] at a2
  rcases toInt_cases x with e | e <;> omega

theorem words_of_fn {F : FTy → Type} [FloatOps F] (te : IVec S168 32) (nt : IVec S1 32) (tv : IVec S168 32)
    (xs : FVec F S172032x1024 .f32) (wgu : FVec F S8x1024x7168 .f32) (wd : FVec F S8x3584x1024 .f32)
    (h : fn (F := F) te nt tv xs wgu wd = fun _ => 1#1) :
    (∀ i, (te i).toNat < 8) ∧ (∀ i, 1 ≤ (nt i).toNat ∧ (nt i).toNat ≤ 168) := by
  have h := congrFun h ix0
  dsimp only [fn] at h
  obtain ⟨h, hle⟩ := and_one _ _ _ h
  obtain ⟨h, hge⟩ := and_one _ _ _ h
  refine ⟨fun i => ?_, fun i => ?_⟩
  · obtain ⟨h0, h8⟩ := and_one' _ _ _ (Host.reduce_andi_all _ _ _ _ _ h i)
    exact lt_eight _ h0 h8
  · have e : ∀ j : S1.Idx, j = i := fun j => funext fun x => by fin_cases x; exact Subsingleton.elim (α := Fin 1) _ _
    have hn : shapeCast S_ nt Facts.shapeCasts_S1_S_ ix0 = nt i := congrArg nt (e _)
    have h1 : IntOp.cmpi .sge (shapeCast S_ nt Facts.shapeCasts_S1_S_ ix0) 1#32 = 1#1 := hge
    have h2 : IntOp.cmpi .sle (shapeCast S_ nt Facts.shapeCasts_S1_S_ ix0) 168#32 = 1#1 := hle
    rw [hn] at h1 h2
    exact one_le _ h1 h2

end Cert.Pre_tables

end
-- ==== Proof.ExpertsFrames.lean ====
/- The experts' frames: the one run of `ExpertsRun.lean` read at each value type. -/
module

public import proofs.«01_k».proof.Defs
public import proofs.«01_k».proof.Proof.Gen.Experts
public import proofs.«01_k».proof.Proof.Gen.ExpertsIdeal
public import proofs.«01_k».proof.Proof.Gen.ExpertsReferenceIdeal
public import proofs.«01_k».proof.Proof.Gen.ExpertsReferenceIdeal.Run
public import proofs.«01_k».proof.Proof.Gen.Pre_tables
public import proofs.«01_k».proof.Proof.ExpertsRun
public import proofs.«01_k».proof.Proof.ExpertsPre
public import Idealize.ShloMosaic.Lib.Quiescent

@[expose] public section

set_option maxRecDepth 16384

noncomputable section

namespace Cert.Proof

open Idealize.ShloMosaic Idealize.SL.Sem

attribute [local instance] Cert.Experts.Gen.facts

/-! ## The two programs are the same text -/

theorem experts_body_eq : @Cert.Experts.cc0_expert_swiglu Bits _ _ = @Cert.ExpertsIdeal.cc0_expert_swiglu Bits _ _ := rfl

theorem experts_defs₀_eq : Cert.Experts.defs₀ (F := Bits) = Cert.ExpertsIdeal.defs₀ (F := Bits) := by
  unfold Cert.Experts.defs₀ Cert.ExpertsIdeal.defs₀
  refine congrArg Defs.onTc (funext fun l => funext fun a => ?_)
  match l, a with
  | 0, (t, s) => rfl

theorem experts_defs_eq : Cert.Experts.defs (F := Bits) = Cert.ExpertsIdeal.defs (F := Bits) :=
  congrArg (Pipeline.defs Cert.ExpertsIdeal.pcfgs) experts_defs₀_eq

/-! ## The tables -/

theorem tab_of {F : FTy → Type} [FloatOps F] (m : (ℓ : Loc Cert.ExpertsIdeal.nD Cert.ExpertsIdeal.τ Cert.ExpertsIdeal.sig) → Buf (Elt F) ℓ)
    (h : ∀ c : Dev Cert.ExpertsIdeal.nD, Cert.Pre_tables.fn (F := F) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) = (fun _ => 1#1)) :
    Cert.ExpertsIdeal.Moe.Tab (Cert.ExpertsIdeal.Moe.pfOf m) := by
  obtain ⟨hte, hnt⟩ := Cert.Pre_tables.words_of_fn _ _ _ _ _ _ (h 0)
  exact ⟨fun i => hte _, (hnt _).1, (hnt _).2⟩

/-! ## The frames -/

theorem frame_experts : Cert.quiescent_Experts := fun m ρ h => by
  rw [experts_defs_eq]
  exact (θ_run Cert.ExpertsIdeal.defs _ _).mono (fun _ h => h) (Cert.ExpertsIdeal.Moe.frame_any (F := Bits) m ρ (tab_of m h))

theorem frame_experts_ideal : Cert.quiescent_ExpertsIdeal := fun m ρ h => Cert.ExpertsIdeal.Moe.frame_any (F := Ideal) m ρ (tab_of m h)

theorem frame_experts_reference : Cert.quiescent_ExpertsReferenceIdeal := fun m ρ _ =>
  (θ_run Cert.ExpertsReferenceIdeal.defs _ _).mono
    (fun r h => ⟨fun c => (h c).2, sem_eq_zero_of_no_sems (by decide) r.2⟩)
    (Cert.ExpertsReferenceIdeal.Value.run (F := Ideal) m ρ)

end Cert.Proof

end
-- ==== Proof.ExpertsIdealStep.lean ====
/- A point of the experts on the extended reals: the kept rows, and the block after a point's 1792 features. -/
module

public import proofs.«01_k».proof.Proof.ExpertsStep
public import Idealize.ShloMosaic.Lib.Tactic.CleanTypes

@[expose] public section

set_option maxRecDepth 16384

noncomputable section

namespace Cert.ExpertsIdeal.Moe

open Idealize.ShloMosaic Idealize.ShloMosaic.TcCoe Idealize.ShloMosaic.Tactic
open Cert.ExpertsIdeal.Gen
open scoped BigOperators

/-- The gated feature of a gate and an up-projection. -/
def act (g u : EReal) : EReal := g * Ideal.div 1 (1 + Ideal.exp (-g)) * u

/-- Row `r`'s entry where the row holds a token, else zero. -/
def keep (tv : BitVec 32) (r : Nat) (v : EReal) : EReal := Scalar.select (IntOp.cmpi .slt (BitVec.ofNat 32 r) tv) v 0

theorem pay2_apply (tv : BitVec 32) (x : FVec Ideal S1024x1024 .f32) (r d : Fin 1024) :
    k0_pay2 (F := Ideal) tv x (ix2 r d) = keep tv r.val (x (ix2 r d)) := by
  pointwise [k0_pay2, keep]

theorem pay3_apply (r k : Fin 1024) : k0_pay3 (F := Ideal) (ix2 r k) = 0 := by
  pointwise [k0_pay3]

theorem pay4_apply (xb : FVec Ideal S1024x1024 .bf16) (wg wu : FVec Ideal S1x1024x256 .bf16) (ys : FVec Ideal S1024x1024 .f32) (wd : FVec Ideal S1x256x1024 .bf16) (r k : Fin 1024) :
    k0_pay4 (F := Ideal) xb wg wu ys wd (ix2 r k) = ys (ix2 r k)
      + ∑ f : Fin 256, act (∑ d : Fin 1024, xb (ix2 r d) * wg (ix3 0 d f)) (∑ d : Fin 1024, xb (ix2 r d) * wu (ix3 0 d f)) * wd (ix3 0 f k) := by
  pointwise [k0_pay4, act]
  simp only [zero_sub]

theorem sum_parts {n p N : ℕ} (hN : n * p = N) (T : Fin N → EReal) (h : ∀ (u : Fin n) (r : Fin p), p * u.val + r.val < N) :
    ∑ u : Fin n, ∑ r : Fin p, T ⟨p * u.val + r.val, h u r⟩ = ∑ j, T j := by
  subst hN
  rw [← Fintype.sum_prod_type' (f := fun (u : Fin n) (r : Fin p) => T ⟨p * u.val + r.val, h u r⟩)]
  exact Fintype.sum_equiv finProdFinEquiv _ _ fun x => congrArg T (Fin.ext (Nat.add_comm _ _))

/-- A feature's part of an entry of the result, from the point's blocks. -/
def part (xb : FVec Ideal S1024x1024 .bf16) (wg wu : FVec Ideal S1x1024x1792 .bf16) (wd : FVec Ideal S1x1792x1024 .bf16) (r k : Fin 1024) (f : Fin 1792) : EReal :=
  act (∑ d : Fin 1024, xb (ix2 r d) * wg (ix3 0 d f)) (∑ d : Fin 1024, xb (ix2 r d) * wu (ix3 0 d f)) * wd (ix3 0 f k)

theorem chunk_apply (xb : FVec Ideal S1024x1024 .bf16) (wg wu : FVec Ideal S1x1024x1792 .bf16) (wd : FVec Ideal S1x1792x1024 .bf16) (u : Fin 7) (ys : FVec Ideal S1024x1024 .f32) (r k : Fin 1024) :
    chunk (F := Ideal) xb wg wu wd u ys (ix2 r k) = ys (ix2 r k) + ∑ f : Fin 256, part xb wg wu wd r k ⟨256 * u.val + f.val, by omega⟩ := by
  unfold chunk
  rw [pay4_apply]
  rfl

theorem step_apply (xb : FVec Ideal S1024x1024 .bf16) (wg wu : FVec Ideal S1x1024x1792 .bf16) (wd : FVec Ideal S1x1792x1024 .bf16) (ys : FVec Ideal S1024x1024 .f32) (r k : Fin 1024) :
    step (F := Ideal) xb wg wu wd ys (ix2 r k) = ys (ix2 r k) + ∑ f, part xb wg wu wd r k f := by
  rw [step_eq]
  simp only [chunk_apply]
  rw [← sum_parts (n := 7) (p := 256) (by norm_num) (part xb wg wu wd r k) (fun u r => by omega), Fin.sum_univ_seven]
  simp only [add_assoc]

/-- The two halves' features are all of them. -/
theorem sum_halves (T : Fin 3584 → EReal) : (∑ f : Fin 1792, T ⟨f.val, by omega⟩) + ∑ f : Fin 1792, T ⟨1792 + f.val, by omega⟩ = ∑ f, T f :=
  (Fin.sum_univ_add (a := 1792) (b := 1792) T).symm

/-- An expert's feed-forward at one entry: of a token's row, the expert's weights, and the output's column. -/
def ffn (x : Fin 1024 → EReal) (w : Fin 1024 → Fin 7168 → EReal) (o : Fin 3584 → EReal) : EReal :=
  ∑ f : Fin 3584, act (∑ d, x d * w d ⟨f.val, by omega⟩) (∑ d, x d * w d ⟨3584 + f.val, by omega⟩) * o f

end Cert.ExpertsIdeal.Moe

end
-- ==== Proof.ExpertsValue.lean ====
/- The experts' result array on the extended reals: at the rows of the tiles in use, the feed-forward of the row's token
   by the tile's expert. -/
module

public import proofs.«01_k».proof.Proof.ExpertsRun
public import proofs.«01_k».proof.Proof.ExpertsIdealStep
public import Idealize.ShloMosaic.Lib.Pipeline.Value
public import Idealize.ShloMosaic.Lib.Pipeline.ValueKit

@[expose] public section

set_option maxRecDepth 16384

noncomputable section

namespace Cert.ExpertsIdeal.Moe

open Idealize.ShloMosaic Idealize.ShloMosaic.TcCoe Idealize.ShloMosaic.Tactic
open Idealize.SL Idealize.SL.Sem
open Idealize.ShloMosaic.Pipeline (Dat Cfg Window)
open Cert.ExpertsIdeal.Gen
open scoped BigOperators

variable (m : (ℓ : Loc nD τ sig) → Buf (Elt Ideal) ℓ)

abbrev argE (c : Dev nD) : IVec S168 32 := m ((c : Thread nD τ).loc main_arg0)
abbrev argN (c : Dev nD) : IVec S1 32 := m ((c : Thread nD τ).loc main_arg1)
abbrev argM (c : Dev nD) : IVec S168 32 := m ((c : Thread nD τ).loc main_arg2)
abbrev argX (c : Dev nD) : FVec Ideal S172032x1024 .f32 := m ((c : Thread nD τ).loc main_arg3)
abbrev argW (c : Dev nD) : FVec Ideal S8x1024x7168 .f32 := m ((c : Thread nD τ).loc main_arg4)
abbrev argD (c : Dev nD) : FVec Ideal S8x3584x1024 .f32 := m ((c : Thread nD τ).loc main_arg5)

theorem V_w (c : Dev nD) : (V m c main_v0 : FVec Ideal S8x1024x7168 .bf16) = argW m c := by
  show StableHlo.after hostOps0 (fun b => m (c, b)) main_v0 = _
  unfold hostOps0
  after_results_simp
  rfl
theorem V_d (c : Dev nD) : (V m c main_v1 : FVec Ideal S8x3584x1024 .bf16) = argD m c := by
  show StableHlo.after hostOps0 (fun b => m (c, b)) main_v1 = _
  unfold hostOps0
  after_results_simp
  rfl
theorem V_x (c : Dev nD) : (V m c main_arg3 : FVec Ideal S172032x1024 .f32) = argX m c := V_of_ne m c main_arg3 (by decide) (by decide)

section

variable (a : (pcfg0 (F := Ideal)).Adm) (hT : Tab a.1)
include hT

/-! The block indices, as a block's read states them. -/

theorem widx0 (t : Fin grid0.N) : ((pcfg0 (F := Ideal)).win a 0).index t = ![min (t.val / 2) (nT a - 1), 0] := index0 a hT t
theorem widx1 (t : Fin grid0.N) : ((pcfg0 (F := Ideal)).win a 1).index t = ![(tew a.1 (grid0.coords t)).toNat, 0, half a.1 (grid0.coords t)] := index1 a hT t
theorem widx2 (t : Fin grid0.N) : ((pcfg0 (F := Ideal)).win a 2).index t = ![(tew a.1 (grid0.coords t)).toNat, 0, 2 + half a.1 (grid0.coords t)] := index2 a hT t
theorem widx3 (t : Fin grid0.N) : ((pcfg0 (F := Ideal)).win a 3).index t = ![(tew a.1 (grid0.coords t)).toNat, half a.1 (grid0.coords t), 0] := index3 a hT t
theorem widx4 (t : Fin grid0.N) : ((pcfg0 (F := Ideal)).win a 4).index t = ![min (t.val / 2) (nT a - 1), 0] := index4 a hT t

theorem iblk0 (c : Dev nD) (t : Fin grid0.N) (r d : Fin 1024) :
    (iblk m a c 0 t : Vec Ideal S1024x1024 .f32) (ix2 r d) = argX m c (ix2 (⟨min (t.val / 2) (nT a - 1) * 1024 + r.val, by have := lt_336 t; omega⟩ : Fin 172032) d) := by
  rw [← V_x]
  blk_ext [iblk, widx0 a hT t]

theorem iblk1 (c : Dev nD) (t : Fin grid0.N) (d : Fin 1024) (f : Fin 1792) :
    (iblk m a c 1 t : Vec Ideal S1x1024x1792 .bf16) (ix3 0 d f) = argW m c (ix3 (⟨(tew a.1 (grid0.coords t)).toNat, hT.te _⟩ : Fin 8) d (⟨half a.1 (grid0.coords t) * 1792 + f.val, by have := half_lt (pf := a.1) (grid0.coords t); omega⟩ : Fin 7168)) := by
  rw [← V_w]
  blk_ext [iblk, widx1 a hT t]

theorem iblk2 (c : Dev nD) (t : Fin grid0.N) (d : Fin 1024) (f : Fin 1792) :
    (iblk m a c 2 t : Vec Ideal S1x1024x1792 .bf16) (ix3 0 d f) = argW m c (ix3 (⟨(tew a.1 (grid0.coords t)).toNat, hT.te _⟩ : Fin 8) d (⟨(2 + half a.1 (grid0.coords t)) * 1792 + f.val, by have := half_lt (pf := a.1) (grid0.coords t); omega⟩ : Fin 7168)) := by
  rw [← V_w]
  blk_ext [iblk, widx2 a hT t]

theorem iblk3 (c : Dev nD) (t : Fin grid0.N) (f : Fin 1792) (k : Fin 1024) :
    (iblk m a c 3 t : Vec Ideal S1x1792x1024 .bf16) (ix3 0 f k) = argD m c (ix3 (⟨(tew a.1 (grid0.coords t)).toNat, hT.te _⟩ : Fin 8) (⟨half a.1 (grid0.coords t) * 1792 + f.val, by have := half_lt (pf := a.1) (grid0.coords t); omega⟩ : Fin 3584) k) := by
  rw [← V_d]
  blk_ext [iblk, widx3 a hT t]

/-! ## A tile in use -/

omit hT in
theorem half_even (k : Fin 168) (h : k.val < nT a) : half a.1 (grid0.coords (pt (2 * k.val) (by omega))) = 0 := by
  unfold half
  rw [if_pos (by rw [c0_val]; show 2 * k.val / 2 < nT a; omega), c1_val]
  show 2 * k.val % 2 = 0
  omega
omit hT in
theorem half_odd (k : Fin 168) (h : k.val < nT a) : half a.1 (grid0.coords (pt (2 * k.val + 1) (by omega))) = 1 := by
  unfold half
  rw [if_pos (by rw [c0_val]; show (2 * k.val + 1) / 2 < nT a; omega), c1_val]
  show (2 * k.val + 1) % 2 = 1
  omega

omit hT in
/-- A point's words are its tile's. -/
theorem te_at (t : Fin grid0.N) (k : Fin 168) (h : t.val / 2 = k.val) : tew a.1 (grid0.coords t) = a.1 0 (ix1 k) := by
  refine congrArg (a.1 0) (funext fun x => Fin.ext ?_)
  fin_cases x
  have h0 := coord0_lt (grid0.coords t)
  show (BitVec.ofNat 32 (grid0.coords t 0).val).toNat + 1 * 0 = k.val
  rw [WordCmp.toNat_ofNat_of_lt (by omega), c0_val]
  omega
omit hT in
theorem tv_at (t : Fin grid0.N) (k : Fin 168) (h : t.val / 2 = k.val) : tvw a.1 (grid0.coords t) = a.1 2 (ix1 k) := by
  refine congrArg (a.1 2) (funext fun x => Fin.ext ?_)
  fin_cases x
  show (grid0.coords t 0).val = k.val
  rw [c0_val, h]

theorem full_apply (c : Dev nD) (k : Fin 168) (hk : k.val < nT a) (e : Fin 8) (he : (a.1 0 (ix1 k) : BitVec 32) = BitVec.ofNat 32 e.val) (r j : Fin 1024) :
    full m a c k (ix2 r j) = ffn (fun d => keep (a.1 2 (ix1 k)) r.val (argX m c (ix2 (⟨k.val * 1024 + r.val, by omega⟩ : Fin 172032) d)))
      (fun d f => argW m c (ix3 e d f)) (fun f => argD m c (ix3 e f j)) := by
  have h0 := te_at a (pt (2 * k.val) (by omega)) k (by show 2 * k.val / 2 = k.val; omega)
  have h1 := te_at a (pt (2 * k.val + 1) (by omega)) k (by show (2 * k.val + 1) / 2 = k.val; omega)
  have hv := tv_at a (pt (2 * k.val) (by omega)) k (by show 2 * k.val / 2 = k.val; omega)
  have en : (BitVec.ofNat 32 e.val).toNat = e.val := WordCmp.toNat_ofNat_of_lt (by omega)
  have hx : ∀ d, (xb m a c k : Vec Ideal S1024x1024 .bf16) (ix2 r d) = keep (a.1 2 (ix1 k)) r.val (argX m c (ix2 (⟨k.val * 1024 + r.val, by omega⟩ : Fin 172032) d)) := by
    intro d
    unfold xb
    rw [pay2_apply, hv, iblk0 m a hT]
    refine congrArg (fun z => keep (a.1 2 (ix1 k)) r.val (argX m c (ix2 z d))) (Fin.ext ?_)
    show min (2 * k.val / 2) (nT a - 1) * 1024 + r.val = k.val * 1024 + r.val
    congr 2
    omega
  unfold full half0
  rw [step_apply, step_apply, pay3_apply, zero_add]
  unfold ffn
  rw [← sum_halves]
  refine congrArg₂ (· + ·) (Finset.sum_congr rfl fun f _ => ?_) (Finset.sum_congr rfl fun f _ => ?_)
  · unfold part
    simp only [hx, iblk1 m a hT, iblk2 m a hT, iblk3 m a hT, h0, he, en, half_even a k hk]
    refine congrArg₂ (· * ·) (congrArg₂ act (Finset.sum_congr rfl fun d _ => ?_) (Finset.sum_congr rfl fun d _ => ?_)) ?_
    · congr 4; omega
    · congr 4
    · congr 3; omega
  · unfold part
    simp only [hx, iblk1 m a hT, iblk2 m a hT, iblk3 m a hT, h1, he, en, half_odd a k hk]
    refine congrArg₂ (· * ·) (congrArg₂ act (Finset.sum_congr rfl fun d _ => ?_) (Finset.sum_congr rfl fun d _ => ?_)) ?_
    · congr 4
    · congr 4; omega
    · congr 3

/-! ## The array -/

/-- Every row of the array as its tile leaves it. -/
def whole (c : Dev nD) : FVec Ideal S172032x1024 .f32 := fun i =>
  full m a c ⟨(i 0).val / 1024, by have : (i 0).val < 172032 := (i 0).isLt; omega⟩ (ix2 (⟨(i 0).val % 1024, by omega⟩ : Fin 1024) (i 1 : Fin 1024))

attribute [local irreducible] full outBlk whole

theorem block_eq (c : Dev nD) (t : Fin grid0.N) (ht : ¬ (t.val % 2 = 0 ∧ t.val / 2 < nT a)) (r j : Fin 1024) :
    outBlk m a c t (ix2 r j) = whole m a c (ix2 (⟨min (t.val / 2) (nT a - 1) * 1024 + r.val, by have := lt_336 t; omega⟩ : Fin 172032) j) := by
  unfold outBlk whole
  rw [if_neg ht]
  have e1 : (min (t.val / 2) (nT a - 1) * 1024 + r.val) / 1024 = min (t.val / 2) (nT a - 1) := by omega
  have e2 : (min (t.val / 2) (nT a - 1) * 1024 + r.val) % 1024 = r.val := by omega
  exact congrArg₂ (full m a c) (Fin.ext e1.symm) (congrArg₂ ix2 (Fin.ext e2.symm) rfl)

theorem flushed_eq (c : Dev nD) (t : Fin grid0.N) (ht : ((cfg0 a).win 4).flush t = true) :
    (dats m a 0 c).flushed 4 t = (((cfg0 a).win 4).blk t).view.read (Elt Ideal) (whole m a c) := by
  have hf := (flush4 a hT t).mp ht
  have hlt := lt_336 t
  funext y
  refine (Dat.flushed_apply _ _ _ _).trans ?_
  rw [after0_4]
  have hb := block_eq m a hT c t (by omega) (y (0 : Fin 2)) (y (1 : Fin 2))
  refine Eq.trans ?_ (hb.trans ?_)
  · refine congrArg (outBlk m a c t) (funext fun x => Fin.ext ?_)
    fin_cases x <;> rfl
  · show whole m a c _ = whole m a c ((((cfg0 a).win 4).blk t).view.emb y)
    refine congrArg (whole m a c) (funext fun x => Fin.ext ?_)
    have he := Window.rect_emb_val ((cfg0 a).win 4) t y x
    rw [index4 a hT t] at he
    refine Eq.trans ?_ he.symm
    fin_cases x
    · rfl
    · exact (Nat.zero_add _).symm

theorem final (c : Dev nD) (r : Fin 172032) (j : Fin 1024) (hr : r.val / 1024 < nT a) :
    ((dats m a 0 c).arrAt 4 grid0.N : FVec Ideal S172032x1024 .f32) (ix2 r j)
      = full m a c ⟨r.val / 1024, by omega⟩ (ix2 (⟨r.val % 1024, by omega⟩ : Fin 1024) j) := by
  have h1 := hT.le
  have h2 := hT.pos
  obtain ⟨t, hf, hi⟩ : ∃ t : Fin grid0.N, (t.val = 335 ∨ (t.val % 2 = 1 ∧ t.val / 2 + 1 < nT a)) ∧ min (t.val / 2) (nT a - 1) = r.val / 1024 := by
    by_cases h : r.val / 1024 + 1 < nT a
    · refine ⟨pt (2 * (r.val / 1024) + 1) (by omega), .inr ?_, ?_⟩
      · show (2 * (r.val / 1024) + 1) % 2 = 1 ∧ (2 * (r.val / 1024) + 1) / 2 + 1 < nT a
        omega
      · show min ((2 * (r.val / 1024) + 1) / 2) (nT a - 1) = r.val / 1024
        omega
    · refine ⟨pt 335 (by omega), .inl rfl, ?_⟩
      show min (335 / 2) (nT a - 1) = r.val / 1024
      omega
  refine Eq.trans ((dats m a 0 c).arrAt_apply_of_mem 4 (whole m a c) (flushed_eq m a hT c) grid0.N t (ix2 r j) t.isLt ((flush4 a hT t).mpr hf) ?_) ?_
  · refine (((cfg0 a).win 4).emb_mem_blk_iff t (ix2 r j)).mpr fun x => ?_
    rw [index4 a hT t, hi]
    fin_cases x
    · show r.val / 1024 * 1024 ≤ r.val ∧ r.val < r.val / 1024 * 1024 + 1024
      omega
    · show 0 * 1024 ≤ j.val ∧ j.val < 0 * 1024 + 1024
      omega
  · unfold whole
    rfl

end

end Cert.ExpertsIdeal.Moe

end
-- ==== Proof.ExpertsRef.lean ====
/- The experts' reference, stage by stage, read at an index on the extended reals. -/
module

public import proofs.«01_k».proof.Proof.Gen.ExpertsReferenceIdeal.Run
public import proofs.«01_k».proof.Proof.ExpertsIdealStep
public import Idealize.ShloMosaic.Lib.Tactic.CleanTypes

@[expose] public section

set_option maxRecDepth 16384

noncomputable section

namespace Cert.ExpertsReferenceIdeal.Moe

open Idealize.ShloMosaic
open Cert.ExpertsIdeal.Moe (act keep ffn)
open Cert.ExpertsReferenceIdeal Cert.ExpertsReferenceIdeal.Gen Cert.ExpertsReferenceIdeal.Value
open scoped BigOperators

/-- A tile's word at each of its rows. -/
def spread (te : IVec S168 32) : IVec S172032x1 32 :=
  shapeCast _ (broadcastInDim S168x1024 ![0, 1] bcast_S168x1_S168x1024_0_1 (broadcastInDim S168x1 ![0] bcast_S168_S168x1_0 te)) shapeCasts_S168x1024_S172032x1

/-- The gathered tokens, the rows without one at zero. -/
def tokens (tv : IVec S168 32) (xs : FVec Ideal S172032x1024 .f32) : FVec Ideal S172032x1024 .f32 :=
  select (broadcastInDim S172032x1024 ![0, 1] bcast_S172032x1_S172032x1024_0_1
      (cmpi .slt (shapeCast _ (broadcastInDim S168x1024 ![0, 1] bcast_S1x1024_S168x1024_0_1 (broadcastInDim S1x1024 ![1] bcast_S1024_S1x1024_1 (iotaInDim S1024 32 0))) shapeCasts_S168x1024_S172032x1) (spread tv)))
    xs (broadcastInDim S172032x1024 ![] bcast_S_S172032x1024 (constant S_ .f32 0x00000000#32))

theorem slicesW (e : Fin 8) : S8x1024x7168.Slices ![e.val, 0, 0] S1x1024x7168 := by
  fin_cases e
  exacts [slices_S8x1024x7168_S1x1024x7168_0_0_0, slices_S8x1024x7168_S1x1024x7168_1_0_0, slices_S8x1024x7168_S1x1024x7168_2_0_0, slices_S8x1024x7168_S1x1024x7168_3_0_0,
    slices_S8x1024x7168_S1x1024x7168_4_0_0, slices_S8x1024x7168_S1x1024x7168_5_0_0, slices_S8x1024x7168_S1x1024x7168_6_0_0, slices_S8x1024x7168_S1x1024x7168_7_0_0]

theorem slicesD (e : Fin 8) : S8x3584x1024.Slices ![e.val, 0, 0] S1x3584x1024 := by
  fin_cases e
  exacts [slices_S8x3584x1024_S1x3584x1024_0_0_0, slices_S8x3584x1024_S1x3584x1024_1_0_0, slices_S8x3584x1024_S1x3584x1024_2_0_0, slices_S8x3584x1024_S1x3584x1024_3_0_0,
    slices_S8x3584x1024_S1x3584x1024_4_0_0, slices_S8x3584x1024_S1x3584x1024_5_0_0, slices_S8x3584x1024_S1x3584x1024_6_0_0, slices_S8x3584x1024_S1x3584x1024_7_0_0]

/-- An expert's gate and up-projection weights, -/
def weightsW (e : Fin 8) (w : FVec Ideal S8x1024x7168 .f32) : FVec Ideal S1024x7168 .f32 :=
  shapeCast _ (extractStridedSlice S1x1024x7168 ![e.val, 0, 0] w (slicesW e)) shapeCasts_S1x1024x7168_S1024x7168
/-- and its down-projection's. -/
def weightsD (e : Fin 8) (w : FVec Ideal S8x3584x1024 .f32) : FVec Ideal S3584x1024 .f32 :=
  shapeCast _ (extractStridedSlice S1x3584x1024 ![e.val, 0, 0] w (slicesD e)) shapeCasts_S1x3584x1024_S3584x1024

/-- Gates and up-projections of all rows, -/
def gates (t : FVec Ideal S172032x1024 .f32) (w : FVec Ideal S1024x7168 .f32) : FVec Ideal S172032x7168 .f32 :=
  Host.dotGeneral dot_S172032x1024_S1024x7168_S172032x7168_1_0_0_1_n_n none t w
def gate (gu : FVec Ideal S172032x7168 .f32) : FVec Ideal S172032x3584 .f32 := extractStridedSlice S172032x3584 ![0, 0] gu slices_S172032x7168_S172032x3584_0_0
/-- the gated features, -/
def features (gu : FVec Ideal S172032x7168 .f32) : FVec Ideal S172032x3584 .f32 :=
  mulf (mulf (gate gu) (Host.divf (broadcastInDim S172032x3584 ![] bcast_S_S172032x3584 (constant S_ .f32 0x3F800000#32)) (addf (broadcastInDim S172032x3584 ![] bcast_S_S172032x3584 (constant S_ .f32 0x3F800000#32)) (Host.exp (Host.negf (gate gu)))))) (extractStridedSlice S172032x3584 ![0, 3584] gu slices_S172032x7168_S172032x3584_0_3584)
/-- and the down-projection. -/
def down (h : FVec Ideal S172032x3584 .f32) (o : FVec Ideal S3584x1024 .f32) : FVec Ideal S172032x1024 .f32 :=
  Host.dotGeneral dot_S172032x3584_S3584x1024_S172032x1024_1_0_0_1_n_n none h o

/-- The rows of an expert's tiles taken from `new`. -/
def pick (te : IVec S168 32) (e : Fin 8) (new old : FVec Ideal S172032x1024 .f32) : FVec Ideal S172032x1024 .f32 :=
  select (broadcastInDim S172032x1024 ![0, 1] bcast_S172032x1_S172032x1024_0_1 (cmpi .eq (spread te) (broadcastInDim S172032x1 ![] bcast_S_S172032x1 (constantI S_ 32 (BitVec.ofNat 32 e.val))))) new old

def zeros : FVec Ideal S172032x1024 .f32 := broadcastInDim S172032x1024 ![] bcast_S_S172032x1024 (constant S_ .f32 0x00000000#32)

/-- The reference's result. -/
def result (te tv : IVec S168 32) (xs : FVec Ideal S172032x1024 .f32) (w : FVec Ideal S8x1024x7168 .f32) (o : FVec Ideal S8x3584x1024 .f32) : FVec Ideal S172032x1024 .f32 :=
  (List.finRange 8).foldl (fun old e => pick te e (down (features (gates (tokens tv xs) (weightsW e w))) (weightsD e o)) old) zeros

set_option maxHeartbeats 4000000 in
theorem val_eq (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v137) = result (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans rfl, (h c).2⟩) (run (F := Ideal) m ρ)

theorem spread_apply (te : IVec S168 32) (r : Fin 172032) : spread te (ix2 r 0) = te (ix1 (⟨r.val / 1024, by omega⟩ : Fin 168)) := by
  pointwise [spread]

theorem tokens_apply (tv : IVec S168 32) (xs : FVec Ideal S172032x1024 .f32) (r : Fin 172032) (d : Fin 1024) :
    tokens tv xs (ix2 r d) = keep (tv (ix1 (⟨r.val / 1024, by omega⟩ : Fin 168))) (r.val % 1024) (xs (ix2 r d)) := by
  pointwise [tokens, spread, keep]

theorem weightsW_apply (e : Fin 8) (w : FVec Ideal S8x1024x7168 .f32) (d : Fin 1024) (f : Fin 7168) : weightsW e w (ix2 d f) = w (ix3 e d f) := by
  pointwise [weightsW]

theorem weightsD_apply (e : Fin 8) (w : FVec Ideal S8x3584x1024 .f32) (f : Fin 3584) (k : Fin 1024) : weightsD e w (ix2 f k) = w (ix3 e f k) := by
  pointwise [weightsD]

theorem features_apply (gu : FVec Ideal S172032x7168 .f32) (r : Fin 172032) (f : Fin 3584) :
    features gu (ix2 r f) = act (gu (ix2 r ⟨f.val, by omega⟩)) (gu (ix2 r ⟨3584 + f.val, by omega⟩)) := by
  pointwise [features, gate, act]

theorem gates_apply (t : FVec Ideal S172032x1024 .f32) (w : FVec Ideal S1024x7168 .f32) (r : Fin 172032) (f : Fin 7168) :
    gates t w (ix2 r f) = ∑ d : Fin 1024, t (ix2 r d) * w (ix2 d f) := by
  pointwise [gates]

theorem down_apply (h : FVec Ideal S172032x3584 .f32) (o : FVec Ideal S3584x1024 .f32) (r : Fin 172032) (k : Fin 1024) :
    down h o (ix2 r k) = ∑ f : Fin 3584, h (ix2 r f) * o (ix2 f k) := by
  pointwise [down]

theorem pick_apply (te : IVec S168 32) (e : Fin 8) (new old : FVec Ideal S172032x1024 .f32) (r : Fin 172032) (k : Fin 1024) :
    pick te e new old (ix2 r k) = Scalar.select (IntOp.cmpi .eq (te (ix1 (⟨r.val / 1024, by omega⟩ : Fin 168))) (BitVec.ofNat 32 e.val)) (new (ix2 r k)) (old (ix2 r k)) := by
  pointwise [pick, spread]

theorem zeros_apply (i : S172032x1024.Idx) : zeros i = 0 := by
  pointwise [zeros]

/-- One expert's rows. -/
theorem expert_apply (tv : IVec S168 32) (xs : FVec Ideal S172032x1024 .f32) (w : FVec Ideal S8x1024x7168 .f32) (o : FVec Ideal S8x3584x1024 .f32) (e : Fin 8) (r : Fin 172032) (k : Fin 1024) :
    down (features (gates (tokens tv xs) (weightsW e w))) (weightsD e o) (ix2 r k)
      = ffn (fun d => keep (tv (ix1 (⟨r.val / 1024, by omega⟩ : Fin 168))) (r.val % 1024) (xs (ix2 r d))) (fun d f => w (ix3 e d f)) (fun f => o (ix3 e f k)) := by
  simp only [down_apply, features_apply, gates_apply, weightsW_apply, weightsD_apply, tokens_apply, ffn]

/-- The result at a row whose tile is the expert `e`'s. -/
theorem result_apply (te tv : IVec S168 32) (xs : FVec Ideal S172032x1024 .f32) (w : FVec Ideal S8x1024x7168 .f32) (o : FVec Ideal S8x3584x1024 .f32) (e : Fin 8) (r : Fin 172032) (k : Fin 1024)
    (he : te (ix1 (⟨r.val / 1024, by omega⟩ : Fin 168)) = BitVec.ofNat 32 e.val) :
    result te tv xs w o (ix2 r k)
      = ffn (fun d => keep (tv (ix1 (⟨r.val / 1024, by omega⟩ : Fin 168))) (r.val % 1024) (xs (ix2 r d))) (fun d f => w (ix3 e d f)) (fun f => o (ix3 e f k)) := by
  rw [← expert_apply]
  unfold result
  generalize hT : tokens tv xs = T
  have key : ∀ (l : List (Fin 8)) (old : FVec Ideal S172032x1024 .f32), (e ∈ l ∨ old (ix2 r k) = down (features (gates T (weightsW e w))) (weightsD e o) (ix2 r k)) →
      (l.foldl (fun old e => pick te e (down (features (gates T (weightsW e w))) (weightsD e o)) old) old) (ix2 r k) = down (features (gates T (weightsW e w))) (weightsD e o) (ix2 r k) := by
    intro l
    induction l with
    | nil => intro old h; exact h.resolve_left (by simp)
    | cons a l ih =>
      intro old h
      rw [List.foldl_cons]
      refine ih _ ?_
      by_cases ha : a = e
      · subst ha
        right
        rw [pick_apply, he]
        simp [IntOp.cmpi, Scalar.select]
      · rcases h with h | h
        · left
          rcases List.mem_cons.1 h with h | h
          · exact absurd h.symm ha
          · exact h
        · right
          rw [pick_apply, he]
          have hn : BitVec.ofNat 32 e.val ≠ BitVec.ofNat 32 a.val := by
            intro hh
            have := congrArg BitVec.toNat hh
            simp only [BitVec.toNat_ofNat] at this
            exact ha (Fin.ext (by omega))
          have hb : IntOp.cmpi .eq (BitVec.ofNat 32 e.val) (BitVec.ofNat 32 a.val) = 0#1 := by
            show BitVec.ofBool (BitVec.ofNat 32 e.val == BitVec.ofNat 32 a.val) = 0#1
            rw [beq_eq_false_iff_ne.mpr hn]
            rfl
          rw [hb]
          exact h
  exact key _ _ (.inl (List.mem_finRange e))

end Cert.ExpertsReferenceIdeal.Moe

end
-- ==== Proof.ExpertsClaims.lean ====
/- The experts' kernel against their reference on the extended reals, at the rows of the tiles in use. -/
module

public import proofs.«01_k».proof.Proof.ExpertsFrames
public import proofs.«01_k».proof.Proof.ExpertsValue
public import proofs.«01_k».proof.Proof.ExpertsRef
public import proofs.«01_k».proof.Proof.Gen.On_in_use
public import Idealize.ShloMosaic.Lib.Claim

@[expose] public section

set_option maxRecDepth 16384

noncomputable section

namespace Cert.On_in_use

open Idealize.ShloMosaic

variable [Facts]

/-- Where the mask is set the row's tile is in use. -/
theorem tile_of_fn {F : FTy → Type} [FloatOps F] (te : IVec S168 32) (nt : IVec S1 32) (tv : IVec S168 32)
    (xs : FVec F S172032x1024 .f32) (wgu : FVec F S8x1024x7168 .f32) (wd : FVec F S8x3584x1024 .f32)
    (hn : (nt (ix1 0)).toNat ≤ 168) (r : Fin 172032) (j : Fin 1024) (h : fn (F := F) te nt tv xs wgu wd (ix2 r j) = 1#1) :
    r.val / 1024 < (nt (ix1 0)).toNat := by
  have h1 : IntOp.cmpi .slt (BitVec.ofNat 32 r.val) (nt (ix1 0) * 1024#32) = 1#1 := by
    refine Eq.trans ?_ h
    pointwise [fn]
    rfl
  have e1 : (BitVec.ofNat 32 r.val).toNat = r.val := WordCmp.toNat_ofNat_of_lt (by omega)
  have e2 : (nt (ix1 0) * 1024#32).toNat = (nt (ix1 0)).toNat * 1024 := by
    rw [BitVec.toNat_mul]
    simp only [BitVec.toNat_ofNat]
    omega
  rw [WordCmp.cmpi_slt_of_lt (by rw [e1]; omega) (by rw [e2]; omega), e1, e2] at h1
  have h2 := of_decide_eq_true (Cert.Pre_tables.of_bool _ h1)
  omega

end Cert.On_in_use

namespace Cert.Proof

open Idealize.ShloMosaic Idealize.SL.Sem
open Cert.ExpertsIdeal.Moe

attribute [local instance] Cert.On_in_use.Gen.facts

/-- The frame under the precondition: the same run. -/
theorem frame_experts_reference_tables : Cert.quiescent_ExpertsReferenceIdeal_pre_tables := fun m ρ _ => frame_experts_reference m ρ trivial

/-- The reference's function of a core's arguments. -/
def expertsResult (m : (ℓ : Loc Cert.ExpertsIdeal.nD Cert.ExpertsIdeal.τ Cert.ExpertsIdeal.sig) → Buf (Elt Ideal) ℓ) (c : Dev Cert.ExpertsIdeal.nD) : FVec Ideal Cert.ExpertsIdeal.S172032x1024 .f32 :=
  Cert.ExpertsReferenceIdeal.Moe.result (argE m c) (argM m c) (argX m c) (argW m c) (argD m c)

/-- The kernel's array at a row of a tile in use. -/
theorem kernel_at (m : (ℓ : Loc Cert.ExpertsIdeal.nD Cert.ExpertsIdeal.τ Cert.ExpertsIdeal.sig) → Buf (Elt Ideal) ℓ) (hT : Tab (pfOf m)) (hE : ∀ i, (argE m 0 i).toNat < 8)
    (c : Dev Cert.ExpertsIdeal.nD) (r : Fin 172032) (j : Fin 1024) (hr : r.val / 1024 < (argN m 0 (ix1 0)).toNat) :
    ((dats m (adm m hT) 0 c).arrAt 4 Cert.ExpertsIdeal.grid0.N : FVec Ideal Cert.ExpertsIdeal.S172032x1024 .f32) (ix2 r j) = expertsResult m c (ix2 r j) := by
  have hc : c = 0 := Subsingleton.elim _ _
  subst hc
  have hn : nT (adm m hT) = (argN m 0 (ix1 0)).toNat := congrArg BitVec.toNat (congrArg (argN m 0) (funext fun x => by fin_cases x; exact Subsingleton.elim (α := Fin 1) _ _))
  have ht : r.val / 1024 < nT (adm m hT) := by rw [hn]; exact hr
  have he : argE m 0 (ix1 (⟨r.val / 1024, by omega⟩ : Fin 168)) = BitVec.ofNat 32 (⟨_, hE (ix1 (⟨r.val / 1024, by omega⟩ : Fin 168))⟩ : Fin 8).val :=
    BitVec.eq_of_toNat_eq (WordCmp.toNat_ofNat_of_lt (BitVec.isLt _)).symm
  refine (final m (adm m hT) hT 0 r j ht).trans ?_
  refine (full_apply m (adm m hT) hT 0 _ ht _ he _ j).trans ?_
  refine Eq.trans ?_ (Cert.ExpertsReferenceIdeal.Moe.result_apply _ _ _ _ _ _ r j he).symm
  refine congrArg (fun x => ffn x _ _) (funext fun d => ?_)
  refine congrArg (fun z => keep _ _ (argX m 0 (ix2 z d))) (Fin.ext ?_)
  show r.val / 1024 * 1024 + r.val % 1024 = r.val
  omega

/-- From tables that meet the precondition and arguments that agree, both programs end with the experts' feed-forward of
    the tokens at every row of a tile in use. -/
theorem algebraic_experts : Cert.algebraic_ExpertsIdeal_ExpertsReferenceIdeal_on_in_use := by
  intro m ρ m' ρ' hpre hagree
  have hT := tab_of m hpre
  have hw := Cert.Pre_tables.words_of_fn _ _ _ _ _ _ (hpre 0)
  refine ⟨fun c => expertsResult m c, ?_, ?_⟩
  · refine (θ_run Cert.ExpertsIdeal.defs _ _).mono ?_ (run_main_quiescent m ρ hT)
    rintro r ⟨h, -⟩ c
    refine ⟨fun i hi => ?_, args_of m hT r h c⟩
    have hc : c = 0 := Subsingleton.elim _ _
    subst hc
    have ei : i = ix2 (i 0 : Fin 172032) (i 1 : Fin 1024) := funext fun x => by fin_cases x <;> rfl
    rw [ei] at hi ⊢
    refine (congrFun ((h 0).1 (4 : Fin 5)) _).trans ?_
    exact kernel_at m hT hw.1 0 _ _ (Cert.On_in_use.tile_of_fn _ _ _ _ _ _ (hw.2 _).2 _ _ hi)
  · refine (θ_run Cert.ExpertsReferenceIdeal.defs _ _).mono (fun _ h c => ⟨fun i _ => congrFun ((h c).1.trans ?_) i, (h c).2⟩)
      (Cert.ExpertsReferenceIdeal.Moe.val_eq m' ρ')
    rw [(hagree c).1, (hagree c).2.2.1, (hagree c).2.2.2.1, (hagree c).2.2.2.2.1, (hagree c).2.2.2.2.2]
    rfl

end Cert.Proof

end
-- ==== Proof.DenseFrames.lean ====
/- The dense layer's frames: one run read at each value type. -/
module

public import proofs.«01_k».proof.Defs
public import proofs.«01_k».proof.Proof.Gen.Dense
public import proofs.«01_k».proof.Proof.Gen.DenseIdeal
public import proofs.«01_k».proof.Proof.Gen.DenseIdeal.Frame
public import proofs.«01_k».proof.Proof.Gen.DenseReferenceIdeal
public import proofs.«01_k».proof.Proof.Gen.DenseReferenceIdeal.Run
public import Idealize.ShloMosaic.Lib.Quiescent

@[expose] public section

set_option maxRecDepth 16384

noncomputable section

namespace Cert.Proof

open Idealize.ShloMosaic Idealize.SL.Sem

attribute [local instance] Cert.Dense.Gen.facts

/-! ## The two programs are the same text -/

theorem dense_body_eq : @Cert.Dense.cc0_outproj_dense_swiglu Bits _ _ = @Cert.DenseIdeal.cc0_outproj_dense_swiglu Bits _ _ := rfl

theorem dense_defs₀_eq : Cert.Dense.defs₀ (F := Bits) = Cert.DenseIdeal.defs₀ (F := Bits) := by
  unfold Cert.Dense.defs₀ Cert.DenseIdeal.defs₀
  refine congrArg Defs.onTc (funext fun l => funext fun a => ?_)
  match l, a with
  | 0, (t, s) => rfl

theorem dense_defs_eq : Cert.Dense.defs (F := Bits) = Cert.DenseIdeal.defs (F := Bits) :=
  congrArg (Pipeline.defs Cert.DenseIdeal.pcfgs) dense_defs₀_eq

/-! ## The frames -/

theorem frame_dense : Cert.quiescent_Dense := fun m ρ _ => by
  rw [dense_defs_eq]
  exact (θ_run Cert.DenseIdeal.defs _ _).mono (fun _ h => h) (Cert.DenseIdeal.Gen.frame (F := Bits) m ρ)

theorem frame_dense_ideal : Cert.quiescent_DenseIdeal := fun m ρ _ => Cert.DenseIdeal.Gen.frame (F := Ideal) m ρ

theorem frame_dense_reference : Cert.quiescent_DenseReferenceIdeal := fun m ρ _ =>
  (θ_run Cert.DenseReferenceIdeal.defs _ _).mono
    (fun r h => ⟨fun c => (h c).2, sem_eq_zero_of_no_sems (by decide) r.2⟩)
    (Cert.DenseReferenceIdeal.Value.run (F := Ideal) m ρ)

end Cert.Proof

end
-- ==== Proof.DenseStep.lean ====
/- What the dense layer's run of a point leaves, read as `step`: the residual, and the eleven chunks of the features added
   to it one after another. -/
module

public import proofs.«01_k».proof.Proof.Gen.DenseIdeal.Frame
public import Idealize.ShloMosaic.Lib.Pipeline.ValueKit

@[expose] public section

set_option maxRecDepth 16384

noncomputable section

namespace Cert.DenseIdeal.Ffn

open Idealize.ShloMosaic Idealize.ShloMosaic.TcCoe Idealize.ShloMosaic.Tactic
open Idealize.SL Idealize.SL.RA Idealize.SL.BI
open Cert.DenseIdeal.Gen

variable {F : FTy → Type} [FloatOps F]

/-! ## Parts of the resident weights -/

/-- 256 columns of the first weights, from column `o`, -/
def cols (w : Vec F S1024x5632 .bf16) (o : ℕ) (ho : o + 256 ≤ 5632) : Vec F S1024x256 .bf16 :=
  fun x => w (Idealize.ShloMosaic.ValueIdx.ix2 (x 0 : Fin 1024) (⟨o + (x 1).val, by have : (x 1).val < 256 := (x 1).isLt; omega⟩ : Fin 5632))
/-- 256 rows of the second ones, from row `o`, -/
def rows (w : Vec F S2816x1024 .bf16) (o : ℕ) (ho : o + 256 ≤ 2816) : Vec F S256x1024 .bf16 :=
  fun x => w (Idealize.ShloMosaic.ValueIdx.ix2 (⟨o + (x 0).val, by have : (x 0).val < 256 := (x 0).isLt; omega⟩ : Fin 2816) (x 1 : Fin 1024))
/-- and the output projection's rows for the mixing's channels and for the attention's. -/
def top (w : Vec F S1024x1024 .bf16) : Vec F S256x1024 .bf16 :=
  fun x => w (Idealize.ShloMosaic.ValueIdx.ix2 (⟨(x 0).val, by have : (x 0).val < 256 := (x 0).isLt; omega⟩ : Fin 1024) (x 1 : Fin 1024))
def bottom (w : Vec F S1024x1024 .bf16) : Vec F S768x1024 .bf16 :=
  fun x => w (Idealize.ShloMosaic.ValueIdx.ix2 (⟨256 + (x 0).val, by have : (x 0).val < 768 := (x 0).isLt; omega⟩ : Fin 1024) (x 1 : Fin 1024))

theorem ld_cols (w : Vec F S1024x5632 .bf16) (o : ℕ) (inb : ∀ a, ![0, o] a + (![1024, 256] : Fin 2 → ℕ) a ≤ S1024x5632.size a) :
    (View.ld (Val := Elt F) w (Rect.unit (s := S1024x5632) ![0, o] ![1024, 256] inb) : Vec F S1024x256 .bf16) = cols w o (inb 1) := by
  funext x
  refine congrArg w (funext fun d => ?_)
  fin_cases d
  · exact Fin.ext (show 0 + 1 * (x 0).val = (x 0).val by omega)
  · exact Fin.ext (show o + 1 * (x 1).val = o + (x 1).val by omega)

theorem ld_rows (w : Vec F S2816x1024 .bf16) (o : ℕ) (inb : ∀ a, ![o, 0] a + (![256, 1024] : Fin 2 → ℕ) a ≤ S2816x1024.size a) :
    (View.ld (Val := Elt F) w (Rect.unit (s := S2816x1024) ![o, 0] ![256, 1024] inb) : Vec F S256x1024 .bf16) = rows w o (inb 0) := by
  funext x
  refine congrArg w (funext fun d => ?_)
  fin_cases d
  · exact Fin.ext (show o + 1 * (x 0).val = o + (x 0).val by omega)
  · exact Fin.ext (show 0 + 1 * (x 1).val = (x 1).val by omega)

theorem ld_top (w : Vec F S1024x1024 .bf16) (inb : ∀ a, ![0, 0] a + (![256, 1024] : Fin 2 → ℕ) a ≤ S1024x1024.size a) :
    (View.ld (Val := Elt F) w (Rect.unit (s := S1024x1024) ![0, 0] ![256, 1024] inb) : Vec F S256x1024 .bf16) = top w := by
  funext x
  refine congrArg w (funext fun d => ?_)
  fin_cases d
  · exact Fin.ext (show 0 + 1 * (x 0).val = (x 0).val by omega)
  · exact Fin.ext (show 0 + 1 * (x 1).val = (x 1).val by omega)

theorem ld_bottom (w : Vec F S1024x1024 .bf16) (inb : ∀ a, ![256, 0] a + (![768, 1024] : Fin 2 → ℕ) a ≤ S1024x1024.size a) :
    (View.ld (Val := Elt F) w (Rect.unit (s := S1024x1024) ![256, 0] ![768, 1024] inb) : Vec F S768x1024 .bf16) = bottom w := by
  funext x
  refine congrArg w (funext fun d => ?_)
  fin_cases d
  · exact Fin.ext (show 256 + 1 * (x 0).val = 256 + (x 0).val by omega)
  · exact Fin.ext (show 0 + 1 * (x 1).val = (x 1).val by omega)

theorem zero2 : (![0, 0] : Fin 2 → Nat) = fun _ => 0 := by
  funext a
  fin_cases a <;> rfl

/-! ## A point's block, stage by stage -/

/-- The residual with the output projection added, -/
def mix (x : Vec F S512x1024 .f32) (of : Vec F S512x256 .bf16) (oa : Vec F S512x768 .bf16) (wt : Vec F S256x1024 .bf16) (wb : Vec F S768x1024 .bf16) : FVec F S512x1024 .f32 :=
  addf x (addf (matmul dot_S512x256_S256x1024_S512x1024_1_0_0_1_n_n none (φ₁ := .bf16) of (shapeCast S256x1024 wt shapeCasts_S256x1024_S256x1024) (constant S512x1024 .f32 0x00000000#32))
    (matmul dot_S512x768_S768x1024_S512x1024_1_0_0_1_n_n none (φ₁ := .bf16) oa (shapeCast S768x1024 wb shapeCasts_S768x1024_S768x1024) (constant S512x1024 .f32 0x00000000#32)))

/-- its rows normalized, -/
def normed (x1 : FVec F S512x1024 .f32) (g : Vec F S1x1024 .f32) : FVec F S512x1024 .bf16 :=
  k0_pay5 (mulf x1 (broadcastTo S512x1024 (rsqrt (addf (divf (shapeCast S512x1 (multiReduction .add [1] S512 (mulf x1 x1) 0x00000000#32 reduces_S512x1024_S512 (.inl rfl) rfl) shapeCasts_S512_S512x1) (broadcast S512x1 (Scalar.ofBits .f32 0x44800000#32))) (broadcast S512x1 (Scalar.ofBits .f32 0x3727C5AC#32)))) broadcasts_S512x1_S512x1024)) (k0_pay4 g)

/-- the block after chunk `u` of the features, -/
def chunk (h : Vec F S512x1024 .bf16) (w : Vec F S1024x5632 .bf16) (wd : Vec F S2816x1024 .bf16) (u : Fin 11) (y : Vec F S512x1024 .f32) : Vec F S512x1024 .f32 :=
  k0_pay6 h (cols w (256 * u.val) (by omega)) (cols w (2816 + 256 * u.val) (by omega)) y (rows wd (256 * u.val) (by omega))

/-- and after all of them. -/
def step (h : Vec F S512x1024 .bf16) (w : Vec F S1024x5632 .bf16) (wd : Vec F S2816x1024 .bf16) (y : Vec F S512x1024 .f32) : Vec F S512x1024 .f32 :=
  (List.finRange 11).foldl (fun y u => chunk h w wd u y) y

theorem step_eq (h : Vec F S512x1024 .bf16) (w : Vec F S1024x5632 .bf16) (wd : Vec F S2816x1024 .bf16) (y : Vec F S512x1024 .f32) :
    step h w wd y = chunk h w wd 10 (chunk h w wd 9 (chunk h w wd 8 (chunk h w wd 7 (chunk h w wd 6 (chunk h w wd 5 (chunk h w wd 4 (chunk h w wd 3 (chunk h w wd 2 (chunk h w wd 1 (chunk h w wd 0 y)))))))))) := rfl

/-- Whether a point's rows are the prompts'. -/
def inPrompt (i : grid0.Coords) : BitVec 1 := Scalar.cmpi .slt (BitVec.ofNat 32 (i 0).val) 128#32

theorem pay2_eq (i : grid0.Coords) (f1 f2 wt a1 a2 wb p1 p2) :
    k0_pay2 (F := F) i f1 f2 wt a1 a2 wb p1 p2 = mix (Scalar.select (inPrompt i) p1 p2) (Scalar.select (inPrompt i) f1 f2) (Scalar.select (inPrompt i) a1 a2) wt wb := rfl

theorem pay5_eq (i : grid0.Coords) (f1 f2 wt a1 a2 wb p1 p2 g) :
    k0_pay5 (F := F) (k0_pay3 i f1 f2 wt a1 a2 wb p1 p2) (k0_pay4 g) = normed (k0_pay2 i f1 f2 wt a1 a2 wb p1 p2) g := rfl

/-- The later payloads are the first chunk's, in parts. -/
theorem pay8_eq (a : Vec F S512x1024 .bf16) (b c y d) : k0_pay8 (F := F) a (k0_pay7 b) (constant S512x256 .f32 0x00000000#32) c y d = k0_pay6 a b c y d := rfl
theorem pay14_eq (a : Vec F S512x1024 .bf16) (b c y d) : k0_pay14 (F := F) (k0_pay9 a b) (k0_pay10 a c) (k0_pay11 y) (k0_pay12 a b) k0_pay13 d = k0_pay6 a b c y d := rfl
theorem pay15_eq (a : Vec F S512x1024 .bf16) (b c y d) : k0_pay15 (F := F) a b c y d = k0_pay6 a b c y d := rfl
theorem pay17_eq (a : Vec F S512x1024 .bf16) (b c y d) : k0_pay17 (F := F) a (k0_pay16 b) (constant S512x256 .f32 0x00000000#32) c y d = k0_pay6 a b c y d := rfl
theorem pay23_eq (a : Vec F S512x1024 .bf16) (b c y d) : k0_pay23 (F := F) (k0_pay18 a b) (k0_pay19 a c) (k0_pay20 y) (k0_pay21 a b) k0_pay22 d = k0_pay6 a b c y d := rfl
theorem pay24_eq (a : Vec F S512x1024 .bf16) (b c y d) : k0_pay24 (F := F) a b c y d = k0_pay6 a b c y d := rfl
theorem pay26_eq (a : Vec F S512x1024 .bf16) (b c y d) : k0_pay26 (F := F) a (k0_pay25 b) (constant S512x256 .f32 0x00000000#32) c y d = k0_pay6 a b c y d := rfl
theorem pay32_eq (a : Vec F S512x1024 .bf16) (b c y d) : k0_pay32 (F := F) (k0_pay27 a b) (k0_pay28 a c) (k0_pay29 y) (k0_pay30 a b) k0_pay31 d = k0_pay6 a b c y d := rfl
theorem pay33_eq (a : Vec F S512x1024 .bf16) (b c y d) : k0_pay33 (F := F) a b c y d = k0_pay6 a b c y d := rfl
theorem pay1_eq (a : Vec F S512x1024 .bf16) (b c y d) : k0_pay1 (F := F) a (k0_pay34 b) (constant S512x256 .f32 0x00000000#32) c y d = k0_pay6 a b c y d := rfl

variable (m : (ℓ : Loc nD τ sig) → Buf (Elt F) ℓ)

/-- A point's residual, -/
def resid (c : Dev nD) (t : Fin cfg0.N) : FVec F S512x1024 .f32 :=
  mix (Scalar.select (inPrompt (grid0.coords t)) (iblk m c 0 t : Vec F S512x1024 .f32) (iblk m c 1 t : Vec F S512x1024 .f32))
    (Scalar.select (inPrompt (grid0.coords t)) (iblk m c 2 t : Vec F S512x256 .bf16) (iblk m c 3 t : Vec F S512x256 .bf16))
    (Scalar.select (inPrompt (grid0.coords t)) (iblk m c 4 t : Vec F S512x768 .bf16) (iblk m c 5 t : Vec F S512x768 .bf16))
    (top (iblk m c 6 t : Vec F S1024x1024 .bf16)) (bottom (iblk m c 6 t : Vec F S1024x1024 .bf16))

set_option maxHeartbeats 4000000 in
/-- and what its run leaves in the result's buffer. -/
theorem outs_eq (c : Dev nD) (t : Fin cfg0.N) :
    outsAt0 m c t = step (normed (resid m c t) (iblk m c 7 t : Vec F S1x1024 .f32)) (iblk m c 8 t : Vec F S1024x5632 .bf16) (iblk m c 9 t : Vec F S2816x1024 .bf16) (resid m c t) := by
  unfold outsAt0
  frame_out
  simp only [ld_top, ld_bottom, ld_cols, ld_rows, pay2_eq, pay5_eq, pay8_eq, pay14_eq, pay15_eq, pay17_eq, pay23_eq, pay24_eq, pay26_eq, pay32_eq, pay33_eq, pay1_eq]
  rfl

end Cert.DenseIdeal.Ffn

end
-- ==== Proof.DenseIdealStep.lean ====
/- A point of the dense layer on the extended reals. -/
module

public import proofs.«01_k».proof.Proof.DenseStep
public import proofs.«01_k».proof.Proof.ExpertsIdealStep
public import Idealize.ShloMosaic.Lib.Tactic.CleanTypes

@[expose] public section

set_option maxRecDepth 16384

noncomputable section

namespace Cert.DenseIdeal.Ffn

open Idealize.ShloMosaic Idealize.ShloMosaic.TcCoe Idealize.ShloMosaic.Tactic
open Cert.DenseIdeal Cert.DenseIdeal.Gen
open Cert.ExpertsIdeal.Moe (act sum_parts)
open scoped BigOperators

/-! ## A row -/

/-- An entry of a row divided by the row's root mean square, times the norm's weight. -/
def unit (x : Fin 1024 → EReal) (g : EReal) (d : Fin 1024) : EReal :=
  x d * Ideal.rsqrt (Ideal.div (∑ e, x e * x e) (Ideal.ofBits .f32 0x44800000#32) + Ideal.ofBits .f32 0x3727C5AC#32) * g

/-- An entry of a row of the residual: the token's, and its mixed channels and attention projected. -/
def projected (x : EReal) (of : Fin 256 → EReal) (oa : Fin 768 → EReal) (w : Fin 1024 → EReal) : EReal :=
  x + (∑ e : Fin 256, of e * w ⟨e.val, by omega⟩ + ∑ e : Fin 768, oa e * w ⟨256 + e.val, by omega⟩)

/-- A feature's part of an entry of the result. -/
def part (h : Fin 1024 → EReal) (w : Fin 1024 → Fin 5632 → EReal) (o : Fin 2816 → EReal) (f : Fin 2816) : EReal :=
  act (∑ d, h d * w d ⟨f.val, by omega⟩) (∑ d, h d * w d ⟨2816 + f.val, by omega⟩) * o f

/-! ## The payloads -/

theorem mix_apply (x : FVec Ideal S512x1024 .f32) (of : FVec Ideal S512x256 .bf16) (oa : FVec Ideal S512x768 .bf16) (wt : FVec Ideal S256x1024 .bf16) (wb : FVec Ideal S768x1024 .bf16) (r : Fin 512) (k : Fin 1024) :
    mix (F := Ideal) x of oa wt wb (ix2 r k) = x (ix2 r k) + (∑ e : Fin 256, of (ix2 r e) * wt (ix2 e k) + ∑ e : Fin 768, oa (ix2 r e) * wb (ix2 e k)) := by
  pointwise [mix]

theorem normed_apply (x1 : FVec Ideal S512x1024 .f32) (g : FVec Ideal S1x1024 .f32) (r : Fin 512) (d : Fin 1024) :
    normed (F := Ideal) x1 g (ix2 r d) = unit (fun e => x1 (ix2 r e)) (g (ix2 0 d)) d := by
  pointwise [normed, k0_pay5, k0_pay4, unit]

theorem pay6_apply (h : FVec Ideal S512x1024 .bf16) (wg wu : FVec Ideal S1024x256 .bf16) (y : FVec Ideal S512x1024 .f32) (wd : FVec Ideal S256x1024 .bf16) (r : Fin 512) (k : Fin 1024) :
    k0_pay6 (F := Ideal) h wg wu y wd (ix2 r k) = y (ix2 r k)
      + ∑ f : Fin 256, act (∑ d : Fin 1024, h (ix2 r d) * wg (ix2 d f)) (∑ d : Fin 1024, h (ix2 r d) * wu (ix2 d f)) * wd (ix2 f k) := by
  pointwise [k0_pay6, act]
  simp only [zero_sub]

theorem cols_gate (w : FVec Ideal S1024x5632 .bf16) (u : Fin 11) (d : Fin 1024) (f : Fin 256) :
    cols (F := Ideal) w (256 * u.val) (by omega) (ix2 d f) = w (ix2 d ⟨256 * u.val + f.val, by omega⟩) := rfl

theorem cols_up (w : FVec Ideal S1024x5632 .bf16) (u : Fin 11) (d : Fin 1024) (f : Fin 256) :
    cols (F := Ideal) w (2816 + 256 * u.val) (by omega) (ix2 d f) = w (ix2 d ⟨2816 + (256 * u.val + f.val), by omega⟩) := by
  refine Eq.trans (b := w (ix2 d ⟨2816 + 256 * u.val + f.val, by omega⟩)) rfl ?_
  simp only [Nat.add_assoc]

theorem rows_down (wd : FVec Ideal S2816x1024 .bf16) (u : Fin 11) (f : Fin 256) (k : Fin 1024) :
    rows (F := Ideal) wd (256 * u.val) (by omega) (ix2 f k) = wd (ix2 ⟨256 * u.val + f.val, by omega⟩ k) := rfl

theorem chunk_apply (h : FVec Ideal S512x1024 .bf16) (w : FVec Ideal S1024x5632 .bf16) (wd : FVec Ideal S2816x1024 .bf16) (u : Fin 11) (y : FVec Ideal S512x1024 .f32) (r : Fin 512) (k : Fin 1024) :
    chunk (F := Ideal) h w wd u y (ix2 r k) = y (ix2 r k)
      + ∑ f : Fin 256, part (fun d => h (ix2 r d)) (fun d f => w (ix2 d f)) (fun f => wd (ix2 f k)) ⟨256 * u.val + f.val, by omega⟩ := by
  unfold chunk
  rw [pay6_apply]
  simp only [cols_gate, cols_up, rows_down, part]

theorem add_eleven (y : EReal) (P : Fin 11 → EReal) :
    y + P 0 + P 1 + P 2 + P 3 + P 4 + P 5 + P 6 + P 7 + P 8 + P 9 + P 10 = y + ∑ u, P u := by
  rw [Fin.sum_univ_castSucc, Fin.sum_univ_castSucc, Fin.sum_univ_castSucc, Fin.sum_univ_eight]
  simp only [add_assoc]
  rfl

theorem step_apply (h : FVec Ideal S512x1024 .bf16) (w : FVec Ideal S1024x5632 .bf16) (wd : FVec Ideal S2816x1024 .bf16) (y : FVec Ideal S512x1024 .f32) (r : Fin 512) (k : Fin 1024) :
    step (F := Ideal) h w wd y (ix2 r k) = y (ix2 r k) + ∑ f, part (fun d => h (ix2 r d)) (fun d f => w (ix2 d f)) (fun f => wd (ix2 f k)) f := by
  rw [step_eq]
  simp only [chunk_apply]
  rw [← sum_parts (n := 11) (p := 256) (by norm_num) (part (fun d => h (ix2 r d)) (fun d f => w (ix2 d f)) (fun f => wd (ix2 f k))) (fun u r => by omega)]
  exact add_eleven _ fun u : Fin 11 => ∑ q : Fin 256, part (fun d => h (ix2 r d)) (fun d f => w (ix2 d f)) (fun f => wd (ix2 f k)) ⟨256 * u.val + q.val, by omega⟩

end Cert.DenseIdeal.Ffn

end
-- ==== Proof.DenseRef.lean ====
/- The dense layer's reference, stage by stage, read at an index on the extended reals. -/
module

public import proofs.«01_k».proof.Proof.Gen.DenseReferenceIdeal.Run
public import proofs.«01_k».proof.Proof.DenseIdealStep
public import Idealize.ShloMosaic.Lib.Tactic.CleanTypes

@[expose] public section

set_option maxRecDepth 16384

noncomputable section

namespace Cert.DenseReferenceIdeal.Ffn

open Idealize.ShloMosaic
open Cert.ExpertsIdeal.Moe (act)
open Cert.DenseIdeal.Ffn (unit projected part)
open Cert.DenseReferenceIdeal Cert.DenseReferenceIdeal.Gen Cert.DenseReferenceIdeal.Value
open scoped BigOperators

/-- Both batches' rows, of the tokens, -/
def tokens (xp : FVec Ideal S65536x1024 .f32) (xs : FVec Ideal S16384x1024 .f32) : FVec Ideal S81920x1024 .f32 :=
  concatenate S81920x1024 0 [⟨S65536x1024, xp⟩, ⟨S16384x1024, xs⟩] concatenates_S65536x1024_S16384x1024_S81920x1024_d0
/-- of the mixed channels, -/
def mixed (fp : FVec Ideal S65536x256 .bf16) (fs : FVec Ideal S16384x256 .bf16) : FVec Ideal S81920x256 .bf16 :=
  concatenate S81920x256 0 [⟨S65536x256, fp⟩, ⟨S16384x256, fs⟩] concatenates_S65536x256_S16384x256_S81920x256_d0
/-- of the attention, -/
def attended (ap : FVec Ideal S65536x768 .bf16) (a2 : FVec Ideal S16384x768 .bf16) : FVec Ideal S81920x768 .bf16 :=
  concatenate S81920x768 0 [⟨S65536x768, ap⟩, ⟨S16384x768, a2⟩] concatenates_S65536x768_S16384x768_S81920x768_d0
/-- and of the two side by side. -/
def beside (f : FVec Ideal S81920x256 .bf16) (a : FVec Ideal S81920x768 .bf16) : FVec Ideal S81920x1024 .f32 :=
  extf .f32 (concatenate S81920x1024 1 [⟨S81920x256, f⟩, ⟨S81920x768, a⟩] concatenates_S81920x256_S81920x768_S81920x1024_d1) bitsLt_bf16_f32

/-- The residual, -/
def resid (x : FVec Ideal S81920x1024 .f32) (o : FVec Ideal S81920x1024 .f32) (w : FVec Ideal S1024x1024 .f32) : FVec Ideal S81920x1024 .f32 :=
  addf x (Host.dotGeneral dot_S81920x1024_S1024x1024_S81920x1024_1_0_0_1_n_n none o w)
/-- its rows normalized, -/
def normed (x1 : FVec Ideal S81920x1024 .f32) (g : FVec Ideal S1024 .f32) : FVec Ideal S81920x1024 .f32 :=
  mulf (mulf x1 (broadcastInDim S81920x1024 ![0, 1] bcast_S81920x1_S81920x1024_0_1 (Host.rsqrt (addf (Host.divf (broadcastInDim S81920x1 ![0] bcast_S81920_S81920x1_0 (Host.reduceAdd (mulf x1 x1) (constant S_ .f32 0x00000000#32) reducesTo_S81920x1024_S81920_d1 h_S_)) (broadcastInDim S81920x1 ![] bcast_S_S81920x1 (constant S_ .f32 0x44800000#32))) (broadcastInDim S81920x1 ![] bcast_S_S81920x1 (constant S_ .f32 0x3727C5AC#32))))))
    (broadcastInDim S81920x1024 ![0, 1] bcast_S1x1024_S81920x1024_0_1 (broadcastInDim S1x1024 ![1] bcast_S1024_S1x1024_1 g))
/-- their gates and up-projections, -/
def gates (h : FVec Ideal S81920x1024 .f32) (w : FVec Ideal S1024x5632 .f32) : FVec Ideal S81920x5632 .f32 :=
  Host.dotGeneral dot_S81920x1024_S1024x5632_S81920x5632_1_0_0_1_n_n none h w
def gate (gu : FVec Ideal S81920x5632 .f32) : FVec Ideal S81920x2816 .f32 := extractStridedSlice S81920x2816 ![0, 0] gu slices_S81920x5632_S81920x2816_0_0
/-- the gated features, -/
def features (gu : FVec Ideal S81920x5632 .f32) : FVec Ideal S81920x2816 .f32 :=
  mulf (mulf (gate gu) (Host.divf (broadcastInDim S81920x2816 ![] bcast_S_S81920x2816 (constant S_ .f32 0x3F800000#32)) (addf (broadcastInDim S81920x2816 ![] bcast_S_S81920x2816 (constant S_ .f32 0x3F800000#32)) (Host.exp (Host.negf (gate gu)))))) (extractStridedSlice S81920x2816 ![0, 2816] gu slices_S81920x5632_S81920x2816_0_2816)
/-- and the down-projection added. -/
def down (x1 : FVec Ideal S81920x1024 .f32) (f : FVec Ideal S81920x2816 .f32) (o : FVec Ideal S2816x1024 .f32) : FVec Ideal S81920x1024 .f32 :=
  addf x1 (Host.dotGeneral dot_S81920x2816_S2816x1024_S81920x1024_1_0_0_1_n_n none f o)

/-- The reference's result, from the residual. -/
def result (x1 : FVec Ideal S81920x1024 .f32) (g : FVec Ideal S1024 .f32) (w : FVec Ideal S1024x5632 .f32) (o : FVec Ideal S2816x1024 .f32) : FVec Ideal S81920x1024 .f32 :=
  down x1 (features (gates (normed x1 g) w)) o

variable (m : (ℓ : Loc nD τ sig) → Buf (Elt Ideal) ℓ)

/-- The residual of a core's arguments. -/
def residOf (c : Dev nD) : FVec Ideal S81920x1024 .f32 :=
  resid (tokens (m ((c.tc : Thread nD τ).loc main_arg0)) (m ((c.tc : Thread nD τ).loc main_arg1)))
    (beside (mixed (m ((c.tc : Thread nD τ).loc main_arg2)) (m ((c.tc : Thread nD τ).loc main_arg3))) (attended (m ((c.tc : Thread nD τ).loc main_arg4)) (m ((c.tc : Thread nD τ).loc main_arg5))))
    (m ((c.tc : Thread nD τ).loc main_arg6))

theorem res_eq (c : Dev nD) : res_out0 m c = result (residOf m c) (m ((c.tc : Thread nD τ).loc main_arg7)) (m ((c.tc : Thread nD τ).loc main_arg8)) (m ((c.tc : Thread nD τ).loc main_arg9)) := rfl

theorem resid_apply (x o : FVec Ideal S81920x1024 .f32) (w : FVec Ideal S1024x1024 .f32) (r : Fin 81920) (k : Fin 1024) :
    resid x o w (ix2 r k) = x (ix2 r k) + ∑ e : Fin 1024, o (ix2 r e) * w (ix2 e k) := by
  pointwise [resid]

theorem beside_apply (f : FVec Ideal S81920x256 .bf16) (a : FVec Ideal S81920x768 .bf16) (r : Fin 81920) (e : Fin 1024) :
    beside f a (ix2 r e) = if h : e.val < 256 then f (ix2 r ⟨e.val, h⟩) else a (ix2 r ⟨e.val - 256, by omega⟩) := by
  pointwise [beside]

theorem tokens_apply (xp : FVec Ideal S65536x1024 .f32) (xs : FVec Ideal S16384x1024 .f32) (r : Fin 81920) (e : Fin 1024) :
    tokens xp xs (ix2 r e) = if h : r.val < 65536 then xp (ix2 ⟨r.val, h⟩ e) else xs (ix2 ⟨r.val - 65536, by omega⟩ e) := by
  pointwise [tokens]

theorem mixed_apply (xp : FVec Ideal S65536x256 .bf16) (xs : FVec Ideal S16384x256 .bf16) (r : Fin 81920) (e : Fin 256) :
    mixed xp xs (ix2 r e) = if h : r.val < 65536 then xp (ix2 ⟨r.val, h⟩ e) else xs (ix2 ⟨r.val - 65536, by omega⟩ e) := by
  pointwise [mixed]

theorem attended_apply (xp : FVec Ideal S65536x768 .bf16) (xs : FVec Ideal S16384x768 .bf16) (r : Fin 81920) (e : Fin 768) :
    attended xp xs (ix2 r e) = if h : r.val < 65536 then xp (ix2 ⟨r.val, h⟩ e) else xs (ix2 ⟨r.val - 65536, by omega⟩ e) := by
  pointwise [attended]

theorem normed_apply (x1 : FVec Ideal S81920x1024 .f32) (g : FVec Ideal S1024 .f32) (r : Fin 81920) (d : Fin 1024) :
    normed x1 g (ix2 r d) = unit (fun e => x1 (ix2 r e)) (g (ix1 d)) d := by
  pointwise [normed, unit]

theorem gates_apply (h : FVec Ideal S81920x1024 .f32) (w : FVec Ideal S1024x5632 .f32) (r : Fin 81920) (f : Fin 5632) :
    gates h w (ix2 r f) = ∑ d : Fin 1024, h (ix2 r d) * w (ix2 d f) := by
  pointwise [gates]

theorem features_apply (gu : FVec Ideal S81920x5632 .f32) (r : Fin 81920) (f : Fin 2816) :
    features gu (ix2 r f) = act (gu (ix2 r ⟨f.val, by omega⟩)) (gu (ix2 r ⟨2816 + f.val, by omega⟩)) := by
  pointwise [features, gate, act]

theorem down_apply (x1 : FVec Ideal S81920x1024 .f32) (f : FVec Ideal S81920x2816 .f32) (o : FVec Ideal S2816x1024 .f32) (r : Fin 81920) (k : Fin 1024) :
    down x1 f o (ix2 r k) = x1 (ix2 r k) + ∑ e : Fin 2816, f (ix2 r e) * o (ix2 e k) := by
  pointwise [down]

/-- The result at an entry. -/
theorem result_apply (x1 : FVec Ideal S81920x1024 .f32) (g : FVec Ideal S1024 .f32) (w : FVec Ideal S1024x5632 .f32) (o : FVec Ideal S2816x1024 .f32) (r : Fin 81920) (k : Fin 1024) :
    result x1 g w o (ix2 r k) = x1 (ix2 r k)
      + ∑ f, part (fun d => unit (fun e => x1 (ix2 r e)) (g (ix1 d)) d) (fun d f => w (ix2 d f)) (fun f => o (ix2 f k)) f := by
  simp only [result, down_apply, features_apply, gates_apply, normed_apply, part]

/-- The residual at an entry: the projection's rows for the mixed channels and for the attention apart. -/
theorem resid_split (x : FVec Ideal S81920x1024 .f32) (f : FVec Ideal S81920x256 .bf16) (a : FVec Ideal S81920x768 .bf16) (w : FVec Ideal S1024x1024 .f32) (r : Fin 81920) (k : Fin 1024) :
    resid x (beside f a) w (ix2 r k) = projected (x (ix2 r k)) (fun e => f (ix2 r e)) (fun e => a (ix2 r e)) (fun e => w (ix2 e k)) := by
  rw [resid_apply, projected]
  refine congrArg (x (ix2 r k) + ·) ?_
  refine (Fin.sum_univ_add (a := 256) (b := 768) fun e : Fin 1024 => beside f a (ix2 r e) * w (ix2 e k)).trans ?_
  refine congrArg₂ (· + ·) (Finset.sum_congr rfl fun e _ => ?_) (Finset.sum_congr rfl fun e _ => ?_)
  · rw [beside_apply, dif_pos (show (Fin.castAdd 768 e).val < 256 from e.isLt)]
    rfl
  · rw [beside_apply, dif_neg (show ¬ (Fin.natAdd 256 e).val < 256 from by simp)]
    refine congrArg₂ (· * ·) (congrArg a (congrArg (ix2 r) (Fin.ext ?_))) rfl
    show 256 + e.val - 256 = e.val
    omega

end Cert.DenseReferenceIdeal.Ffn

end
-- ==== Proof.DenseValue.lean ====
/- The dense layer's result array on the extended reals: the reference's function of the arguments. -/
module

public import proofs.«01_k».proof.Proof.DenseRef
public import Idealize.ShloMosaic.Lib.Pipeline.Value
public import Idealize.ShloMosaic.Lib.Pipeline.ValueKit

@[expose] public section

set_option maxRecDepth 16384

noncomputable section

namespace Cert.DenseIdeal.Ffn

open Idealize.ShloMosaic Idealize.ShloMosaic.TcCoe Idealize.ShloMosaic.Tactic
open Idealize.SL Idealize.SL.Sem
open Idealize.ShloMosaic.Pipeline (Dat Cfg Window)
open Cert.DenseIdeal Cert.DenseIdeal.Gen
open scoped BigOperators

variable (m : (ℓ : Loc nD τ sig) → Buf (Elt Ideal) ℓ)

abbrev argXp (c : Dev nD) : FVec Ideal S65536x1024 .f32 := m ((c : Thread nD τ).loc main_arg0)
abbrev argXs (c : Dev nD) : FVec Ideal S16384x1024 .f32 := m ((c : Thread nD τ).loc main_arg1)
abbrev argFp (c : Dev nD) : FVec Ideal S65536x256 .bf16 := m ((c : Thread nD τ).loc main_arg2)
abbrev argFs (c : Dev nD) : FVec Ideal S16384x256 .bf16 := m ((c : Thread nD τ).loc main_arg3)
abbrev argAp (c : Dev nD) : FVec Ideal S65536x768 .bf16 := m ((c : Thread nD τ).loc main_arg4)
abbrev argAs (c : Dev nD) : FVec Ideal S16384x768 .bf16 := m ((c : Thread nD τ).loc main_arg5)
abbrev argO (c : Dev nD) : FVec Ideal S1024x1024 .f32 := m ((c : Thread nD τ).loc main_arg6)
abbrev argG (c : Dev nD) : FVec Ideal S1024 .f32 := m ((c : Thread nD τ).loc main_arg7)
abbrev argW (c : Dev nD) : FVec Ideal S1024x5632 .f32 := m ((c : Thread nD τ).loc main_arg8)
abbrev argD (c : Dev nD) : FVec Ideal S2816x1024 .f32 := m ((c : Thread nD τ).loc main_arg9)

/-- The reference's residual of a core's arguments, -/
def residRef (c : Dev nD) : FVec Ideal S81920x1024 .f32 :=
  Cert.DenseReferenceIdeal.Ffn.resid (Cert.DenseReferenceIdeal.Ffn.tokens (argXp m c) (argXs m c))
    (Cert.DenseReferenceIdeal.Ffn.beside (Cert.DenseReferenceIdeal.Ffn.mixed (argFp m c) (argFs m c)) (Cert.DenseReferenceIdeal.Ffn.attended (argAp m c) (argAs m c))) (argO m c)
/-- and its result. -/
def result (c : Dev nD) : FVec Ideal S81920x1024 .f32 :=
  Cert.DenseReferenceIdeal.Ffn.result (residRef m c) (argG m c) (argW m c) (argD m c)

/-! ## The arrays as the pipeline finds them -/

theorem V_o (c : Dev nD) : (V m c main_v0 : FVec Ideal S1024x1024 .bf16) = argO m c := by
  show StableHlo.after hostOps0 (fun b => m (c, b)) main_v0 = _
  unfold hostOps0
  after_results_simp
  rfl
theorem V_g (c : Dev nD) : (V m c main_v1 : FVec Ideal S1x1024 .f32) = broadcastInDim S1x1024 ![1] bcast_S1024_S1x1024_1 (argG m c) := by
  show StableHlo.after hostOps0 (fun b => m (c, b)) main_v1 = _
  unfold hostOps0
  after_results_simp
theorem V_w (c : Dev nD) : (V m c main_v2 : FVec Ideal S1024x5632 .bf16) = argW m c := by
  show StableHlo.after hostOps0 (fun b => m (c, b)) main_v2 = _
  unfold hostOps0
  after_results_simp
  rfl
theorem V_d (c : Dev nD) : (V m c main_v3 : FVec Ideal S2816x1024 .bf16) = argD m c := by
  show StableHlo.after hostOps0 (fun b => m (c, b)) main_v3 = _
  unfold hostOps0
  after_results_simp
  rfl
theorem V_xp (c : Dev nD) : (V m c main_arg0 : FVec Ideal S65536x1024 .f32) = argXp m c := by
  show StableHlo.after hostOps0 (fun b => m (c, b)) main_arg0 = _
  unfold hostOps0
  after_results_simp
theorem V_xs (c : Dev nD) : (V m c main_arg1 : FVec Ideal S16384x1024 .f32) = argXs m c := by
  show StableHlo.after hostOps0 (fun b => m (c, b)) main_arg1 = _
  unfold hostOps0
  after_results_simp
theorem V_fp (c : Dev nD) : (V m c main_arg2 : FVec Ideal S65536x256 .bf16) = argFp m c := by
  show StableHlo.after hostOps0 (fun b => m (c, b)) main_arg2 = _
  unfold hostOps0
  after_results_simp
theorem V_fs (c : Dev nD) : (V m c main_arg3 : FVec Ideal S16384x256 .bf16) = argFs m c := by
  show StableHlo.after hostOps0 (fun b => m (c, b)) main_arg3 = _
  unfold hostOps0
  after_results_simp
theorem V_ap (c : Dev nD) : (V m c main_arg4 : FVec Ideal S65536x768 .bf16) = argAp m c := by
  show StableHlo.after hostOps0 (fun b => m (c, b)) main_arg4 = _
  unfold hostOps0
  after_results_simp
theorem V_as (c : Dev nD) : (V m c main_arg5 : FVec Ideal S16384x768 .bf16) = argAs m c := by
  show StableHlo.after hostOps0 (fun b => m (c, b)) main_arg5 = _
  unfold hostOps0
  after_results_simp

/-! ## The blocks of a point -/

theorem lt_160 (t : Fin cfg0.N) : t.val < 160 := t.isLt

theorem idx0 : ∀ t : Fin cfg0.N, win0_0.index t = ![min t.val 127, 0] := (by decide +kernel : ∀ t : Fin grid0.N, _)
theorem idx1 : ∀ t : Fin cfg0.N, win0_1.index t = ![t.val - 128, 0] := (by decide +kernel : ∀ t : Fin grid0.N, _)
theorem idx2 : ∀ t : Fin cfg0.N, win0_2.index t = ![min t.val 127, 0] := (by decide +kernel : ∀ t : Fin grid0.N, _)
theorem idx3 : ∀ t : Fin cfg0.N, win0_3.index t = ![t.val - 128, 0] := (by decide +kernel : ∀ t : Fin grid0.N, _)
theorem idx4 : ∀ t : Fin cfg0.N, win0_4.index t = ![min t.val 127, 0] := (by decide +kernel : ∀ t : Fin grid0.N, _)
theorem idx5 : ∀ t : Fin cfg0.N, win0_5.index t = ![t.val - 128, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![t.val, 0] := (by decide +kernel : ∀ t : Fin grid0.N, _)

/-- A point's row in the prompts' arrays, -/
abbrev rowP (t : Fin cfg0.N) (r : Fin 512) : Fin 65536 := ⟨min t.val 127 * 512 + r.val, by omega⟩
/-- in the samples', -/
abbrev rowS (t : Fin cfg0.N) (r : Fin 512) : Fin 16384 := ⟨(t.val - 128) * 512 + r.val, by have := lt_160 t; omega⟩
/-- and in the result. -/
abbrev row (t : Fin cfg0.N) (r : Fin 512) : Fin 81920 := ⟨t.val * 512 + r.val, by have := lt_160 t; omega⟩

theorem iblk0 (c : Dev nD) (t : Fin cfg0.N) (r : Fin 512) (d : Fin 1024) : (iblk m c 0 t : Vec Ideal S512x1024 .f32) (ix2 r d) = argXp m c (ix2 (rowP t r) d) := by
  rw [← V_xp]
  blk_ext [iblk, idx0 t]
theorem iblk1 (c : Dev nD) (t : Fin cfg0.N) (r : Fin 512) (d : Fin 1024) : (iblk m c 1 t : Vec Ideal S512x1024 .f32) (ix2 r d) = argXs m c (ix2 (rowS t r) d) := by
  rw [← V_xs]
  blk_ext [iblk, idx1 t]
theorem iblk2 (c : Dev nD) (t : Fin cfg0.N) (r : Fin 512) (d : Fin 256) : (iblk m c 2 t : Vec Ideal S512x256 .bf16) (ix2 r d) = argFp m c (ix2 (rowP t r) d) := by
  rw [← V_fp]
  blk_ext [iblk, idx2 t]
theorem iblk3 (c : Dev nD) (t : Fin cfg0.N) (r : Fin 512) (d : Fin 256) : (iblk m c 3 t : Vec Ideal S512x256 .bf16) (ix2 r d) = argFs m c (ix2 (rowS t r) d) := by
  rw [← V_fs]
  blk_ext [iblk, idx3 t]
theorem iblk4 (c : Dev nD) (t : Fin cfg0.N) (r : Fin 512) (d : Fin 768) : (iblk m c 4 t : Vec Ideal S512x768 .bf16) (ix2 r d) = argAp m c (ix2 (rowP t r) d) := by
  rw [← V_ap]
  blk_ext [iblk, idx4 t]
theorem iblk5 (c : Dev nD) (t : Fin cfg0.N) (r : Fin 512) (d : Fin 768) : (iblk m c 5 t : Vec Ideal S512x768 .bf16) (ix2 r d) = argAs m c (ix2 (rowS t r) d) := by
  rw [← V_as]
  blk_ext [iblk, idx5 t]
theorem iblk6 (c : Dev nD) (t : Fin cfg0.N) (r k : Fin 1024) : (iblk m c 6 t : Vec Ideal S1024x1024 .bf16) (ix2 r k) = argO m c (ix2 r k) := by
  rw [← V_o]
  blk_ext [iblk, idx6 t]
theorem iblk7 (c : Dev nD) (t : Fin cfg0.N) (d : Fin 1024) : (iblk m c 7 t : Vec Ideal S1x1024 .f32) (ix2 0 d) = argG m c (ix1 d) := by
  refine Eq.trans (b := (V m c main_v1 : FVec Ideal S1x1024 .f32) (ix2 0 d)) (by blk_ext [iblk, idx7 t]) ?_
  rw [V_g]
  pointwise []
theorem iblk8 (c : Dev nD) (t : Fin cfg0.N) (d : Fin 1024) (f : Fin 5632) : (iblk m c 8 t : Vec Ideal S1024x5632 .bf16) (ix2 d f) = argW m c (ix2 d f) := by
  rw [← V_w]
  blk_ext [iblk, idx8 t]
theorem iblk9 (c : Dev nD) (t : Fin cfg0.N) (f : Fin 2816) (k : Fin 1024) : (iblk m c 9 t : Vec Ideal S2816x1024 .bf16) (ix2 f k) = argD m c (ix2 f k) := by
  rw [← V_d]
  blk_ext [iblk, idx9 t]

/-! ## A point's rows are the reference's -/

theorem inPrompt_eq : ∀ t : Fin cfg0.N, inPrompt (grid0.coords t) = if t.val < 128 then 1#1 else 0#1 :=
  (by decide +kernel : ∀ t : Fin grid0.N, _)

/-- The entry taken at a point is the entry of both batches' rows put together. -/
theorem pick {S : Shape} {α : Type} (t : Fin cfg0.N) (r : Fin 512) (A B : S.Idx → α) (y : S.Idx) (P : Fin 65536 → α) (Q : Fin 16384 → α)
    (hA : A y = P (rowP t r)) (hB : B y = Q (rowS t r)) :
    (Scalar.select (inPrompt (grid0.coords t)) A B : S.Idx → α) y = if h : (row t r).val < 65536 then P ⟨(row t r).val, h⟩ else Q ⟨(row t r).val - 65536, by have := (row t r).isLt; omega⟩ := by
  rw [inPrompt_eq]
  by_cases h : t.val < 128
  · rw [if_pos h, dif_pos (show t.val * 512 + r.val < 65536 by omega)]
    refine hA.trans (congrArg P (Fin.ext ?_))
    show min t.val 127 * 512 + r.val = t.val * 512 + r.val
    omega
  · rw [if_neg h, dif_neg (show ¬ t.val * 512 + r.val < 65536 by omega)]
    refine hB.trans (congrArg Q (Fin.ext ?_))
    show (t.val - 128) * 512 + r.val = t.val * 512 + r.val - 65536
    omega

theorem resid_eq (c : Dev nD) (t : Fin cfg0.N) (r : Fin 512) (k : Fin 1024) : resid m c t (ix2 r k) = residRef m c (ix2 (row t r) k) := by
  unfold resid residRef
  rw [mix_apply, Cert.DenseReferenceIdeal.Ffn.resid_split, projected]
  refine congrArg₂ (· + ·) ?_ (congrArg₂ (· + ·) (Finset.sum_congr rfl fun e _ => congrArg₂ (· * ·) ?_ ?_) (Finset.sum_congr rfl fun e _ => congrArg₂ (· * ·) ?_ ?_))
  · rw [Cert.DenseReferenceIdeal.Ffn.tokens_apply]
    exact pick t r _ _ _ (fun n => argXp m c (ix2 n k)) (fun n => argXs m c (ix2 n k)) (iblk0 m c t r k) (iblk1 m c t r k)
  · rw [Cert.DenseReferenceIdeal.Ffn.mixed_apply]
    exact pick t r _ _ _ (fun n => argFp m c (ix2 n e)) (fun n => argFs m c (ix2 n e)) (iblk2 m c t r e) (iblk3 m c t r e)
  · exact iblk6 m c t _ k
  · rw [Cert.DenseReferenceIdeal.Ffn.attended_apply]
    exact pick t r _ _ _ (fun n => argAp m c (ix2 n e)) (fun n => argAs m c (ix2 n e)) (iblk4 m c t r e) (iblk5 m c t r e)
  · exact iblk6 m c t _ k

theorem block_eq (c : Dev nD) (t : Fin cfg0.N) (r : Fin 512) (k : Fin 1024) : outsAt0 m c t (ix2 r k) = result m c (ix2 (row t r) k) := by
  rw [outs_eq, step_apply]
  unfold result
  rw [Cert.DenseReferenceIdeal.Ffn.result_apply]
  simp only [normed_apply, resid_eq, iblk7, iblk8, iblk9]

attribute [local irreducible] outsAt0 result

/-- The result array after the run. -/
theorem final (c : Dev nD) : (dats m 0 c).arrAt 10 cfg0.N = result m c := by
  refine (dats m 0 c).arrAt_eq_of_covers 10 _ (by decide +kernel) fun t _ y => ?_
  blk_simp
  rw [after0_10]
  idx_vars y
  refine (block_eq m c t _ _).trans (congrArg (result m c) ?_)
  blk_ext [idx10 t]

end Cert.DenseIdeal.Ffn

end
-- ==== Proof.DenseClaims.lean ====
/- The dense layer's run against its reference's, on the extended reals. -/
module

public import proofs.«01_k».proof.Proof.DenseFrames
public import proofs.«01_k».proof.Proof.DenseValue

@[expose] public section

set_option maxRecDepth 16384

noncomputable section

namespace Cert.Proof

open Idealize.ShloMosaic Idealize.SL.Sem

attribute [local instance] Cert.Dense.Gen.facts

/-- From arguments that agree, both programs end with the dense layer of the arguments. -/
theorem algebraic_dense : Cert.algebraic_DenseIdeal_DenseReferenceIdeal := by
  intro m ρ m' ρ' _ hagree
  refine ⟨fun c => Cert.DenseIdeal.Ffn.result m c, ?_, ?_⟩
  · refine (θ_run Cert.DenseIdeal.defs _ _).mono ?_
      (θ_run_and (Cert.DenseIdeal.Gen.run_main m ρ) ((θ_run Cert.DenseIdeal.defs _ _).mono (fun _ h => h.1) (Cert.DenseIdeal.Gen.frame (F := Ideal) m ρ)))
    rintro r ⟨h, harg⟩ c
    refine ⟨((h c).1 10).trans ?_, harg c⟩
    exact Cert.DenseIdeal.Ffn.final m c
  · refine (θ_run Cert.DenseReferenceIdeal.defs _ _).mono (fun _ h c => ⟨(h c).1.trans ?_, (h c).2⟩)
      (Cert.DenseReferenceIdeal.Value.run (F := Ideal) m' ρ')
    refine (Cert.DenseReferenceIdeal.Ffn.res_eq m' c).trans ?_
    unfold Cert.DenseReferenceIdeal.Ffn.residOf
    rw [(hagree c).1, (hagree c).2.1, (hagree c).2.2.1, (hagree c).2.2.2.1, (hagree c).2.2.2.2.1, (hagree c).2.2.2.2.2.1, (hagree c).2.2.2.2.2.2.1,
      (hagree c).2.2.2.2.2.2.2.1, (hagree c).2.2.2.2.2.2.2.2.1, (hagree c).2.2.2.2.2.2.2.2.2]
    rfl

end Cert.Proof

end
-- ==== Proof.InProjFrames.lean ====
/- The input projection's frames: one run read at each value type. -/
module

public import proofs.«01_k».proof.Defs
public import proofs.«01_k».proof.Proof.Gen.InProj
public import proofs.«01_k».proof.Proof.Gen.InProjIdeal
public import proofs.«01_k».proof.Proof.Gen.InProjIdeal.Frame
public import proofs.«01_k».proof.Proof.Gen.InProjReferenceIdeal
public import proofs.«01_k».proof.Proof.Gen.InProjReferenceIdeal.Run
public import Idealize.ShloMosaic.Lib.Quiescent

@[expose] public section

set_option maxRecDepth 16384

noncomputable section

namespace Cert.Proof

open Idealize.ShloMosaic Idealize.SL.Sem

attribute [local instance] Cert.InProj.Gen.facts

/-! ## The two programs are the same text -/

theorem inproj_body_eq : @Cert.InProj.cc0_norm_inproj Bits _ _ = @Cert.InProjIdeal.cc0_norm_inproj Bits _ _ := rfl

set_option maxHeartbeats 4000000 in
theorem inproj_defs₀_eq : Cert.InProj.defs₀ (F := Bits) = Cert.InProjIdeal.defs₀ (F := Bits) := by
  unfold Cert.InProj.defs₀ Cert.InProjIdeal.defs₀
  refine congrArg Defs.onTc (funext fun l => funext fun a => ?_)
  match l, a with
  | 0, (t, s) => rfl

theorem inproj_defs_eq : Cert.InProj.defs (F := Bits) = Cert.InProjIdeal.defs (F := Bits) :=
  congrArg (Pipeline.defs Cert.InProjIdeal.pcfgs) inproj_defs₀_eq

/-! ## The frames -/

set_option maxHeartbeats 4000000 in
theorem inproj_main_eq : Cert.InProj.main (F := Bits) = Cert.InProjIdeal.main (F := Bits) := rfl

set_option maxHeartbeats 4000000 in
theorem frame_inproj : Cert.quiescent_InProj := fun m ρ _ => by
  rw [inproj_defs_eq, inproj_main_eq]
  exact (θ_run Cert.InProjIdeal.defs _ _).mono (fun _ h => h) (Cert.InProjIdeal.Gen.frame (F := Bits) m ρ)

theorem frame_inproj_ideal : Cert.quiescent_InProjIdeal := fun m ρ _ => Cert.InProjIdeal.Gen.frame (F := Ideal) m ρ

theorem frame_inproj_reference : Cert.quiescent_InProjReferenceIdeal := fun m ρ _ =>
  (θ_run Cert.InProjReferenceIdeal.defs _ _).mono
    (fun r h => ⟨fun c => (h c).2.2, sem_eq_zero_of_no_sems (by decide) r.2⟩)
    (Cert.InProjReferenceIdeal.Value.run (F := Ideal) m ρ)

end Cert.Proof

end
-- ==== Proof.InProjStep.lean ====
/- What the input projection's run of a point leaves: the channels for the mixing transformed, and the queries and the keys
   rotated, four components of 64 channels at a time, with the values beside them. -/
module

public import proofs.«01_k».proof.Proof.Gen.InProjIdeal.Frame
public import Idealize.ShloMosaic.Lib.Pipeline.ValueKit

@[expose] public section

set_option maxRecDepth 16384

noncomputable section

namespace Cert.InProjIdeal.Proj

open Idealize.ShloMosaic Idealize.ShloMosaic.TcCoe Idealize.ShloMosaic.Tactic
open Idealize.SL Idealize.SL.RA Idealize.SL.BI
open Cert.InProjIdeal.Gen

variable {F : FTy → Type} [FloatOps F]

/-! ## Parts of the weights -/

/-- 256 columns of the weights, from column `o`. -/
def cols (w : Vec F S1024x2560 .bf16) (o : ℕ) (ho : o + 256 ≤ 2560) : Vec F S1024x256 .bf16 :=
  fun x => w (Idealize.ShloMosaic.ValueIdx.ix2 (x 0 : Fin 1024) (⟨o + (x 1).val, by have : (x 1).val < 256 := (x 1).isLt; omega⟩ : Fin 2560))

theorem ld_cols (w : Vec F S1024x2560 .bf16) (o : ℕ) (inb : ∀ a, ![0, o] a + (![1024, 256] : Fin 2 → ℕ) a ≤ S1024x2560.size a) :
    (View.ld (Val := Elt F) w (Rect.unit (s := S1024x2560) ![0, o] ![1024, 256] inb) : Vec F S1024x256 .bf16) = cols w o (inb 1) := by
  funext x
  refine congrArg w (funext fun d => ?_)
  fin_cases d
  · exact Fin.ext (show 0 + 1 * (x 0).val = (x 0).val by omega)
  · exact Fin.ext (show o + 1 * (x 1).val = o + (x 1).val by omega)

/-! ## A point's blocks -/

/-- Whether a point's rows are the prompts'. -/
def inPrompt (i : grid0.Coords) : BitVec 1 := Scalar.cmpi .slt (BitVec.ofNat 32 (i 0).val) 128#32

/-- The rows normalized, -/
def normed (x1 : Vec F S512x1024 .f32) (g : Vec F S1x1024 .f32) : FVec F S512x1024 .bf16 :=
  shapeCast S512x1024 (truncf .bf16 (mulf (mulf x1 (broadcastTo S512x1024 (rsqrt (addf (divf (shapeCast S512x1 (multiReduction .add [1] S512 (mulf x1 x1) 0x00000000#32 reduces_S512x1024_S512 (.inl rfl) rfl) shapeCasts_S512_S512x1) (broadcast S512x1 (Scalar.ofBits .f32 0x44800000#32))) (broadcast S512x1 (Scalar.ofBits .f32 0x3727C5AC#32)))) broadcasts_S512x1_S512x1024)) (broadcastTo S512x1024 (shapeCast S1x1024 g shapeCasts_S1x1024_S1x1024) broadcasts_S1x1024_S512x1024)) bitsLt_bf16_f32) shapeCasts_S512x1024_S512x1024

theorem pay5_eq (i : grid0.Coords) (p1 p2 : Vec F S512x1024 .f32) (g) :
    k0_pay5 (F := F) i p1 p2 g = normed (Scalar.select (inPrompt i) p1 p2) g := rfl

theorem pay11_eq (h : Vec F S512x1024 .bf16) (ct sa sb w) : k0_pay11 (F := F) h ct sa sb w = k0_pay10 h ct sa sb w := rfl
theorem pay14_eq (h : Vec F S512x1024 .bf16) (ct sa sb w) : k0_pay14 (F := F) (k0_pay9 sb) (k0_pay12 h w) (k0_pay13 h ct sa w) = k0_pay10 h ct sa sb w := rfl
theorem pay15_eq (h : Vec F S512x1024 .bf16) (ct sa sb w) : k0_pay15 (F := F) h (k0_pay7 ct) (k0_pay8 sa) (k0_pay9 sb) w = k0_pay10 h ct sa sb w := rfl
theorem pay16_eq (h : Vec F S512x1024 .bf16) (ct sa sb w) : k0_pay16 (F := F) h (k0_pay7 ct) (k0_pay8 sa) (k0_pay9 sb) w = k0_pay10 h ct sa sb w := rfl
theorem pay1_eq (h : Vec F S512x1024 .bf16) (ct sa sb w) : k0_pay1 (F := F) (k0_pay9 sb) (k0_pay17 h w) (k0_pay18 h (k0_pay7 ct) (k0_pay8 sa) w) = k0_pay10 h ct sa sb w := rfl
theorem pay3_eq (h : Vec F S512x1024 .bf16) (w) : k0_pay3 (F := F) h w = k0_pay2 h w := rfl
theorem pay4_eq (h : Vec F S512x1024 .bf16) (w) : k0_pay4 (F := F) h w = k0_pay2 h w := rfl

variable (m : (ℓ : Loc nD τ sig) → Buf (Elt F) ℓ)

/-- A point's rows, normalized. -/
def rows (c : Dev nD) (t : Fin cfg0.N) : FVec F S512x1024 .bf16 :=
  normed (Scalar.select (inPrompt (grid0.coords t)) (iblk m c 0 t : Vec F S512x1024 .f32) (iblk m c 1 t : Vec F S512x1024 .f32)) (iblk m c 2 t : Vec F S1x1024 .f32)

set_option maxHeartbeats 4000000 in
/-- What a point's run leaves in the first result's buffer. -/
theorem outs_fst (c : Dev nD) (t : Fin cfg0.N) :
    (outsAt0 m c t).1 = k0_pay6 (rows m c t) (cols (iblk m c 3 t : Vec F S1024x2560 .bf16) 0 (by omega)) (iblk m c 4 t : Vec F S256x512 .bf16) := by
  unfold outsAt0
  frame_out
  simp only [ld_cols, pay5_eq]
  rfl

/-- The second result's block, entry by entry: six blocks of rotated components, then three of values. -/
def heads (h : Vec F S512x1024 .bf16) (w : Vec F S1024x2560 .bf16) (ct sa sb : Vec F S512x256 .f32) : Vec F S512x2304 .bf16 := fun y =>
  if hy : (y 1).val < 1536 then
    k0_pay10 h ct sa sb (cols w (256 + (y 1).val / 256 * 256) (by omega)) (Idealize.ShloMosaic.ValueIdx.ix2 (y 0 : Fin 512) (⟨(y 1).val % 256, by omega⟩ : Fin 256))
  else
    k0_pay2 h (cols w (256 + (y 1).val / 256 * 256) (by have : (y 1).val < 2304 := (y 1).isLt; omega)) (Idealize.ShloMosaic.ValueIdx.ix2 (y 0 : Fin 512) (⟨(y 1).val % 256, by omega⟩ : Fin 256))

theorem heads_rotated (h : Vec F S512x1024 .bf16) (w : Vec F S1024x2560 .bf16) (ct sa sb : Vec F S512x256 .f32) (x : S512x256.Idx) (y : S512x2304.Idx) (o p : ℕ) (hp : p + 256 ≤ 2560)
    (y0 : (y 0).val = (x 0).val) (y1 : (y 1).val = o + (x 1).val) (ho : o % 256 = 0 ∧ o + 256 ≤ 1536 ∧ p = 256 + o) :
    k0_pay10 h ct sa sb (cols w p hp) x = heads h w ct sa sb y := by
  have hx : (x 1).val < 256 := (x 1).isLt
  unfold heads
  rw [dif_pos (show (y 1).val < 1536 by omega)]
  obtain rfl : p = 256 + (y 1).val / 256 * 256 := by omega
  refine congrArg (k0_pay10 h ct sa sb (cols w _ hp)) (funext fun d => ?_)
  fin_cases d
  · exact Fin.ext y0.symm
  · exact Fin.ext (show (x 1).val = (y 1).val % 256 by omega)

theorem heads_values (h : Vec F S512x1024 .bf16) (w : Vec F S1024x2560 .bf16) (ct sa sb : Vec F S512x256 .f32) (x : S512x256.Idx) (y : S512x2304.Idx) (o p : ℕ) (hp : p + 256 ≤ 2560)
    (y0 : (y 0).val = (x 0).val) (y1 : (y 1).val = o + (x 1).val) (ho : o % 256 = 0 ∧ 1536 ≤ o ∧ p = 256 + o) :
    k0_pay2 h (cols w p hp) x = heads h w ct sa sb y := by
  have hx : (x 1).val < 256 := (x 1).isLt
  unfold heads
  rw [dif_neg (show ¬ (y 1).val < 1536 by omega)]
  obtain rfl : p = 256 + (y 1).val / 256 * 256 := by omega
  refine congrArg (k0_pay2 h (cols w _ hp)) (funext fun d => ?_)
  fin_cases d
  · exact Fin.ext y0.symm
  · exact Fin.ext (show (x 1).val = (y 1).val % 256 by omega)

set_option maxHeartbeats 4000000 in
/-- And what it leaves in the second's. -/
theorem outs_snd (c : Dev nD) (t : Fin cfg0.N) :
    (outsAt0 m c t).2 = heads (rows m c t) (iblk m c 3 t : Vec F S1024x2560 .bf16) (iblk m c 5 t : Vec F S512x256 .f32) (iblk m c 6 t : Vec F S512x256 .f32) (iblk m c 7 t : Vec F S512x256 .f32) := by
  unfold outsAt0
  frame_out
  simp only [ld_cols, pay5_eq, pay11_eq, pay14_eq, pay15_eq, pay16_eq, pay1_eq, pay3_eq, pay4_eq]
  funext y
  canon_tiles x y
  · exact heads_values _ _ _ _ _ x y 2048 2304 _ y0 y1 (by decide)
  · exact heads_values _ _ _ _ _ x y 1792 2048 _ y0 y1 (by decide)
  · exact heads_values _ _ _ _ _ x y 1536 1792 _ y0 y1 (by decide)
  · exact heads_rotated _ _ _ _ _ x y 1280 1536 _ y0 y1 (by decide)
  · exact heads_rotated _ _ _ _ _ x y 1024 1280 _ y0 y1 (by decide)
  · exact heads_rotated _ _ _ _ _ x y 768 1024 _ y0 y1 (by decide)
  · exact heads_rotated _ _ _ _ _ x y 512 768 _ y0 y1 (by decide)
  · exact heads_rotated _ _ _ _ _ x y 256 512 _ y0 y1 (by decide)
  · exact heads_rotated _ _ _ _ _ x y 0 256 _ y0 (by omega) (by decide)

end Cert.InProjIdeal.Proj

end
-- ==== Proof.InProjIdealStep.lean ====
/- A point of the input projection on the extended reals. -/
module

public import proofs.«01_k».proof.Proof.InProjStep
public import proofs.«01_k».proof.Proof.DenseIdealStep
public import Idealize.ShloMosaic.Lib.Tactic.CleanTypes

@[expose] public section

set_option maxRecDepth 16384

noncomputable section

namespace Cert.InProjIdeal.Proj

open Idealize.ShloMosaic Idealize.ShloMosaic.TcCoe Idealize.ShloMosaic.Tactic
open Cert.InProjIdeal Cert.InProjIdeal.Gen
open Cert.DenseIdeal.Ffn (unit)
open scoped BigOperators

theorem normed_apply (x1 : FVec Ideal S512x1024 .f32) (g : FVec Ideal S1x1024 .f32) (r : Fin 512) (d : Fin 1024) :
    normed (F := Ideal) x1 g (ix2 r d) = unit (fun e => x1 (ix2 r e)) (g (ix2 0 d)) d := by
  pointwise [normed, unit]

theorem cols_apply (w : FVec Ideal S1024x2560 .bf16) (o : ℕ) (ho : o + 256 ≤ 2560) (d : Fin 1024) (f : Fin 256) :
    cols (F := Ideal) w o ho (ix2 d f) = w (ix2 d ⟨o + f.val, by omega⟩) := rfl

theorem transformed_apply (h : FVec Ideal S512x1024 .bf16) (w : FVec Ideal S1024x256 .bf16) (z : FVec Ideal S256x512 .bf16) (r : Fin 512) (f : Fin 512) :
    k0_pay6 (F := Ideal) h w z (ix2 r f) = ∑ e : Fin 256, (∑ d : Fin 1024, h (ix2 r d) * w (ix2 d e)) * z (ix2 e f) := by
  pointwise [k0_pay6]

theorem values_apply (h : FVec Ideal S512x1024 .bf16) (w : FVec Ideal S1024x256 .bf16) (r : Fin 512) (f : Fin 256) :
    k0_pay2 (F := Ideal) h w (ix2 r f) = ∑ d : Fin 1024, h (ix2 r d) * w (ix2 d f) := by
  pointwise [k0_pay2]

/-- A block of components, and the block turned about its channels. -/
def block (h : FVec Ideal S512x1024 .bf16) (w : FVec Ideal S1024x256 .bf16) : FVec Ideal S512x256 .f32 :=
  matmul dot_S512x1024_S1024x256_S512x256_1_0_0_1_n_n none (φ₁ := .bf16) h (shapeCast S1024x256 w shapeCasts_S1024x256_S1024x256) (constant S512x256 .f32 0x00000000#32)
def ahead (v : FVec Ideal S512x256 .f32) : FVec Ideal S512x256 .f32 := dynamicRotate 1 248#32 none v rotates_S512x256_d1
def behind (v : FVec Ideal S512x256 .f32) : FVec Ideal S512x256 .f32 := dynamicRotate 1 8#32 none v rotates_S512x256_d1

theorem block_apply (h : FVec Ideal S512x1024 .bf16) (w : FVec Ideal S1024x256 .bf16) (r : Fin 512) (f : Fin 256) :
    block h w (ix2 r f) = ∑ d : Fin 1024, h (ix2 r d) * w (ix2 d f) := by
  pointwise [block]

theorem ahead_apply (v : FVec Ideal S512x256 .f32) (r : Fin 512) (f : Fin 256) (hf : f.val + 8 < 256) :
    ahead v (ix2 r f) = v (ix2 r ⟨8 + f.val, by omega⟩) := by
  pointwise [ahead]
  exact congrArg (fun i => v (ix2 r i)) (Fin.ext (show (f.val + 256 - 248) % 256 = 8 + f.val by omega))

theorem behind_apply (v : FVec Ideal S512x256 .f32) (r : Fin 512) (f : Fin 256) (hf : 8 ≤ f.val) :
    behind v (ix2 r f) = v (ix2 r ⟨f.val - 8, by omega⟩) := by
  pointwise [behind]
  exact congrArg (fun i => v (ix2 r i)) (Fin.ext (show (f.val + 256 - 8) % 256 = f.val - 8 by omega))

theorem rotated_eq (h : FVec Ideal S512x1024 .bf16) (ct sa sb : FVec Ideal S512x256 .f32) (w : FVec Ideal S1024x256 .bf16) (r : Fin 512) (f : Fin 256) :
    k0_pay10 (F := Ideal) h ct sa sb w (ix2 r f) = block h w (ix2 r f) * ct (ix2 r f) + ahead (block h w) (ix2 r f) * sa (ix2 r f) + behind (block h w) (ix2 r f) * sb (ix2 r f) := by
  have e : k0_pay10 (F := Ideal) h ct sa sb w = truncf .bf16 (addf (addf (mulf (block h w) (k0_pay7 ct)) (mulf (ahead (block h w)) (k0_pay8 sa))) (mulf (behind (block h w)) (k0_pay9 sb))) bitsLt_bf16_f32 := rfl
  rw [e]
  pointwise [k0_pay7, k0_pay8, k0_pay9]

end Cert.InProjIdeal.Proj

end
-- ==== Proof.InProjRef.lean ====
/- The input projection's reference, stage by stage, read at an index on the extended reals. -/
module

public import proofs.«01_k».proof.Proof.Gen.InProjReferenceIdeal.Run
public import proofs.«01_k».proof.Proof.DenseIdealStep
public import Idealize.ShloMosaic.Lib.Tactic.CleanTypes

@[expose] public section

set_option maxRecDepth 16384

noncomputable section

namespace Cert.InProjReferenceIdeal.Proj

open Idealize.ShloMosaic
open Cert.DenseIdeal.Ffn (unit)
open Cert.InProjReferenceIdeal Cert.InProjReferenceIdeal.Gen Cert.InProjReferenceIdeal.Value
open scoped BigOperators

/-! ## The two tables' entries -/

/-- The frequency of a pair of rotated channels, -/
def freq (i : Fin 8) : EReal :=
  Ideal.pow (Ideal.ofBits .f32 0x48F42400#32) (Ideal.div (-(Ideal.ofBits .f32 0x40000000#32 * FloatOps.sitofp (F := Ideal) .f32 (BitVec.ofNat 32 i.val))) (Ideal.ofBits .f32 0x41800000#32))
/-- the angle at a position, -/
def angle (p : ℕ) (i : Fin 8) : EReal := FloatOps.sitofp (F := Ideal) .f32 (BitVec.ofNat 32 p) * freq i
/-- and the angle of a coefficient of the transform over a group's channels. -/
def phase (a b : Fin 64) : EReal :=
  Ideal.div (Ideal.ofBits .f32 0x40C90FDB#32 * FloatOps.sitofp (F := Ideal) .f32 (IntOp.remsi ArithUnit.host (IntOp.muli (BitVec.ofNat 32 a.val) (BitVec.ofNat 32 b.val)) 64#32)) (Ideal.ofBits .f32 0x42800000#32)
/-- A token's position in its sequence. -/
def position (r : ℕ) : ℕ := if r < 65536 then r % 2048 else (r - 65536) % 8192

/-! ## The stages -/

/-- Both batches' rows, -/
def tokens (xp : FVec Ideal S65536x1024 .f32) (xs : FVec Ideal S16384x1024 .f32) : FVec Ideal S81920x1024 .f32 :=
  concatenate S81920x1024 0 [⟨S65536x1024, xp⟩, ⟨S16384x1024, xs⟩] concatenates_S65536x1024_S16384x1024_S81920x1024_d0
/-- normalized, -/
def normed (x1 : FVec Ideal S81920x1024 .f32) (g : FVec Ideal S1024 .f32) : FVec Ideal S81920x1024 .f32 :=
  mulf (mulf x1 (broadcastInDim S81920x1024 ![0, 1] bcast_S81920x1_S81920x1024_0_1 (Host.rsqrt (addf (Host.divf (broadcastInDim S81920x1 ![0] bcast_S81920_S81920x1_0 (Host.reduceAdd (mulf x1 x1) (constant S_ .f32 0x00000000#32) reducesTo_S81920x1024_S81920_d1 h_S_)) (broadcastInDim S81920x1 ![] bcast_S_S81920x1 (constant S_ .f32 0x44800000#32))) (broadcastInDim S81920x1 ![] bcast_S_S81920x1 (constant S_ .f32 0x3727C5AC#32))))))
    (broadcastInDim S81920x1024 ![0, 1] bcast_S1x1024_S81920x1024_0_1 (broadcastInDim S1x1024 ![1] bcast_S1024_S1x1024_1 g))
/-- and projected. -/
def projected (h : FVec Ideal S81920x1024 .f32) (w : FVec Ideal S1024x2560 .f32) : FVec Ideal S81920x2560 .f32 :=
  Host.dotGeneral dot_S81920x1024_S1024x2560_S81920x2560_1_0_0_1_n_n none h w

/-- The frequencies of the rotation, -/
def freqs : FVec Ideal S8 .f32 :=
  Host.powf (broadcastInDim S8 ![] bcast_S_S8 (constant S_ .f32 0x48F42400#32))
    (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0)))))
      (broadcastInDim S8 ![] bcast_S_S8 (constant S_ .f32 0x41800000#32)))
/-- the rows' positions in their sequences, -/
def promptPlaces : IVec S65536 32 :=
  shapeCast _ (broadcastInDim S32x2048 ![0, 1] bcast_S1x2048_S32x2048_0_1 (broadcastInDim S1x2048 ![1] bcast_S2048_S1x2048_1 (iotaInDim S2048 32 0))) shapeCasts_S32x2048_S65536
def samplePlaces : IVec S16384 32 :=
  shapeCast _ (broadcastInDim S2x8192 ![0, 1] bcast_S1x8192_S2x8192_0_1 (broadcastInDim S1x8192 ![1] bcast_S8192_S1x8192_1 (iotaInDim S8192 32 0))) shapeCasts_S2x8192_S16384
def both (a : IVec S65536 32) (b : IVec S16384 32) : IVec S81920 32 :=
  concatenate S81920 0 [⟨S65536, a⟩, ⟨S16384, b⟩] concatenates_S65536_S16384_S81920_d0
def positions : IVec S81920 32 := both promptPlaces samplePlaces
/-- and the angles. -/
def angles : FVec Ideal S81920x8 .f32 :=
  mulf (broadcastInDim S81920x8 ![0, 1] bcast_S81920x1_S81920x8_0_1 (broadcastInDim S81920x1 ![0] bcast_S81920_S81920x1_0 (sitofp .f32 positions)))
    (broadcastInDim S81920x8 ![0, 1] bcast_S1x8_S81920x8_0_1 (broadcastInDim S1x8 ![1] bcast_S8_S1x8_1 freqs))
def cosines : FVec Ideal S81920x24x8 .f32 :=
  broadcastInDim S81920x24x8 ![0, 1, 2] bcast_S81920x1x8_S81920x24x8_0_1_2 (broadcastInDim S81920x1x8 ![0, 2] bcast_S81920x8_S81920x1x8_0_2 (Host.cos angles))
def sines : FVec Ideal S81920x24x8 .f32 :=
  broadcastInDim S81920x24x8 ![0, 1, 2] bcast_S81920x1x8_S81920x24x8_0_1_2 (broadcastInDim S81920x1x8 ![0, 2] bcast_S81920x8_S81920x1x8_0_2 (Host.sin angles))

/-- The queries' and the keys' components, -/
def components (p : FVec Ideal S81920x2560 .f32) : FVec Ideal S81920x24x64 .f32 :=
  shapeCast _ (extractStridedSlice S81920x1536 ![0, 256] p slices_S81920x2560_S81920x1536_0_256) shapeCasts_S81920x1536_S81920x24x64
/-- what is rotated of them, in halves, -/
def fore (t : FVec Ideal S81920x24x64 .f32) : FVec Ideal S81920x24x8 .f32 :=
  extractStridedSlice S81920x24x8 ![0, 0, 0] (extractStridedSlice S81920x24x16 ![0, 0, 0] t slices_S81920x24x64_S81920x24x16_0_0_0) slices_S81920x24x16_S81920x24x8_0_0_0
def aft (t : FVec Ideal S81920x24x64 .f32) : FVec Ideal S81920x24x8 .f32 :=
  extractStridedSlice S81920x24x8 ![0, 0, 8] (extractStridedSlice S81920x24x16 ![0, 0, 0] t slices_S81920x24x64_S81920x24x16_0_0_0) slices_S81920x24x16_S81920x24x8_0_0_8
/-- the components rotated, -/
def rotated (t : FVec Ideal S81920x24x64 .f32) (c s : FVec Ideal S81920x24x8 .f32) : FVec Ideal S81920x24x64 .f32 :=
  concatenate S81920x24x64 2 [⟨S81920x24x16, concatenate S81920x24x16 2 [⟨S81920x24x8, subf (mulf (fore t) c) (mulf (aft t) s)⟩, ⟨S81920x24x8, addf (mulf (aft t) c) (mulf (fore t) s)⟩] concatenates_S81920x24x8_S81920x24x8_S81920x24x16_d2⟩,
    ⟨S81920x24x48, extractStridedSlice S81920x24x48 ![0, 0, 16] t slices_S81920x24x64_S81920x24x48_0_0_16⟩] concatenates_S81920x24x16_S81920x24x48_S81920x24x64_d2
/-- and with the values beside them. -/
def beside (t : FVec Ideal S81920x24x64 .f32) (p : FVec Ideal S81920x2560 .f32) : FVec Ideal S81920x2304 .bf16 :=
  truncf .bf16 (concatenate S81920x2304 1 [⟨S81920x1536, shapeCast _ t shapeCasts_S81920x24x64_S81920x1536⟩, ⟨S81920x768, extractStridedSlice S81920x768 ![0, 1792] p slices_S81920x2560_S81920x768_0_1792⟩] concatenates_S81920x1536_S81920x768_S81920x2304_d1) bitsLt_bf16_f32

/-- The angles of the transform over a group's channels, -/
def phases : FVec Ideal S64x64 .f32 :=
  Host.divf (mulf (broadcastInDim S64x64 ![] bcast_S_S64x64 (constant S_ .f32 0x40C90FDB#32))
    (sitofp .f32 (Host.remsi (muli (broadcastInDim S64x64 ![0, 1] bcast_S64x1_S64x64_0_1 (broadcastInDim S64x1 ![0] bcast_S64_S64x1_0 (iotaInDim S64 32 0))) (broadcastInDim S64x64 ![0, 1] bcast_S1x64_S64x64_0_1 (broadcastInDim S1x64 ![1] bcast_S64_S1x64_1 (iotaInDim S64 32 0))))
      (broadcastInDim S64x64 ![] bcast_S_S64x64 (constantI S_ 32 64#32))))) (broadcastInDim S64x64 ![] bcast_S_S64x64 (constant S_ .f32 0x42800000#32))
/-- its real and its negated imaginary coefficients, -/
def reals : FVec Ideal S64x64 .f32 := mulf (Host.cos phases) (broadcastInDim S64x64 ![] bcast_S_S64x64 (constant S_ .f32 0x3E000000#32))
def imags : FVec Ideal S64x64 .f32 := mulf (Host.sin phases) (broadcastInDim S64x64 ![] bcast_S_S64x64 (constant S_ .f32 0x3E000000#32))
/-- the sums with the ones or the others, -/
def summed (p : FVec Ideal S81920x2560 .f32) (z : FVec Ideal S64x64 .f32) : FVec Ideal S81920x256 .f32 :=
  shapeCast _ (Host.dotGeneral (φ₁ := .f32) dot_S81920x4x64_S64x64_S81920x4x64_2_0_01_1_n_n none (shapeCast _ (extractStridedSlice S81920x256 ![0, 0] p slices_S81920x2560_S81920x256_0_0) shapeCasts_S81920x256_S81920x4x64) z) shapeCasts_S81920x4x64_S81920x256
/-- and both side by side. -/
def transformed (p : FVec Ideal S81920x2560 .f32) : FVec Ideal S81920x512 .bf16 :=
  truncf .bf16 (concatenate S81920x512 1 [⟨S81920x256, summed p reals⟩, ⟨S81920x256, summed p imags⟩] concatenates_S81920x256_S81920x256_S81920x512_d1) bitsLt_bf16_f32

/-- The reference's second result, from the projection. -/
def qkv (p : FVec Ideal S81920x2560 .f32) : FVec Ideal S81920x2304 .bf16 := beside (rotated (components p) cosines sines) p

variable (m : (ℓ : Loc nD τ sig) → Buf (Elt Ideal) ℓ)

/-- The projection of a core's arguments. -/
def projOf (c : Dev nD) : FVec Ideal S81920x2560 .f32 :=
  projected (normed (tokens (m ((c.tc : Thread nD τ).loc main_arg0)) (m ((c.tc : Thread nD τ).loc main_arg1))) (m ((c.tc : Thread nD τ).loc main_arg2))) (m ((c.tc : Thread nD τ).loc main_arg3))

theorem res0_eq (c : Dev nD) : res_out0 m c = transformed (projOf m c) := rfl
theorem res1_eq (c : Dev nD) : res_out1 m c = qkv (projOf m c) := rfl

theorem tokens_apply (xp : FVec Ideal S65536x1024 .f32) (xs : FVec Ideal S16384x1024 .f32) (r : Fin 81920) (e : Fin 1024) :
    tokens xp xs (ix2 r e) = if h : r.val < 65536 then xp (ix2 ⟨r.val, h⟩ e) else xs (ix2 ⟨r.val - 65536, by omega⟩ e) := by
  pointwise [tokens]

theorem normed_apply (x1 : FVec Ideal S81920x1024 .f32) (g : FVec Ideal S1024 .f32) (r : Fin 81920) (d : Fin 1024) :
    normed x1 g (ix2 r d) = unit (fun e => x1 (ix2 r e)) (g (ix1 d)) d := by
  pointwise [normed, unit]

theorem projected_apply (h : FVec Ideal S81920x1024 .f32) (w : FVec Ideal S1024x2560 .f32) (r : Fin 81920) (f : Fin 2560) :
    projected h w (ix2 r f) = ∑ d : Fin 1024, h (ix2 r d) * w (ix2 d f) := by
  pointwise [projected]

theorem freqs_apply (i : Fin 8) : freqs (ix1 i) = freq i := by
  pointwise [freqs, freq]

theorem promptPlaces_apply (r : Fin 65536) : promptPlaces (ix1 r) = BitVec.ofNat 32 (r.val % 2048) := by
  pointwise [promptPlaces]
theorem samplePlaces_apply (r : Fin 16384) : samplePlaces (ix1 r) = BitVec.ofNat 32 (r.val % 8192) := by
  pointwise [samplePlaces]
theorem both_apply (a : IVec S65536 32) (b : IVec S16384 32) (r : Fin 81920) :
    both a b (ix1 r) = if h : r.val < 65536 then a (ix1 ⟨r.val, h⟩) else b (ix1 ⟨r.val - 65536, by omega⟩) := by
  pointwise [both]

theorem positions_apply (r : Fin 81920) : positions (ix1 r) = BitVec.ofNat 32 (position r.val) := by
  unfold positions position
  rw [both_apply]
  by_cases h : r.val < 65536
  · rw [dif_pos h, if_pos h, promptPlaces_apply]
  · rw [dif_neg h, if_neg h, samplePlaces_apply]

theorem angles_eq (r : Fin 81920) (i : Fin 8) : angles (ix2 r i) = FloatOps.sitofp (F := Ideal) .f32 (positions (ix1 r)) * freqs (ix1 i) := by
  pointwise [angles]
theorem angles_apply (r : Fin 81920) (i : Fin 8) : angles (ix2 r i) = angle (position r.val) i := by
  rw [angles_eq, positions_apply, freqs_apply, angle]

theorem cosines_apply (r : Fin 81920) (h : Fin 24) (i : Fin 8) : cosines (ix3 r h i) = Ideal.cos (angles (ix2 r i)) := by
  pointwise [cosines]
theorem sines_apply (r : Fin 81920) (h : Fin 24) (i : Fin 8) : sines (ix3 r h i) = Ideal.sin (angles (ix2 r i)) := by
  pointwise [sines]

theorem components_apply (p : FVec Ideal S81920x2560 .f32) (r : Fin 81920) (h : Fin 24) (e : Fin 64) :
    components p (ix3 r h e) = p (ix2 r ⟨256 + (h.val * 64 + e.val), by omega⟩) := by
  pointwise [components]

theorem rotated_apply (t : FVec Ideal S81920x24x64 .f32) (c s : FVec Ideal S81920x24x8 .f32) (r : Fin 81920) (h : Fin 24) (e : Fin 64) :
    rotated t c s (ix3 r h e) = if h8 : e.val < 8 then t (ix3 r h e) * c (ix3 r h ⟨e.val, h8⟩) - t (ix3 r h ⟨8 + e.val, by omega⟩) * s (ix3 r h ⟨e.val, h8⟩)
      else if h16 : e.val < 16 then t (ix3 r h e) * c (ix3 r h ⟨e.val - 8, by omega⟩) + t (ix3 r h ⟨e.val - 8, by omega⟩) * s (ix3 r h ⟨e.val - 8, by omega⟩)
      else t (ix3 r h e) := by
  pointwise [rotated, fore, aft]
  by_cases h8 : e.val < 8
  · rw [dif_pos h8, dif_pos (by omega), dif_pos h8]
  · rw [dif_neg h8]
    by_cases h16 : e.val < 16
    · rw [dif_pos h16, dif_neg h8, dif_pos h16]
      simp only [show 8 + (e.val - 8) = e.val by omega]
    · rw [dif_neg h16, dif_neg h16]
      simp only [show 16 + (e.val - 16) = e.val by omega]

theorem beside_apply (t : FVec Ideal S81920x24x64 .f32) (p : FVec Ideal S81920x2560 .f32) (r : Fin 81920) (j : Fin 2304) :
    beside t p (ix2 r j) = if h : j.val < 1536 then t (ix3 r ⟨j.val / 64, by omega⟩ ⟨j.val % 64, by omega⟩) else p (ix2 r ⟨256 + j.val, by omega⟩) := by
  pointwise [beside]
  by_cases h : j.val < 1536
  · rw [dif_pos h, dif_pos h]
  · rw [dif_neg h, dif_neg h]
    simp only [show 1792 + (j.val - 1536) = 256 + j.val by omega]

theorem reals_apply (a b : Fin 64) : reals (ix2 a b) = Ideal.cos (phases (ix2 a b)) * Ideal.ofBits .f32 0x3E000000#32 := by
  pointwise [reals]
theorem imags_apply (a b : Fin 64) : imags (ix2 a b) = Ideal.sin (phases (ix2 a b)) * Ideal.ofBits .f32 0x3E000000#32 := by
  pointwise [imags]

theorem phases_apply (a b : Fin 64) : phases (ix2 a b) = phase a b := by
  pointwise [phases, phase]

theorem summed_apply (p : FVec Ideal S81920x2560 .f32) (z : FVec Ideal S64x64 .f32) (r : Fin 81920) (j : Fin 256) :
    summed p z (ix2 r j) = ∑ e : Fin 64, p (ix2 r ⟨j.val / 64 * 64 + e.val, by omega⟩) * z (ix2 e ⟨j.val % 64, by omega⟩) := by
  pointwise [summed]

theorem transformed_apply (p : FVec Ideal S81920x2560 .f32) (r : Fin 81920) (j : Fin 512) :
    transformed p (ix2 r j) = if h : j.val < 256 then summed p reals (ix2 r ⟨j.val, h⟩) else summed p imags (ix2 r ⟨j.val - 256, by omega⟩) := by
  pointwise [transformed]

end Cert.InProjReferenceIdeal.Proj

end
-- ==== Proof.InProjTables.lean ====
/- The tables of the input projection's call on the extended reals: the rotation's, tiled over the components of a block, and the
   transform's, one block per group of channels on the diagonal. -/
module

public import proofs.«01_k».proof.Proof.InProjIdealStep
public import proofs.«01_k».proof.Proof.InProjRef

@[expose] public section

set_option maxRecDepth 16384

noncomputable section

namespace Cert.InProjIdeal.Proj

open Idealize.ShloMosaic Idealize.ShloMosaic.TcCoe Idealize.ShloMosaic.Tactic
open Cert.InProjIdeal Cert.InProjIdeal.Gen
open Cert.InProjReferenceIdeal.Proj (freqs freq freqs_apply angle phase phases_apply reals imags)
open Cert.ExpertsIdeal.Moe (sum_parts)
open scoped BigOperators

/-! ## The rotation's tables -/

/-- The angles at every position, -/
def turns : FVec Ideal S8192x8 .f32 :=
  mulf (broadcastInDim S8192x8 ![0, 1] bcast_S8192x1_S8192x8_0_1 (broadcastInDim S8192x1 ![0] bcast_S8192_S8192x1_0 (sitofp .f32 (iotaInDim S8192 32 0))))
    (broadcastInDim S8192x8 ![0, 1] bcast_S1x8_S8192x8_0_1 (broadcastInDim S1x8 ![1] bcast_S8_S1x8_1 freqs))
/-- a component's table put together, -/
def three (a b : FVec Ideal S8192x8 .f32) (z : FVec Ideal S8192x48 .f32) : FVec Ideal S8192x64 .f32 :=
  concatenate S8192x64 1 [⟨S8192x8, a⟩, ⟨S8192x8, b⟩, ⟨S8192x48, z⟩] concatenates_S8192x8_S8192x8_S8192x48_S8192x64_d1
/-- and repeated for the four components of a block. -/
def tiled (z : FVec Ideal S8192x64 .f32) : FVec Ideal S8192x256 .f32 :=
  shapeCast _ (broadcastInDim S1x8192x4x64 ![0, 1, 2, 3] bcast_S1x8192x1x64_S1x8192x4x64_0_1_2_3 (shapeCast _ z shapeCasts_S8192x64_S1x8192x1x64)) shapeCasts_S1x8192x4x64_S8192x256
def zeros8 : FVec Ideal S8192x8 .f32 := broadcastInDim S8192x8 ![] bcast_S_S8192x8 (constant S_ .f32 0x00000000#32)
def zeros48 : FVec Ideal S8192x48 .f32 := broadcastInDim S8192x48 ![] bcast_S_S8192x48 (constant S_ .f32 0x00000000#32)
def ones48 : FVec Ideal S8192x48 .f32 := broadcastInDim S8192x48 ![] bcast_S_S8192x48 (constant S_ .f32 0x3F800000#32)
/-- The factors of a component's own channels, -/
def own : FVec Ideal S8192x256 .f32 := tiled (three (Host.cos turns) (Host.cos turns) ones48)
/-- of the channels eight ahead, -/
def next : FVec Ideal S8192x256 .f32 := tiled (three (Host.negf (Host.sin turns)) zeros8 zeros48)
/-- and of those eight behind. -/
def last : FVec Ideal S8192x256 .f32 := tiled (three zeros8 (Host.sin turns) zeros48)

theorem turns_apply (p : Fin 8192) (i : Fin 8) : turns (ix2 p i) = angle p.val i := by
  have h : turns (ix2 p i) = FloatOps.sitofp (F := Ideal) .f32 (BitVec.ofNat 32 p.val) * freqs (ix1 i) := by pointwise [turns]
  rw [h, freqs_apply, angle]

theorem three_apply (a b : FVec Ideal S8192x8 .f32) (z : FVec Ideal S8192x48 .f32) (p : Fin 8192) (e : Fin 64) :
    three a b z (ix2 p e) = if h8 : e.val < 8 then a (ix2 p ⟨e.val, h8⟩) else if h16 : e.val < 16 then b (ix2 p ⟨e.val - 8, by omega⟩) else z (ix2 p ⟨e.val - 16, by omega⟩) := by
  pointwise [three]
  by_cases h8 : e.val < 8
  · rw [dif_pos h8, dif_pos h8]
  · rw [dif_neg h8, dif_neg h8]
    by_cases h16 : e.val < 16
    · rw [dif_pos (by omega), dif_pos h16]
    · rw [dif_neg (by omega), dif_neg h16]
      simp only [show e.val - 8 - 8 = e.val - 16 by omega]

theorem tiled_apply (z : FVec Ideal S8192x64 .f32) (p : Fin 8192) (f : Fin 256) : tiled z (ix2 p f) = z (ix2 p ⟨f.val % 64, by omega⟩) := by
  pointwise [tiled]

theorem zeros8_apply (p : Fin 8192) (i : Fin 8) : zeros8 (ix2 p i) = 0 := by
  pointwise [zeros8]
theorem zeros48_apply (p : Fin 8192) (i : Fin 48) : zeros48 (ix2 p i) = 0 := by
  pointwise [zeros48]
theorem ones48_apply (p : Fin 8192) (i : Fin 48) : ones48 (ix2 p i) = 1 := by
  pointwise [ones48]

theorem cos_turns (p : Fin 8192) (i : Fin 8) : (Host.cos turns : FVec Ideal S8192x8 .f32) (ix2 p i) = Ideal.cos (angle p.val i) := by
  rw [← turns_apply]
  pointwise []
theorem sin_turns (p : Fin 8192) (i : Fin 8) : (Host.sin turns : FVec Ideal S8192x8 .f32) (ix2 p i) = Ideal.sin (angle p.val i) := by
  rw [← turns_apply]
  pointwise []
theorem neg_sin_turns (p : Fin 8192) (i : Fin 8) : (Host.negf (Host.sin turns) : FVec Ideal S8192x8 .f32) (ix2 p i) = -Ideal.sin (angle p.val i) := by
  rw [← turns_apply]
  pointwise []

/-! ## The transform's -/

/-- The identity over the groups, -/
def eye : FVec Ideal S4x4 .f32 :=
  uitofp .f32 (cmpi .eq (addi (iotaInDim S4x4 32 0) (broadcastInDim S4x4 ![] bcast_S_S4x4 (constantI S_ 32 0#32))) (iotaInDim S4x4 32 1))
/-- a group's coefficients in its block of the diagonal, -/
def diag (z : FVec Ideal S64x64 .f32) : FVec Ideal S256x256 .f32 :=
  shapeCast _ (mulf (broadcastInDim S4x64x4x64 ![0, 1, 2, 3] bcast_S4x1x4x1_S4x64x4x64_0_1_2_3 (broadcastInDim S4x1x4x1 ![0, 2] bcast_S4x4_S4x1x4x1_0_2 eye))
    (broadcastInDim S4x64x4x64 ![0, 1, 2, 3] bcast_S1x64x1x64_S4x64x4x64_0_1_2_3 (broadcastInDim S1x64x1x64 ![1, 3] bcast_S64x64_S1x64x1x64_1_3 z))) shapeCasts_S4x64x4x64_S256x256
/-- and the real coefficients with the imaginary ones beside them. -/
def coefs : FVec Ideal S256x512 .bf16 :=
  truncf .bf16 (concatenate S256x512 1 [⟨S256x256, diag reals⟩, ⟨S256x256, diag imags⟩] concatenates_S256x256_S256x256_S256x512_d1) bitsLt_bf16_f32

theorem eye_word : ∀ a b : Fin 4, IntOp.cmpi CmpIPredicate.eq (IntOp.addi (BitVec.ofNat 32 a.val) 0#32) (BitVec.ofNat 32 b.val) = if a = b then 1#1 else 0#1 := by
  decide

theorem eye_apply (a b : Fin 4) : eye (ix2 a b) = if a = b then 1 else 0 := by
  have h : eye (ix2 a b) = FloatOps.uitofp (F := Ideal) .f32 (IntOp.cmpi CmpIPredicate.eq (IntOp.addi (BitVec.ofNat 32 a.val) 0#32) (BitVec.ofNat 32 b.val)) := by pointwise [eye]
  rw [h, eye_word]
  by_cases e : a = b
  · rw [if_pos e, if_pos e]
    show (((1#1 : BitVec 1).toNat : ℝ) : EReal) = 1
    norm_num
  · rw [if_neg e, if_neg e]
    show (((0#1 : BitVec 1).toNat : ℝ) : EReal) = 0
    norm_num

theorem diag_apply (z : FVec Ideal S64x64 .f32) (e f : Fin 256) :
    diag z (ix2 e f) = eye (ix2 ⟨e.val / 64, by omega⟩ ⟨f.val / 64, by omega⟩) * z (ix2 ⟨e.val % 64, by omega⟩ ⟨f.val % 64, by omega⟩) := by
  pointwise [diag]

theorem coefs_apply (e : Fin 256) (f : Fin 512) :
    coefs (ix2 e f) = if h : f.val < 256 then diag reals (ix2 e ⟨f.val, h⟩) else diag imags (ix2 e ⟨f.val - 256, by omega⟩) := by
  pointwise [coefs]

/-- The product of a row with the coefficients keeps the channels of the entry's group. -/
theorem diag_sum (u : Fin 256 → EReal) (z : FVec Ideal S64x64 .f32) (f : Fin 256) :
    ∑ e, u e * diag z (ix2 e f) = ∑ a : Fin 64, u ⟨f.val / 64 * 64 + a.val, by omega⟩ * z (ix2 a ⟨f.val % 64, by omega⟩) := by
  rw [← sum_parts (n := 4) (p := 64) (by norm_num) (fun e => u e * diag z (ix2 e f)) (fun u r => by omega)]
  rw [Finset.sum_eq_single (⟨f.val / 64, by omega⟩ : Fin 4)]
  · refine Finset.sum_congr rfl fun a _ => ?_
    rw [diag_apply, eye_apply, if_pos (Fin.ext (show (64 * (f.val / 64) + a.val) / 64 = f.val / 64 by omega)), one_mul]
    refine congrArg₂ (· * ·) (congrArg u (Fin.ext (show 64 * (f.val / 64) + a.val = f.val / 64 * 64 + a.val by omega))) ?_
    exact congrArg (fun i => z (ix2 i _)) (Fin.ext (show (64 * (f.val / 64) + a.val) % 64 = a.val by omega))
  · intro b _ hb
    refine Finset.sum_eq_zero fun a _ => ?_
    rw [diag_apply, eye_apply, if_neg ?_, zero_mul, mul_zero]
    intro h
    have h' : (64 * b.val + a.val) / 64 = f.val / 64 := congrArg Fin.val h
    exact hb (Fin.ext (show b.val = f.val / 64 by omega))
  · intro h
    exact absurd (Finset.mem_univ _) h

/-! ## A component rotated -/

/-- What the tables make of a block is the rotation of its components. -/
theorem rotated_apply (h : FVec Ideal S512x1024 .bf16) (ct sa sb : FVec Ideal S512x256 .f32) (w : FVec Ideal S1024x256 .bf16) (r : Fin 512) (f : Fin 256) (p : Fin 8192)
    (hct : ct (ix2 r f) = own (ix2 p f)) (hsa : sa (ix2 r f) = next (ix2 p f)) (hsb : sb (ix2 r f) = last (ix2 p f)) :
    k0_pay10 (F := Ideal) h ct sa sb w (ix2 r f) =
      if h8 : f.val % 64 < 8 then block h w (ix2 r f) * Ideal.cos (angle p.val ⟨f.val % 64, h8⟩) - block h w (ix2 r ⟨8 + f.val, by omega⟩) * Ideal.sin (angle p.val ⟨f.val % 64, h8⟩)
      else if h16 : f.val % 64 < 16 then block h w (ix2 r f) * Ideal.cos (angle p.val ⟨f.val % 64 - 8, by omega⟩) + block h w (ix2 r ⟨f.val - 8, by omega⟩) * Ideal.sin (angle p.val ⟨f.val % 64 - 8, by omega⟩)
      else block h w (ix2 r f) := by
  rw [rotated_eq, hct, hsa, hsb, own, next, last, tiled_apply, tiled_apply, tiled_apply, three_apply, three_apply, three_apply]
  by_cases h8 : f.val % 64 < 8
  · rw [dif_pos h8, dif_pos h8, dif_pos h8, dif_pos h8, cos_turns, neg_sin_turns, zeros8_apply, mul_zero, add_zero, ahead_apply _ _ _ (by omega), mul_neg, sub_eq_add_neg]
  · rw [dif_neg h8, dif_neg h8, dif_neg h8, dif_neg h8]
    by_cases h16 : f.val % 64 < 16
    · rw [dif_pos h16, dif_pos h16, dif_pos h16, dif_pos h16, cos_turns, sin_turns, zeros8_apply, mul_zero, add_zero, behind_apply _ _ _ (by omega)]
    · rw [dif_neg h16, dif_neg h16, dif_neg h16, dif_neg h16, ones48_apply, zeros48_apply, mul_one, mul_zero, mul_zero, add_zero, add_zero]

end Cert.InProjIdeal.Proj

end
-- ==== Proof.InProjValue.lean ====
/- The input projection's result arrays on the extended reals: the reference's functions of the arguments. -/
module

public import proofs.«01_k».proof.Proof.InProjTables
public import Idealize.ShloMosaic.Lib.Pipeline.Value
public import Idealize.ShloMosaic.Lib.Pipeline.ValueKit

@[expose] public section

set_option maxRecDepth 16384

noncomputable section

namespace Cert.InProjIdeal.Proj

open Idealize.ShloMosaic Idealize.ShloMosaic.TcCoe Idealize.ShloMosaic.Tactic
open Idealize.SL Idealize.SL.Sem
open Idealize.ShloMosaic.Pipeline (Dat Cfg Window)
open Cert.InProjIdeal Cert.InProjIdeal.Gen
open Cert.InProjReferenceIdeal.Proj (tokens tokens_apply projected projected_apply position angle transformed qkv)
open scoped BigOperators

variable (m : (ℓ : Loc nD τ sig) → Buf (Elt Ideal) ℓ)

abbrev argXp (c : Dev nD) : FVec Ideal S65536x1024 .f32 := m ((c : Thread nD τ).loc main_arg0)
abbrev argXs (c : Dev nD) : FVec Ideal S16384x1024 .f32 := m ((c : Thread nD τ).loc main_arg1)
abbrev argG (c : Dev nD) : FVec Ideal S1024 .f32 := m ((c : Thread nD τ).loc main_arg2)
abbrev argW (c : Dev nD) : FVec Ideal S1024x2560 .f32 := m ((c : Thread nD τ).loc main_arg3)

/-- The reference's normalized rows of a core's arguments, -/
def rowsRef (c : Dev nD) : FVec Ideal Cert.InProjReferenceIdeal.S81920x1024 .f32 := Cert.InProjReferenceIdeal.Proj.normed (tokens (argXp m c) (argXs m c)) (argG m c)
/-- its projection, -/
def projRef (c : Dev nD) : FVec Ideal Cert.InProjReferenceIdeal.S81920x2560 .f32 := projected (rowsRef m c) (argW m c)
/-- and its results. -/
def mixing (c : Dev nD) : FVec Ideal S81920x512 .bf16 := transformed (projRef m c)
def attending (c : Dev nD) : FVec Ideal S81920x2304 .bf16 := qkv (projRef m c)

/-! ## The arrays as the pipeline finds them -/

theorem V_xp (c : Dev nD) : (V m c main_arg0 : FVec Ideal S65536x1024 .f32) = argXp m c := by
  show StableHlo.after hostOps0 (fun b => m (c, b)) main_arg0 = _
  unfold hostOps0
  after_results_simp
theorem V_xs (c : Dev nD) : (V m c main_arg1 : FVec Ideal S16384x1024 .f32) = argXs m c := by
  show StableHlo.after hostOps0 (fun b => m (c, b)) main_arg1 = _
  unfold hostOps0
  after_results_simp
theorem V_g (c : Dev nD) : (V m c main_v34 : FVec Ideal S1x1024 .f32) = broadcastInDim S1x1024 ![1] bcast_S1024_S1x1024_1 (argG m c) := by
  show StableHlo.after hostOps0 (fun b => m (c, b)) main_v34 = _
  unfold hostOps0
  after_results_simp
theorem V_w (c : Dev nD) : (V m c main_v35 : FVec Ideal S1024x2560 .bf16) = argW m c := by
  show StableHlo.after hostOps0 (fun b => m (c, b)) main_v35 = _
  unfold hostOps0
  after_results_simp
  rfl
set_option maxHeartbeats 4000000 in
theorem V_coefs (c : Dev nD) : (V m c main_v74 : FVec Ideal S256x512 .bf16) = coefs := by
  show StableHlo.after hostOps0 (fun b => m (c, b)) main_v74 = _
  unfold hostOps0
  after_results_simp
  rfl
set_option maxHeartbeats 4000000 in
theorem V_own (c : Dev nD) : (V m c main_v27 : FVec Ideal S8192x256 .f32) = own := by
  show StableHlo.after hostOps0 (fun b => m (c, b)) main_v27 = _
  unfold hostOps0
  after_results_simp
  rfl
set_option maxHeartbeats 4000000 in
theorem V_next (c : Dev nD) : (V m c main_v30 : FVec Ideal S8192x256 .f32) = next := by
  show StableHlo.after hostOps0 (fun b => m (c, b)) main_v30 = _
  unfold hostOps0
  after_results_simp
  rfl
set_option maxHeartbeats 4000000 in
theorem V_last (c : Dev nD) : (V m c main_v33 : FVec Ideal S8192x256 .f32) = last := by
  show StableHlo.after hostOps0 (fun b => m (c, b)) main_v33 = _
  unfold hostOps0
  after_results_simp
  rfl

/-! ## The blocks of a point -/

theorem lt_160 (t : Fin cfg0.N) : t.val < 160 := t.isLt

/-- The block of the rotation's tables at a point's positions. -/
abbrev turn (t : ℕ) : ℕ := if t < 128 then t % 4 else (t - 128) % 16

theorem idx0 : ∀ t : Fin cfg0.N, win0_0.index t = ![min t.val 127, 0] := (by decide +kernel : ∀ t : Fin grid0.N, _)
theorem idx1 : ∀ t : Fin cfg0.N, win0_1.index t = ![t.val - 128, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![turn t.val, 0] := (by decide +kernel : ∀ t : Fin grid0.N, _)
theorem idx6 : ∀ t : Fin cfg0.N, win0_6.index t = ![turn t.val, 0] := (by decide +kernel : ∀ t : Fin grid0.N, _)
theorem idx7 : ∀ t : Fin cfg0.N, win0_7.index t = ![turn t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)

theorem turn_lt (t : ℕ) : turn t < 16 := by
  unfold turn
  split <;> omega

/-- A point's row in the prompts' array, -/
abbrev rowP (t : Fin cfg0.N) (r : Fin 512) : Fin 65536 := ⟨min t.val 127 * 512 + r.val, by omega⟩
/-- in the samples', -/
abbrev rowS (t : Fin cfg0.N) (r : Fin 512) : Fin 16384 := ⟨(t.val - 128) * 512 + r.val, by have := lt_160 t; omega⟩
/-- in the rotation's tables, -/
abbrev rowT (t : Fin cfg0.N) (r : Fin 512) : Fin 8192 := ⟨turn t.val * 512 + r.val, by have := turn_lt t.val; omega⟩
/-- and in the results. -/
abbrev row (t : Fin cfg0.N) (r : Fin 512) : Fin 81920 := ⟨t.val * 512 + r.val, by have := lt_160 t; omega⟩

/-- The tables' row is the row's position. -/
theorem rowT_eq (t : Fin cfg0.N) (r : Fin 512) : (rowT t r).val = position (row t r).val := by
  have := lt_160 t
  show turn t.val * 512 + r.val = if t.val * 512 + r.val < 65536 then (t.val * 512 + r.val) % 2048 else (t.val * 512 + r.val - 65536) % 8192
  unfold turn
  by_cases h : t.val < 128
  · rw [if_pos h, if_pos (by omega)]
    omega
  · rw [if_neg h, if_neg (by omega)]
    omega

theorem iblk0 (c : Dev nD) (t : Fin cfg0.N) (r : Fin 512) (d : Fin 1024) : (iblk m c 0 t : Vec Ideal S512x1024 .f32) (ix2 r d) = argXp m c (ix2 (rowP t r) d) := by
  rw [← V_xp]
  blk_ext [iblk, idx0 t]
theorem iblk1 (c : Dev nD) (t : Fin cfg0.N) (r : Fin 512) (d : Fin 1024) : (iblk m c 1 t : Vec Ideal S512x1024 .f32) (ix2 r d) = argXs m c (ix2 (rowS t r) d) := by
  rw [← V_xs]
  blk_ext [iblk, idx1 t]
theorem iblk2 (c : Dev nD) (t : Fin cfg0.N) (d : Fin 1024) : (iblk m c 2 t : Vec Ideal S1x1024 .f32) (ix2 0 d) = argG m c (ix1 d) := by
  refine Eq.trans (b := (V m c main_v34 : FVec Ideal S1x1024 .f32) (ix2 0 d)) (by blk_ext [iblk, idx2 t]) ?_
  rw [V_g]
  pointwise []
theorem iblk3 (c : Dev nD) (t : Fin cfg0.N) (d : Fin 1024) (f : Fin 2560) : (iblk m c 3 t : Vec Ideal S1024x2560 .bf16) (ix2 d f) = argW m c (ix2 d f) := by
  rw [← V_w]
  blk_ext [iblk, idx3 t]
theorem iblk4 (c : Dev nD) (t : Fin cfg0.N) (e : Fin 256) (f : Fin 512) : (iblk m c 4 t : Vec Ideal S256x512 .bf16) (ix2 e f) = coefs (ix2 e f) := by
  rw [← V_coefs m c]
  blk_ext [iblk, idx4 t]
theorem iblk5 (c : Dev nD) (t : Fin cfg0.N) (r : Fin 512) (f : Fin 256) : (iblk m c 5 t : Vec Ideal S512x256 .f32) (ix2 r f) = own (ix2 (rowT t r) f) := by
  rw [← V_own m c]
  blk_ext [iblk, idx5 t]
theorem iblk6 (c : Dev nD) (t : Fin cfg0.N) (r : Fin 512) (f : Fin 256) : (iblk m c 6 t : Vec Ideal S512x256 .f32) (ix2 r f) = next (ix2 (rowT t r) f) := by
  rw [← V_next m c]
  blk_ext [iblk, idx6 t]
theorem iblk7 (c : Dev nD) (t : Fin cfg0.N) (r : Fin 512) (f : Fin 256) : (iblk m c 7 t : Vec Ideal S512x256 .f32) (ix2 r f) = last (ix2 (rowT t r) f) := by
  rw [← V_last m c]
  blk_ext [iblk, idx7 t]

/-! ## A point's rows are the reference's -/

theorem inPrompt_eq : ∀ t : Fin cfg0.N, inPrompt (grid0.coords t) = if t.val < 128 then 1#1 else 0#1 :=
  (by decide +kernel : ∀ t : Fin grid0.N, _)

theorem picked (c : Dev nD) (t : Fin cfg0.N) (r : Fin 512) (e : Fin 1024) :
    (Scalar.select (inPrompt (grid0.coords t)) (iblk m c 0 t : Vec Ideal S512x1024 .f32) (iblk m c 1 t : Vec Ideal S512x1024 .f32) : Vec Ideal S512x1024 .f32) (ix2 r e)
      = tokens (argXp m c) (argXs m c) (ix2 (row t r) e) := by
  rw [inPrompt_eq, tokens_apply]
  by_cases h : t.val < 128
  · rw [if_pos h, dif_pos (show t.val * 512 + r.val < 65536 by omega)]
    refine (iblk0 m c t r e).trans (congrArg (fun n => argXp m c (ix2 n e)) (Fin.ext ?_))
    show min t.val 127 * 512 + r.val = t.val * 512 + r.val
    omega
  · rw [if_neg h, dif_neg (show ¬ t.val * 512 + r.val < 65536 by omega)]
    refine (iblk1 m c t r e).trans (congrArg (fun n => argXs m c (ix2 n e)) (Fin.ext ?_))
    show (t.val - 128) * 512 + r.val = t.val * 512 + r.val - 65536
    omega

theorem rows_eq (c : Dev nD) (t : Fin cfg0.N) (r : Fin 512) (d : Fin 1024) : rows m c t (ix2 r d) = rowsRef m c (ix2 (row t r) d) := by
  unfold rows rowsRef
  rw [normed_apply, Cert.InProjReferenceIdeal.Proj.normed_apply, iblk2]
  simp only [picked]

/-- A point's products with 256 columns of the weights are the reference's. -/
theorem product_eq (c : Dev nD) (t : Fin cfg0.N) (o : ℕ) (ho : o + 256 ≤ 2560) (r : Fin 512) (f : Fin 256) :
    ∑ d : Fin 1024, rows m c t (ix2 r d) * cols (F := Ideal) (iblk m c 3 t : Vec Ideal S1024x2560 .bf16) o ho (ix2 d f) = projRef m c (ix2 (row t r) ⟨o + f.val, by omega⟩) := by
  unfold projRef
  rw [projected_apply]
  refine Finset.sum_congr rfl fun d _ => congrArg₂ (· * ·) (rows_eq m c t r d) ?_
  rw [cols_apply]
  exact iblk3 m c t d _

theorem block_proj (c : Dev nD) (t : Fin cfg0.N) (o : ℕ) (ho : o + 256 ≤ 2560) (r : Fin 512) (f : Fin 256) :
    block (rows m c t) (cols (F := Ideal) (iblk m c 3 t : Vec Ideal S1024x2560 .bf16) o ho) (ix2 r f) = projRef m c (ix2 (row t r) ⟨o + f.val, by omega⟩) :=
  (block_apply _ _ _ _).trans (product_eq m c t o ho r f)

theorem block_mixing (c : Dev nD) (t : Fin cfg0.N) (r : Fin 512) (f : Fin 512) : (outsAt0 m c t).1 (ix2 r f) = mixing m c (ix2 (row t r) f) := by
  rw [outs_fst, transformed_apply]
  unfold mixing
  rw [Cert.InProjReferenceIdeal.Proj.transformed_apply]
  simp only [product_eq, iblk4, coefs_apply]
  by_cases h : f.val < 256
  · simp only [dif_pos h]
    rw [Cert.InProjReferenceIdeal.Proj.summed_apply, diag_sum (fun e => projRef m c (ix2 (row t r) ⟨0 + e.val, by omega⟩))]
    simp only [Nat.zero_add]
  · simp only [dif_neg h]
    rw [Cert.InProjReferenceIdeal.Proj.summed_apply, diag_sum (fun e => projRef m c (ix2 (row t r) ⟨0 + e.val, by omega⟩))]
    simp only [Nat.zero_add]

theorem block_attending (c : Dev nD) (t : Fin cfg0.N) (r : Fin 512) (j : Fin 2304) : (outsAt0 m c t).2 (ix2 r j) = attending m c (ix2 (row t r) j) := by
  rw [outs_snd]
  unfold attending qkv
  rw [Cert.InProjReferenceIdeal.Proj.beside_apply]
  by_cases h : j.val < 1536
  · rw [dif_pos h, Cert.InProjReferenceIdeal.Proj.rotated_apply]
    refine Eq.trans (b := k0_pay10 (F := Ideal) (rows m c t) (iblk m c 5 t : Vec Ideal S512x256 .f32) (iblk m c 6 t : Vec Ideal S512x256 .f32) (iblk m c 7 t : Vec Ideal S512x256 .f32)
      (cols (iblk m c 3 t : Vec Ideal S1024x2560 .bf16) (256 + j.val / 256 * 256) (by omega)) (ix2 r ⟨j.val % 256, by omega⟩)) (dif_pos h) ?_
    rw [rotated_apply _ _ _ _ _ r ⟨j.val % 256, by omega⟩ (rowT t r) (iblk5 m c t _ _) (iblk6 m c t _ _) (iblk7 m c t _ _)]
    have hp : turn t.val * 512 + r.val = position (t.val * 512 + r.val) := rowT_eq t r
    simp only [block_proj, Cert.InProjReferenceIdeal.Proj.components_apply, Cert.InProjReferenceIdeal.Proj.cosines_apply, Cert.InProjReferenceIdeal.Proj.sines_apply,
      Cert.InProjReferenceIdeal.Proj.angles_apply, hp, show j.val % 256 % 64 = j.val % 64 by omega]
    by_cases h8 : j.val % 64 < 8
    · rw [dif_pos h8, dif_pos h8]
      simp only [show 256 + j.val / 256 * 256 + j.val % 256 = 256 + (j.val / 64 * 64 + j.val % 64) by omega, show 256 + j.val / 256 * 256 + (8 + j.val % 256) = 256 + (j.val / 64 * 64 + (8 + j.val % 64)) by omega]
    · rw [dif_neg h8, dif_neg h8]
      by_cases h16 : j.val % 64 < 16
      · rw [dif_pos h16, dif_pos h16]
        simp only [show 256 + j.val / 256 * 256 + j.val % 256 = 256 + (j.val / 64 * 64 + j.val % 64) by omega, show 256 + j.val / 256 * 256 + (j.val % 256 - 8) = 256 + (j.val / 64 * 64 + (j.val % 64 - 8)) by omega]
      · rw [dif_neg h16, dif_neg h16]
        simp only [show 256 + j.val / 256 * 256 + j.val % 256 = 256 + (j.val / 64 * 64 + j.val % 64) by omega]
  · rw [dif_neg h]
    refine Eq.trans (b := k0_pay2 (F := Ideal) (rows m c t) (cols (iblk m c 3 t : Vec Ideal S1024x2560 .bf16) (256 + j.val / 256 * 256) (by omega)) (ix2 r ⟨j.val % 256, by omega⟩)) (dif_neg h) ?_
    rw [values_apply, product_eq]
    simp only [show 256 + j.val / 256 * 256 + j.val % 256 = 256 + j.val by omega]

attribute [local irreducible] outsAt0 mixing attending

/-- The result arrays after the run. -/
theorem final_mixing (c : Dev nD) : (dats m 0 c).arrAt 8 cfg0.N = mixing m c := by
  refine (dats m 0 c).arrAt_eq_of_covers 8 _ (by decide +kernel) fun t _ y => ?_
  blk_simp
  rw [after0_8]
  idx_vars y
  refine (block_mixing m c t _ _).trans (congrArg (mixing m c) ?_)
  blk_ext [idx8 t]

theorem final_attending (c : Dev nD) : (dats m 0 c).arrAt 9 cfg0.N = attending m c := by
  refine (dats m 0 c).arrAt_eq_of_covers 9 _ (by decide +kernel) fun t _ y => ?_
  blk_simp
  rw [after0_9]
  idx_vars y
  refine (block_attending m c t _ _).trans (congrArg (attending m c) ?_)
  blk_ext [idx9 t]

end Cert.InProjIdeal.Proj

end
-- ==== Proof.InProjClaims.lean ====
/- The input projection's run against its reference's, on the extended reals. -/
module

public import proofs.«01_k».proof.Proof.InProjFrames
public import proofs.«01_k».proof.Proof.InProjValue

@[expose] public section

set_option maxRecDepth 16384

noncomputable section

namespace Cert.Proof

open Idealize.ShloMosaic Idealize.SL.Sem

attribute [local instance] Cert.InProj.Gen.facts

/-- From arguments that agree, both programs end with the projection of the arguments transformed and rotated. -/
theorem algebraic_inproj : Cert.algebraic_InProjIdeal_InProjReferenceIdeal := by
  intro m ρ m' ρ' _ hagree
  have hproj : ∀ c, Cert.InProjReferenceIdeal.Proj.projOf m' c = Cert.InProjIdeal.Proj.projRef m c := fun c => by
    unfold Cert.InProjReferenceIdeal.Proj.projOf
    rw [(hagree c).1, (hagree c).2.1, (hagree c).2.2.1, (hagree c).2.2.2]
    rfl
  refine ⟨fun c => Cert.InProjIdeal.Proj.mixing m c, fun c => Cert.InProjIdeal.Proj.attending m c, ?_, ?_⟩
  · refine (θ_run Cert.InProjIdeal.defs _ _).mono ?_
      (θ_run_and (Cert.InProjIdeal.Gen.run_main m ρ) ((θ_run Cert.InProjIdeal.defs _ _).mono (fun _ h => h.1) (Cert.InProjIdeal.Gen.frame (F := Ideal) m ρ)))
    rintro r ⟨h, harg⟩ c
    refine ⟨((h c).1 8).trans ?_, ((h c).1 9).trans ?_, harg c⟩
    · exact Cert.InProjIdeal.Proj.final_mixing m c
    · exact Cert.InProjIdeal.Proj.final_attending m c
  · refine (θ_run Cert.InProjReferenceIdeal.defs _ _).mono (fun _ h c => ⟨(h c).1.trans ?_, (h c).2.1.trans ?_, (h c).2.2⟩)
      (Cert.InProjReferenceIdeal.Value.run (F := Ideal) m' ρ')
    · exact (Cert.InProjReferenceIdeal.Proj.res0_eq m' c).trans (congrArg Cert.InProjReferenceIdeal.Proj.transformed (hproj c))
    · exact (Cert.InProjReferenceIdeal.Proj.res1_eq m' c).trans (congrArg Cert.InProjReferenceIdeal.Proj.qkv (hproj c))

end Cert.Proof

end
-- ==== Proof.RouterFrames.lean ====
/- The router's frames: one run read at each value type. -/
module

public import proofs.«01_k».proof.Defs
public import proofs.«01_k».proof.Proof.Gen.Router
public import proofs.«01_k».proof.Proof.Gen.RouterIdeal
public import proofs.«01_k».proof.Proof.Gen.RouterIdeal.Frame
public import proofs.«01_k».proof.Proof.Gen.RouterReferenceIdeal
public import proofs.«01_k».proof.Proof.Gen.RouterReferenceIdeal.Run
public import Idealize.ShloMosaic.Lib.Quiescent

@[expose] public section

set_option maxRecDepth 16384

noncomputable section

namespace Cert.Proof

open Idealize.ShloMosaic Idealize.SL.Sem

attribute [local instance] Cert.Router.Gen.facts

/-! ## The two programs are the same text -/

theorem router_body_eq : @Cert.Router.cc0_outproj_router Bits _ _ = @Cert.RouterIdeal.cc0_outproj_router Bits _ _ := rfl

theorem router_defs₀_eq : Cert.Router.defs₀ (F := Bits) = Cert.RouterIdeal.defs₀ (F := Bits) := by
  unfold Cert.Router.defs₀ Cert.RouterIdeal.defs₀
  refine congrArg Defs.onTc (funext fun l => funext fun a => ?_)
  match l, a with
  | 0, (t, s) => rfl

theorem router_defs_eq : Cert.Router.defs (F := Bits) = Cert.RouterIdeal.defs (F := Bits) :=
  congrArg (Pipeline.defs Cert.RouterIdeal.pcfgs) router_defs₀_eq

/-! ## The frames -/

theorem frame_router : Cert.quiescent_Router := fun m ρ _ => by
  rw [router_defs_eq]
  exact (θ_run Cert.RouterIdeal.defs _ _).mono (fun _ h => h) (Cert.RouterIdeal.Gen.frame (F := Bits) m ρ)

theorem frame_router_ideal : Cert.quiescent_RouterIdeal := fun m ρ _ => Cert.RouterIdeal.Gen.frame (F := Ideal) m ρ

theorem frame_router_reference : Cert.quiescent_RouterReferenceIdeal := fun m ρ _ =>
  (θ_run Cert.RouterReferenceIdeal.defs _ _).mono
    (fun r h => ⟨fun c => (h c).2.2.2.2, sem_eq_zero_of_no_sems (by decide) r.2⟩)
    (Cert.RouterReferenceIdeal.Value.run (F := Ideal) m ρ)

end Cert.Proof

end
-- ==== Proof.RouterRef.lean ====
/- The router's reference, stage by stage, read at an index on the extended reals. -/
module

public import proofs.«01_k».proof.Proof.Gen.RouterReferenceIdeal.Run
public import proofs.«01_k».proof.Proof.DenseRef
public import Idealize.ShloMosaic.Lib.Tactic.CleanTypes

@[expose] public section

set_option maxRecDepth 16384

noncomputable section

namespace Cert.RouterReferenceIdeal.Route

open Idealize.ShloMosaic
open Cert.DenseReferenceIdeal.Ffn (mixed attended beside resid normed)
open Cert.RouterReferenceIdeal Cert.RouterReferenceIdeal.Gen Cert.RouterReferenceIdeal.Value
open scoped BigOperators

variable (m : (ℓ : Loc nD τ sig) → Buf (Elt Ideal) ℓ)

/-- The residual of a core's arguments, -/
def residOf (c : Dev nD) : FVec Ideal S81920x1024 .f32 :=
  resid (m ((c.tc : Thread nD τ).loc main_arg0))
    (beside (mixed (m ((c.tc : Thread nD τ).loc main_arg1)) (m ((c.tc : Thread nD τ).loc main_arg2))) (attended (m ((c.tc : Thread nD τ).loc main_arg3)) (m ((c.tc : Thread nD τ).loc main_arg4))))
    (m ((c.tc : Thread nD τ).loc main_arg5))
/-- and its rows normalized. -/
def tokensOf (c : Dev nD) : FVec Ideal S81920x1024 .bf16 :=
  normed (residOf m c) (m ((c.tc : Thread nD τ).loc main_arg6))

end Cert.RouterReferenceIdeal.Route

end
-- ==== Proof.RouterStep.lean ====
/- What the router's run of a point leaves: the residual, its rows normalized, their routing, and the experts' counts so far. -/
module

public import proofs.«01_k».proof.Proof.Gen.RouterIdeal.Frame
public import proofs.«01_k».proof.Proof.DenseStep
public import Idealize.ShloMosaic.Lib.Pipeline.ValueKit
public import Idealize.ShloMosaic.Lib.Pipeline.ReadBack

@[expose] public section

set_option maxRecDepth 16384

noncomputable section

namespace Cert.RouterIdeal.Route

open Idealize.ShloMosaic Idealize.ShloMosaic.TcCoe Idealize.ShloMosaic.Tactic
open Idealize.SL Idealize.SL.RA Idealize.SL.BI
open Cert.DenseIdeal.Ffn (mix top bottom ld_top ld_bottom)
open Cert.RouterIdeal Cert.RouterIdeal.Gen

variable {F : FTy → Type} [FloatOps F]

/-! ## A point's blocks, stage by stage -/

/-- Whether a point's rows are the prompts'. -/
def inPrompt (i : grid0.Coords) : BitVec 1 := Scalar.cmpi .slt (BitVec.ofNat 32 (i 0).val) 128#32

/-- The residual's rows divided by their root mean squares, -/
def scaled (x1 : FVec F S512x1024 .f32) : FVec F S512x1024 .f32 :=
  mulf x1 (broadcastTo S512x1024 (rsqrt (addf (divf (shapeCast S512x1 (multiReduction .add [1] S512 (mulf x1 x1) 0x00000000#32 reduces_S512x1024_S512 (.inl rfl) rfl) shapeCasts_S512_S512x1) (broadcast S512x1 (Scalar.ofBits .f32 0x44800000#32))) (broadcast S512x1 (Scalar.ofBits .f32 0x3727C5AC#32)))) broadcasts_S512x1_S512x1024)

/-- times the norm's weight, -/
def normed (x1 : FVec F S512x1024 .f32) (g : Vec F S1x1024 .f32) : FVec F S512x1024 .bf16 := k0_pay7 (scaled x1) (k0_pay5 g)

/-- the experts' numbers down a column, -/
def experts : IVec S8x512 32 := iota .tc S8x512 32 [0] iota_S8x512_d0_w32

/-- the rows' routing, over the counts of the points before, -/
def routed (x1 : FVec F S512x1024 .f32) (g : Vec F S1x1024 .f32) (w : Vec F S8x1024 .f32) (n : Vec F S8x1 .f32) : FVec F S8x512 .f32 :=
  k0_pay20 experts (k0_pay10 (scaled x1) (k0_pay5 g) w) (k0_pay11 (scaled x1) (k0_pay5 g) w) (k0_pay12 (scaled x1) (k0_pay5 g) w) (k0_pay14 (scaled x1) (k0_pay5 g) w) (k0_pay15 (scaled x1) (k0_pay5 g) w) k0_pay16 n

/-- and the rows that pick each expert, -/
def picked (x1 : FVec F S512x1024 .f32) (g : Vec F S1x1024 .f32) (w : Vec F S8x1024 .f32) : FVec F S8x512 .f32 :=
  k0_pay19 experts (k0_pay12 (scaled x1) (k0_pay5 g) w) (k0_pay15 (scaled x1) (k0_pay5 g) w) k0_pay16

/-- the counts' first lane. -/
def lane (n : Vec F S8x128 .f32) : Vec F S8x1 .f32 := fun x => n (Idealize.ShloMosaic.ValueIdx.ix2 (x 0 : Fin 8) (0 : Fin 128))

theorem ld_lane (n : Vec F S8x128 .f32) (inb : ∀ a, ![0, 0] a + (![8, 1] : Fin 2 → ℕ) a ≤ S8x128.size a) :
    (View.ld (Val := Elt F) n (Rect.unit (s := S8x128) ![0, 0] ![8, 1] inb) : Vec F S8x1 .f32) = lane n := by
  funext x
  have hx : (x 1).val < 1 := (x 1).isLt
  refine congrArg n (funext fun d => ?_)
  fin_cases d
  · exact Fin.ext (show 0 + 1 * (x 0).val = (x 0).val by omega)
  · exact Fin.ext (show 0 + 1 * (x 1).val = 0 by omega)

theorem pay3_eq (i : grid0.Coords) (f1 f2 wt a1 a2 wb p1 p2) :
    k0_pay3 (F := F) i f1 f2 wt a1 a2 wb p1 p2 = mix (Scalar.select (inPrompt i) p1 p2) (Scalar.select (inPrompt i) f1 f2) (Scalar.select (inPrompt i) a1 a2) wt wb := rfl

theorem pay4_eq (i : grid0.Coords) (f1 f2 wt a1 a2 wb p1 p2) :
    k0_pay4 (F := F) i f1 f2 wt a1 a2 wb p1 p2 = scaled (mix (Scalar.select (inPrompt i) p1 p2) (Scalar.select (inPrompt i) f1 f2) (Scalar.select (inPrompt i) a1 a2) wt wb) := rfl

variable (m : (ℓ : Loc nD τ sig) → Buf (Elt F) ℓ)

/-- A point's residual, -/
def resid (c : Dev nD) (t : Fin cfg0.N) : FVec F S512x1024 .f32 :=
  mix (Scalar.select (inPrompt (grid0.coords t)) (iblk m c 0 t : Vec F S512x1024 .f32) (iblk m c 1 t : Vec F S512x1024 .f32))
    (Scalar.select (inPrompt (grid0.coords t)) (iblk m c 2 t : Vec F S512x256 .bf16) (iblk m c 3 t : Vec F S512x256 .bf16))
    (Scalar.select (inPrompt (grid0.coords t)) (iblk m c 4 t : Vec F S512x768 .bf16) (iblk m c 5 t : Vec F S512x768 .bf16))
    (top (iblk m c 6 t : Vec F S1024x1024 .bf16)) (bottom (iblk m c 6 t : Vec F S1024x1024 .bf16))

/-- and what its run leaves, over the counts `n` of the points before. -/
def left (c : Dev nD) (t : Fin cfg0.N) (n : Vec F S8x128 .f32) : Vec F S512x1024 .f32 × Vec F S512x1024 .bf16 × Vec F S8x512 .f32 × Vec F S8x128 .f32 × Vec F S8x128 .f32 :=
  (resid m c t, normed (resid m c t) (iblk m c 7 t : Vec F S1x1024 .f32),
    routed (resid m c t) (iblk m c 7 t : Vec F S1x1024 .f32) (iblk m c 8 t : Vec F S8x1024 .f32) (lane n),
    k0_pay1 (picked (resid m c t) (iblk m c 7 t : Vec F S1x1024 .f32) (iblk m c 8 t : Vec F S8x1024 .f32)) n,
    k0_pay2 (picked (resid m c t) (iblk m c 7 t : Vec F S1x1024 .f32) (iblk m c 8 t : Vec F S8x1024 .f32)) n)

set_option maxHeartbeats 4000000 in
/-- The first point's run starts from zero counts, -/
theorem outs_first (c : Dev nD) (t : Fin cfg0.N) (h0 : t.val % 160 = 0) : outsAt0 m c t.val t.isLt = left m c t k0_pay8 := by
  rw [outsAt0_A m c t h0]
  unfold left
  refine Prod.ext ?_ (Prod.ext ?_ (Prod.ext ?_ (Prod.ext ?_ ?_)))
  · dsimp only
    frame_out
    simp only [ld_top, ld_bottom, pay3_eq]
    rfl
  · dsimp only
    frame_out
    simp only [ld_top, ld_bottom, pay4_eq]
    rfl
  · dsimp only
    frame_out
    simp only [ld_top, ld_bottom, pay4_eq]
    unfold routed
    refine congrArg (k0_pay20 _ _ _ _ _ _ _) ?_
    exact (View.readCov_fill (s := S8x128) (View.whole cc0_scratch0) inb_S8x128_S8x128_0_0 (k0_pay8 (F := F)) [] (Rect.unit (s := S8x128) ![0, 0] ![8, 1] inb_S8x128_S8x1_0_0) (fun a => by fin_cases a <;> rfl)).trans (ld_lane _ _)
  · dsimp only
    frame_out
    simp only [ld_top, ld_bottom, pay4_eq]
    rfl
  · dsimp only
    frame_out
    simp only [ld_top, ld_bottom, pay4_eq]
    rfl

set_option maxHeartbeats 4000000 in
/-- and a later one's from the counts the point before left. -/
theorem outs_later (c : Dev nD) (t : Fin cfg0.N) (h0 : ¬t.val % 160 = 0) :
    outsAt0 m c t.val t.isLt = left m c t (outsAt0 m c (t.val - 1) (Nat.lt_of_le_of_lt (Nat.sub_le _ _) t.isLt)).2.2.2.2 := by
  rw [outsAt0_B m c t h0]
  generalize (outsAt0 m c (t.val - 1) (Nat.lt_of_le_of_lt (Nat.sub_le _ _) t.isLt)).2.2.2.2 = n
  unfold left
  refine Prod.ext ?_ (Prod.ext ?_ (Prod.ext ?_ (Prod.ext ?_ ?_)))
  · dsimp only
    frame_out
    simp only [ld_top, ld_bottom, pay3_eq]
    rfl
  · dsimp only
    frame_out
    simp only [ld_top, ld_bottom, pay4_eq]
    rfl
  · dsimp only
    frame_out
    simp only [ld_top, ld_bottom, ld_lane, pay4_eq, read_unread_whole]
    rfl
  · dsimp only
    frame_out
    simp only [ld_top, ld_bottom, pay4_eq, read_unread_whole]
    rfl
  · dsimp only
    frame_out
    simp only [ld_top, ld_bottom, pay4_eq, read_unread_whole]
    rfl

/-- Whichever point: its residual, -/
theorem outs_resid (c : Dev nD) (t : Fin cfg0.N) : (outsAt0 m c t.val t.isLt).1 = resid m c t := by
  by_cases h0 : t.val % 160 = 0
  · rw [outs_first m c t h0]; rfl
  · rw [outs_later m c t h0]; rfl

/-- and its rows normalized. -/
theorem outs_normed (c : Dev nD) (t : Fin cfg0.N) : (outsAt0 m c t.val t.isLt).2.1 = normed (resid m c t) (iblk m c 7 t : Vec F S1x1024 .f32) := by
  by_cases h0 : t.val % 160 = 0
  · rw [outs_first m c t h0]; rfl
  · rw [outs_later m c t h0]; rfl

end Cert.RouterIdeal.Route

end
-- ==== Proof.RouterValue.lean ====
/- The router's arrays of the tokens on the extended reals: the reference's functions of the arguments. -/
module

public import proofs.«01_k».proof.Proof.RouterRef
public import proofs.«01_k».proof.Proof.RouterStep
public import Idealize.ShloMosaic.Lib.Pipeline.Value
public import Idealize.ShloMosaic.Lib.Pipeline.ValueKit

@[expose] public section

set_option maxRecDepth 16384

noncomputable section

namespace Cert.RouterIdeal.Route

open Idealize.ShloMosaic Idealize.ShloMosaic.TcCoe Idealize.ShloMosaic.Tactic
open Idealize.SL Idealize.SL.Sem
open Idealize.ShloMosaic.Pipeline (Dat Cfg Window)
open Cert.DenseIdeal.Ffn (mix mix_apply unit projected)
open Cert.RouterIdeal Cert.RouterIdeal.Gen
open scoped BigOperators

variable (m : (ℓ : Loc nD τ sig) → Buf (Elt Ideal) ℓ)

abbrev argX (c : Dev nD) : FVec Ideal S81920x1024 .f32 := m ((c : Thread nD τ).loc main_arg0)
abbrev argFp (c : Dev nD) : FVec Ideal S65536x256 .bf16 := m ((c : Thread nD τ).loc main_arg1)
abbrev argFs (c : Dev nD) : FVec Ideal S16384x256 .bf16 := m ((c : Thread nD τ).loc main_arg2)
abbrev argAp (c : Dev nD) : FVec Ideal S65536x768 .bf16 := m ((c : Thread nD τ).loc main_arg3)
abbrev argAs (c : Dev nD) : FVec Ideal S16384x768 .bf16 := m ((c : Thread nD τ).loc main_arg4)
abbrev argO (c : Dev nD) : FVec Ideal S1024x1024 .f32 := m ((c : Thread nD τ).loc main_arg5)
abbrev argG (c : Dev nD) : FVec Ideal S1024 .f32 := m ((c : Thread nD τ).loc main_arg6)
abbrev argW (c : Dev nD) : FVec Ideal S1024x8 .f32 := m ((c : Thread nD τ).loc main_arg7)

/-- The reference's residual of a core's arguments, -/
def residRef (c : Dev nD) : FVec Ideal S81920x1024 .f32 :=
  Cert.DenseReferenceIdeal.Ffn.resid (argX m c)
    (Cert.DenseReferenceIdeal.Ffn.beside (Cert.DenseReferenceIdeal.Ffn.mixed (argFp m c) (argFs m c)) (Cert.DenseReferenceIdeal.Ffn.attended (argAp m c) (argAs m c))) (argO m c)
/-- and its rows normalized. -/
def tokensRef (c : Dev nD) : FVec Ideal S81920x1024 .bf16 := Cert.DenseReferenceIdeal.Ffn.normed (residRef m c) (argG m c)

/-! ## The arrays as the pipeline finds them -/

theorem V_o (c : Dev nD) : (V m c main_v0 : FVec Ideal S1024x1024 .bf16) = argO m c := by
  show StableHlo.after hostOps0 (fun b => m (c, b)) main_v0 = _
  unfold hostOps0
  after_results_simp
  rfl
theorem V_g (c : Dev nD) : (V m c main_v1 : FVec Ideal S1x1024 .f32) = broadcastInDim S1x1024 ![1] bcast_S1024_S1x1024_1 (argG m c) := by
  show StableHlo.after hostOps0 (fun b => m (c, b)) main_v1 = _
  unfold hostOps0
  after_results_simp
theorem V_w (c : Dev nD) : (V m c main_v2 : FVec Ideal S8x1024 .f32) = transpose S8x1024 [1, 0] (argW m c) transposes_S1024x8_S8x1024_1_0 := by
  show StableHlo.after hostOps0 (fun b => m (c, b)) main_v2 = _
  unfold hostOps0
  after_results_simp
theorem V_x (c : Dev nD) : (V m c main_arg0 : FVec Ideal S81920x1024 .f32) = argX m c := by
  show StableHlo.after hostOps0 (fun b => m (c, b)) main_arg0 = _
  unfold hostOps0
  after_results_simp
theorem V_fp (c : Dev nD) : (V m c main_arg1 : FVec Ideal S65536x256 .bf16) = argFp m c := by
  show StableHlo.after hostOps0 (fun b => m (c, b)) main_arg1 = _
  unfold hostOps0
  after_results_simp
theorem V_fs (c : Dev nD) : (V m c main_arg2 : FVec Ideal S16384x256 .bf16) = argFs m c := by
  show StableHlo.after hostOps0 (fun b => m (c, b)) main_arg2 = _
  unfold hostOps0
  after_results_simp
theorem V_ap (c : Dev nD) : (V m c main_arg3 : FVec Ideal S65536x768 .bf16) = argAp m c := by
  show StableHlo.after hostOps0 (fun b => m (c, b)) main_arg3 = _
  unfold hostOps0
  after_results_simp
theorem V_as (c : Dev nD) : (V m c main_arg4 : FVec Ideal S16384x768 .bf16) = argAs m c := by
  show StableHlo.after hostOps0 (fun b => m (c, b)) main_arg4 = _
  unfold hostOps0
  after_results_simp

/-! ## The blocks of a point -/

theorem lt_160 (t : Fin cfg0.N) : t.val < 160 := t.isLt

theorem idx0 : ∀ t : Fin cfg0.N, win0_0.index t = ![min t.val 127, 0] := (by decide +kernel : ∀ t : Fin grid0.N, _)
theorem idx1 : ∀ t : Fin cfg0.N, win0_1.index t = ![128 + (t.val - 128), 0] := (by decide +kernel : ∀ t : Fin grid0.N, _)
theorem idx2 : ∀ t : Fin cfg0.N, win0_2.index t = ![min t.val 127, 0] := (by decide +kernel : ∀ t : Fin grid0.N, _)
theorem idx3 : ∀ t : Fin cfg0.N, win0_3.index t = ![t.val - 128, 0] := (by decide +kernel : ∀ t : Fin grid0.N, _)
theorem idx4 : ∀ t : Fin cfg0.N, win0_4.index t = ![min t.val 127, 0] := (by decide +kernel : ∀ t : Fin grid0.N, _)
theorem idx5 : ∀ t : Fin cfg0.N, win0_5.index t = ![t.val - 128, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![0, t.val] := (by decide +kernel : ∀ t : Fin grid0.N, _)
theorem idx12 : ∀ t : Fin cfg0.N, win0_12.index t = ![0, 0] := (by decide +kernel : ∀ t : Fin grid0.N, _)

/-- A point's row in the prompts' arrays, -/
abbrev rowP (t : Fin cfg0.N) (r : Fin 512) : Fin 65536 := ⟨min t.val 127 * 512 + r.val, by omega⟩
/-- in the samples', -/
abbrev rowS (t : Fin cfg0.N) (r : Fin 512) : Fin 16384 := ⟨(t.val - 128) * 512 + r.val, by have := lt_160 t; omega⟩
/-- and among all tokens. -/
abbrev row (t : Fin cfg0.N) (r : Fin 512) : Fin 81920 := ⟨t.val * 512 + r.val, by have := lt_160 t; omega⟩

theorem iblk0 (c : Dev nD) (t : Fin cfg0.N) (r : Fin 512) (d : Fin 1024) : (iblk m c 0 t : Vec Ideal S512x1024 .f32) (ix2 r d) = argX m c (ix2 (⟨min t.val 127 * 512 + r.val, by omega⟩) d) := by
  rw [← V_x]
  blk_ext [iblk, idx0 t]
theorem iblk1 (c : Dev nD) (t : Fin cfg0.N) (r : Fin 512) (d : Fin 1024) : (iblk m c 1 t : Vec Ideal S512x1024 .f32) (ix2 r d) = argX m c (ix2 (⟨(128 + (t.val - 128)) * 512 + r.val, by have := lt_160 t; omega⟩) d) := by
  rw [← V_x]
  blk_ext [iblk, idx1 t]
theorem iblk2 (c : Dev nD) (t : Fin cfg0.N) (r : Fin 512) (d : Fin 256) : (iblk m c 2 t : Vec Ideal S512x256 .bf16) (ix2 r d) = argFp m c (ix2 (rowP t r) d) := by
  rw [← V_fp]
  blk_ext [iblk, idx2 t]
theorem iblk3 (c : Dev nD) (t : Fin cfg0.N) (r : Fin 512) (d : Fin 256) : (iblk m c 3 t : Vec Ideal S512x256 .bf16) (ix2 r d) = argFs m c (ix2 (rowS t r) d) := by
  rw [← V_fs]
  blk_ext [iblk, idx3 t]
theorem iblk4 (c : Dev nD) (t : Fin cfg0.N) (r : Fin 512) (d : Fin 768) : (iblk m c 4 t : Vec Ideal S512x768 .bf16) (ix2 r d) = argAp m c (ix2 (rowP t r) d) := by
  rw [← V_ap]
  blk_ext [iblk, idx4 t]
theorem iblk5 (c : Dev nD) (t : Fin cfg0.N) (r : Fin 512) (d : Fin 768) : (iblk m c 5 t : Vec Ideal S512x768 .bf16) (ix2 r d) = argAs m c (ix2 (rowS t r) d) := by
  rw [← V_as]
  blk_ext [iblk, idx5 t]
theorem iblk6 (c : Dev nD) (t : Fin cfg0.N) (r k : Fin 1024) : (iblk m c 6 t : Vec Ideal S1024x1024 .bf16) (ix2 r k) = argO m c (ix2 r k) := by
  rw [← V_o]
  blk_ext [iblk, idx6 t]
theorem iblk7 (c : Dev nD) (t : Fin cfg0.N) (d : Fin 1024) : (iblk m c 7 t : Vec Ideal S1x1024 .f32) (ix2 0 d) = argG m c (ix1 d) := by
  refine Eq.trans (b := (V m c main_v1 : FVec Ideal S1x1024 .f32) (ix2 0 d)) (by blk_ext [iblk, idx7 t]) ?_
  rw [V_g]
  pointwise []
theorem iblk8 (c : Dev nD) (t : Fin cfg0.N) (e : Fin 8) (d : Fin 1024) : (iblk m c 8 t : Vec Ideal S8x1024 .f32) (ix2 e d) = argW m c (ix2 d e) := by
  refine Eq.trans (b := (V m c main_v2 : FVec Ideal S8x1024 .f32) (ix2 e d)) (by blk_ext [iblk, idx8 t]) ?_
  rw [V_w]
  pointwise []

/-! ## A point's rows are the reference's -/

theorem inPrompt_eq : ∀ t : Fin cfg0.N, inPrompt (grid0.coords t) = if t.val < 128 then 1#1 else 0#1 :=
  (by decide +kernel : ∀ t : Fin grid0.N, _)

/-- The entry taken at a point is the entry of both batches' rows put together. -/
theorem pick {S : Shape} {α : Type} (t : Fin cfg0.N) (r : Fin 512) (A B : S.Idx → α) (y : S.Idx) (P : Fin 65536 → α) (Q : Fin 16384 → α)
    (hA : A y = P (rowP t r)) (hB : B y = Q (rowS t r)) :
    (Scalar.select (inPrompt (grid0.coords t)) A B : S.Idx → α) y = if h : (row t r).val < 65536 then P ⟨(row t r).val, h⟩ else Q ⟨(row t r).val - 65536, by have := (row t r).isLt; omega⟩ := by
  rw [inPrompt_eq]
  by_cases h : t.val < 128
  · rw [if_pos h, dif_pos (show t.val * 512 + r.val < 65536 by omega)]
    refine hA.trans (congrArg P (Fin.ext ?_))
    show min t.val 127 * 512 + r.val = t.val * 512 + r.val
    omega
  · rw [if_neg h, dif_neg (show ¬ t.val * 512 + r.val < 65536 by omega)]
    refine hB.trans (congrArg Q (Fin.ext ?_))
    show (t.val - 128) * 512 + r.val = t.val * 512 + r.val - 65536
    omega

/-- So is that of the tokens, one array for both. -/
theorem pick_one {S : Shape} {α : Type} (t : Fin cfg0.N) (r : Fin 512) (A B : S.Idx → α) (y : S.Idx) (P : Fin 81920 → α)
    (hA : A y = P ⟨min t.val 127 * 512 + r.val, by omega⟩) (hB : B y = P ⟨(128 + (t.val - 128)) * 512 + r.val, by have := lt_160 t; omega⟩) :
    (Scalar.select (inPrompt (grid0.coords t)) A B : S.Idx → α) y = P (row t r) := by
  rw [inPrompt_eq]
  by_cases h : t.val < 128
  · rw [if_pos h]
    refine hA.trans (congrArg P (Fin.ext ?_))
    show min t.val 127 * 512 + r.val = t.val * 512 + r.val
    omega
  · rw [if_neg h]
    refine hB.trans (congrArg P (Fin.ext ?_))
    show (128 + (t.val - 128)) * 512 + r.val = t.val * 512 + r.val
    omega

theorem resid_eq (c : Dev nD) (t : Fin cfg0.N) (r : Fin 512) (k : Fin 1024) : resid m c t (ix2 r k) = residRef m c (ix2 (row t r) k) := by
  unfold resid residRef
  rw [mix_apply, Cert.DenseReferenceIdeal.Ffn.resid_split, projected]
  refine congrArg₂ (· + ·) ?_ (congrArg₂ (· + ·) (Finset.sum_congr rfl fun e _ => congrArg₂ (· * ·) ?_ ?_) (Finset.sum_congr rfl fun e _ => congrArg₂ (· * ·) ?_ ?_))
  · exact pick_one t r _ _ _ (fun n => argX m c (ix2 n k)) (iblk0 m c t r k) (iblk1 m c t r k)
  · rw [Cert.DenseReferenceIdeal.Ffn.mixed_apply]
    exact pick t r _ _ _ (fun n => argFp m c (ix2 n e)) (fun n => argFs m c (ix2 n e)) (iblk2 m c t r e) (iblk3 m c t r e)
  · exact iblk6 m c t _ k
  · rw [Cert.DenseReferenceIdeal.Ffn.attended_apply]
    exact pick t r _ _ _ (fun n => argAp m c (ix2 n e)) (fun n => argAs m c (ix2 n e)) (iblk4 m c t r e) (iblk5 m c t r e)
  · exact iblk6 m c t _ k

theorem normed_apply (x1 : FVec Ideal S512x1024 .f32) (g : FVec Ideal S1x1024 .f32) (r : Fin 512) (d : Fin 1024) :
    normed (F := Ideal) x1 g (ix2 r d) = unit (fun e => x1 (ix2 r e)) (g (ix2 0 d)) d := by
  pointwise [normed, scaled, k0_pay7, k0_pay6, k0_pay5, unit]

theorem normed_eq (c : Dev nD) (t : Fin cfg0.N) (r : Fin 512) (d : Fin 1024) :
    normed (resid m c t) (iblk m c 7 t : Vec Ideal S1x1024 .f32) (ix2 r d) = tokensRef m c (ix2 (row t r) d) := by
  unfold tokensRef
  rw [Cert.DenseReferenceIdeal.Ffn.normed_apply]
  simp only [normed_apply, resid_eq, iblk7]

attribute [local irreducible] outsAt0 residRef tokensRef

/-- The residual's array after the run, -/
theorem final_resid (c : Dev nD) : (dats m 0 c).arrAt 9 cfg0.N = residRef m c := by
  refine (dats m 0 c).arrAt_eq_of_covers 9 _ (by decide +kernel) fun t _ y => ?_
  blk_simp
  rw [after0_9, outs_resid]
  idx_vars y
  refine (resid_eq m c t _ _).trans (congrArg (residRef m c) ?_)
  blk_ext [idx9 t]

/-- and the normalized rows'. -/
theorem final_tokens (c : Dev nD) : (dats m 0 c).arrAt 10 cfg0.N = tokensRef m c := by
  refine (dats m 0 c).arrAt_eq_of_covers 10 _ (by decide +kernel) fun t _ y => ?_
  blk_simp
  rw [after0_10, outs_normed]
  idx_vars y
  refine (normed_eq m c t _ _).trans (congrArg (tokensRef m c) ?_)
  blk_ext [idx10 t]

end Cert.RouterIdeal.Route

end
-- ==== Proof.RouterClaims.lean ====
/- The router's run against its reference's, on the extended reals. -/
module

public import proofs.«01_k».proof.Proof.RouterFrames
public import proofs.«01_k».proof.Proof.RouterValue
public import proofs.«01_k».proof.Proof.Gen.On_of_tokens

@[expose] public section

set_option maxRecDepth 16384

noncomputable section

namespace Cert.Proof

open Idealize.ShloMosaic Idealize.SL.Sem

attribute [local instance] Cert.Router.Gen.facts Cert.On_of_tokens.Gen.facts

/-- An index whose mask is not set. -/
theorem not_set : ¬(0#1 : BitVec 1) = 1#1 := by decide

/-- From arguments that agree, both programs end with the tokens, the projection added to them, and their norm. -/
theorem algebraic_router : Cert.algebraic_RouterIdeal_RouterReferenceIdeal_on_of_tokens := by
  intro m ρ m' ρ' _ hagree
  have hresid : ∀ c, Cert.RouterReferenceIdeal.Route.residOf m' c = Cert.RouterIdeal.Route.residRef m c := fun c => by
    unfold Cert.RouterReferenceIdeal.Route.residOf
    rw [(hagree c).1, (hagree c).2.1, (hagree c).2.2.1, (hagree c).2.2.2.1, (hagree c).2.2.2.2.1, (hagree c).2.2.2.2.2.1]
    rfl
  have htokens : ∀ c, Cert.RouterReferenceIdeal.Route.tokensOf m' c = Cert.RouterIdeal.Route.tokensRef m c := fun c => by
    unfold Cert.RouterReferenceIdeal.Route.tokensOf
    rw [hresid, (hagree c).2.2.2.2.2.2.1]
    rfl
  refine ⟨fun c => Cert.RouterIdeal.Route.residRef m c, fun c => Cert.RouterIdeal.Route.tokensRef m c, fun _ _ => (0 : EReal), fun _ _ => (0 : EReal), ?_, ?_⟩
  · refine (θ_run Cert.RouterIdeal.defs _ _).mono ?_
      (θ_run_and (Cert.RouterIdeal.Gen.run_main m ρ) ((θ_run Cert.RouterIdeal.defs _ _).mono (fun _ h => h.1) (Cert.RouterIdeal.Gen.frame (F := Ideal) m ρ)))
    rintro r ⟨h, harg⟩ c
    refine ⟨fun i _ => congrFun (((h c).1 9).trans ?_) i, fun i _ => congrFun (((h c).1 10).trans ?_) i, fun i hi => (not_set hi).elim, fun i hi => (not_set hi).elim, harg c⟩
    · exact Cert.RouterIdeal.Route.final_resid m c
    · exact Cert.RouterIdeal.Route.final_tokens m c
  · refine (θ_run Cert.RouterReferenceIdeal.defs _ _).mono (fun _ h c => ⟨fun i _ => congrFun ((h c).1.trans ?_) i, fun i _ => congrFun ((h c).2.1.trans ?_) i,
        fun i hi => (not_set hi).elim, fun i hi => (not_set hi).elim, (h c).2.2.2.2⟩)
      (Cert.RouterReferenceIdeal.Value.run (F := Ideal) m' ρ')
    · exact hresid c
    · exact htokens c

end Cert.Proof

end
-- ==== Proof.RouterTop.lean ====
/- The two greatest of eight numbers, as two running maxima with their first places take them and as a stable sort does. -/
module

public import proofs.«01_k».proof.Proof.TileIdeal
public import Idealize.ShloMosaic.Lib.SortFacts

@[expose] public section

set_option maxRecDepth 16384

noncomputable section

namespace Cert.RouterIdeal.Route

open Idealize.ShloMosaic
open scoped BigOperators

/-- `a` is the first place of the greatest of eight numbers, `b` that of the greatest of the others. -/
structure Top (l : Fin 8 → EReal) (a b : Fin 8) : Prop where
  greatest : ∀ e, l e ≤ l a
  first : ∀ e, e < a → l e < l a
  ne : b ≠ a
  next : ∀ e, e ≠ a → l e ≤ l b
  firstNext : ∀ e, e < b → e ≠ a → l e < l b

theorem first_greatest (l : Fin 8 → EReal) (S : Finset (Fin 8)) (hS : S.Nonempty) :
    ∃ a ∈ S, (∀ e ∈ S, l e ≤ l a) ∧ ∀ e ∈ S, e < a → l e < l a := by
  obtain ⟨k, hk, hm⟩ := Finset.exists_max_image S l hS
  have hT : (S.filter fun e => l e = l k).Nonempty := ⟨k, Finset.mem_filter.mpr ⟨hk, rfl⟩⟩
  have ha := Finset.mem_filter.mp (Finset.min'_mem _ hT)
  refine ⟨_, ha.1, fun e he => (hm e he).trans_eq ha.2.symm, fun e he hlt => ?_⟩
  rw [ha.2]
  refine lt_of_le_of_ne (hm e he) fun h => ?_
  exact absurd (Finset.min'_le _ e (Finset.mem_filter.mpr ⟨he, h⟩)) (not_le.mpr hlt)

theorem exists_top (l : Fin 8 → EReal) : ∃ p : Fin 8 × Fin 8, Top l p.1 p.2 := by
  obtain ⟨a, _, h1, h2⟩ := first_greatest l Finset.univ Finset.univ_nonempty
  have hne : (Finset.univ.erase a).Nonempty := by
    refine Finset.card_pos.mp ?_
    rw [Finset.card_erase_of_mem (Finset.mem_univ a), Finset.card_univ, Fintype.card_fin]
    decide
  obtain ⟨b, hb, h3, h4⟩ := first_greatest l (Finset.univ.erase a) hne
  exact ⟨(a, b), fun e => h1 e (Finset.mem_univ _), fun e => h2 e (Finset.mem_univ _), (Finset.mem_erase.mp hb).1,
    fun e he => h3 e (Finset.mem_erase.mpr ⟨he, Finset.mem_univ _⟩), fun e hlt he => h4 e (Finset.mem_erase.mpr ⟨he, Finset.mem_univ _⟩) hlt⟩

/-! ## The running maxima -/

theorem fold_greatest (l : Fin 8 → EReal) (a : Fin 8) (h : ∀ e, l e ≤ l a) : Finset.univ.fold max ⊥ l = l a :=
  le_antisymm (Finset.fold_max_le (l a) |>.mpr ⟨bot_le, fun e _ => h e⟩) (Finset.le_fold_max (l a) |>.mpr (.inr ⟨a, Finset.mem_univ _, le_rfl⟩))

theorem fold_first' : ∀ (p : Fin 8 → Bool) (a : Fin 8), p a = true → (∀ e, e < a → p e = false) →
    Finset.univ.fold IntOp.minsi (2147483647#32) (fun e : Fin 8 => if p e = true then BitVec.ofNat 32 e.val else 8#32) = BitVec.ofNat 32 a.val := by
  decide +kernel

theorem fold_first (l : Fin 8 → EReal) (x : EReal) (a : Fin 8) (ha : l a = x) (h : ∀ e, e < a → l e ≠ x) :
    Finset.univ.fold IntOp.minsi (2147483647#32) (fun e : Fin 8 => if l e = x then BitVec.ofNat 32 e.val else 8#32) = BitVec.ofNat 32 a.val := by
  have := fold_first' (fun e => decide (l e = x)) a (decide_eq_true ha) fun e he => decide_eq_false (h e he)
  simpa only [decide_eq_true_eq] using this

namespace Top

variable {l : Fin 8 → EReal} {a b : Fin 8}

theorem fold_max (h : Top l a b) : Finset.univ.fold max ⊥ l = l a := fold_greatest l a h.greatest

theorem fold_place (h : Top l a b) :
    Finset.univ.fold IntOp.minsi (2147483647#32) (fun e : Fin 8 => if l e = l a then BitVec.ofNat 32 e.val else 8#32) = BitVec.ofNat 32 a.val :=
  fold_first l (l a) a rfl fun e he => (h.first e he).ne

theorem fold_max_next (h : Top l a b) : Finset.univ.fold max ⊥ (fun e => if e = a then ⊥ else l e) = l b := by
  refine (fold_greatest _ b fun e => ?_).trans (if_neg h.ne)
  rw [if_neg h.ne]
  split
  · exact bot_le
  · next he => exact h.next e he

theorem fold_place_next (h : Top l a b) (hb : l b ≠ ⊥) :
    Finset.univ.fold IntOp.minsi (2147483647#32) (fun e : Fin 8 => if (if e = a then ⊥ else l e) = l b then BitVec.ofNat 32 e.val else 8#32) = BitVec.ofNat 32 b.val := by
  refine fold_first (fun e => if e = a then ⊥ else l e) (l b) b (if_neg h.ne) fun e he => ?_
  split
  · exact hb.symm
  · next hea => exact (h.firstNext e he hea).ne

end Top

/-! ## The stable sort -/

/-- `a` sorts before `b`: it is greater, or it is equal and comes first. -/
def Before (l : Fin 8 → EReal) (a b : Fin 8) : Prop := l b < l a ∨ (l a = l b ∧ a < b)

theorem pairwise_insert (l : Fin 8 → EReal) (R : Fin 8 → Fin 8 → Bool) (hR : ∀ a b, R a b = true ↔ l b < l a) (a : Fin 8) (L : List (Fin 8))
    (hL : L.Pairwise (Before l)) (ha : ∀ b ∈ L, a < b) : (insertBefore R a L).Pairwise (Before l) := by
  induction L with
  | nil => exact List.pairwise_singleton _ _
  | cons b L ih =>
    rw [List.pairwise_cons] at hL
    unfold insertBefore
    split
    · next h =>
      refine List.pairwise_cons.mpr ⟨fun c hc => ?_, ih hL.2 fun c hc => ha c (List.mem_cons_of_mem _ hc)⟩
      rcases List.mem_cons.mp ((perm_insertBefore R a L).mem_iff.mp hc) with rfl | hc'
      · exact .inl ((hR _ _).mp h)
      · exact hL.1 c hc'
    · next h =>
      have hba : l b ≤ l a := not_lt.mp fun hlt => h ((hR _ _).mpr hlt)
      have key : ∀ c, c ∈ b :: L → l c ≤ l b → Before l a c := fun c hc hcb => by
        rcases lt_or_eq_of_le (hcb.trans hba) with h1 | h1
        · exact .inl h1
        · exact .inr ⟨h1.symm, ha c hc⟩
      refine List.pairwise_cons.mpr ⟨fun c hc => ?_, List.pairwise_cons.mpr hL⟩
      refine key c hc ?_
      rcases List.mem_cons.mp hc with rfl | hc'
      · exact le_rfl
      · rcases hL.1 c hc' with h1 | h1
        · exact h1.le
        · exact h1.1.ge

theorem pairwise_sort (l : Fin 8 → EReal) (R : Fin 8 → Fin 8 → Bool) (hR : ∀ a b, R a b = true ↔ l b < l a) (L : List (Fin 8))
    (hL : L.Pairwise (· < ·)) : (stableSort R L).Pairwise (Before l) := by
  induction L with
  | nil => exact List.Pairwise.nil
  | cons a L ih =>
    rw [List.pairwise_cons] at hL
    exact pairwise_insert l R hR a _ (ih hL.2) fun b hb => hL.1 b ((perm_stableSort R L).mem_iff.mp hb)

theorem sortedFrom_before (l : Fin 8 → EReal) (R : Fin 8 → Fin 8 → Bool) (hR : ∀ a b, R a b = true ↔ l b < l a) (i j : Fin 8) (hij : i < j) :
    Before l (sortedFrom R i) (sortedFrom R j) := by
  have hp : ∀ a b : Fin (sortPositions 8 R).length, a < b → Before l ((sortPositions 8 R).get a) ((sortPositions 8 R).get b) :=
    List.pairwise_iff_get.mp (pairwise_sort l R hR (List.finRange 8) (by decide +kernel))
  unfold sortedFrom
  exact hp _ _ (by simp only [Fin.lt_def, Fin.val_cast]; exact hij)

namespace Top

variable {l : Fin 8 → EReal} {a b : Fin 8}

theorem sorted_first (h : Top l a b) (R : Fin 8 → Fin 8 → Bool) (hR : ∀ a b, R a b = true ↔ l b < l a) : sortedFrom R 0 = a := by
  obtain ⟨j, hj⟩ := sortedFrom_surjective R a
  by_cases h0 : j = 0
  · rw [← h0]; exact hj
  · exfalso
    have hb := sortedFrom_before l R hR 0 j (Fin.pos_iff_ne_zero.mpr h0)
    rw [hj] at hb
    rcases hb with h1 | h1
    · exact absurd (h.greatest _) (not_le.mpr h1)
    · exact absurd h1.1 (h.first _ h1.2).ne

theorem sorted_next (h : Top l a b) (R : Fin 8 → Fin 8 → Bool) (hR : ∀ a b, R a b = true ↔ l b < l a) : sortedFrom R 1 = b := by
  obtain ⟨j, hj⟩ := sortedFrom_surjective R b
  have h0 := h.sorted_first R hR
  have hne : sortedFrom R 1 ≠ a := fun e => absurd (sortedFrom_injective R (e.trans h0.symm)) (by decide)
  have hj0 : j ≠ 0 := by
    rintro rfl
    exact h.ne (hj.symm.trans h0)
  by_cases h1 : j = 1
  · rw [← h1]; exact hj
  · exfalso
    have hb := sortedFrom_before l R hR 1 j (by
      have h2 : j.val ≠ 0 := fun e => hj0 (Fin.ext e)
      have h3 : j.val ≠ 1 := fun e => h1 (Fin.ext e)
      show 1 < j.val
      omega)
    rw [hj] at hb
    rcases hb with h2 | h2
    · exact absurd (h.next _ hne) (not_le.mpr h2)
    · exact absurd h2.1 (h.firstNext _ h2.2 hne).ne

end Top

end Cert.RouterIdeal.Route

end
-- ==== Proof.RouterPick.lean ====
/- A point's routing on the extended reals, from the two greatest logits of each of its rows. -/
module

public import proofs.«01_k».proof.Proof.RouterStep
public import proofs.«01_k».proof.Proof.RouterTop
public import proofs.«01_k».proof.Proof.RefIdeal
public import Idealize.ShloMosaic.Lib.Tactic.CleanTypes

@[expose] public section

set_option maxRecDepth 16384

noncomputable section

namespace Cert.RouterIdeal.Route

open Idealize.ShloMosaic
open Cert.KernelIdeal.Attn (Fin' fin'_coe)
open Cert.RouterIdeal Cert.RouterIdeal.Gen
open scoped BigOperators

/-! ## The logits -/

theorem sub_self_real {x : EReal} (h : Fin' x) : x - x = 0 := EReal.sub_self h.2 h.1

theorem pay9_apply (s g : FVec Ideal S512x1024 .f32) (w : FVec Ideal S8x1024 .f32) (e : Fin 8) (r : Fin 512) :
    k0_pay9 (F := Ideal) s g w (ix2 e r) = ∑ d : Fin 1024, w (ix2 e d) * (s (ix2 r d) * g (ix2 r d))
      + (∑ d : Fin 1024, w (ix2 e d) * (s (ix2 r d) * g (ix2 r d) - s (ix2 r d) * g (ix2 r d)) + ∑ d : Fin 1024, (w (ix2 e d) - w (ix2 e d)) * (s (ix2 r d) * g (ix2 r d))) := by
  pointwise [k0_pay9, k0_pay6]

/-- Of finite rows and weights the roundings' remainders vanish. -/
theorem pay9_real (s g : FVec Ideal S512x1024 .f32) (w : FVec Ideal S8x1024 .f32) (e : Fin 8) (r : Fin 512)
    (hh : ∀ d : Fin 1024, Fin' (s (ix2 r d) * g (ix2 r d))) (hw : ∀ d : Fin 1024, Fin' (w (ix2 e d))) :
    k0_pay9 (F := Ideal) s g w (ix2 e r) = ∑ d : Fin 1024, w (ix2 e d) * (s (ix2 r d) * g (ix2 r d)) := by
  rw [pay9_apply, Finset.sum_eq_zero (fun d _ => by rw [sub_self_real (hh d), mul_zero] : ∀ d ∈ (Finset.univ : Finset (Fin 1024)), w (ix2 e d) * (s (ix2 r d) * g (ix2 r d) - s (ix2 r d) * g (ix2 r d)) = 0),
    Finset.sum_eq_zero (fun d _ => by rw [sub_self_real (hw d), zero_mul] : ∀ d ∈ (Finset.univ : Finset (Fin 1024)), (w (ix2 e d) - w (ix2 e d)) * (s (ix2 r d) * g (ix2 r d)) = 0), add_zero, add_zero]

/-! ## A row's two experts -/

theorem neg_inf : Ideal.ofBits .f32 0xFF800000#32 = ⊥ := by simp [Ideal.ofBits, Ideal.ieee]

theorem word_eq : ∀ e a : Fin 8, IntOp.cmpi .eq (BitVec.ofNat 32 e.val) (BitVec.ofNat 32 a.val) = BitVec.ofBool (decide (e = a)) := by decide +kernel

theorem select_dec {α : Type} (p : Prop) [Decidable p] (x y : α) : Scalar.select (BitVec.ofBool (decide p)) x y = if p then x else y := by
  by_cases h : p
  · rw [decide_eq_true h, if_pos h]; rfl
  · rw [decide_eq_false h, if_neg h]; rfl

theorem ori_bool : ∀ p q : Bool, IntOp.ori (BitVec.ofBool p) (BitVec.ofBool q) = BitVec.ofBool (p || q) := by decide

variable {s g : FVec Ideal S512x1024 .f32} {w : FVec Ideal S8x1024 .f32} {r : Fin 512} {a b : Fin 8}

theorem pay10_top (h : Top (fun e => k0_pay9 (F := Ideal) s g w (ix2 e r)) a b) : k0_pay10 (F := Ideal) s g w (ix2 (0 : Fin 1) r) = k0_pay9 (F := Ideal) s g w (ix2 a r) := by
  refine Eq.trans ?_ h.fold_max
  pointwise [k0_pay10]
  rw [neg_inf]

theorem pay11_top (h : Top (fun e => k0_pay9 (F := Ideal) s g w (ix2 e r)) a b) : k0_pay11 (F := Ideal) s g w (ix2 (0 : Fin 1) r) = BitVec.ofNat 32 a.val := by
  refine Eq.trans ?_ h.fold_place
  pointwise [k0_pay11]
  rw [pay10_top h]

theorem pay12_top (h : Top (fun e => k0_pay9 (F := Ideal) s g w (ix2 e r)) a b) (e : Fin 8) : k0_pay12 (F := Ideal) s g w (ix2 e r) = BitVec.ofBool (decide (e = a)) := by
  refine Eq.trans ?_ (word_eq e a)
  pointwise [k0_pay12]
  rw [pay11_top h]

theorem pay13_top (h : Top (fun e => k0_pay9 (F := Ideal) s g w (ix2 e r)) a b) (e : Fin 8) : k0_pay13 (F := Ideal) s g w (ix2 e r) = if e = a then ⊥ else k0_pay9 (F := Ideal) s g w (ix2 e r) := by
  pointwise [k0_pay13]
  rw [pay12_top h, select_dec, neg_inf]

theorem pay14_top (h : Top (fun e => k0_pay9 (F := Ideal) s g w (ix2 e r)) a b) : k0_pay14 (F := Ideal) s g w (ix2 (0 : Fin 1) r) = k0_pay9 (F := Ideal) s g w (ix2 b r) := by
  refine Eq.trans ?_ h.fold_max_next
  pointwise [k0_pay14]
  simp only [pay13_top h, neg_inf]

theorem pay15_top (h : Top (fun e => k0_pay9 (F := Ideal) s g w (ix2 e r)) a b) (e : Fin 8) :
    k0_pay15 (F := Ideal) s g w (ix2 e r) = BitVec.ofBool (decide ((if e = a then ⊥ else k0_pay9 (F := Ideal) s g w (ix2 e r)) = k0_pay9 (F := Ideal) s g w (ix2 b r))) := by
  pointwise [k0_pay15]
  rw [pay13_top h, pay14_top h]

theorem pay17_top (h : Top (fun e => k0_pay9 (F := Ideal) s g w (ix2 e r)) a b) (hb : k0_pay9 (F := Ideal) s g w (ix2 b r) ≠ ⊥) :
    k0_pay17 experts (k0_pay15 (F := Ideal) s g w) k0_pay16 (ix2 (0 : Fin 1) r) = BitVec.ofNat 32 b.val := by
  refine Eq.trans ?_ (h.fold_place_next hb)
  pointwise [k0_pay17, experts, k0_pay16]
  simp only [pay15_top h, select_dec]

theorem pay18_top (h : Top (fun e => k0_pay9 (F := Ideal) s g w (ix2 e r)) a b) (hb : k0_pay9 (F := Ideal) s g w (ix2 b r) ≠ ⊥) (e : Fin 8) :
    k0_pay18 experts (k0_pay15 (F := Ideal) s g w) k0_pay16 (ix2 e r) = BitVec.ofBool (decide (e = b)) := by
  refine Eq.trans ?_ (word_eq e b)
  pointwise [k0_pay18]
  rw [pay17_top h hb]
  pointwise [experts]

/-- Whether an expert is one of two, as a number. -/
def hit (a b e : Fin 8) : EReal := if e = a ∨ e = b then 1 else 0

theorem pay19_top (h : Top (fun e => k0_pay9 (F := Ideal) s g w (ix2 e r)) a b) (hb : k0_pay9 (F := Ideal) s g w (ix2 b r) ≠ ⊥) (e : Fin 8) :
    k0_pay19 (F := Ideal) experts (k0_pay12 (F := Ideal) s g w) (k0_pay15 (F := Ideal) s g w) k0_pay16 (ix2 e r) = hit a b e := by
  pointwise [k0_pay19]
  rw [pay12_top h, pay18_top h hb, ori_bool, ← Bool.decide_or, select_dec]
  rfl

/-! ## The point's routing -/

theorem slt_word (x r : Fin 512) : IntOp.cmpi .slt (BitVec.ofNat 32 x.val) (BitVec.ofNat 32 r.val) = BitVec.ofBool (decide (x < r)) := by
  have hx := x.isLt
  have hr := r.isLt
  show BitVec.ofBool (BitVec.slt _ _) = _
  rw [BitVec.slt_eq_decide, BitVec.toInt_ofNat', BitVec.toInt_ofNat']
  refine congrArg BitVec.ofBool (decide_eq_decide.mpr ?_)
  rw [Fin.lt_def, Int.bmod_eq_of_le (by omega) (by omega), Int.bmod_eq_of_le (by omega) (by omega)]
  omega

/-- A token's column: its experts, its places among their tokens, its gates, from its two greatest logits, and two zeros. -/
def column (a b : Fin 8) (pa pb la lb : EReal) : Fin 8 → EReal :=
  ![FloatOps.sitofp (F := Ideal) .f32 (BitVec.ofNat 32 a.val), FloatOps.sitofp (F := Ideal) .f32 (BitVec.ofNat 32 b.val), pa, pb,
    Ideal.div 1 (1 + Ideal.exp (lb - la)), Ideal.div (Ideal.exp (lb - la)) (1 + Ideal.exp (lb - la)), 0, 0]

theorem sum_at (a : Fin 8) (f : Fin 8 → EReal) : ∑ e : Fin 8, (if e = a then f e else 0) = f a := by
  rw [Finset.sum_ite_eq' Finset.univ a f, if_pos (Finset.mem_univ _)]

set_option maxHeartbeats 4000000 in
theorem pay20_top (n : FVec Ideal S8x1 .f32) (A B : Fin 512 → Fin 8)
    (h : ∀ x, Top (fun e => k0_pay9 (F := Ideal) s g w (ix2 e x)) (A x) (B x)) (hb : ∀ x, k0_pay9 (F := Ideal) s g w (ix2 (B x) x) ≠ ⊥) (k : Fin 8) (r : Fin 512) :
    k0_pay20 (F := Ideal) experts (k0_pay10 (F := Ideal) s g w) (k0_pay11 (F := Ideal) s g w) (k0_pay12 (F := Ideal) s g w) (k0_pay14 (F := Ideal) s g w) (k0_pay15 (F := Ideal) s g w) k0_pay16 n (ix2 k r)
      = column (A r) (B r) (∑ x, (if x < r then hit (A x) (B x) (A r) else 0) + n (ix2 (A r) (0 : Fin 1))) (∑ x, (if x < r then hit (A x) (B x) (B r) else 0) + n (ix2 (B r) (0 : Fin 1)))
          (k0_pay9 (F := Ideal) s g w (ix2 (A r) r)) (k0_pay9 (F := Ideal) s g w (ix2 (B r) r)) k := by
  have h19 : ∀ e x, k0_pay19 (F := Ideal) experts (k0_pay12 (F := Ideal) s g w) (k0_pay15 (F := Ideal) s g w) k0_pay16 (ix2 e x) = hit (A x) (B x) e := fun e x => pay19_top (h x) (hb x) e
  have h18 : ∀ e, k0_pay18 experts (k0_pay15 (F := Ideal) s g w) k0_pay16 (ix2 e r) = BitVec.ofBool (decide (e = B r)) := fun e => pay18_top (h r) (hb r) e
  have h12 : ∀ e, k0_pay12 (F := Ideal) s g w (ix2 e r) = BitVec.ofBool (decide (e = A r)) := fun e => pay12_top (h r) e
  fin_cases k
  · refine Eq.trans ?_ (congrArg (FloatOps.sitofp (F := Ideal) .f32) (pay11_top (h r)))
    pointwise [k0_pay20]
  · refine Eq.trans ?_ (congrArg (FloatOps.sitofp (F := Ideal) .f32) (pay17_top (h r) (hb r)))
    pointwise [k0_pay20]
  · refine Eq.trans ?_ (sum_at (A r) fun e => ∑ x, (if x < r then hit (A x) (B x) e else 0) + n (ix2 e (0 : Fin 1)))
    pointwise [k0_pay20]
    simp only [h12, h19, slt_word, select_dec]
  · refine Eq.trans ?_ (sum_at (B r) fun e => ∑ x, (if x < r then hit (A x) (B x) e else 0) + n (ix2 e (0 : Fin 1)))
    pointwise [k0_pay20]
    simp only [h18, h19, slt_word, select_dec]
  · refine Eq.trans (b := Ideal.div 1 (1 + Ideal.exp (k0_pay9 (F := Ideal) s g w (ix2 (B r) r) - k0_pay9 (F := Ideal) s g w (ix2 (A r) r)))) ?_ rfl
    rw [← pay14_top (h r), ← pay10_top (h r)]
    pointwise [k0_pay20]
  · refine Eq.trans (b := Ideal.div (Ideal.exp (k0_pay9 (F := Ideal) s g w (ix2 (B r) r) - k0_pay9 (F := Ideal) s g w (ix2 (A r) r))) (1 + Ideal.exp (k0_pay9 (F := Ideal) s g w (ix2 (B r) r) - k0_pay9 (F := Ideal) s g w (ix2 (A r) r)))) ?_ rfl
    rw [← pay14_top (h r), ← pay10_top (h r)]
    pointwise [k0_pay20]
  · refine Eq.trans (b := (0 : EReal)) ?_ rfl
    pointwise [k0_pay20]
  · refine Eq.trans (b := (0 : EReal)) ?_ rfl
    pointwise [k0_pay20]

/-- The counts a point leaves. -/
theorem pay1_apply (p : FVec Ideal S8x512 .f32) (n : FVec Ideal S8x128 .f32) (e : Fin 8) (l : Fin 128) :
    k0_pay1 (F := Ideal) p n (ix2 e l) = n (ix2 e l) + ∑ x : Fin 512, p (ix2 e x) := by
  pointwise [k0_pay1]

theorem pay2_apply (p : FVec Ideal S8x512 .f32) (n : FVec Ideal S8x128 .f32) (e : Fin 8) (l : Fin 128) :
    k0_pay2 (F := Ideal) p n (ix2 e l) = n (ix2 e l) + ∑ x : Fin 512, p (ix2 e x) := by
  refine Eq.trans ?_ (pay1_apply p n e l)
  pointwise [k0_pay2]

theorem pay8_apply (e : Fin 8) (l : Fin 128) : k0_pay8 (F := Ideal) (ix2 e l) = 0 := by
  pointwise [k0_pay8]

end Cert.RouterIdeal.Route

end
-- ==== Proof.RouterRank.lean ====
/- The router's reference from its logits on, read at an index on the extended reals. -/
module

public import proofs.«01_k».proof.Proof.RouterPick
public import proofs.«01_k».proof.Proof.RouterRef
public import Idealize.ShloMosaic.Lib.Routing.OpsOne
public import Idealize.ShloMosaic.Lib.Tactic.CleanTypes

@[expose] public section

set_option maxRecDepth 16384

noncomputable section

namespace Cert.RouterReferenceIdeal.Route

open Idealize.ShloMosaic
open Cert.KernelIdeal.Attn (Fin' fin'_coe)
open Cert.RouterIdeal.Route (Top hit column)
open Cert.RouterReferenceIdeal Cert.RouterReferenceIdeal.Gen Cert.RouterReferenceIdeal.Value
open scoped BigOperators

/-- The logits, -/
def logits (h : FVec Ideal S81920x1024 .f32) (w : FVec Ideal S1024x8 .f32) : FVec Ideal S81920x8 .f32 :=
  Host.dotGeneral dot_S81920x1024_S1024x8_S81920x8_1_0_0_1_n_n none h w
/-- the two greatest of each row, -/
def values (l : FVec Ideal S81920x8 .f32) : FVec Ideal S81920x2 .f32 := (Host.topK S81920x2 1 (FloatOps.cmpfTotal .gt) l sliceFits_S81920x8_S81920x2).1
/-- their places, -/
def indices (l : FVec Ideal S81920x8 .f32) : IVec S81920x2 32 := (Host.topK S81920x2 1 (FloatOps.cmpfTotal .gt) l sliceFits_S81920x8_S81920x2).2
/-- the two gates, -/
def weights (v : FVec Ideal S81920x2 .f32) : FVec Ideal S81920x2 .f32 :=
  Host.exp (subf v (broadcastInDim S81920x2 ![0, 1] bcast_S81920x1_S81920x2_0_1 (broadcastInDim S81920x1 ![0] bcast_S81920_S81920x1_0 (maximumf (broadcastInDim S81920 ![] bcast_S_S81920 (constant S_ .f32 0xFF800000#32)) (Host.reduce FloatOps.maximumf v (constant S_ .f32 0xFF800000#32) reducesTo_S81920x2_S81920_d1 h_S_)))))
def gates (e : FVec Ideal S81920x2 .f32) : FVec Ideal S81920x2 .f32 :=
  Host.divf e (broadcastInDim S81920x2 ![0, 1] bcast_S81920x1_S81920x2_0_1 (broadcastInDim S81920x1 ![0] bcast_S81920_S81920x1_0 (Host.reduceAdd e (constant S_ .f32 0x00000000#32) reducesTo_S81920x2_S81920_d1 h_S_)))
/-- which expert each choice is, -/
def chosen (i : IVec S81920x2 32) : FVec Ideal S81920x2x8 .f32 :=
  uitofp .f32 (cmpi .eq (broadcastInDim S81920x2x8 ![0, 1, 2] bcast_S81920x2x1_S81920x2x8_0_1_2 (broadcastInDim S81920x2x1 ![0, 1] bcast_S81920x2_S81920x2x1_0_1 i))
    (broadcastInDim S81920x2x8 ![0, 1, 2] bcast_S1x1x8_S81920x2x8_0_1_2 (iotaInDim S1x1x8 32 2)))
/-- which experts each token picks, -/
def picks (c : FVec Ideal S81920x2x8 .f32) : FVec Ideal S81920x8 .f32 := Host.reduceAdd c (constant S_ .f32 0x00000000#32) reducesTo_S81920x2x8_S81920x8_d1 h_S_
/-- how many tokens have picked an expert so far, -/
def running (p : FVec Ideal S81920x8 .f32) : FVec Ideal S81920x8 .f32 :=
  Host.reduceWindowAdd ![81920, 1] ![1, 1] ![81919, 0] ![0, 0] p (broadcastInDim S_ ![] bcast_S_S_ (constant S_ .f32 0x00000000#32)) reduceWindows_S81920x8_S81920x8_w81920s1p81919_0_w1s1p0_0 h_S_
/-- the places of its choices, -/
def places (c : FVec Ideal S81920x2x8 .f32) (b : FVec Ideal S81920x8 .f32) : FVec Ideal S81920x2 .f32 :=
  Host.reduceAdd (mulf c (broadcastInDim S81920x2x8 ![0, 1, 2] bcast_S81920x1x8_S81920x2x8_0_1_2 (broadcastInDim S81920x1x8 ![0, 2] bcast_S81920x8_S81920x1x8_0_2 b))) (constant S_ .f32 0x00000000#32) reducesTo_S81920x2x8_S81920x2_d2 h_S_
/-- and all of it in columns. -/
def columns (i : IVec S81920x2 32) (p g : FVec Ideal S81920x2 .f32) : FVec Ideal S8x81920 .f32 :=
  transpose S8x81920 [1, 0] (concatenate S81920x8 1 [⟨S81920x2, sitofp (F := Ideal) .f32 i⟩, ⟨S81920x2, p⟩, ⟨S81920x2, g⟩, ⟨S81920x2, broadcastInDim S81920x2 ![] bcast_S_S81920x2 (constant S_ .f32 0x00000000#32)⟩] concatenates_S81920x2_S81920x2_S81920x2_S81920x2_S81920x8_d1) transposes_S81920x8_S8x81920_1_0
/-- The experts' numbers of tokens. -/
def counts (p : FVec Ideal S81920x8 .f32) : FVec Ideal S8x128 .f32 :=
  broadcastInDim S8x128 ![0, 1] bcast_S8x1_S8x128_0_1 (broadcastInDim S8x1 ![0] bcast_S8_S8x1_0 (Host.reduceAdd p (constant S_ .f32 0x00000000#32) reducesTo_S81920x8_S8_d0 h_S_))

/-- The routing of the logits, -/
def routing (l : FVec Ideal S81920x8 .f32) : FVec Ideal S8x81920 .f32 :=
  columns (indices l) (places (chosen (indices l)) (subf (running (picks (chosen (indices l)))) (picks (chosen (indices l))))) (gates (weights (values l)))
/-- and the counts. -/
def numbers (l : FVec Ideal S81920x8 .f32) : FVec Ideal S8x128 .f32 := counts (picks (chosen (indices l)))

variable (m : (ℓ : Loc nD τ sig) → Buf (Elt Ideal) ℓ)

def logitsOf (c : Dev nD) : FVec Ideal S81920x8 .f32 := logits (tokensOf m c) (m ((c.tc : Thread nD τ).loc main_arg7))

theorem res_routing (c : Dev nD) : res_out2 m c = routing (logitsOf m c) := rfl

/-! ## Read at an index -/

theorem logits_apply (h : FVec Ideal S81920x1024 .f32) (w : FVec Ideal S1024x8 .f32) (n : Fin 81920) (e : Fin 8) :
    logits h w (ix2 n e) = ∑ d : Fin 1024, h (ix2 n d) * w (ix2 d e) := by
  pointwise [logits]

theorem uitofp_dec (p : Prop) [Decidable p] : FloatOps.uitofp (F := Ideal) .f32 (BitVec.ofBool (decide p)) = if p then 1 else 0 := by
  by_cases h : p
  · rw [decide_eq_true h, if_pos h]
    show (((1 : ℕ) : ℝ) : EReal) = 1
    simp
  · rw [decide_eq_false h, if_neg h]
    show (((0 : ℕ) : ℝ) : EReal) = 0
    simp

theorem chosen_apply (i : IVec S81920x2 32) (n : Fin 81920) (j : Fin 2) (a e : Fin 8) (h : i (ix2 n j) = BitVec.ofNat 32 a.val) :
    chosen i (ix3 n j e) = if e = a then 1 else 0 := by
  pointwise [chosen]
  rw [h, Cert.RouterIdeal.Route.word_eq, uitofp_dec]
  exact if_congr ⟨Eq.symm, Eq.symm⟩ rfl rfl

theorem picks_apply (c : FVec Ideal S81920x2x8 .f32) (n : Fin 81920) (e : Fin 8) :
    picks c (ix2 n e) = ∑ j : Fin 2, c (ix3 n j e) := by
  pointwise [picks]

theorem places_apply (c : FVec Ideal S81920x2x8 .f32) (b : FVec Ideal S81920x8 .f32) (n : Fin 81920) (j : Fin 2) :
    places c b (ix2 n j) = ∑ e : Fin 8, c (ix3 n j e) * b (ix2 n e) := by
  pointwise [places]

theorem weights_apply (v : FVec Ideal S81920x2 .f32) (n : Fin 81920) (j : Fin 2) (h : v (ix2 n (1 : Fin 2)) ≤ v (ix2 n (0 : Fin 2))) :
    weights v (ix2 n j) = Ideal.exp (v (ix2 n j) - v (ix2 n (0 : Fin 2))) := by
  pointwise [weights]
  refine congrArg (fun x => Ideal.exp (v (ix2 n j) - x)) ?_
  rw [Cert.RouterIdeal.Route.neg_inf, max_eq_right bot_le]
  refine le_antisymm (Finset.fold_max_le _ |>.mpr ⟨bot_le, fun x _ => ?_⟩) (Finset.le_fold_max _ |>.mpr (.inr ⟨0, Finset.mem_univ _, le_rfl⟩))
  fin_cases x
  · exact le_rfl
  · exact h

theorem gates_apply (e : FVec Ideal S81920x2 .f32) (n : Fin 81920) (j : Fin 2) :
    gates e (ix2 n j) = Ideal.div (e (ix2 n j)) (∑ k : Fin 2, e (ix2 n k)) := by
  pointwise [gates]

theorem counts_apply (p : FVec Ideal S81920x8 .f32) (e : Fin 8) (l : Fin 128) :
    counts p (ix2 e l) = ∑ n : Fin 81920, p (ix2 n e) := by
  pointwise [counts]

theorem columns_apply (i : IVec S81920x2 32) (p g : FVec Ideal S81920x2 .f32) (n : Fin 81920) (k : Fin 8) :
    columns i p g (ix2 k n) = ![FloatOps.sitofp (F := Ideal) .f32 (i (ix2 n (0 : Fin 2))), FloatOps.sitofp (F := Ideal) .f32 (i (ix2 n (1 : Fin 2))), p (ix2 n (0 : Fin 2)), p (ix2 n (1 : Fin 2)), g (ix2 n (0 : Fin 2)), g (ix2 n (1 : Fin 2)), 0, 0] k := by
  fin_cases k <;> pointwise [columns]

/-! ## The sort -/

theorem along_eq (n : Fin 81920) (k c : Fin 8) (h1 : 1 < S81920x8.rank) : (ix2 n k : S81920x8.Idx).along (⟨1, h1⟩ : Fin S81920x8.rank) c = ix2 n c := by
  funext d
  fin_cases d
  · exact Function.update_of_ne (fun hh => Nat.zero_ne_one (congrArg Fin.val hh)) _ _
  · exact Function.update_self _ _ _

theorem sort_values {β : Type} (l : S81920x8.Idx → EReal) (y : S81920x8.Idx → β) (n : Fin 81920) (k : Fin 8) :
    (Host.sort2 S81920x8 1 (fun l r => FloatOps.cmpfTotal (F := Ideal) (φ := .f32) .gt l.1 r.1) l y).1 (ix2 n k)
        = l (ix2 n (sortedFrom (fun a b : Fin 8 => BitVec.ofBool (decide (l (ix2 n b) < l (ix2 n a))) == 1#1) k))
      ∧ (Host.sort2 S81920x8 1 (fun l r => FloatOps.cmpfTotal (F := Ideal) (φ := .f32) .gt l.1 r.1) l y).2 (ix2 n k)
        = y (ix2 n (sortedFrom (fun a b : Fin 8 => BitVec.ofBool (decide (l (ix2 n b) < l (ix2 n a))) == 1#1) k)) := by
  have h1 : 1 < S81920x8.rank := by decide
  have hR : (fun a b : Fin 8 => FloatOps.cmpfTotal (F := Ideal) (φ := .f32) .gt (l ((ix2 n k : S81920x8.Idx).along (⟨1, h1⟩ : Fin S81920x8.rank) a)) (l ((ix2 n k : S81920x8.Idx).along (⟨1, h1⟩ : Fin S81920x8.rank) b)) == 1#1)
      = fun a b : Fin 8 => BitVec.ofBool (decide (l (ix2 n b) < l (ix2 n a))) == 1#1 := by
    funext a b
    rw [along_eq, along_eq]
    rfl
  unfold Host.sort2
  rw [dif_pos h1]
  constructor
  · refine (congrArg l (along_eq n k _ h1)).trans ?_
    exact congrArg (fun R => l (ix2 n (sortedFrom R k))) hR
  · refine (congrArg y (along_eq n k _ h1)).trans ?_
    exact congrArg (fun R => y (ix2 n (sortedFrom R k))) hR

theorem greater_iff (l : Fin 8 → EReal) (a b : Fin 8) : (BitVec.ofBool (decide (l b < l a)) == 1#1) = true ↔ l b < l a := by
  by_cases h : l b < l a
  · simp [h]
  · simp [h]

section
variable (l : FVec Ideal S81920x8 .f32) (n : Fin 81920) (a b : Fin 8) (h : Top (fun e => l (ix2 n e)) a b)
include h

theorem values_first : values l (ix2 n (0 : Fin 2)) = l (ix2 n a) := by
  unfold values Host.topK
  pointwise []
  refine (sort_values l _ n 0).1.trans (congrArg (fun x => l (ix2 n x)) ?_)
  exact h.sorted_first _ (greater_iff fun e => l (ix2 n e))

theorem values_next : values l (ix2 n (1 : Fin 2)) = l (ix2 n b) := by
  unfold values Host.topK
  pointwise []
  refine (sort_values l _ n 1).1.trans (congrArg (fun x => l (ix2 n x)) ?_)
  exact h.sorted_next _ (greater_iff fun e => l (ix2 n e))

theorem indices_first : indices l (ix2 n (0 : Fin 2)) = BitVec.ofNat 32 a.val := by
  unfold indices Host.topK
  pointwise []
  refine (sort_values l _ n 0).2.trans (congrArg (fun x : Fin 8 => BitVec.ofNat 32 x.val) ?_)
  exact h.sorted_first _ (greater_iff fun e => l (ix2 n e))

theorem indices_next : indices l (ix2 n (1 : Fin 2)) = BitVec.ofNat 32 b.val := by
  unfold indices Host.topK
  pointwise []
  refine (sort_values l _ n 1).2.trans (congrArg (fun x : Fin 8 => BitVec.ofNat 32 x.val) ?_)
  exact h.sorted_next _ (greater_iff fun e => l (ix2 n e))

theorem picked_apply (e : Fin 8) : picks (chosen (indices l)) (ix2 n e) = hit a b e := by
  rw [picks_apply, Fin.sum_univ_two, chosen_apply _ n 0 a e (indices_first l n a b h), chosen_apply _ n 1 b e (indices_next l n a b h)]
  unfold hit
  have hne := h.ne
  by_cases h1 : e = a
  · rw [if_pos h1, if_neg fun h2 : e = b => hne (h2.symm.trans h1), if_pos (show e = a ∨ e = b from .inl h1), add_zero]
  · by_cases h2 : e = b
    · rw [if_neg h1, if_pos h2, if_pos (show e = a ∨ e = b from .inr h2), zero_add]
    · rw [if_neg h1, if_neg h2, if_neg fun h3 : e = a ∨ e = b => h3.elim h1 h2, add_zero]

theorem gates_first (hr : Fin' (l (ix2 n a))) :
    gates (weights (values l)) (ix2 n (0 : Fin 2)) = Ideal.div 1 (1 + Ideal.exp (l (ix2 n b) - l (ix2 n a))) ∧
    gates (weights (values l)) (ix2 n (1 : Fin 2)) = Ideal.div (Ideal.exp (l (ix2 n b) - l (ix2 n a))) (1 + Ideal.exp (l (ix2 n b) - l (ix2 n a))) := by
  have h0 := values_first l n a b h
  have h1 := values_next l n a b h
  have hle : values l (ix2 n (1 : Fin 2)) ≤ values l (ix2 n (0 : Fin 2)) := by rw [h0, h1]; exact h.greatest b
  have he : Ideal.exp 0 = 1 := by
    show ((Real.exp 0 : ℝ) : EReal) = 1
    rw [Real.exp_zero, EReal.coe_one]
  rw [gates_apply, gates_apply, Fin.sum_univ_two, weights_apply _ n 0 hle, weights_apply _ n 1 hle, h0, h1, Cert.RouterIdeal.Route.sub_self_real hr, he]
  exact ⟨rfl, rfl⟩

end

/-! ## The running sum -/

theorem foldl_add {ι : Type} (f : ι → EReal) (L : List ι) (z : EReal) : L.foldl (fun r k => r + f k) z = z + (L.map f).sum := by
  induction L generalizing z with
  | nil => simp
  | cons a L ih => rw [List.foldl_cons, ih, List.map_cons, List.sum_cons, add_assoc]

/-- A column's entries by their numbers. -/
def entry {R C : ℕ} (p : FVec Ideal (Routing.shape2 R C) .f32) (e : Fin C) (i : ℕ) : EReal := if h : i < R then p (ix2 ⟨i, h⟩ e) else 0

theorem sum_padded (P : ℕ → EReal) (q j : ℕ) (hj : j ≤ q) :
    ∑ w ∈ Finset.range (q + 1), (if q ≤ j + w then P (j + w - q) else 0) = ∑ i ∈ Finset.range (j + 1), P i := by
  obtain ⟨d, rfl⟩ : ∃ d, q = d + j := ⟨q - j, by omega⟩
  rw [Nat.add_assoc, Finset.sum_range_add, Finset.sum_eq_zero, zero_add]
  · refine Finset.sum_congr rfl fun x hx => ?_
    rw [if_pos (by omega)]
    exact congrArg P (by omega)
  · intro x hx
    have := Finset.mem_range.mp hx
    exact if_neg (by omega)

/-- A running sum down the rows, printed as a window of the whole height, padded above. -/
theorem running_rows {q C : ℕ} (p : FVec Ideal (Routing.shape2 (q + 1) C) .f32) (init : FVec Ideal Routing.shape0 .f32) (hinit : init ix0 = (0 : EReal))
    (h : (Routing.shape2 (q + 1) C).ReduceWindows (![q + 1, 1] : Fin 2 → Nat) ![1, 1] ![q, 0] ![0, 0] (Routing.shape2 (q + 1) C)) (hu : 0 < Routing.shape0.numel)
    (n : Fin (q + 1)) (e : Fin C) :
    Host.reduceWindowAdd ![q + 1, 1] ![1, 1] ![q, 0] ![0, 0] p init h hu (ix2 n e) = ∑ i ∈ Finset.range (n.val + 1), entry p e i := by
  have hn := n.isLt
  have he := e.isLt
  have hv : init (Shape.Idx.first hu) = (0 : EReal) := (congrArg init (funext fun a => a.elim0)).trans hinit
  refine Eq.trans ?_ (sum_padded (entry p e) q n.val (by omega))
  refine Eq.trans (b := (List.finRange (Routing.shape2 (q + 1) 1).numel).foldl (fun r k => r + (fun w : ℕ => if q ≤ n.val + w then entry p e (n.val + w - q) else 0) k.val) (0 : EReal)) ?_ ?_
  · show Host.reduceWindow (fun a b : EReal => a + b) ![q + 1, 1] ![1, 1] ![q, 0] ![0, 0] p (fun _ => init (Shape.Idx.first hu)) h hu (ix2 n e) = _
    unfold Host.reduceWindow
    refine congrArg₂ (fun f z => List.foldl f z _) (funext fun r => funext fun k => congrArg (r + ·) ?_) hv
    have hw0 : ((Routing.shape2 (q + 1) 1).rowMajor.symm k 0).val = k.val := by rw [Routing.symm_col]; rfl
    have hw1 : ((Routing.shape2 (q + 1) 1).rowMajor.symm k 1).val = 0 := by rw [Routing.symm_col]; rfl
    have hk : k.val < q + 1 := (k.cast (Routing.numel_col _)).isLt
    dsimp only
    split
    · next hin =>
      have h0 := hin 0
      change q ≤ n.val * 1 + ((Routing.shape2 (q + 1) 1).rowMajor.symm k 0).val
        ∧ n.val * 1 + ((Routing.shape2 (q + 1) 1).rowMajor.symm k 0).val - q < q + 1 at h0
      rw [hw0] at h0
      rw [if_pos (by omega)]
      unfold entry
      rw [dif_pos (by omega)]
      refine congrArg p (funext fun a => Fin.ext ?_)
      match a with
      | ⟨0, _⟩ =>
        show n.val * 1 + ((Routing.shape2 (q + 1) 1).rowMajor.symm k 0).val - q = n.val + k.val - q
        rw [hw0, Nat.mul_one]
      | ⟨1, _⟩ =>
        show e.val * 1 + ((Routing.shape2 (q + 1) 1).rowMajor.symm k 1).val - 0 = e.val
        rw [hw1]
        omega
    · next hin =>
      rw [if_neg fun hle => hin fun a => by
        match a with
        | ⟨0, _⟩ =>
          show q ≤ n.val * 1 + ((Routing.shape2 (q + 1) 1).rowMajor.symm k 0).val
            ∧ n.val * 1 + ((Routing.shape2 (q + 1) 1).rowMajor.symm k 0).val - q < q + 1
          rw [hw0]
          omega
        | ⟨1, _⟩ =>
          show 0 ≤ e.val * 1 + ((Routing.shape2 (q + 1) 1).rowMajor.symm k 1).val ∧ e.val * 1 + ((Routing.shape2 (q + 1) 1).rowMajor.symm k 1).val - 0 < C
          rw [hw1]
          omega]
      exact hv
  · rw [foldl_add, zero_add, ← Fin.sum_univ_def, Fin.sum_univ_eq_sum_range (fun w : ℕ => if q ≤ n.val + w then entry p e (n.val + w - q) else 0), Routing.numel_col]

theorem running_apply (p : FVec Ideal S81920x8 .f32) (n : Fin 81920) (e : Fin 8) :
    running p (ix2 n e) = ∑ i ∈ Finset.range (n.val + 1), entry (R := 81920) (C := 8) p e i := by
  unfold running
  exact running_rows (q := 81919) p _ (by simp [Ideal.ofBits, Ideal.ieee, broadcastInDim, constant]) _ _ n e

/-! ## The routing of given choices -/

theorem hit_real (a b e : Fin 8) : Fin' (hit a b e) := by
  unfold hit
  split
  · exact fin'_coe 1
  · exact fin'_coe 0

/-- Whether the token numbered `i` picks the expert `e`, -/
def mark (A B : Fin 81920 → Fin 8) (e : Fin 8) (i : ℕ) : EReal := if h : i < 81920 then hit (A ⟨i, h⟩) (B ⟨i, h⟩) e else 0
/-- and how many of the tokens before it do. -/
def before (A B : Fin 81920 → Fin 8) (e : Fin 8) (i : ℕ) : EReal := ∑ j ∈ Finset.range i, mark A B e j

theorem mark_eq (A B : Fin 81920 → Fin 8) (e : Fin 8) (n : Fin 81920) : mark A B e n.val = hit (A n) (B n) e := by
  unfold mark
  rw [dif_pos n.isLt]

section
variable (l : FVec Ideal S81920x8 .f32) (A B : Fin 81920 → Fin 8) (h : ∀ n, Top (fun e => l (ix2 n e)) (A n) (B n))
include h

theorem earlier_apply (n : Fin 81920) (e : Fin 8) :
    subf (running (picks (chosen (indices l)))) (picks (chosen (indices l))) (ix2 n e) = before A B e n.val := by
  have hm : ∀ i, entry (R := 81920) (C := 8) (picks (chosen (indices l))) e i = mark A B e i := fun i => by
    unfold entry mark
    split
    · next hi => exact picked_apply l ⟨i, hi⟩ _ _ (h _) e
    · rfl
  show running (picks (chosen (indices l))) (ix2 n e) - picks (chosen (indices l)) (ix2 n e) = _
  rw [running_apply, Finset.sum_congr rfl fun i _ => hm i, Finset.sum_range_succ, picked_apply l n _ _ (h n) e]
  obtain ⟨x, hx⟩ := (hit_real (A n) (B n) e).exists
  rw [mark_eq, hx, EReal.add_sub_cancel_right]
  rfl

theorem place_apply (n : Fin 81920) (j : Fin 2) (a : Fin 8) (ha : indices l (ix2 n j) = BitVec.ofNat 32 a.val) :
    places (chosen (indices l)) (subf (running (picks (chosen (indices l)))) (picks (chosen (indices l)))) (ix2 n j) = before A B a n.val := by
  rw [places_apply]
  refine (Finset.sum_congr rfl fun e _ => ?_).trans (Cert.RouterIdeal.Route.sum_at a fun e => before A B e n.val)
  rw [chosen_apply _ n j a e ha, earlier_apply l A B h]
  split
  · exact one_mul _
  · exact zero_mul _

theorem routing_apply (hr : ∀ n e, Fin' (l (ix2 n e))) (n : Fin 81920) (k : Fin 8) :
    routing l (ix2 k n) = column (A n) (B n) (before A B (A n) n.val) (before A B (B n) n.val) (l (ix2 n (A n))) (l (ix2 n (B n))) k := by
  unfold routing
  rw [columns_apply, indices_first l n _ _ (h n), indices_next l n _ _ (h n), (gates_first l n _ _ (h n) (hr n _)).1, (gates_first l n _ _ (h n) (hr n _)).2,
    place_apply l A B h n 0 (A n) (indices_first l n _ _ (h n)), place_apply l A B h n 1 (B n) (indices_next l n _ _ (h n))]
  rfl

theorem numbers_apply (e : Fin 8) (j : Fin 128) : numbers l (ix2 e j) = before A B e 81920 := by
  unfold numbers before
  rw [counts_apply, ← Fin.sum_univ_eq_sum_range (mark A B e) 81920]
  refine Finset.sum_congr rfl fun n _ => (picked_apply l n _ _ (h n) e).trans ?_
  exact (mark_eq A B e n).symm

end

end Cert.RouterReferenceIdeal.Route

end
-- ==== Proof.RouterReal.lean ====
/- The router's precondition read, every operand is finite, and the reals it makes of the residual, its norm and the logits. -/
module

public import proofs.«01_k».proof.Proof.RouterRank
public import proofs.«01_k».proof.Proof.RouterValue
public import proofs.«01_k».proof.Pre_real
public import Idealize.ShloMosaic.Lib.ReduceAll

@[expose] public section

set_option maxRecDepth 16384

noncomputable section

namespace Cert.Pre_real

open Idealize.ShloMosaic
open Cert.KernelIdeal.Attn (Fin')

theorem top_f32 : Ideal.ofBits .f32 0x7F800000#32 = ⊤ := by simp [Ideal.ofBits, Ideal.ieee]
theorem top_bf16 : Ideal.ofBits .bf16 0x7F80#16 = ⊤ := by simp [Ideal.ofBits, Ideal.ieee]

/-- Where `|x| < ∞`, `x` is finite. -/
theorem fin'_below {x b : EReal} (hb : b = ⊤) (h : Ideal.cmp .olt (max x (-x)) b = 1#1) : Fin' x := by
  subst hb
  refine ⟨fun hx => ?_, fun hx => ?_⟩ <;> subst hx <;> simp [Ideal.cmp] at h

theorem both (a b : IVec S_ 1) (i : S_.Idx) (h : andi a b i = 1#1) : a i = 1#1 ∧ b i = 1#1 :=
  (by decide : ∀ x y : BitVec 1, IntOp.andi x y = 1#1 → x = 1#1 ∧ y = 1#1) _ _ h

variable [Facts]

theorem real_of_fn (x : FVec Ideal S81920x1024 .f32) (fp : FVec Ideal S65536x256 .bf16) (fs : FVec Ideal S16384x256 .bf16)
    (ap : FVec Ideal S65536x768 .bf16) (au : FVec Ideal S16384x768 .bf16) (o : FVec Ideal S1024x1024 .f32) (g : FVec Ideal S1024 .f32) (w : FVec Ideal S1024x8 .f32)
    (h : fn (F := Ideal) x fp fs ap au o g w = fun _ => 1#1) :
    (∀ i, Fin' (x i)) ∧ (∀ i, Fin' (fp i)) ∧ (∀ i, Fin' (fs i)) ∧ (∀ i, Fin' (ap i)) ∧ (∀ i, Fin' (au i)) ∧ (∀ i, Fin' (o i)) ∧ (∀ i, Fin' (g i)) ∧ (∀ i, Fin' (w i)) := by
  have h := congrFun h ix0
  dsimp only [fn, fn_part1, fn_part2] at h
  obtain ⟨h, h7⟩ := both _ _ _ h
  obtain ⟨h, h6⟩ := both _ _ _ h
  obtain ⟨h, h5⟩ := both _ _ _ h
  obtain ⟨h, h4⟩ := both _ _ _ h
  obtain ⟨h, h3⟩ := both _ _ _ h
  obtain ⟨h, h2⟩ := both _ _ _ h
  obtain ⟨h0, h1⟩ := both _ _ _ h
  exact ⟨fun i => fin'_below top_f32 (Host.reduce_andi_all _ _ _ _ _ h0 i), fun i => fin'_below top_bf16 (Host.reduce_andi_all _ _ _ _ _ h1 i),
    fun i => fin'_below top_bf16 (Host.reduce_andi_all _ _ _ _ _ h2 i), fun i => fin'_below top_bf16 (Host.reduce_andi_all _ _ _ _ _ h3 i),
    fun i => fin'_below top_bf16 (Host.reduce_andi_all _ _ _ _ _ h4 i), fun i => fin'_below top_f32 (Host.reduce_andi_all _ _ _ _ _ h5 i),
    fun i => fin'_below top_f32 (Host.reduce_andi_all _ _ _ _ _ h6 i), fun i => fin'_below top_f32 (Host.reduce_andi_all _ _ _ _ _ h7 i)⟩

end Cert.Pre_real

namespace Cert.RouterIdeal.Route

open Idealize.ShloMosaic
open Cert.KernelIdeal.Attn (Fin' fin'_coe coe_sum)
open Cert.DenseIdeal.Ffn (unit)
open Cert.RouterIdeal
open scoped BigOperators

/-! ## Sums and products of reals -/

theorem real_add {x y : EReal} (hx : Fin' x) (hy : Fin' y) : Fin' (x + y) := by
  obtain ⟨a, rfl⟩ := hx.exists
  obtain ⟨b, rfl⟩ := hy.exists
  rw [← EReal.coe_add]
  exact fin'_coe _

theorem real_mul {x y : EReal} (hx : Fin' x) (hy : Fin' y) : Fin' (x * y) := by
  obtain ⟨a, rfl⟩ := hx.exists
  obtain ⟨b, rfl⟩ := hy.exists
  rw [← EReal.coe_mul]
  exact fin'_coe _

theorem real_sum {ι : Type} [Fintype ι] (f : ι → EReal) (hf : ∀ i, Fin' (f i)) : Fin' (∑ i, f i) := by
  choose g hg using fun i => (hf i).exists
  rw [Finset.sum_congr rfl fun i _ => hg i, ← coe_sum]
  exact fin'_coe _

theorem real_dite {p : Prop} [Decidable p] {f : p → EReal} {g : ¬p → EReal} (hf : ∀ h, Fin' (f h)) (hg : ∀ h, Fin' (g h)) : Fin' (dite p f g) := by
  split
  · exact hf _
  · exact hg _

/-- The inverse root of a mean square and the norm's small constant is a real, -/
theorem rsqrt_real (s : EReal) (hs : Fin' s) (h0 : 0 ≤ s) : Fin' (Ideal.rsqrt (Ideal.div s (Ideal.ofBits .f32 0x44800000#32) + Ideal.ofBits .f32 0x3727C5AC#32)) := by
  obtain ⟨a, rfl⟩ := hs.exists
  have ha : 0 ≤ a := by exact_mod_cast h0
  have hN : Ideal.ofBits .f32 0x44800000#32 = ((1024 : ℝ) : EReal) := by
    simp [Ideal.ofBits, Ideal.ieee]
    rw [← EReal.coe_mul]
    norm_num
  have hE : Ideal.ofBits .f32 0x3727C5AC#32 = ((10995116 * (1 / 1099511627776) : ℝ) : EReal) := by
    rw [EReal.coe_mul]
    simp [Ideal.ofBits, Ideal.ieee]
    norm_num
  have hd : Ideal.div (a : EReal) ((1024 : ℝ) : EReal) = ((a * (1024 : ℝ)⁻¹ : ℝ) : EReal) := by
    unfold Ideal.div
    rw [if_neg (by exact_mod_cast (by norm_num : (1024 : ℝ) ≠ 0)), EReal.coe_mul, EReal.coe_inv]
  rw [hN, hE, hd, ← EReal.coe_add]
  have hp : 0 < a * (1024 : ℝ)⁻¹ + 10995116 * (1 / 1099511627776) := by positivity
  generalize a * (1024 : ℝ)⁻¹ + 10995116 * (1 / 1099511627776) = r at hp
  show Fin' (if r < 0 then ⊥ else if r = 0 then ⊤ else (((Real.sqrt r)⁻¹ : ℝ) : EReal))
  rw [if_neg (not_lt.mpr hp.le), if_neg hp.ne']
  exact fin'_coe _

/-- so a norm's entry of reals is one. -/
theorem unit_real (x : Fin 1024 → EReal) (g : EReal) (d : Fin 1024) (hx : ∀ e, Fin' (x e)) (hg : Fin' g) : Fin' (unit x g d) := by
  unfold unit
  refine real_mul (real_mul (hx d) (rsqrt_real _ (real_sum _ fun e => real_mul (hx e) (hx e)) ?_)) hg
  refine Finset.sum_nonneg fun e _ => ?_
  obtain ⟨a, ha⟩ := (hx e).exists
  rw [ha, ← EReal.coe_mul]
  exact_mod_cast mul_self_nonneg a

variable (m : (ℓ : Loc nD τ sig) → Buf (Elt Ideal) ℓ)

/-- A core's arguments are finite. -/
structure RealArgs (c : Dev nD) : Prop where
  x : ∀ i, Fin' (argX m c i)
  fp : ∀ i, Fin' (argFp m c i)
  fs : ∀ i, Fin' (argFs m c i)
  ap : ∀ i, Fin' (argAp m c i)
  au : ∀ i, Fin' (argAs m c i)
  o : ∀ i, Fin' (argO m c i)
  g : ∀ i, Fin' (argG m c i)
  w : ∀ i, Fin' (argW m c i)

/-- The logits of the reference. -/
def logitsRef (c : Dev nD) : FVec Ideal ⟨2, ![81920, 8]⟩ .f32 := Cert.RouterReferenceIdeal.Route.logits (tokensRef m c) (argW m c)

variable {m} {c : Dev nD} (h : RealArgs m c)
include h

theorem RealArgs.resid (n : Fin 81920) (k : Fin 1024) : Fin' (residRef m c (ix2 n k)) := by
  unfold residRef
  rw [Cert.DenseReferenceIdeal.Ffn.resid_apply]
  refine real_add (h.x _) (real_sum _ fun e => real_mul ?_ (h.o _))
  rw [Cert.DenseReferenceIdeal.Ffn.beside_apply]
  refine real_dite (fun _ => ?_) (fun _ => ?_)
  · rw [Cert.DenseReferenceIdeal.Ffn.mixed_apply]
    exact real_dite (fun _ => h.fp _) (fun _ => h.fs _)
  · rw [Cert.DenseReferenceIdeal.Ffn.attended_apply]
    exact real_dite (fun _ => h.ap _) (fun _ => h.au _)

theorem RealArgs.tokens (n : Fin 81920) (k : Fin 1024) : Fin' (tokensRef m c (ix2 n k)) := by
  unfold tokensRef
  rw [Cert.DenseReferenceIdeal.Ffn.normed_apply]
  exact unit_real _ _ _ (fun e => h.resid n e) (h.g _)

theorem RealArgs.logits (n : Fin 81920) (e : Fin 8) : Fin' (logitsRef m c (ix2 n e)) := by
  unfold logitsRef
  rw [Cert.RouterReferenceIdeal.Route.logits_apply]
  exact real_sum _ fun d => real_mul (h.tokens n d) (h.w _)

end Cert.RouterIdeal.Route

end
-- ==== Proof.RouterCounts.lean ====
/- The router's routing and counts on the extended reals: each point's columns continue the counts of the points before. -/
module

public import proofs.«01_k».proof.Proof.RouterReal

@[expose] public section

set_option maxRecDepth 16384

noncomputable section

namespace Cert.RouterIdeal.Route

open Idealize.ShloMosaic Idealize.ShloMosaic.TcCoe Idealize.ShloMosaic.Tactic
open Idealize.SL Idealize.SL.Sem
open Idealize.ShloMosaic.Pipeline (Dat Cfg Window)
open Cert.KernelIdeal.Attn (Fin' fin'_coe)
open Cert.RouterReferenceIdeal.Route (before mark mark_eq routing numbers routing_apply numbers_apply)
open Cert.RouterIdeal Cert.RouterIdeal.Gen
open scoped BigOperators

theorem pay7_apply (s g : FVec Ideal S512x1024 .f32) (r : Fin 512) (d : Fin 1024) :
    k0_pay7 (F := Ideal) s g (ix2 r d) = s (ix2 r d) * g (ix2 r d) := by
  pointwise [k0_pay7, k0_pay6]

/-! ## Sums of a point's rows -/

theorem before_rows (A B : Fin 81920 → Fin 8) (e : Fin 8) (t : Fin cfg0.N) :
    before A B e (t.val * 512) + ∑ x : Fin 512, hit (A (row t x)) (B (row t x)) e = before A B e ((t.val + 1) * 512) := by
  unfold before
  rw [Nat.succ_mul, Finset.sum_range_add, ← Fin.sum_univ_eq_sum_range (fun x => mark A B e (t.val * 512 + x)) 512]
  exact congrArg (_ + ·) (Finset.sum_congr rfl fun x _ => (mark_eq A B e (row t x)).symm)

theorem before_row (A B : Fin 81920 → Fin 8) (e : Fin 8) (t : Fin cfg0.N) (r : Fin 512) :
    ∑ x : Fin 512, (if x < r then hit (A (row t x)) (B (row t x)) e else 0) + before A B e (t.val * 512) = before A B e (row t r).val := by
  obtain ⟨d, hd⟩ : ∃ d, 512 = r.val + d := ⟨512 - r.val, by have := r.isLt; omega⟩
  have hs : ∑ x : Fin 512, (if x < r then hit (A (row t x)) (B (row t x)) e else 0) = ∑ x ∈ Finset.range r.val, mark A B e (t.val * 512 + x) := by
    refine (Finset.sum_congr rfl fun x _ => (?_ : _ = (fun x : ℕ => if x < r.val then mark A B e (t.val * 512 + x) else 0) x.val)).trans ?_
    · by_cases h : x < r
      · rw [if_pos h]
        exact (mark_eq A B e (row t x)).symm.trans (if_pos (Fin.lt_def.mp h)).symm
      · rw [if_neg h]
        exact (if_neg fun hh => h (Fin.lt_def.mpr hh)).symm
    · rw [Fin.sum_univ_eq_sum_range (fun x : ℕ => if x < r.val then mark A B e (t.val * 512 + x) else 0) 512]
      refine (congrArg (fun k => ∑ x ∈ Finset.range k, if x < r.val then mark A B e (t.val * 512 + x) else 0) hd).trans ?_
      rw [Finset.sum_range_add]
      refine (congrArg₂ (· + ·) (Finset.sum_congr rfl fun x hx => if_pos (Finset.mem_range.mp hx)) (Finset.sum_eq_zero fun x _ => if_neg (by omega))).trans (add_zero _)
  rw [hs]
  unfold before
  exact (add_comm _ _).trans (Finset.sum_range_add (mark A B e) _ _).symm

/-- The counts are written back at the last point. -/
theorem flush12 : ∀ t : Fin cfg0.N, (cfg0.win 12).flush t = true → t.val = 159 := (by decide +kernel : ∀ t : Fin grid0.N, _)

attribute [local irreducible] outsAt0 residRef tokensRef logitsRef routing numbers resid scaled k0_pay9 k0_pay5

/-- The routing's array is what the points leave of it, side by side, -/
theorem array_routing (m : (ℓ : Loc nD τ sig) → Buf (Elt Ideal) ℓ) (c : Dev nD) (G : FVec Ideal S8x81920 .f32)
    (key : ∀ (t : Fin cfg0.N) (k : Fin 8) (r : Fin 512), (outsAt0 m c t.val t.isLt).2.2.1 (ix2 k r) = G (ix2 k (row t r))) :
    (dats m 0 c).arrAt 11 cfg0.N = G := by
  refine (dats m 0 c).arrAt_eq_of_covers 11 _ (by decide +kernel) fun t _ y => ?_
  blk_simp
  rw [after0_11]
  idx_vars y
  refine (key t _ _).trans (congrArg G ?_)
  blk_ext [idx11 t]

/-- the counts' what the last one does. -/
theorem array_counts (m : (ℓ : Loc nD τ sig) → Buf (Elt Ideal) ℓ) (c : Dev nD) (G : FVec Ideal S8x128 .f32)
    (key : ∀ (t : Fin cfg0.N) (_ : t.val = 159) (e : Fin 8) (l : Fin 128), (outsAt0 m c t.val t.isLt).2.2.2.1 (ix2 e l) = G (ix2 e l)) :
    (dats m 0 c).arrAt 12 cfg0.N = G := by
  refine (dats m 0 c).arrAt_eq_of_covers 12 _ (by decide +kernel) fun t hf y => ?_
  have ht : t.val = 159 := flush12 t hf
  blk_simp
  rw [after0_12]
  idx_vars y
  refine (key t ht _ _).trans (congrArg G ?_)
  blk_ext [idx12 t]

variable {m : (ℓ : Loc nD τ sig) → Buf (Elt Ideal) ℓ} {c : Dev nD} (h : RealArgs m c)
include h

/-- A point's logits are the reference's at its rows. -/
theorem logits_point (t : Fin cfg0.N) (e : Fin 8) (r : Fin 512) :
    k0_pay9 (F := Ideal) (scaled (resid m c t)) (k0_pay5 (iblk m c 7 t : Vec Ideal S1x1024 .f32)) (iblk m c 8 t : Vec Ideal S8x1024 .f32) (ix2 e r) = logitsRef m c (ix2 (row t r) e) := by
  have hh : ∀ d, scaled (resid m c t) (ix2 r d) * k0_pay5 (iblk m c 7 t : Vec Ideal S1x1024 .f32) (ix2 r d) = tokensRef m c (ix2 (row t r) d) := fun d =>
    (pay7_apply _ _ r d).symm.trans (normed_eq m c t r d)
  refine (pay9_real _ _ _ e r (fun d => (hh d).symm ▸ h.tokens _ _) (fun d => (iblk8 m c t e d).symm ▸ h.w _)).trans ?_
  unfold logitsRef
  rw [Cert.RouterReferenceIdeal.Route.logits_apply]
  refine Finset.sum_congr rfl fun d _ => ?_
  rw [hh, iblk8, mul_comm]

variable (A B : Fin 81920 → Fin 8) (hT : ∀ n, Top (fun e => logitsRef m c (ix2 n e)) (A n) (B n))
include hT

theorem top_point (t : Fin cfg0.N) (r : Fin 512) :
    Top (fun e => k0_pay9 (F := Ideal) (scaled (resid m c t)) (k0_pay5 (iblk m c 7 t : Vec Ideal S1x1024 .f32)) (iblk m c 8 t : Vec Ideal S8x1024 .f32) (ix2 e r)) (A (row t r)) (B (row t r)) := by
  have hl := funext fun e => logits_point h t e r
  rw [hl]
  exact hT (row t r)

theorem next_real (t : Fin cfg0.N) (r : Fin 512) :
    k0_pay9 (F := Ideal) (scaled (resid m c t)) (k0_pay5 (iblk m c 7 t : Vec Ideal S1x1024 .f32)) (iblk m c 8 t : Vec Ideal S8x1024 .f32) (ix2 (B (row t r)) r) ≠ ⊥ := by
  rw [logits_point h]
  exact (h.logits _ _).1

theorem picked_point (t : Fin cfg0.N) (e : Fin 8) (r : Fin 512) :
    picked (resid m c t) (iblk m c 7 t : Vec Ideal S1x1024 .f32) (iblk m c 8 t : Vec Ideal S8x1024 .f32) (ix2 e r) = hit (A (row t r)) (B (row t r)) e := by
  unfold picked
  exact pay19_top (top_point h A B hT t r) (next_real h A B hT t r) e

theorem routed_point (t : Fin cfg0.N) (n : FVec Ideal S8x128 .f32) (hn : ∀ e l, n (ix2 e l) = before A B e (t.val * 512)) (k : Fin 8) (r : Fin 512) :
    routed (resid m c t) (iblk m c 7 t : Vec Ideal S1x1024 .f32) (iblk m c 8 t : Vec Ideal S8x1024 .f32) (lane n) (ix2 k r) = routing (logitsRef m c) (ix2 k (row t r)) := by
  have hl : ∀ e : Fin 8, (lane (F := Ideal) n : FVec Ideal S8x1 .f32) (ix2 e (0 : Fin 1)) = before A B e (t.val * 512) := fun e => hn e 0
  unfold routed
  refine (pay20_top (lane (F := Ideal) n) (fun x => A (row t x)) (fun x => B (row t x)) (fun x => top_point h A B hT t x) (fun x => next_real h A B hT t x) k r).trans ?_
  rw [routing_apply (logitsRef m c) A B hT (fun n e => h.logits n e), logits_point h, logits_point h, hl, hl, before_row, before_row]

theorem counted_point (t : Fin cfg0.N) (n : FVec Ideal S8x128 .f32) (hn : ∀ e l, n (ix2 e l) = before A B e (t.val * 512)) (e : Fin 8) (l : Fin 128) :
    n (ix2 e l) + ∑ x : Fin 512, picked (resid m c t) (iblk m c 7 t : Vec Ideal S1x1024 .f32) (iblk m c 8 t : Vec Ideal S8x1024 .f32) (ix2 e x) = before A B e ((t.val + 1) * 512) := by
  rw [hn, Finset.sum_congr rfl fun x _ => picked_point h A B hT t e x, before_rows]

/-- A point's run starts from the counts of all rows before it. -/
theorem outs_before : ∀ (i : ℕ) (hi : i < cfg0.N), ∃ n : FVec Ideal S8x128 .f32, outsAt0 m c i hi = left m c ⟨i, hi⟩ n ∧ ∀ e l, n (ix2 e l) = before A B e (i * 512)
  | 0, hi => ⟨k0_pay8, outs_first m c ⟨0, hi⟩ rfl, fun e l => (pay8_apply e l).trans (by unfold before; rw [Nat.zero_mul, Finset.sum_range_zero])⟩
  | i + 1, hi => by
    obtain ⟨n, h1, h2⟩ := outs_before i (Nat.lt_of_succ_lt hi)
    have hlt : i + 1 < 160 := hi
    refine ⟨_, outs_later m c ⟨i + 1, hi⟩ (show ¬(i + 1) % 160 = 0 by omega), fun e l => ?_⟩
    refine Eq.trans (b := (outsAt0 m c i (Nat.lt_of_succ_lt hi)).2.2.2.2 (ix2 e l)) rfl ?_
    rw [h1]
    unfold left
    dsimp only
    rw [pay2_apply]
    exact (counted_point h A B hT ⟨i, Nat.lt_of_succ_lt hi⟩ n h2 e l)

/-- What a point leaves of the routing, -/
theorem outs_routing (t : Fin cfg0.N) (k : Fin 8) (r : Fin 512) :
    (outsAt0 m c t.val t.isLt).2.2.1 (ix2 k r) = routing (logitsRef m c) (ix2 k (row t r)) := by
  obtain ⟨n, h1, h2⟩ := outs_before h A B hT t.val t.isLt
  rw [h1]
  unfold left
  dsimp only
  exact routed_point h A B hT t n h2 k r

/-- and of the counts. -/
theorem outs_counts (t : Fin cfg0.N) (e : Fin 8) (l : Fin 128) :
    (outsAt0 m c t.val t.isLt).2.2.2.1 (ix2 e l) = before A B e ((t.val + 1) * 512) := by
  obtain ⟨n, h1, h2⟩ := outs_before h A B hT t.val t.isLt
  rw [h1]
  unfold left
  dsimp only
  rw [pay1_apply]
  exact counted_point h A B hT t n h2 e l

/-- The routing's array after the run, -/
theorem final_routing : (dats m 0 c).arrAt 11 cfg0.N = routing (logitsRef m c) :=
  array_routing m c _ fun t k r => outs_routing h A B hT t k r

/-- and the counts'. -/
theorem final_counts : (dats m 0 c).arrAt 12 cfg0.N = numbers (logitsRef m c) :=
  array_counts m c _ fun t ht e l => by
    rw [outs_counts h A B hT t e l, ht, numbers_apply (logitsRef m c) A B hT]

end Cert.RouterIdeal.Route

end
-- ==== Proof.RouterRealClaims.lean ====
/- The router's run against its reference's where every operand is finite: all four results, on the extended reals. -/
module

public import proofs.«01_k».proof.Proof.RouterClaims
public import proofs.«01_k».proof.Proof.RouterCounts

@[expose] public section

set_option maxRecDepth 16384

noncomputable section

namespace Cert.Pre_real

open Idealize.ShloMosaic

/-- The side conditions of the precondition's operations. -/
theorem facts : Facts where
  bcast_S_S81920x1024 := by decide
  reducesTo_S81920x1024_S_d0_1 := by decide
  h_S_ := by decide
  bcast_S_S65536x256 := by decide
  reducesTo_S65536x256_S_d0_1 := by decide
  bcast_S_S16384x256 := by decide
  reducesTo_S16384x256_S_d0_1 := by decide
  bcast_S_S65536x768 := by decide
  reducesTo_S65536x768_S_d0_1 := by decide
  bcast_S_S16384x768 := by decide
  reducesTo_S16384x768_S_d0_1 := by decide
  bcast_S_S1024x1024 := by decide
  reducesTo_S1024x1024_S_d0_1 := by decide
  bcast_S_S1024 := by decide
  reducesTo_S1024_S_d0 := by decide
  bcast_S_S1024x8 := by decide
  reducesTo_S1024x8_S_d0_1 := by decide

end Cert.Pre_real

namespace Cert.Proof

open Idealize.ShloMosaic Idealize.SL.Sem

attribute [local instance] Cert.Router.Gen.facts Cert.Pre_real.facts

theorem frame_router_ideal_real : Cert.quiescent_RouterIdeal_pre_real := fun m ρ _ => Cert.RouterIdeal.Gen.frame (F := Ideal) m ρ

theorem frame_router_reference_real : Cert.quiescent_RouterReferenceIdeal_pre_real := fun m ρ _ =>
  (θ_run Cert.RouterReferenceIdeal.defs _ _).mono
    (fun r h => ⟨fun c => (h c).2.2.2.2, sem_eq_zero_of_no_sems (by decide) r.2⟩)
    (Cert.RouterReferenceIdeal.Value.run (F := Ideal) m ρ)

attribute [local irreducible] Cert.RouterIdeal.Route.tokensRef Cert.RouterIdeal.Route.residRef

/-- From arguments that agree and are finite, both programs end with the residual, its norm, the routing and the counts. -/
theorem algebraic_router_real : Cert.algebraic_RouterIdeal_RouterReferenceIdeal_pre_real := by
  intro m ρ m' ρ' hpre hagree
  have hreal : ∀ c, Cert.RouterIdeal.Route.RealArgs m c := fun c => by
    obtain ⟨h0, h1, h2, h3, h4, h5, h6, h7⟩ := Cert.Pre_real.real_of_fn _ _ _ _ _ _ _ _ (hpre c)
    exact ⟨h0, h1, h2, h3, h4, h5, h6, h7⟩
  have hresid : ∀ c, Cert.RouterReferenceIdeal.Route.residOf m' c = Cert.RouterIdeal.Route.residRef m c := fun c => by
    unfold Cert.RouterReferenceIdeal.Route.residOf Cert.RouterIdeal.Route.residRef
    rw [(hagree c).1, (hagree c).2.1, (hagree c).2.2.1, (hagree c).2.2.2.1, (hagree c).2.2.2.2.1, (hagree c).2.2.2.2.2.1]
  have htokens : ∀ c, Cert.RouterReferenceIdeal.Route.tokensOf m' c = Cert.RouterIdeal.Route.tokensRef m c := fun c => by
    unfold Cert.RouterReferenceIdeal.Route.tokensOf Cert.RouterIdeal.Route.tokensRef
    rw [hresid, (hagree c).2.2.2.2.2.2.1]
  have hlogits : ∀ c, Cert.RouterReferenceIdeal.Route.logitsOf m' c = Cert.RouterIdeal.Route.logitsRef m c := fun c => by
    unfold Cert.RouterReferenceIdeal.Route.logitsOf Cert.RouterIdeal.Route.logitsRef
    rw [htokens, (hagree c).2.2.2.2.2.2.2]
  have htop : ∀ c, ∃ A B : Fin 81920 → Fin 8, ∀ n, Cert.RouterIdeal.Route.Top (fun e => Cert.RouterIdeal.Route.logitsRef m c (ix2 n e)) (A n) (B n) := fun c => by
    choose p hp using fun n : Fin 81920 => Cert.RouterIdeal.Route.exists_top fun e => Cert.RouterIdeal.Route.logitsRef m c (ix2 n e)
    exact ⟨fun n => (p n).1, fun n => (p n).2, hp⟩
  refine ⟨fun c => Cert.RouterIdeal.Route.residRef m c, fun c => Cert.RouterIdeal.Route.tokensRef m c,
    fun c => Cert.RouterReferenceIdeal.Route.routing (Cert.RouterIdeal.Route.logitsRef m c), fun c => Cert.RouterReferenceIdeal.Route.numbers (Cert.RouterIdeal.Route.logitsRef m c), ?_, ?_⟩
  · refine (θ_run Cert.RouterIdeal.defs _ _).mono ?_
      (θ_run_and (Cert.RouterIdeal.Gen.run_main m ρ) ((θ_run Cert.RouterIdeal.defs _ _).mono (fun _ h => h.1) (Cert.RouterIdeal.Gen.frame (F := Ideal) m ρ)))
    rintro r ⟨h, harg⟩ c
    obtain ⟨A, B, hT⟩ := htop c
    exact ⟨((h c).1 9).trans (Cert.RouterIdeal.Route.final_resid m c), ((h c).1 10).trans (Cert.RouterIdeal.Route.final_tokens m c),
      ((h c).1 11).trans (Cert.RouterIdeal.Route.final_routing (hreal c) A B hT), ((h c).1 12).trans (Cert.RouterIdeal.Route.final_counts (hreal c) A B hT), harg c⟩
  · refine (θ_run Cert.RouterReferenceIdeal.defs _ _).mono (fun _ h c => ⟨(h c).1.trans ?_, (h c).2.1.trans ?_, (h c).2.2.1.trans ?_, (h c).2.2.2.1.trans ?_, (h c).2.2.2.2⟩)
      (Cert.RouterReferenceIdeal.Value.run (F := Ideal) m' ρ')
    · exact hresid c
    · exact htokens c
    · exact (Cert.RouterReferenceIdeal.Route.res_routing m' c).trans (congrArg Cert.RouterReferenceIdeal.Route.routing (hlogits c))
    · exact Eq.trans (b := Cert.RouterReferenceIdeal.Route.numbers (Cert.RouterReferenceIdeal.Route.logitsOf m' c)) rfl (congrArg Cert.RouterReferenceIdeal.Route.numbers (hlogits c))

end Cert.Proof

end
-- ==== Proof.lean ====
module

public import proofs.«01_k».proof.Defs
public import proofs.«01_k».proof.Proof.Claims
public import proofs.«01_k».proof.Proof.ExpertsClaims
public import proofs.«01_k».proof.Proof.DenseClaims
public import proofs.«01_k».proof.Proof.InProjClaims
public import proofs.«01_k».proof.Proof.RouterRealClaims

@[expose] public section

noncomputable section

namespace Cert.Proof

theorem claim : Cert.Claim :=
  ⟨Cert.Kernel.Gen.facts, Cert.KernelIdeal.Gen.facts, Cert.ReferenceIdeal.Gen.facts, Cert.Experts.Gen.facts,
    Cert.ExpertsIdeal.Gen.facts, Cert.ExpertsReferenceIdeal.Gen.facts, Cert.Dense.Gen.facts, Cert.DenseIdeal.Gen.facts,
    Cert.DenseReferenceIdeal.Gen.facts, Cert.InProj.Gen.facts, Cert.InProjIdeal.Gen.facts, Cert.InProjReferenceIdeal.Gen.facts,
    Cert.Router.Gen.facts, Cert.RouterIdeal.Gen.facts, Cert.RouterReferenceIdeal.Gen.facts,
    Cert.Pre_finite.Gen.facts, Cert.Pre_tables.Gen.facts, Cert.Pre_real.facts, Cert.On_in_use.Gen.facts, Cert.On_of_tokens.Gen.facts,
    frame_kernel, frame_ideal, frame_ideal_finite, frame_reference, frame_reference_finite,
    frame_experts, frame_experts_ideal, frame_experts_reference, frame_experts_reference_tables,
    frame_dense, frame_dense_ideal, frame_dense_reference, frame_inproj, frame_inproj_ideal, frame_inproj_reference,
    frame_router, frame_router_ideal, frame_router_ideal_real, frame_router_reference, frame_router_reference_real,
    trivial, algebraic, trivial, algebraic_experts, trivial, algebraic_dense, trivial, algebraic_inproj, trivial, algebraic_router, algebraic_router_real⟩

end Cert.Proof

end
